-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectRefIdeal (m : (ℓ : Loc Cert.ProjectRefIdeal.nD Cert.ProjectRefIdeal.τ Cert.ProjectRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite_scans [hPre_finite_scans : Cert.Pre_finite_scans.Facts] (m : (ℓ : Loc Cert.GateIdeal.nD Cert.GateIdeal.τ Cert.GateIdeal.sig) → Buf (Elt Ideal) ℓ) : Prop :=
  ∀ c : Dev Cert.GateIdeal.nD,
    (Cert.Pre_finite_scans.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_finite_scans [hPre_finite_scans : Cert.Pre_finite_scans.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_finite_scans.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4)) (m ((c.tc : Thread Cert.GateRefIdeal.nD Cert.GateRefIdeal.τ).loc Cert.GateRefIdeal.main_arg5))) = (fun _ => 1#1)

def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxIdeal_finite_context [hPre_finite_context : Cert.Pre_finite_context.Facts] (m : (ℓ : Loc Cert.CtxIdeal.nD Cert.CtxIdeal.τ Cert.CtxIdeal.sig) → Buf (Elt Ideal) ℓ) : Prop :=
  ∀ c : Dev Cert.CtxIdeal.nD,
    (Cert.Pre_finite_context.fn (F := Ideal) (m ((c.tc : Thread Cert.CtxIdeal.nD Cert.CtxIdeal.τ).loc Cert.CtxIdeal.main_arg0))) = (fun _ => 1#1)

def Pre_CtxRefIdeal (m : (ℓ : Loc Cert.CtxRefIdeal.nD Cert.CtxRefIdeal.τ Cert.CtxRefIdeal.sig) → Buf (Elt Ideal) ℓ) : Prop :=
  True

def Pre_CtxRefIdeal_finite_context [hPre_finite_context : Cert.Pre_finite_context.Facts] (m : (ℓ : Loc Cert.CtxRefIdeal.nD Cert.CtxRefIdeal.τ Cert.CtxRefIdeal.sig) → Buf (Elt Ideal) ℓ) : Prop :=
  ∀ c : Dev Cert.CtxRefIdeal.nD,
    (Cert.Pre_finite_context.fn (F := Ideal) (m ((c.tc : Thread Cert.CtxRefIdeal.nD Cert.CtxRefIdeal.τ).loc Cert.CtxRefIdeal.main_arg0))) = (fun _ => 1#1)

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpIdeal_finite_values [hPre_finite_values : Cert.Pre_finite_values.Facts] (m : (ℓ : Loc Cert.GmlpIdeal.nD Cert.GmlpIdeal.τ Cert.GmlpIdeal.sig) → Buf (Elt Ideal) ℓ) : Prop :=
  ∀ c : Dev Cert.GmlpIdeal.nD,
    (Cert.Pre_finite_values.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4))) = (fun _ => 1#1)

def Pre_GmlpRefIdeal (m : (ℓ : Loc Cert.GmlpRefIdeal.nD Cert.GmlpRefIdeal.τ Cert.GmlpRefIdeal.sig) → Buf (Elt Ideal) ℓ) : Prop :=
  True

def Pre_GmlpRefIdeal_finite_values [hPre_finite_values : Cert.Pre_finite_values.Facts] (m : (ℓ : Loc Cert.GmlpRefIdeal.nD Cert.GmlpRefIdeal.τ Cert.GmlpRefIdeal.sig) → Buf (Elt Ideal) ℓ) : Prop :=
  ∀ c : Dev Cert.GmlpRefIdeal.nD,
    (Cert.Pre_finite_values.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4))) = (fun _ => 1#1)

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModIdeal_finite_conditioning [hPre_finite_conditioning : Cert.Pre_finite_conditioning.Facts] (m : (ℓ : Loc Cert.ModIdeal.nD Cert.ModIdeal.τ Cert.ModIdeal.sig) → Buf (Elt Ideal) ℓ) : Prop :=
  ∀ c : Dev Cert.ModIdeal.nD,
    (Cert.Pre_finite_conditioning.fn (F := Ideal) (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2)) (m ((c.tc : Thread Cert.ModIdeal.nD Cert.ModIdeal.τ).loc Cert.ModIdeal.main_arg3))) = (fun _ => 1#1)

def Pre_ModRefIdeal (m : (ℓ : Loc Cert.ModRefIdeal.nD Cert.ModRefIdeal.τ Cert.ModRefIdeal.sig) → Buf (Elt Ideal) ℓ) : Prop :=
  True

def Pre_ModRefIdeal_finite_conditioning [hPre_finite_conditioning : Cert.Pre_finite_conditioning.Facts] (m : (ℓ : Loc Cert.ModRefIdeal.nD Cert.ModRefIdeal.τ Cert.ModRefIdeal.sig) → Buf (Elt Ideal) ℓ) : Prop :=
  ∀ c : Dev Cert.ModRefIdeal.nD,
    (Cert.Pre_finite_conditioning.fn (F := Ideal) (m ((c.tc : Thread Cert.ModRefIdeal.nD Cert.ModRefIdeal.τ).loc Cert.ModRefIdeal.main_arg0)) (m ((c.tc : Thread Cert.ModRefIdeal.nD Cert.ModRefIdeal.τ).loc Cert.ModRefIdeal.main_arg1)) (m ((c.tc : Thread Cert.ModRefIdeal.nD Cert.ModRefIdeal.τ).loc Cert.ModRefIdeal.main_arg2)) (m ((c.tc : Thread Cert.ModRefIdeal.nD Cert.ModRefIdeal.τ).loc Cert.ModRefIdeal.main_arg3))) = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_finite_operands [hPre_finite_operands : Cert.Pre_finite_operands.Facts] (m : (ℓ : Loc Cert.PrepIdeal.nD Cert.PrepIdeal.τ Cert.PrepIdeal.sig) → Buf (Elt Ideal) ℓ) : Prop :=
  ∀ c : Dev Cert.PrepIdeal.nD,
    (Cert.Pre_finite_operands.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8))) = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_finite_operands [hPre_finite_operands : Cert.Pre_finite_operands.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_finite_operands.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1)
      ∧ r.2.mem ((c.tc : Thread Cert.ProjectRefIdeal.nD Cert.ProjectRefIdeal.τ).loc Cert.ProjectRefIdeal.main_arg2) = m ((c.tc : Thread Cert.ProjectRefIdeal.nD Cert.ProjectRefIdeal.τ).loc Cert.ProjectRefIdeal.main_arg2)
      ∧ r.2.mem ((c.tc : Thread Cert.ProjectRefIdeal.nD Cert.ProjectRefIdeal.τ).loc Cert.ProjectRefIdeal.main_arg3) = m ((c.tc : Thread Cert.ProjectRefIdeal.nD Cert.ProjectRefIdeal.τ).loc Cert.ProjectRefIdeal.main_arg3)
      ∧ r.2.mem ((c.tc : Thread Cert.ProjectRefIdeal.nD Cert.ProjectRefIdeal.τ).loc Cert.ProjectRefIdeal.main_arg4) = m ((c.tc : Thread Cert.ProjectRefIdeal.nD Cert.ProjectRefIdeal.τ).loc Cert.ProjectRefIdeal.main_arg4))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ r.2.sem = fun _ => 0)

def quiescent_GateIdeal_pre_finite_scans [hGateIdeal : Cert.GateIdeal.Facts] [hPre_finite_scans : Cert.Pre_finite_scans.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite_scans m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5))
      ∧ r.2.sem = fun _ => 0)

def quiescent_GateRefIdeal_pre_finite_scans [hGateRefIdeal : Cert.GateRefIdeal.Facts] [hPre_finite_scans : Cert.Pre_finite_scans.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_finite_scans m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5))
      ∧ r.2.sem = fun _ => 0)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0))
      ∧ r.2.sem = fun _ => 0)

def quiescent_CtxIdeal_pre_finite_context [hCtxIdeal : Cert.CtxIdeal.Facts] [hPre_finite_context : Cert.Pre_finite_context.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal_finite_context m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0))
      ∧ r.2.sem = fun _ => 0)

def quiescent_CtxRefIdeal_pre_finite_context [hCtxRefIdeal : Cert.CtxRefIdeal.Facts] [hPre_finite_context : Cert.Pre_finite_context.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal_finite_context m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3)
      ∧ r.2.mem ((c.tc : Thread Cert.Gmlp.nD Cert.Gmlp.τ).loc Cert.Gmlp.main_arg4) = m ((c.tc : Thread Cert.Gmlp.nD Cert.Gmlp.τ).loc Cert.Gmlp.main_arg4))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4))
      ∧ r.2.sem = fun _ => 0)

def quiescent_GmlpIdeal_pre_finite_values [hGmlpIdeal : Cert.GmlpIdeal.Facts] [hPre_finite_values : Cert.Pre_finite_values.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal_finite_values m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4))
      ∧ r.2.sem = fun _ => 0)

def quiescent_GmlpRefIdeal_pre_finite_values [hGmlpRefIdeal : Cert.GmlpRefIdeal.Facts] [hPre_finite_values : Cert.Pre_finite_values.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal_finite_values m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModIdeal_pre_finite_conditioning [hModIdeal : Cert.ModIdeal.Facts] [hPre_finite_conditioning : Cert.Pre_finite_conditioning.Facts] : Prop :=
  ∀ (m : (ℓ : Loc Cert.ModIdeal.nD Cert.ModIdeal.τ Cert.ModIdeal.sig) → Buf (Elt Ideal) ℓ) (g : Dev Cert.ModIdeal.nD → PrngReg), Pre_ModIdeal_finite_conditioning m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_ModRefIdeal_pre_finite_conditioning [hModRefIdeal : Cert.ModRefIdeal.Facts] [hPre_finite_conditioning : Cert.Pre_finite_conditioning.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal_finite_conditioning m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ r.2.sem = fun _ => 0)

def quiescent_PrepIdeal_pre_finite_operands [hPrepIdeal : Cert.PrepIdeal.Facts] [hPre_finite_operands : Cert.Pre_finite_operands.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_finite_operands m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8))
      ∧ r.2.sem = fun _ => 0)

def quiescent_PrepRefIdeal_pre_finite_operands [hPrepRefIdeal : Cert.PrepRefIdeal.Facts] [hPre_finite_operands : Cert.Pre_finite_operands.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_finite_operands m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v77) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12))

def preserves_Project_ProjectIdeal : Prop :=
  True

def algebraic_ProjectIdeal_ProjectRefIdeal [hProjectIdeal : Cert.ProjectIdeal.Facts] [hProjectRefIdeal : Cert.ProjectRefIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)
      ∧ m' ((c.tc : Thread Cert.ProjectRefIdeal.nD Cert.ProjectRefIdeal.τ).loc Cert.ProjectRefIdeal.main_arg2) = m ((c.tc : Thread Cert.ProjectIdeal.nD Cert.ProjectIdeal.τ).loc Cert.ProjectIdeal.main_arg2)
      ∧ m' ((c.tc : Thread Cert.ProjectRefIdeal.nD Cert.ProjectRefIdeal.τ).loc Cert.ProjectRefIdeal.main_arg3) = m ((c.tc : Thread Cert.ProjectIdeal.nD Cert.ProjectIdeal.τ).loc Cert.ProjectIdeal.main_arg3)
      ∧ m' ((c.tc : Thread Cert.ProjectRefIdeal.nD Cert.ProjectRefIdeal.τ).loc Cert.ProjectRefIdeal.main_arg4) = m ((c.tc : Thread Cert.ProjectIdeal.nD Cert.ProjectIdeal.τ).loc Cert.ProjectIdeal.main_arg4)) →
    ∃ (v0 : (c : Dev Cert.ProjectIdeal.nD) → Buf (Elt Ideal) ((c.tc : Thread Cert.ProjectIdeal.nD Cert.ProjectIdeal.τ).loc Cert.ProjectIdeal.main_v3_0)) (v1 : (c : Dev Cert.ProjectIdeal.nD) → Buf (Elt Ideal) ((c.tc : Thread Cert.ProjectIdeal.nD Cert.ProjectIdeal.τ).loc Cert.ProjectIdeal.main_v3_1)) (v2 : (c : Dev Cert.ProjectIdeal.nD) → Buf (Elt Ideal) ((c.tc : Thread Cert.ProjectIdeal.nD Cert.ProjectIdeal.τ).loc Cert.ProjectIdeal.main_v3_2)) (v3 : (c : Dev Cert.ProjectIdeal.nD) → Buf (Elt Ideal) ((c.tc : Thread Cert.ProjectIdeal.nD Cert.ProjectIdeal.τ).loc Cert.ProjectIdeal.main_v3_3)) (v4 : (c : Dev Cert.ProjectIdeal.nD) → Buf (Elt Ideal) ((c.tc : Thread Cert.ProjectIdeal.nD Cert.ProjectIdeal.τ).loc Cert.ProjectIdeal.main_v3_4)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v3_0) = v0 c
          ∧ r.2.mem ((c.tc : Thread Cert.ProjectIdeal.nD Cert.ProjectIdeal.τ).loc Cert.ProjectIdeal.main_v3_1) = v1 c
          ∧ r.2.mem ((c.tc : Thread Cert.ProjectIdeal.nD Cert.ProjectIdeal.τ).loc Cert.ProjectIdeal.main_v3_2) = v2 c
          ∧ r.2.mem ((c.tc : Thread Cert.ProjectIdeal.nD Cert.ProjectIdeal.τ).loc Cert.ProjectIdeal.main_v3_3) = v3 c
          ∧ r.2.mem ((c.tc : Thread Cert.ProjectIdeal.nD Cert.ProjectIdeal.τ).loc Cert.ProjectIdeal.main_v3_4) = v4 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          r.2.mem ((c.tc : Thread Cert.ProjectRefIdeal.nD Cert.ProjectRefIdeal.τ).loc Cert.ProjectRefIdeal.main_v32) = v0 c
          ∧ r.2.mem ((c.tc : Thread Cert.ProjectRefIdeal.nD Cert.ProjectRefIdeal.τ).loc Cert.ProjectRefIdeal.main_v33) = v1 c
          ∧ r.2.mem ((c.tc : Thread Cert.ProjectRefIdeal.nD Cert.ProjectRefIdeal.τ).loc Cert.ProjectRefIdeal.main_v27) = v2 c
          ∧ r.2.mem ((c.tc : Thread Cert.ProjectRefIdeal.nD Cert.ProjectRefIdeal.τ).loc Cert.ProjectRefIdeal.main_v28) = v3 c
          ∧ r.2.mem ((c.tc : Thread Cert.ProjectRefIdeal.nD Cert.ProjectRefIdeal.τ).loc Cert.ProjectRefIdeal.main_v34) = v4 c
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1)
          ∧ r.2.mem ((c.tc : Thread Cert.ProjectRefIdeal.nD Cert.ProjectRefIdeal.τ).loc Cert.ProjectRefIdeal.main_arg2) = m' ((c.tc : Thread Cert.ProjectRefIdeal.nD Cert.ProjectRefIdeal.τ).loc Cert.ProjectRefIdeal.main_arg2)
          ∧ r.2.mem ((c.tc : Thread Cert.ProjectRefIdeal.nD Cert.ProjectRefIdeal.τ).loc Cert.ProjectRefIdeal.main_arg3) = m' ((c.tc : Thread Cert.ProjectRefIdeal.nD Cert.ProjectRefIdeal.τ).loc Cert.ProjectRefIdeal.main_arg3)
          ∧ r.2.mem ((c.tc : Thread Cert.ProjectRefIdeal.nD Cert.ProjectRefIdeal.τ).loc Cert.ProjectRefIdeal.main_arg4) = m' ((c.tc : Thread Cert.ProjectRefIdeal.nD Cert.ProjectRefIdeal.τ).loc Cert.ProjectRefIdeal.main_arg4))

def preserves_Gate_GateIdeal : Prop :=
  True

def algebraic_GateIdeal_GateRefIdeal_pre_finite_scans [hGateIdeal : Cert.GateIdeal.Facts] [hGateRefIdeal : Cert.GateRefIdeal.Facts] [hPre_finite_scans : Cert.Pre_finite_scans.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_finite_scans m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)
      ∧ m' ((c.tc : Thread Cert.GateRefIdeal.nD Cert.GateRefIdeal.τ).loc Cert.GateRefIdeal.main_arg5) = m ((c.tc : Thread Cert.GateIdeal.nD Cert.GateIdeal.τ).loc Cert.GateIdeal.main_arg5)) →
    ∃ (v0 : (c : Dev Cert.GateIdeal.nD) → Buf (Elt Ideal) ((c.tc : Thread Cert.GateIdeal.nD Cert.GateIdeal.τ).loc Cert.GateIdeal.main_v2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v2) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v34) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5))

def preserves_Ctx_CtxIdeal : Prop :=
  True

def algebraic_CtxIdeal_CtxRefIdeal_pre_finite_context [hCtxIdeal : Cert.CtxIdeal.Facts] [hCtxRefIdeal : Cert.CtxRefIdeal.Facts] [hPre_finite_context : Cert.Pre_finite_context.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxIdeal_finite_context m →
    (∀ c : Dev Cert.CtxIdeal.nD,
      m' ((c.tc : Thread Cert.CtxRefIdeal.nD Cert.CtxRefIdeal.τ).loc Cert.CtxRefIdeal.main_arg0) = m ((c.tc : Thread Cert.CtxIdeal.nD Cert.CtxIdeal.τ).loc Cert.CtxIdeal.main_arg0)) →
    ∃ (v0 : (c : Dev Cert.CtxIdeal.nD) → Buf (Elt Ideal) ((c.tc : Thread Cert.CtxIdeal.nD Cert.CtxIdeal.τ).loc Cert.CtxIdeal.main_v0)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v0) = v0 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v25) = v0 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0))

def preserves_Gmlp_GmlpIdeal : Prop :=
  True

def algebraic_GmlpIdeal_GmlpRefIdeal_pre_finite_values [hGmlpIdeal : Cert.GmlpIdeal.Facts] [hGmlpRefIdeal : Cert.GmlpRefIdeal.Facts] [hPre_finite_values : Cert.Pre_finite_values.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpIdeal_finite_values m →
    (∀ c : Dev Cert.GmlpIdeal.nD,
      m' ((c.tc : Thread Cert.GmlpRefIdeal.nD Cert.GmlpRefIdeal.τ).loc Cert.GmlpRefIdeal.main_arg0) = m ((c.tc : Thread Cert.GmlpIdeal.nD Cert.GmlpIdeal.τ).loc Cert.GmlpIdeal.main_arg0)
      ∧ m' ((c.tc : Thread Cert.GmlpRefIdeal.nD Cert.GmlpRefIdeal.τ).loc Cert.GmlpRefIdeal.main_arg1) = m ((c.tc : Thread Cert.GmlpIdeal.nD Cert.GmlpIdeal.τ).loc Cert.GmlpIdeal.main_arg1)
      ∧ m' ((c.tc : Thread Cert.GmlpRefIdeal.nD Cert.GmlpRefIdeal.τ).loc Cert.GmlpRefIdeal.main_arg2) = m ((c.tc : Thread Cert.GmlpIdeal.nD Cert.GmlpIdeal.τ).loc Cert.GmlpIdeal.main_arg2)
      ∧ m' ((c.tc : Thread Cert.GmlpRefIdeal.nD Cert.GmlpRefIdeal.τ).loc Cert.GmlpRefIdeal.main_arg3) = m ((c.tc : Thread Cert.GmlpIdeal.nD Cert.GmlpIdeal.τ).loc Cert.GmlpIdeal.main_arg3)
      ∧ m' ((c.tc : Thread Cert.GmlpRefIdeal.nD Cert.GmlpRefIdeal.τ).loc Cert.GmlpRefIdeal.main_arg4) = m ((c.tc : Thread Cert.GmlpIdeal.nD Cert.GmlpIdeal.τ).loc Cert.GmlpIdeal.main_arg4)) →
    ∃ (v0 : (c : Dev Cert.GmlpIdeal.nD) → Buf (Elt Ideal) ((c.tc : Thread Cert.GmlpIdeal.nD Cert.GmlpIdeal.τ).loc Cert.GmlpIdeal.main_v6)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v6) = v0 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
          ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v64) = v0 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3)
          ∧ r.2.mem ((c.tc : Thread Cert.GmlpRefIdeal.nD Cert.GmlpRefIdeal.τ).loc Cert.GmlpRefIdeal.main_arg4) = m' ((c.tc : Thread Cert.GmlpRefIdeal.nD Cert.GmlpRefIdeal.τ).loc Cert.GmlpRefIdeal.main_arg4))

def preserves_Mod_ModIdeal : Prop :=
  True

def algebraic_ModIdeal_ModRefIdeal_pre_finite_conditioning [hModIdeal : Cert.ModIdeal.Facts] [hModRefIdeal : Cert.ModRefIdeal.Facts] [hPre_finite_conditioning : Cert.Pre_finite_conditioning.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal_finite_conditioning m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v6)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v6) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v23) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def preserves_Prep_PrepIdeal : Prop :=
  True

def algebraic_PrepIdeal_PrepRefIdeal_pre_finite_operands [hPrepIdeal : Cert.PrepIdeal.Facts] [hPrepRefIdeal : Cert.PrepRefIdeal.Facts] [hPre_finite_operands : Cert.Pre_finite_operands.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_finite_operands m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)
      ∧ m' ((c.tc : Thread Cert.PrepRefIdeal.nD Cert.PrepRefIdeal.τ).loc Cert.PrepRefIdeal.main_arg8) = m ((c.tc : Thread Cert.PrepIdeal.nD Cert.PrepIdeal.τ).loc Cert.PrepIdeal.main_arg8)) →
    ∃ (v0 : (c : Dev Cert.PrepIdeal.nD) → Buf (Elt Ideal) ((c.tc : Thread Cert.PrepIdeal.nD Cert.PrepIdeal.τ).loc Cert.PrepIdeal.main_v7)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v7) = v0 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v137) = v0 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7)
          ∧ r.2.mem ((c.tc : Thread Cert.PrepRefIdeal.nD Cert.PrepRefIdeal.τ).loc Cert.PrepRefIdeal.main_arg8) = m' ((c.tc : Thread Cert.PrepRefIdeal.nD Cert.PrepRefIdeal.τ).loc Cert.PrepRefIdeal.main_arg8))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeRefIdeal : Cert.MergeRefIdeal.Facts) (hProject : Cert.Project.Facts) (hProjectIdeal : Cert.ProjectIdeal.Facts) (hProjectRefIdeal : Cert.ProjectRefIdeal.Facts) (hGate : Cert.Gate.Facts) (hGateIdeal : Cert.GateIdeal.Facts) (hGateRefIdeal : Cert.GateRefIdeal.Facts) (hCtx : Cert.Ctx.Facts) (hCtxIdeal : Cert.CtxIdeal.Facts) (hCtxRefIdeal : Cert.CtxRefIdeal.Facts) (hGmlp : Cert.Gmlp.Facts) (hGmlpIdeal : Cert.GmlpIdeal.Facts) (hGmlpRefIdeal : Cert.GmlpRefIdeal.Facts) (hMod : Cert.Mod.Facts) (hModIdeal : Cert.ModIdeal.Facts) (hModRefIdeal : Cert.ModRefIdeal.Facts) (hPrep : Cert.Prep.Facts) (hPrepIdeal : Cert.PrepIdeal.Facts) (hPrepRefIdeal : Cert.PrepRefIdeal.Facts) (hPre_finite_scores : Cert.Pre_finite_scores.Facts) (hPre_finite_scans : Cert.Pre_finite_scans.Facts) (hPre_finite_context : Cert.Pre_finite_context.Facts) (hPre_finite_values : Cert.Pre_finite_values.Facts) (hPre_finite_conditioning : Cert.Pre_finite_conditioning.Facts) (hPre_finite_operands : Cert.Pre_finite_operands.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Merge (hMerge := hMerge)
    ∧ quiescent_MergeIdeal (hMergeIdeal := hMergeIdeal)
    ∧ quiescent_MergeRefIdeal (hMergeRefIdeal := hMergeRefIdeal)
    ∧ quiescent_Project (hProject := hProject)
    ∧ quiescent_ProjectIdeal (hProjectIdeal := hProjectIdeal)
    ∧ quiescent_ProjectRefIdeal (hProjectRefIdeal := hProjectRefIdeal)
    ∧ quiescent_Gate (hGate := hGate)
    ∧ quiescent_GateIdeal (hGateIdeal := hGateIdeal)
    ∧ quiescent_GateIdeal_pre_finite_scans (hGateIdeal := hGateIdeal) (hPre_finite_scans := hPre_finite_scans)
    ∧ quiescent_GateRefIdeal (hGateRefIdeal := hGateRefIdeal)
    ∧ quiescent_GateRefIdeal_pre_finite_scans (hGateRefIdeal := hGateRefIdeal) (hPre_finite_scans := hPre_finite_scans)
    ∧ quiescent_Ctx (hCtx := hCtx)
    ∧ quiescent_CtxIdeal (hCtxIdeal := hCtxIdeal)
    ∧ quiescent_CtxIdeal_pre_finite_context (hCtxIdeal := hCtxIdeal) (hPre_finite_context := hPre_finite_context)
    ∧ quiescent_CtxRefIdeal (hCtxRefIdeal := hCtxRefIdeal)
    ∧ quiescent_CtxRefIdeal_pre_finite_context (hCtxRefIdeal := hCtxRefIdeal) (hPre_finite_context := hPre_finite_context)
    ∧ quiescent_Gmlp (hGmlp := hGmlp)
    ∧ quiescent_GmlpIdeal (hGmlpIdeal := hGmlpIdeal)
    ∧ quiescent_GmlpIdeal_pre_finite_values (hGmlpIdeal := hGmlpIdeal) (hPre_finite_values := hPre_finite_values)
    ∧ quiescent_GmlpRefIdeal (hGmlpRefIdeal := hGmlpRefIdeal)
    ∧ quiescent_GmlpRefIdeal_pre_finite_values (hGmlpRefIdeal := hGmlpRefIdeal) (hPre_finite_values := hPre_finite_values)
    ∧ quiescent_Mod (hMod := hMod)
    ∧ quiescent_ModIdeal (hModIdeal := hModIdeal)
    ∧ quiescent_ModIdeal_pre_finite_conditioning (hModIdeal := hModIdeal) (hPre_finite_conditioning := hPre_finite_conditioning)
    ∧ quiescent_ModRefIdeal (hModRefIdeal := hModRefIdeal)
    ∧ quiescent_ModRefIdeal_pre_finite_conditioning (hModRefIdeal := hModRefIdeal) (hPre_finite_conditioning := hPre_finite_conditioning)
    ∧ quiescent_Prep (hPrep := hPrep)
    ∧ quiescent_PrepIdeal (hPrepIdeal := hPrepIdeal)
    ∧ quiescent_PrepIdeal_pre_finite_operands (hPrepIdeal := hPrepIdeal) (hPre_finite_operands := hPre_finite_operands)
    ∧ quiescent_PrepRefIdeal (hPrepRefIdeal := hPrepRefIdeal)
    ∧ quiescent_PrepRefIdeal_pre_finite_operands (hPrepRefIdeal := hPrepRefIdeal) (hPre_finite_operands := hPre_finite_operands)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Merge_MergeIdeal
    ∧ algebraic_MergeIdeal_MergeRefIdeal (hMergeIdeal := hMergeIdeal) (hMergeRefIdeal := hMergeRefIdeal)
    ∧ preserves_Project_ProjectIdeal
    ∧ algebraic_ProjectIdeal_ProjectRefIdeal (hProjectIdeal := hProjectIdeal) (hProjectRefIdeal := hProjectRefIdeal)
    ∧ preserves_Gate_GateIdeal
    ∧ algebraic_GateIdeal_GateRefIdeal_pre_finite_scans (hGateIdeal := hGateIdeal) (hGateRefIdeal := hGateRefIdeal) (hPre_finite_scans := hPre_finite_scans)
    ∧ preserves_Ctx_CtxIdeal
    ∧ algebraic_CtxIdeal_CtxRefIdeal_pre_finite_context (hCtxIdeal := hCtxIdeal) (hCtxRefIdeal := hCtxRefIdeal) (hPre_finite_context := hPre_finite_context)
    ∧ preserves_Gmlp_GmlpIdeal
    ∧ algebraic_GmlpIdeal_GmlpRefIdeal_pre_finite_values (hGmlpIdeal := hGmlpIdeal) (hGmlpRefIdeal := hGmlpRefIdeal) (hPre_finite_values := hPre_finite_values)
    ∧ preserves_Mod_ModIdeal
    ∧ algebraic_ModIdeal_ModRefIdeal_pre_finite_conditioning (hModIdeal := hModIdeal) (hModRefIdeal := hModRefIdeal) (hPre_finite_conditioning := hPre_finite_conditioning)
    ∧ preserves_Prep_PrepIdeal
    ∧ algebraic_PrepIdeal_PrepRefIdeal_pre_finite_operands (hPrepIdeal := hPrepIdeal) (hPrepRefIdeal := hPrepRefIdeal) (hPre_finite_operands := hPre_finite_operands)
-- ==== Pre_finite_conditioning.lean ====
abbrev S8x1024 : Shape := ⟨2, ![8, 1024]⟩
abbrev S1024 : Shape := ⟨1, ![1024]⟩
abbrev S2x1024x3072 : Shape := ⟨3, ![2, 1024, 3072]⟩
abbrev S2x3072 : Shape := ⟨2, ![2, 3072]⟩
abbrev S_ : Shape := ⟨0, ![]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S2x1024x3072 : S_.BroadcastsInDim S2x1024x3072 (![] : Fin 0 → Fin S2x1024x3072.rank)
  reducesTo_S2x1024x3072_S_d0_1_2 : S2x1024x3072.ReducesTo [0, 1, 2] S_

variable [Facts]

def fn {F : FTy → Type} [FloatOps F] (main_arg0 : FVec F S8x1024 .f32) (main_arg1 : FVec F S1024 .f32) (main_arg2 : FVec F S2x1024x3072 .f32) (main_arg3 : FVec F S2x3072 .f32) : IVec S_ 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_c : IVec S_ 1 := constantI S_ 1 1#1
  let main_v3 : IVec S_ 1 := (fun x v => Host.reduce IntOp.andi x v reducesTo_S8x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S2x1024x3072 .f32 := Host.absf main_arg2
  let main_cst_2 : FVec F S_ .f32 := constant S_ .f32 0x7F800000#32
  let main_v10 : FVec F S2x1024x3072 .f32 := broadcastInDim S2x1024x3072 ![] bcast_S_S2x1024x3072 main_cst_2
  let main_v11 : IVec S2x1024x3072 1 := cmpf .olt main_v9 main_v10
  let main_c_3 : IVec S_ 1 := constantI S_ 1 1#1
  let main_v12 : IVec S_ 1 := (fun x v => Host.reduce IntOp.andi x v reducesTo_S2x1024x3072_S_d0_1_2 h_S_) main_v11 main_c_3
  let main_v13 : IVec S_ 1 := andi main_v8 main_v12
  main_v13
-- ==== Pre_finite_context.lean ====
abbrev S8x256x1024 : Shape := ⟨3, ![8, 256, 1024]⟩
abbrev S8x256x512 : Shape := ⟨3, ![8, 256, 512]⟩
abbrev S_ : Shape := ⟨0, ![]⟩

class Facts : Prop where
  slices_S8x256x1024_S8x256x512_0_0_0 : S8x256x1024.Slices ![0, 0, 0] S8x256x512
  bcast_S_S8x256x512 : S_.BroadcastsInDim S8x256x512 (![] : Fin 0 → Fin S8x256x512.rank)
  reducesTo_S8x256x512_S_d0_1_2 : S8x256x512.ReducesTo [0, 1, 2] S_
  h_S_ : 0 < S_.numel

variable [Facts]

def fn {F : FTy → Type} [FloatOps F] (main_arg0 : FVec F S8x256x1024 .f32) : IVec S_ 1 :=
  let main_v0 : FVec F S8x256x512 .f32 := (extractStridedSlice S8x256x512 ![0, 0, 0] · slices_S8x256x1024_S8x256x512_0_0_0) main_arg0
  let main_v1 : FVec F S8x256x512 .f32 := Host.absf main_v0
  let main_cst : FVec F S_ .f32 := constant S_ .f32 0x7F800000#32
  let main_v2 : FVec F S8x256x512 .f32 := broadcastInDim S8x256x512 ![] bcast_S_S8x256x512 main_cst
  let main_v3 : IVec S8x256x512 1 := cmpf .olt main_v1 main_v2
  let main_c : IVec S_ 1 := constantI S_ 1 1#1
  let main_v4 : IVec S_ 1 := (fun x v => Host.reduce IntOp.andi x v reducesTo_S8x256x512_S_d0_1_2 h_S_) main_v3 main_c
  main_v4
-- ==== Pre_finite_operands.lean ====
abbrev S8x4096x896 : Shape := ⟨3, ![8, 4096, 896]⟩
abbrev S896 : Shape := ⟨1, ![896]⟩
abbrev S2x256 : Shape := ⟨2, ![2, 256]⟩
abbrev S2x64x256 : Shape := ⟨3, ![2, 64, 256]⟩
abbrev S256 : Shape := ⟨1, ![256]⟩
abbrev S4x64 : Shape := ⟨2, ![4, 64]⟩
abbrev S_ : Shape := ⟨0, ![]⟩

class Facts : Prop where
  bcast_S_S8x4096x896 : S_.BroadcastsInDim S8x4096x896 (![] : Fin 0 → Fin S8x4096x896.rank)
  reducesTo_S8x4096x896_S_d0_1_2 : S8x4096x896.ReducesTo [0, 1, 2] S_
  h_S_ : 0 < S_.numel
  bcast_S_S896 : S_.BroadcastsInDim S896 (![] : Fin 0 → Fin S896.rank)
  reducesTo_S896_S_d0 : S896.ReducesTo [0] S_
  bcast_S_S2x64x256 : S_.BroadcastsInDim S2x64x256 (![] : Fin 0 → Fin S2x64x256.rank)
  reducesTo_S2x64x256_S_d0_1_2 : S2x64x256.ReducesTo [0, 1, 2] S_
  bcast_S_S256 : S_.BroadcastsInDim S256 (![] : Fin 0 → Fin S256.rank)
  reducesTo_S256_S_d0 : S256.ReducesTo [0] S_
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_arg6 : FVec F S256 .f32) (main_arg7 : FVec F S256 .f32) (main_arg8 : FVec F S4x64 .f32) (main_v13 : IVec S_ 1) (main_v16 : IVec S2x64x256 1) : IVec S_ 1 :=
  let main_c_5 : IVec S_ 1 := constantI S_ 1 1#1
  let main_v17 : IVec S_ 1 := (fun x v => Host.reduce IntOp.andi x v reducesTo_S2x64x256_S_d0_1_2 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S4x64 .f32 := Host.absf main_arg8
  let main_cst_10 : FVec F S_ .f32 := constant S_ .f32 0x7F800000#32
  let main_v30 : FVec F S4x64 .f32 := broadcastInDim S4x64 ![] bcast_S_S4x64 main_cst_10
  let main_v31 : IVec S4x64 1 := cmpf .olt main_v29 main_v30
  let main_c_11 : IVec S_ 1 := constantI S_ 1 1#1
  let main_v32 : IVec S_ 1 := (fun x v => Host.reduce IntOp.andi x v reducesTo_S4x64_S_d0_1 h_S_) main_v31 main_c_11
  let main_v33 : IVec S_ 1 := andi main_v28 main_v32
  main_v33

def fn {F : FTy → Type} [FloatOps F] (main_arg0 : FVec F S8x4096x896 .f32) (main_arg1 : FVec F S896 .f32) (main_arg2 : FVec F S2x256 .f32) (main_arg3 : FVec F S2x64x256 .f32) (main_arg4 : FVec F S2x256 .f32) (main_arg5 : FVec F S2x64x256 .f32) (main_arg6 : FVec F S256 .f32) (main_arg7 : FVec F S256 .f32) (main_arg8 : FVec F S4x64 .f32) : IVec S_ 1 :=
  let main_v0 : FVec F S8x4096x896 .f32 := Host.absf main_arg0
  let main_cst : FVec F S_ .f32 := constant S_ .f32 0x7F800000#32
  let main_v1 : FVec F S8x4096x896 .f32 := broadcastInDim S8x4096x896 ![] bcast_S_S8x4096x896 main_cst
  let main_v2 : IVec S8x4096x896 1 := cmpf .olt main_v0 main_v1
  let main_c : IVec S_ 1 := constantI S_ 1 1#1
  let main_v3 : IVec S_ 1 := (fun x v => Host.reduce IntOp.andi x v reducesTo_S8x4096x896_S_d0_1_2 h_S_) main_v2 main_c
  let main_v4 : FVec F S896 .f32 := Host.absf main_arg1
  let main_cst_0 : FVec F S_ .f32 := constant S_ .f32 0x7F800000#32
  let main_v5 : FVec F S896 .f32 := broadcastInDim S896 ![] bcast_S_S896 main_cst_0
  let main_v6 : IVec S896 1 := cmpf .olt main_v4 main_v5
  let main_c_1 : IVec S_ 1 := constantI S_ 1 1#1
  let main_v7 : IVec S_ 1 := (fun x v => Host.reduce IntOp.andi x v reducesTo_S896_S_d0 h_S_) main_v6 main_c_1
  let main_v8 : IVec S_ 1 := andi main_v3 main_v7
  let main_v9 : FVec F S2x64x256 .f32 := Host.absf main_arg3
  let main_cst_2 : FVec F S_ .f32 := constant S_ .f32 0x7F800000#32
  let main_v10 : FVec F S2x64x256 .f32 := broadcastInDim S2x64x256 ![] bcast_S_S2x64x256 main_cst_2
  let main_v11 : IVec S2x64x256 1 := cmpf .olt main_v9 main_v10
  let main_c_3 : IVec S_ 1 := constantI S_ 1 1#1
  let main_v12 : IVec S_ 1 := (fun x v => Host.reduce IntOp.andi x v reducesTo_S2x64x256_S_d0_1_2 h_S_) main_v11 main_c_3
  let main_v13 : IVec S_ 1 := andi main_v8 main_v12
  let main_v14 : FVec F S2x64x256 .f32 := Host.absf main_arg5
  let main_cst_4 : FVec F S_ .f32 := constant S_ .f32 0x7F800000#32
  let main_v15 : FVec F S2x64x256 .f32 := broadcastInDim S2x64x256 ![] bcast_S_S2x64x256 main_cst_4
  let main_v16 : IVec S2x64x256 1 := cmpf .olt main_v14 main_v15
  fn_part1 (F := F) main_arg6 main_arg7 main_arg8 main_v13 main_v16
-- ==== Pre_finite_scans.lean ====
abbrev S8x4096x256 : Shape := ⟨3, ![8, 4096, 256]⟩
abbrev S8x4096x2560 : Shape := ⟨3, ![8, 4096, 2560]⟩
abbrev S256 : Shape := ⟨1, ![256]⟩
abbrev S_ : Shape := ⟨0, ![]⟩

class Facts : Prop where
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel

variable [Facts]

def fn {F : FTy → Type} [FloatOps F] (main_arg0 : FVec F S8x4096x256 .f32) (main_arg1 : FVec F S8x4096x256 .f32) (main_arg2 : FVec F S8x4096x2560 .f32) (main_arg3 : FVec F S8x4096x256 .f32) (main_arg4 : FVec F S256 .f32) (main_arg5 : FVec F S256 .f32) : IVec S_ 1 :=
  let main_v0 : FVec F S8x4096x256 .f32 := Host.absf main_arg0
  let main_cst : FVec F S_ .f32 := constant S_ .f32 0x7F800000#32
  let main_v1 : FVec F S8x4096x256 .f32 := broadcastInDim S8x4096x256 ![] bcast_S_S8x4096x256 main_cst
  let main_v2 : IVec S8x4096x256 1 := cmpf .olt main_v0 main_v1
  let main_c : IVec S_ 1 := constantI S_ 1 1#1
  let main_v3 : IVec S_ 1 := (fun x v => Host.reduce IntOp.andi x v reducesTo_S8x4096x256_S_d0_1_2 h_S_) main_v2 main_c
  let main_v4 : FVec F S8x4096x256 .f32 := Host.absf main_arg1
  let main_cst_0 : FVec F S_ .f32 := constant S_ .f32 0x7F800000#32
  let main_v5 : FVec F S8x4096x256 .f32 := broadcastInDim S8x4096x256 ![] bcast_S_S8x4096x256 main_cst_0
  let main_v6 : IVec S8x4096x256 1 := cmpf .olt main_v4 main_v5
  let main_c_1 : IVec S_ 1 := constantI S_ 1 1#1
  let main_v7 : IVec S_ 1 := (fun x v => Host.reduce IntOp.andi x v reducesTo_S8x4096x256_S_d0_1_2 h_S_) main_v6 main_c_1
  let main_v8 : IVec S_ 1 := andi main_v3 main_v7
  main_v8
-- ==== Pre_finite_scores.lean ====
abbrev S8x4096x1024 : Shape := ⟨3, ![8, 4096, 1024]⟩
abbrev S8x256x1024 : Shape := ⟨3, ![8, 256, 1024]⟩
abbrev S4x15x31 : Shape := ⟨3, ![4, 15, 31]⟩
abbrev S8x4096x512 : Shape := ⟨3, ![8, 4096, 512]⟩
abbrev S_ : Shape := ⟨0, ![]⟩
abbrev S8x256x256 : Shape := ⟨3, ![8, 256, 256]⟩

class Facts : Prop where
  slices_S8x4096x1024_S8x4096x512_0_0_0 : S8x4096x1024.Slices ![0, 0, 0] S8x4096x512
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  slices_S8x256x1024_S8x256x256_0_0_256 : S8x256x1024.Slices ![0, 0, 256] S8x256x256
  bcast_S_S8x256x256 : S_.BroadcastsInDim S8x256x256 (![] : Fin 0 → Fin S8x256x256.rank)
  reducesTo_S8x256x256_S_d0_1_2 : S8x256x256.ReducesTo [0, 1, 2] S_
  bcast_S_S4x15x31 : S_.BroadcastsInDim S4x15x31 (![] : Fin 0 → Fin S4x15x31.rank)
  reducesTo_S4x15x31_S_d0_1_2 : S4x15x31.ReducesTo [0, 1, 2] S_

variable [Facts]

def fn {F : FTy → Type} [FloatOps F] (main_arg0 : FVec F S8x4096x1024 .f32) (main_arg1 : FVec F S8x256x1024 .f32) (main_arg2 : FVec F S4x15x31 .f32) : IVec S_ 1 :=
  let main_v0 : FVec F S8x4096x512 .f32 := (extractStridedSlice S8x4096x512 ![0, 0, 0] · slices_S8x4096x1024_S8x4096x512_0_0_0) main_arg0
  let main_v1 : FVec F S8x4096x512 .f32 := Host.absf main_v0
  let main_cst : FVec F S_ .f32 := constant S_ .f32 0x7F800000#32
  let main_v2 : FVec F S8x4096x512 .f32 := broadcastInDim S8x4096x512 ![] bcast_S_S8x4096x512 main_cst
  let main_v3 : IVec S8x4096x512 1 := cmpf .olt main_v1 main_v2
  let main_c : IVec S_ 1 := constantI S_ 1 1#1
  let main_v4 : IVec S_ 1 := (fun x v => Host.reduce IntOp.andi x v reducesTo_S8x4096x512_S_d0_1_2 h_S_) main_v3 main_c
  let main_v5 : FVec F S8x256x256 .f32 := (extractStridedSlice S8x256x256 ![0, 0, 256] · slices_S8x256x1024_S8x256x256_0_0_256) main_arg1
  let main_v6 : FVec F S8x256x256 .f32 := Host.absf main_v5
  let main_cst_0 : FVec F S_ .f32 := constant S_ .f32 0x7F800000#32
  let main_v7 : FVec F S8x256x256 .f32 := broadcastInDim S8x256x256 ![] bcast_S_S8x256x256 main_cst_0
  let main_v8 : IVec S8x256x256 1 := cmpf .olt main_v6 main_v7
  let main_c_1 : IVec S_ 1 := constantI S_ 1 1#1
  let main_v9 : IVec S_ 1 := (fun x v => Host.reduce IntOp.andi x v reducesTo_S8x256x256_S_d0_1_2 h_S_) main_v8 main_c_1
  let main_v10 : IVec S_ 1 := andi main_v4 main_v9
  let main_v11 : FVec F S4x15x31 .f32 := Host.absf main_arg2
  let main_cst_2 : FVec F S_ .f32 := constant S_ .f32 0x7F800000#32
  let main_v12 : FVec F S4x15x31 .f32 := broadcastInDim S4x15x31 ![] bcast_S_S4x15x31 main_cst_2
  let main_v13 : IVec S4x15x31 1 := cmpf .olt main_v11 main_v12
  let main_c_3 : IVec S_ 1 := constantI S_ 1 1#1
  let main_v14 : IVec S_ 1 := (fun x v => Host.reduce IntOp.andi x v reducesTo_S4x15x31_S_d0_1_2 h_S_) main_v13 main_c_3
  let main_v15 : IVec S_ 1 := andi main_v10 main_v14
  main_v15
-- ==== Pre_finite_values.lean ====
abbrev S8x4096x768 : Shape := ⟨3, ![8, 4096, 768]⟩
abbrev S4x64 : Shape := ⟨2, ![4, 64]⟩
abbrev S4x128x128 : Shape := ⟨3, ![4, 128, 128]⟩
abbrev S4x128 : Shape := ⟨2, ![4, 128]⟩
abbrev S8x4096x256 : Shape := ⟨3, ![8, 4096, 256]⟩
abbrev S_ : Shape := ⟨0, ![]⟩

class Facts : Prop where
  slices_S8x4096x768_S8x4096x256_0_0_256 : S8x4096x768.Slices ![0, 0, 256] S8x4096x256
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel

variable [Facts]

def fn {F : FTy → Type} [FloatOps F] (main_arg0 : FVec F S8x4096x768 .f32) (main_arg1 : FVec F S4x64 .f32) (main_arg2 : FVec F S4x64 .f32) (main_arg3 : FVec F S4x128x128 .f32) (main_arg4 : FVec F S4x128 .f32) : IVec S_ 1 :=
  let main_v0 : FVec F S8x4096x256 .f32 := (extractStridedSlice S8x4096x256 ![0, 0, 256] · slices_S8x4096x768_S8x4096x256_0_0_256) main_arg0
  let main_v1 : FVec F S8x4096x256 .f32 := Host.absf main_v0
  let main_cst : FVec F S_ .f32 := constant S_ .f32 0x7F800000#32
  let main_v2 : FVec F S8x4096x256 .f32 := broadcastInDim S8x4096x256 ![] bcast_S_S8x4096x256 main_cst
  let main_v3 : IVec S8x4096x256 1 := cmpf .olt main_v1 main_v2
  let main_c : IVec S_ 1 := constantI S_ 1 1#1
  let main_v4 : IVec S_ 1 := (fun x v => Host.reduce IntOp.andi x v reducesTo_S8x4096x256_S_d0_1_2 h_S_) main_v3 main_c
  main_v4
-- ==== Kernel.lean ====
abbrev S8x4096x1024 : Shape := ⟨3, ![8, 4096, 1024]⟩
abbrev S8x256x1024 : Shape := ⟨3, ![8, 256, 1024]⟩
abbrev S4x15x31 : Shape := ⟨3, ![4, 15, 31]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S8x8x1 : Shape := ⟨3, ![8, 8, 1]⟩
abbrev S4x8x8x31 : Shape := ⟨4, ![4, 8, 8, 31]⟩
abbrev S64x64x1 : Shape := ⟨3, ![64, 64, 1]⟩
abbrev S4x8x8x64x64 : Shape := ⟨5, ![4, 8, 8, 64, 64]⟩
abbrev S8x4x64x8x64 : Shape := ⟨5, ![8, 4, 64, 8, 64]⟩
abbrev S1x64x1x64 : Shape := ⟨4, ![1, 64, 1, 64]⟩
abbrev S4x64x8x64 : Shape := ⟨4, ![4, 64, 8, 64]⟩
abbrev S8x256x512 : Shape := ⟨3, ![8, 256, 512]⟩
abbrev S256x512 : Shape := ⟨2, ![256, 512]⟩
abbrev S8x4096x256 : Shape := ⟨3, ![8, 4096, 256]⟩
abbrev S1x64x256 : Shape := ⟨3, ![1, 64, 256]⟩
abbrev S1x4096x256 : Shape := ⟨3, ![1, 4096, 256]⟩
abbrev S1x256x256 : Shape := ⟨3, ![1, 256, 256]⟩
abbrev S64x256 : Shape := ⟨2, ![64, 256]⟩
abbrev S256x256 : Shape := ⟨2, ![256, 256]⟩
abbrev S1x512x256 : Shape := ⟨3, ![1, 512, 256]⟩
abbrev S512x256 : Shape := ⟨2, ![512, 256]⟩
abbrev S1x256x512 : Shape := ⟨3, ![1, 256, 512]⟩
abbrev S256 : Shape := ⟨1, ![256]⟩
abbrev S256x1 : Shape := ⟨2, ![256, 1]⟩

abbrev nBuf : Space → Nat
  | .hbm => 80
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S4x15x31, .f32⟩
  | .hbm, ⟨3, _⟩ => ⟨S64, .i32⟩
  | .hbm, ⟨4, _⟩ => ⟨S_, .i32⟩
  | .hbm, ⟨5, _⟩ => ⟨S64, .i32⟩
  | .hbm, ⟨6, _⟩ => ⟨S64, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S1x64, .i32⟩
  | .hbm, ⟨16, _⟩ => ⟨S64x1, .i32⟩
  | .hbm, ⟨17, _⟩ => ⟨S64x64, .i32⟩
  | .hbm, ⟨18, _⟩ => ⟨S64x64, .i32⟩
  | .hbm, ⟨19, _⟩ => ⟨S64x64, .i1⟩
  | .hbm, ⟨20, _⟩ => ⟨S1x64, .i32⟩
  | .hbm, ⟨21, _⟩ => ⟨S64x1, .i32⟩
  | .hbm, ⟨22, _⟩ => ⟨S_, .i32⟩
  | .hbm, ⟨23, _⟩ => ⟨S64x1, .i32⟩
  | .hbm, ⟨24, _⟩ => ⟨S64x1, .i32⟩
  | .hbm, ⟨25, _⟩ => ⟨S64x64, .i32⟩
  | .hbm, ⟨26, _⟩ => ⟨S64x64, .i32⟩
  | .hbm, ⟨27, _⟩ => ⟨S64x64, .i1⟩
  | .hbm, ⟨28, _⟩ => ⟨S64x64, .i1⟩
  | .hbm, ⟨29, _⟩ => ⟨S1x64, .i32⟩
  | .hbm, ⟨30, _⟩ => ⟨S64x1, .i32⟩
  | .hbm, ⟨31, _⟩ => ⟨S64x64, .i32⟩
  | .hbm, ⟨32, _⟩ => ⟨S64x64, .i32⟩
  | .hbm, ⟨33, _⟩ => ⟨S64x64, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S64x64, .i32⟩
  | .hbm, ⟨38, _⟩ => ⟨S64x64, .i32⟩
  | .hbm, ⟨39, _⟩ => ⟨S_, .i32⟩
  | .hbm, ⟨40, _⟩ => ⟨S64x64, .i32⟩
  | .hbm, ⟨41, _⟩ => ⟨S64x64, .i32⟩
  | .hbm, ⟨42, _⟩ => ⟨S_, .i32⟩
  | .hbm, ⟨43, _⟩ => ⟨S64x64, .i32⟩
  | .hbm, ⟨44, _⟩ => ⟨S64x64, .i32⟩
  | .hbm, ⟨45, _⟩ => ⟨S_, .i32⟩
  | .hbm, ⟨46, _⟩ => ⟨S64x64, .i32⟩
  | .hbm, ⟨47, _⟩ => ⟨S64x64, .i32⟩
  | .hbm, ⟨48, _⟩ => ⟨S8, .i32⟩
  | .hbm, ⟨49, _⟩ => ⟨S8x1, .i32⟩
  | .hbm, ⟨50, _⟩ => ⟨S8, .i32⟩
  | .hbm, ⟨51, _⟩ => ⟨S1x8, .i32⟩
  | .hbm, ⟨52, _⟩ => ⟨S8x8, .i32⟩
  | .hbm, ⟨53, _⟩ => ⟨S8x8, .i32⟩
  | .hbm, ⟨54, _⟩ => ⟨S8x8, .i32⟩
  | .hbm, ⟨55, _⟩ => ⟨S_, .i32⟩
  | .hbm, ⟨56, _⟩ => ⟨S8x8, .i32⟩
  | .hbm, ⟨57, _⟩ => ⟨S8x8, .i1⟩
  | .hbm, ⟨58, _⟩ => ⟨S_, .i32⟩
  | .hbm, ⟨59, _⟩ => ⟨S8x8, .i32⟩
  | .hbm, ⟨60, _⟩ => ⟨S8x8, .i32⟩
  | .hbm, ⟨61, _⟩ => ⟨S8x8, .i32⟩
  | .hbm, ⟨62, _⟩ => ⟨S8x8x1, .i32⟩
  | .hbm, ⟨63, _⟩ => ⟨S4x8x8x31, .f32⟩
  | .hbm, ⟨64, _⟩ => ⟨S_, .i32⟩
  | .hbm, ⟨65, _⟩ => ⟨S64x64, .i32⟩
  | .hbm, ⟨66, _⟩ => ⟨S64x64, .i1⟩
  | .hbm, ⟨67, _⟩ => ⟨S_, .i32⟩
  | .hbm, ⟨68, _⟩ => ⟨S64x64, .i32⟩
  | .hbm, ⟨69, _⟩ => ⟨S64x64, .i32⟩
  | .hbm, ⟨70, _⟩ => ⟨S64x64, .i32⟩
  | .hbm, ⟨71, _⟩ => ⟨S64x64x1, .i32⟩
  | .hbm, ⟨72, _⟩ => ⟨S4x8x8x64x64, .f32⟩
  | .hbm, ⟨73, _⟩ => ⟨S8x4x64x8x64, .f32⟩
  | .hbm, ⟨74, _⟩ => ⟨S1x64x1x64, .i1⟩
  | .hbm, ⟨75, _⟩ => ⟨S4x64x8x64, .i1⟩
  | .hbm, ⟨76, _⟩ => ⟨S4x64x8x64, .i32⟩
  | .hbm, ⟨77, _⟩ => ⟨S8x256x512, .f32⟩
  | .hbm, ⟨78, _⟩ => ⟨S256x512, .i32⟩
  | .hbm, ⟨79, _⟩ => ⟨S8x4096x256, .f32⟩
  | .local _ .vmem, ⟨0, _⟩ => ⟨S1x64x256, .f32⟩
  | .local _ .vmem, ⟨1, _⟩ => ⟨S1x64x256, .f32⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x64x256, .f32⟩
  | .local _ .vmem, ⟨7, _⟩ => ⟨S1x64x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S8x256x512, .f32⟩
  | .local _ .vmem, ⟨13, _⟩ => ⟨S256x512, .i32⟩
  | .local _ .vmem, ⟨14, _⟩ => ⟨S1x64x256, .f32⟩
  | .local _ .vmem, ⟨15, _⟩ => ⟨S1x64x256, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_c_4 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_9 : Ref sig .tc := ⟨.hbm, 64, rfl⟩
abbrev main_v41 : Ref sig .tc := ⟨.hbm, 65, rfl⟩
abbrev main_v42 : Ref sig .tc := ⟨.hbm, 66, rfl⟩
abbrev main_c_10 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 64], ![false, false]⟩

def k0_mult1 (i : grid0.Coords) : BitVec 32 :=
  let c56_i32 : BitVec 32 := 56#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c56_i32 v1
  let c64_i32 : BitVec 32 := 64#32
  let v3 : BitVec 32 := Scalar.muli v2 c64_i32
  v3
def k0_off1 (i : grid0.Coords) : Fin 3 → Nat :=
  let c0_14 : Index := 0#32
  let c56_i32 : BitVec 32 := 56#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c56_i32 v1
  let c64_i32 : BitVec 32 := 64#32
  let v3 : BitVec 32 := Scalar.muli v2 c64_i32
  let v4 : BitVec 32 := v3
  let v52 : Index := Scalar.indexCast v4
  let c0_15 : Index := 0#32
  ![0, v52.toNat, 0]
def k0_off2 (i : grid0.Coords) : Fin 3 → Nat :=
  let c56_i32 : BitVec 32 := 56#32
  let c0_i32 : BitVec 32 := 0#32
  let arg1 : BitVec 32 := BitVec.ofNat 32 (i 1).val
  let c4_i32 : BitVec 32 := 4#32
  let v0 : BitVec 32 := Scalar.subi arg1 c4_i32
  let v1 : BitVec 32 := Scalar.maxsi c0_i32 v0
  let v2 : BitVec 32 := Scalar.minsi c56_i32 v1
  let v65 : BitVec 32 := Scalar.subi v2 arg1
  let c8_i32 : BitVec 32 := 8#32
  let v66 : BitVec 32 := Scalar.addi v65 c8_i32
  let c1_i32_22 : BitVec 32 := 1#32
  let v67 : BitVec 32 := Scalar.subi v66 c1_i32_22
  let v68 : Index := Scalar.indexCast v67
  let c0_23 : Index := 0#32
  let c0_24 : Index := 0#32
  ![v68.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x512 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x4096x1024 : Shape := ⟨3, ![8, 4096, 1024]⟩
abbrev S8x256x1024 : Shape := ⟨3, ![8, 256, 1024]⟩
abbrev S4x15x31 : Shape := ⟨3, ![4, 15, 31]⟩
abbrev S8x4096x256 : Shape := ⟨3, ![8, 4096, 256]⟩
abbrev S8x256x256 : Shape := ⟨3, ![8, 256, 256]⟩
abbrev S8x4096x4x64 : Shape := ⟨4, ![8, 4096, 4, 64]⟩
abbrev S8x256x4x64 : Shape := ⟨4, ![8, 256, 4, 64]⟩
abbrev S64 : Shape := ⟨1, ![64]⟩
abbrev S_ : Shape := ⟨0, ![]⟩
abbrev S64x1 : Shape := ⟨2, ![64, 1]⟩
abbrev S8 : Shape := ⟨1, ![8]⟩
abbrev S1x8 : Shape := ⟨2, ![1, 8]⟩
abbrev S64x8 : Shape := ⟨2, ![64, 8]⟩
abbrev S8x64x64x4x64 : Shape := ⟨5, ![8, 64, 64, 4, 64]⟩
abbrev S64x8x1 : Shape := ⟨3, ![64, 8, 1]⟩
abbrev S8x64x8x64x4x64 : Shape := ⟨6, ![8, 64, 8, 64, 4, 64]⟩
abbrev S8x4x64x64x8x64 : Shape := ⟨6, ![8, 4, 64, 64, 8, 64]⟩
abbrev S1x64 : Shape := ⟨2, ![1, 64]⟩
abbrev S64x64 : Shape := ⟨2, ![64, 64]⟩
abbrev S64x1x8x1 : Shape := ⟨4, ![64, 1, 8, 1]⟩
abbrev S1x64x1x64 : Shape := ⟨4, ![1, 64, 1, 64]⟩
abbrev S64x64x8x64 : Shape := ⟨4, ![64, 64, 8, 64]⟩
abbrev S64x64x8x64x1 : Shape := ⟨5, ![64, 64, 8, 64, 1]⟩
abbrev S64x64x8x64x2 : Shape := ⟨5, ![64, 64, 8, 64, 2]⟩
abbrev S4x64x64x8x64 : Shape := ⟨5, ![4, 64, 64, 8, 64]⟩
abbrev S1x1x1x64x1x64 : Shape := ⟨6, ![1, 1, 1, 64, 1, 64]⟩
abbrev S1x4x64x64x8x64 : Shape := ⟨6, ![1, 4, 64, 64, 8, 64]⟩
abbrev S8x4x64x64x256 : Shape := ⟨5, ![8, 4, 64, 64, 256]⟩
abbrev S8x4x64x64x512 : Shape := ⟨5, ![8, 4, 64, 64, 512]⟩
abbrev S8x4x64x64x768 : Shape := ⟨5, ![8, 4, 64, 64, 768]⟩
abbrev S8x4x64x64 : Shape := ⟨4, ![8, 4, 64, 64]⟩
abbrev S8x4x64x64x1 : Shape := ⟨5, ![8, 4, 64, 64, 1]⟩
abbrev S8x64x4x64x64 : Shape := ⟨5, ![8, 64, 4, 64, 64]⟩
abbrev S8x4x64x64x64 : Shape := ⟨5, ![8, 4, 64, 64, 64]⟩

abbrev nBuf : Space → Nat
  | .hbm => 175
  | .vmem => 0
  | .smem => 0
  | _ => 0

abbrev hbmTy0_0 (i : Nat) : BufTy := match i % 128 with
  | 0 => ⟨S8x4096x1024, .f32⟩
  | 1 => ⟨S8x256x1024, .f32⟩
  | 2 => ⟨S4x15x31, .f32⟩
  | 3 => ⟨S8x4096x256, .f32⟩
  | 4 => ⟨S8x4096x256, .f32⟩
  | 5 => ⟨S8x4096x256, .f32⟩
  | 6 => ⟨S8x4096x256, .f32⟩
  | 7 => ⟨S8x256x256, .f32⟩
  | 8 => ⟨S8x256x256, .f32⟩
  | 9 => ⟨S8x4096x4x64, .f32⟩
  | 10 => ⟨S8x4096x4x64, .f32⟩
  | 11 => ⟨S8x4096x4x64, .f32⟩
  | 12 => ⟨S8x256x4x64, .f32⟩
  | 13 => ⟨S8x256x4x64, .f32⟩
  | 14 => ⟨S64, .i32⟩
  | 15 => ⟨S64, .i32⟩
  | 16 => ⟨S_, .i32⟩
  | 17 => ⟨S64, .i32⟩
  | 18 => ⟨S64, .i32⟩
  | 19 => ⟨S_, .i32⟩
  | 20 => ⟨S_, .i32⟩
  | 21 => ⟨S_, .i32⟩
  | 22 => ⟨S64, .i32⟩
  | 23 => ⟨S64, .i32⟩
  | 24 => ⟨S_, .i32⟩
  | 25 => ⟨S64, .i32⟩
  | 26 => ⟨S64, .i32⟩
  | 27 => ⟨S_, .i32⟩
  | 28 => ⟨S64, .i32⟩
  | 29 => ⟨S64, .i32⟩
  | 30 => ⟨S_, .i32⟩
  | 31 => ⟨S_, .i32⟩
  | 32 => ⟨S_, .i32⟩
  | 33 => ⟨S64, .i32⟩
  | 34 => ⟨S64, .i32⟩
  | 35 => ⟨S_, .i32⟩
  | 36 => ⟨S64, .i32⟩
  | 37 => ⟨S64, .i32⟩
  | 38 => ⟨S64x1, .i32⟩
  | 39 => ⟨S8, .i32⟩
  | 40 => ⟨S1x8, .i32⟩
  | 41 => ⟨S64x8, .i32⟩
  | 42 => ⟨S64x8, .i32⟩
  | 43 => ⟨S64x8, .i32⟩
  | 44 => ⟨S8x64x64x4x64, .f32⟩
  | 45 => ⟨S8x64x64x4x64, .f32⟩
  | 46 => ⟨S_, .i32⟩
  | 47 => ⟨S64x8, .i32⟩
  | 48 => ⟨S64x8, .i1⟩
  | 49 => ⟨S_, .i32⟩
  | 50 => ⟨S64x8, .i32⟩
  | 51 => ⟨S64x8, .i32⟩
  | 52 => ⟨S64x8, .i32⟩
  | 53 => ⟨S64x8x1, .i32⟩
  | 54 => ⟨S8x64x8x64x4x64, .f32⟩
  | 55 => ⟨S8x64x64x4x64, .f32⟩
  | 56 => ⟨S_, .i32⟩
  | 57 => ⟨S64x8, .i32⟩
  | 58 => ⟨S64x8, .i1⟩
  | 59 => ⟨S_, .i32⟩
  | 60 => ⟨S64x8, .i32⟩
  | 61 => ⟨S64x8, .i32⟩
  | 62 => ⟨S64x8, .i32⟩
  | 63 => ⟨S64x8x1, .i32⟩
  | 64 => ⟨S8x64x8x64x4x64, .f32⟩
  | 65 => ⟨S8x4x64x64x8x64, .f32⟩
  | 66 => ⟨S_, .f32⟩
  | 67 => ⟨S8x4x64x64x8x64, .f32⟩
  | 68 => ⟨S8x4x64x64x8x64, .f32⟩
  | 69 => ⟨S1x64, .i32⟩
  | 70 => ⟨S64x1, .i32⟩
  | 71 => ⟨S64x64, .i32⟩
  | 72 => ⟨S64x64, .i32⟩
  | 73 => ⟨S64x64, .i1⟩
  | 74 => ⟨S1x64, .i32⟩
  | 75 => ⟨S64x1, .i32⟩
  | 76 => ⟨S_, .i32⟩
  | 77 => ⟨S64x1, .i32⟩
  | 78 => ⟨S64x1, .i32⟩
  | 79 => ⟨S64x64, .i32⟩
  | 80 => ⟨S64x64, .i32⟩
  | 81 => ⟨S64x64, .i1⟩
  | 82 => ⟨S64x64, .i1⟩
  | 83 => ⟨S64x1, .i32⟩
  | 84 => ⟨S64x8, .i32⟩
  | 85 => ⟨S64x8, .i32⟩
  | 86 => ⟨S1x64, .i32⟩
  | 87 => ⟨S64x1, .i32⟩
  | 88 => ⟨S64x64, .i32⟩
  | 89 => ⟨S64x64, .i32⟩
  | 90 => ⟨S64x64, .i32⟩
  | 91 => ⟨S_, .i32⟩
  | 92 => ⟨S_, .i32⟩
  | 93 => ⟨S_, .i32⟩
  | 94 => ⟨S64x64, .i32⟩
  | 95 => ⟨S64x64, .i32⟩
  | 96 => ⟨S_, .i32⟩
  | 97 => ⟨S64x64, .i32⟩
  | 98 => ⟨S64x64, .i32⟩
  | 99 => ⟨S64x1x8x1, .i32⟩
  | 100 => ⟨S_, .i32⟩
  | 101 => ⟨S64x1x8x1, .i32⟩
  | 102 => ⟨S64x1x8x1, .i32⟩
  | 103 => ⟨S1x64x1x64, .i32⟩
  | 104 => ⟨S_, .i32⟩
  | 105 => ⟨S1x64x1x64, .i32⟩
  | 106 => ⟨S1x64x1x64, .i32⟩
  | 107 => ⟨S_, .i32⟩
  | 108 => ⟨S64x1x8x1, .i32⟩
  | 109 => ⟨S64x1x8x1, .i1⟩
  | 110 => ⟨S_, .i32⟩
  | 111 => ⟨S64x1x8x1, .i32⟩
  | 112 => ⟨S64x1x8x1, .i32⟩
  | 113 => ⟨S64x1x8x1, .i32⟩
  | 114 => ⟨S_, .i32⟩
  | 115 => ⟨S1x64x1x64, .i32⟩
  | 116 => ⟨S1x64x1x64, .i1⟩
  | 117 => ⟨S_, .i32⟩
  | 118 => ⟨S1x64x1x64, .i32⟩
  | 119 => ⟨S1x64x1x64, .i32⟩
  | 120 => ⟨S1x64x1x64, .i32⟩
  | 121 => ⟨S64x64x8x64, .i32⟩
  | 122 => ⟨S64x64x8x64, .i32⟩
  | 123 => ⟨S64x64x8x64x1, .i32⟩
  | 124 => ⟨S64x64x8x64x1, .i32⟩
  | 125 => ⟨S64x64x8x64x2, .i32⟩
  | 126 => ⟨S4x64x64x8x64, .f32⟩
  | 127 => ⟨S1x1x1x64x1x64, .i1⟩
  | _ => ⟨S8x4096x1024, .f32⟩

abbrev hbmTy0_1 (i : Nat) : BufTy := match i % 128 with
  | 0 => ⟨S1x4x64x64x8x64, .f32⟩
  | 1 => ⟨S8x4x64x64x8x64, .f32⟩
  | 2 => ⟨S8x4x64x64x8x64, .f32⟩
  | 3 => ⟨S_, .f32⟩
  | 4 => ⟨S_, .f32⟩
  | 5 => ⟨S8x4x64x64x8x64, .i1⟩
  | 6 => ⟨S8x4x64x64x8x64, .f32⟩
  | 7 => ⟨S8x4x64x64x8x64, .f32⟩
  | 8 => ⟨S8x4x64x64x256, .f32⟩
  | 9 => ⟨S_, .f32⟩
  | 10 => ⟨S8x4x64x64x256, .f32⟩
  | 11 => ⟨S8x4x64x64x256, .f32⟩
  | 12 => ⟨S8x4x64x64x512, .f32⟩
  | 13 => ⟨S8x4x64x64x768, .f32⟩
  | 14 => ⟨S_, .f32⟩
  | 15 => ⟨S8x4x64x64, .f32⟩
  | 16 => ⟨S_, .f32⟩
  | 17 => ⟨S8x4x64x64, .f32⟩
  | 18 => ⟨S8x4x64x64, .f32⟩
  | 19 => ⟨S8x4x64x64x1, .f32⟩
  | 20 => ⟨S8x4x64x64x768, .f32⟩
  | 21 => ⟨S8x4x64x64x768, .f32⟩
  | 22 => ⟨S8x4x64x64x768, .f32⟩
  | 23 => ⟨S_, .f32⟩
  | 24 => ⟨S8x4x64x64, .f32⟩
  | 25 => ⟨S8x4x64x64x1, .f32⟩
  | 26 => ⟨S8x4x64x64x768, .f32⟩
  | 27 => ⟨S8x4x64x64x768, .f32⟩
  | 28 => ⟨S8x4x64x64x512, .f32⟩
  | 29 => ⟨S8x4x64x64x8x64, .f32⟩
  | 30 => ⟨S8x4x64x64x256, .f32⟩
  | 31 => ⟨S8x64x4x64x64, .f32⟩
  | 32 => ⟨S8x64x64x4x64, .f32⟩
  | 33 => ⟨S8x4x64x64x64, .f32⟩
  | 34 => ⟨S8x64x64x4x64, .f32⟩
  | 35 => ⟨S8x64x64x4x64, .f32⟩
  | 36 => ⟨S8x4096x256, .f32⟩
  | 37 => ⟨S8x4096x256, .f32⟩
  | 38 => ⟨S8x4096x256, .f32⟩
  | 39 => ⟨S_, .f32⟩
  | 40 => ⟨S8x4096x256, .f32⟩
  | 41 => ⟨S8x4096x256, .f32⟩
  | 42 => ⟨S_, .f32⟩
  | 43 => ⟨S8x4096x256, .f32⟩
  | 44 => ⟨S8x4096x256, .f32⟩
  | 45 => ⟨S8x4096x256, .f32⟩
  | 46 => ⟨S8x4096x256, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_v13 : Ref sig .tc := ⟨.hbm, 17, rfl⟩
abbrev main_v14 : Ref sig .tc := ⟨.hbm, 18, rfl⟩
abbrev main_c_0 : Ref sig .tc := ⟨.hbm, 19, rfl⟩
abbrev main_c_1 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_c_4 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_10 : Ref sig .tc := ⟨.hbm, 91, rfl⟩
abbrev main_c_11 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_v66 : Ref sig .tc := ⟨.hbm, 98, rfl⟩
abbrev main_v67 : Ref sig .tc := ⟨.hbm, 99, rfl⟩
abbrev main_c_12 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_13 : Ref sig .tc := ⟨.hbm, 104, rfl⟩
abbrev main_v71 : Ref sig .tc := ⟨.hbm, 105, rfl⟩
abbrev main_v72 : Ref sig .tc := ⟨.hbm, 106, rfl⟩
abbrev main_c_14 : Ref sig .tc := ⟨.hbm, 107, rfl⟩
abbrev main_v73 : Ref sig .tc := ⟨.hbm, 108, rfl⟩
abbrev main_v74 : Ref sig .tc := ⟨.hbm, 109, rfl⟩
abbrev main_c_15 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_c_16 : Ref sig .tc := ⟨.hbm, 114, rfl⟩
abbrev main_v78 : Ref sig .tc := ⟨.hbm, 115, rfl⟩
abbrev main_v79 : Ref sig .tc := ⟨.hbm, 116, rfl⟩
abbrev main_c_17 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_18 : Ref sig .tc := ⟨.hbm, 131, rfl⟩
abbrev main_call3_v0 : Ref sig .tc := ⟨.hbm, 132, rfl⟩
abbrev main_call3_v1 : Ref sig .tc := ⟨.hbm, 133, rfl⟩
abbrev main_call3_v2 : Ref sig .tc := ⟨.hbm, 134, rfl⟩
abbrev main_v93 : Ref sig .tc := ⟨.hbm, 135, rfl⟩
abbrev main_v94 : Ref sig .tc := ⟨.hbm, 136, rfl⟩
abbrev main_cst_19 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_cst_20 : Ref sig .tc := ⟨.hbm, 142, rfl⟩
abbrev main_v99 : Ref sig .tc := ⟨.hbm, 143, rfl⟩
abbrev main_cst_21 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_cst_22 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_call4_v0 : Ref sig .tc := ⟨.hbm, 165, rfl⟩
abbrev main_call4_v1 : Ref sig .tc := ⟨.hbm, 166, rfl⟩
abbrev main_call4_cst : Ref sig .tc := ⟨.hbm, 167, rfl⟩
abbrev main_call4_v2 : Ref sig .tc := ⟨.hbm, 168, rfl⟩
abbrev main_call4_v3 : Ref sig .tc := ⟨.hbm, 169, rfl⟩
abbrev main_call4_cst_0 : Ref sig .tc := ⟨.hbm, 170, rfl⟩
abbrev main_call4_v4 : Ref sig .tc := ⟨.hbm, 171, rfl⟩
abbrev main_call4_v5 : Ref sig .tc := ⟨.hbm, 172, rfl⟩
abbrev main_v119 : Ref sig .tc := ⟨.hbm, 173, rfl⟩
abbrev main_v120 : Ref sig .tc := ⟨.hbm, 174, rfl⟩

abbrev nD : Nat := 1
abbrev τ : Topo := Topo.v7x

variable {F : FTy → Type} [FloatOps F]
-- ==== Merge.lean ====
abbrev S8x4096x1024 : Shape := ⟨3, ![8, 4096, 1024]⟩
abbrev S1024 : Shape := ⟨1, ![1024]⟩
abbrev S8x1x1024 : Shape := ⟨3, ![8, 1, 1024]⟩
abbrev S8x4096x256 : Shape := ⟨3, ![8, 4096, 256]⟩
abbrev S1024x7552 : Shape := ⟨2, ![1024, 7552]⟩
abbrev S4x256x1024 : Shape := ⟨3, ![4, 256, 1024]⟩
abbrev S1024x1024 : Shape := ⟨2, ![1024, 1024]⟩
abbrev S1024x4096 : Shape := ⟨2, ![1024, 4096]⟩
abbrev S1x1024 : Shape := ⟨2, ![1, 1024]⟩
abbrev S1x256x1024 : Shape := ⟨3, ![1, 256, 1024]⟩
abbrev S1x1x1024 : Shape := ⟨3, ![1, 1, 1024]⟩
abbrev S1x256x256 : Shape := ⟨3, ![1, 256, 256]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩

abbrev nBuf : Space → Nat
  | .hbm => 20
  | .vmem => 23
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S8x1x1024, .f32⟩
  | .hbm, ⟨5, _⟩ => ⟨S8x4096x256, .f32⟩
  | .hbm, ⟨6, _⟩ => ⟨S8x4096x256, .f32⟩
  | .hbm, ⟨7, _⟩ => ⟨S8x4096x256, .f32⟩
  | .hbm, ⟨8, _⟩ => ⟨S8x4096x256, .f32⟩
  | .hbm, ⟨9, _⟩ => ⟨S1024x7552, .f32⟩
  | .hbm, ⟨10, _⟩ => ⟨S4x256x1024, .f32⟩
  | .hbm, ⟨11, _⟩ => ⟨S1024x1024, .f32⟩
  | .hbm, ⟨12, _⟩ => ⟨S1024, .f32⟩
  | .hbm, ⟨13, _⟩ => ⟨S1024x4096, .f32⟩
  | .hbm, ⟨14, _⟩ => ⟨S1024x4096, .bf16⟩
  | .hbm, ⟨15, _⟩ => ⟨S4x256x1024, .bf16⟩
  | .hbm, ⟨16, _⟩ => ⟨S1024x1024, .bf16⟩
  | .hbm, ⟨17, _⟩ => ⟨S1x1024, .f32⟩
  | .hbm, ⟨18, _⟩ => ⟨S1x1024, .f32⟩
  | .hbm, ⟨19, _⟩ => ⟨S8x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1024x4096, .bf16⟩
  | .local _ .vmem, ⟨18, _⟩ => ⟨S4x256x1024, .bf16⟩
  | .local _ .vmem, ⟨19, _⟩ => ⟨S1024x1024, .bf16⟩
  | .local _ .vmem, ⟨20, _⟩ => ⟨S1x1024, .f32⟩
  | .local _ .vmem, ⟨21, _⟩ => ⟨S1x256x1024, .f32⟩
  | .local _ .vmem, ⟨22, _⟩ => ⟨S1x256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MergeRefIdeal.lean ====
abbrev S8x4096x1024 : Shape := ⟨3, ![8, 4096, 1024]⟩
abbrev S1024 : Shape := ⟨1, ![1024]⟩
abbrev S8x1x1024 : Shape := ⟨3, ![8, 1, 1024]⟩
abbrev S8x4096x256 : Shape := ⟨3, ![8, 4096, 256]⟩
abbrev S1024x7552 : Shape := ⟨2, ![1024, 7552]⟩
abbrev S4x256x1024 : Shape := ⟨3, ![4, 256, 1024]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x7552 : Shape := ⟨3, ![8, 4096, 7552]⟩
abbrev S8x4096x896 : Shape := ⟨3, ![8, 4096, 896]⟩
abbrev S8x4096x4096 : Shape := ⟨3, ![8, 4096, 4096]⟩
abbrev S1x256x1024 : Shape := ⟨3, ![1, 256, 1024]⟩
abbrev S256x1024 : Shape := ⟨2, ![256, 1024]⟩

abbrev nBuf : Space → Nat
  | .hbm => 100
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S8x1x1024, .f32⟩
  | .hbm, ⟨5, _⟩ => ⟨S8x4096x256, .f32⟩
  | .hbm, ⟨6, _⟩ => ⟨S8x4096x256, .f32⟩
  | .hbm, ⟨7, _⟩ => ⟨S8x4096x256, .f32⟩
  | .hbm, ⟨8, _⟩ => ⟨S8x4096x256, .f32⟩
  | .hbm, ⟨9, _⟩ => ⟨S1024x7552, .f32⟩
  | .hbm, ⟨10, _⟩ => ⟨S4x256x1024, .f32⟩
  | .hbm, ⟨11, _⟩ => ⟨S1024x1024, .f32⟩
  | .hbm, ⟨12, _⟩ => ⟨S1024, .f32⟩
  | .hbm, ⟨13, _⟩ => ⟨S8x4096x1024, .f32⟩
  | .hbm, ⟨14, _⟩ => ⟨S_, .f32⟩
  | .hbm, ⟨15, _⟩ => ⟨S8x4096, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S8x4096x1, .f32⟩
  | .hbm, ⟨24, _⟩ => ⟨S8x4096x1024, .f32⟩
  | .hbm, ⟨25, _⟩ => ⟨S8x4096x1024, .f32⟩
  | .hbm, ⟨26, _⟩ => ⟨S1x1x1024, .f32⟩
  | .hbm, ⟨27, _⟩ => ⟨S8x4096x1024, .f32⟩
  | .hbm, ⟨28, _⟩ => ⟨S8x4096x1024, .f32⟩
  | .hbm, ⟨29, _⟩ => ⟨S_, .f32⟩
  | .hbm, ⟨30, _⟩ => ⟨S8x1x1024, .f32⟩
  | .hbm, ⟨31, _⟩ => ⟨S8x1x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S8x4096x7552, .f32⟩
  | .hbm, ⟨37, _⟩ => ⟨S8x4096x256, .f32⟩
  | .hbm, ⟨38, _⟩ => ⟨S8x4096x256, .f32⟩
  | .hbm, ⟨39, _⟩ => ⟨S8x4096x256, .f32⟩
  | .hbm, ⟨40, _⟩ => ⟨S8x4096x256, .f32⟩
  | .hbm, ⟨41, _⟩ => ⟨S8x4096x256, .f32⟩
  | .hbm, ⟨42, _⟩ => ⟨S8x4096x256, .f32⟩
  | .hbm, ⟨43, _⟩ => ⟨S8x4096x256, .f32⟩
  | .hbm, ⟨44, _⟩ => ⟨S8x4096x896, .f32⟩
  | .hbm, ⟨45, _⟩ => ⟨S8x4096x256, .f32⟩
  | .hbm, ⟨46, _⟩ => ⟨S8x4096x256, .f32⟩
  | .hbm, ⟨47, _⟩ => ⟨S8x4096x256, .f32⟩
  | .hbm, ⟨48, _⟩ => ⟨S8x4096x4096, .f32⟩
  | .hbm, ⟨49, _⟩ => ⟨S8x4096x4096, .f32⟩
  | .hbm, ⟨50, _⟩ => ⟨S8x4096x4096, .f32⟩
  | .hbm, ⟨51, _⟩ => ⟨S_, .f32⟩
  | .hbm, ⟨52, _⟩ => ⟨S8x4096x4096, .f32⟩
  | .hbm, ⟨53, _⟩ => ⟨S8x4096x4096, .f32⟩
  | .hbm, ⟨54, _⟩ => ⟨S_, .f32⟩
  | .hbm, ⟨55, _⟩ => ⟨S8x4096x4096, .f32⟩
  | .hbm, ⟨56, _⟩ => ⟨S8x4096x4096, .f32⟩
  | .hbm, ⟨57, _⟩ => ⟨S8x4096x1024, .f32⟩
  | .hbm, ⟨58, _⟩ => ⟨S1x256x1024, .f32⟩
  | .hbm, ⟨59, _⟩ => ⟨S256x1024, .f32⟩
  | .hbm, ⟨60, _⟩ => ⟨S8x4096x1024, .f32⟩
  | .hbm, ⟨61, _⟩ => ⟨S8x4096x1024, .f32⟩
  | .hbm, ⟨62, _⟩ => ⟨S8x4096x1024, .f32⟩
  | .hbm, ⟨63, _⟩ => ⟨S1x256x1024, .f32⟩
  | .hbm, ⟨64, _⟩ => ⟨S256x1024, .f32⟩
  | .hbm, ⟨65, _⟩ => ⟨S8x4096x1024, .f32⟩
  | .hbm, ⟨66, _⟩ => ⟨S8x4096x1024, .f32⟩
  | .hbm, ⟨67, _⟩ => ⟨S8x4096x1024, .f32⟩
  | .hbm, ⟨68, _⟩ => ⟨S8x4096x1024, .f32⟩
  | .hbm, ⟨69, _⟩ => ⟨S1x256x1024, .f32⟩
  | .hbm, ⟨70, _⟩ => ⟨S256x1024, .f32⟩
  | .hbm, ⟨71, _⟩ => ⟨S8x4096x1024, .f32⟩
  | .hbm, ⟨72, _⟩ => ⟨S8x4096x1024, .f32⟩
  | .hbm, ⟨73, _⟩ => ⟨S8x4096x1024, .f32⟩
  | .hbm, ⟨74, _⟩ => ⟨S8x4096x1024, .f32⟩
  | .hbm, ⟨75, _⟩ => ⟨S1x256x1024, .f32⟩
  | .hbm, ⟨76, _⟩ => ⟨S256x1024, .f32⟩
  | .hbm, ⟨77, _⟩ => ⟨S8x4096x1024, .f32⟩
  | .hbm, ⟨78, _⟩ => ⟨S8x4096x1024, .f32⟩
  | .hbm, ⟨79, _⟩ => ⟨S8x4096x1024, .f32⟩
  | .hbm, ⟨80, _⟩ => ⟨S8x4096x1024, .f32⟩
  | .hbm, ⟨81, _⟩ => ⟨S8x4096x1024, .f32⟩
  | .hbm, ⟨82, _⟩ => ⟨S8x4096x1024, .f32⟩
  | .hbm, ⟨83, _⟩ => ⟨S8x4096x1024, .f32⟩
  | .hbm, ⟨84, _⟩ => ⟨S8x4096x1024, .f32⟩
  | .hbm, ⟨85, _⟩ => ⟨S_, .f32⟩
  | .hbm, ⟨86, _⟩ => ⟨S8x4096, .f32⟩
  | .hbm, ⟨87, _⟩ => ⟨S8x4096x1, .f32⟩
  | .hbm, ⟨88, _⟩ => ⟨S_, .f32⟩
  | .hbm, ⟨89, _⟩ => ⟨S8x4096x1, .f32⟩
  | .hbm, ⟨90, _⟩ => ⟨S8x4096x1, .f32⟩
  | .hbm, ⟨91, _⟩ => ⟨S_, .f32⟩
  | .hbm, ⟨92, _⟩ => ⟨S8x4096x1, .f32⟩
  | .hbm, ⟨93, _⟩ => ⟨S8x4096x1, .f32⟩
  | .hbm, ⟨94, _⟩ => ⟨S8x4096x1, .f32⟩
  | .hbm, ⟨95, _⟩ => ⟨S8x4096x1024, .f32⟩
  | .hbm, ⟨96, _⟩ => ⟨S8x4096x1024, .f32⟩
  | .hbm, ⟨97, _⟩ => ⟨S1x1x1024, .f32⟩
  | .hbm, ⟨98, _⟩ => ⟨S8x4096x1024, .f32⟩
  | .hbm, ⟨99, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_5 : Ref sig .tc := ⟨.hbm, 85, rfl⟩
abbrev main_v66 : Ref sig .tc := ⟨.hbm, 86, rfl⟩
abbrev main_v67 : Ref sig .tc := ⟨.hbm, 87, rfl⟩
abbrev main_cst_6 : Ref sig .tc := ⟨.hbm, 88, rfl⟩
abbrev main_v68 : Ref sig .tc := ⟨.hbm, 89, rfl⟩
abbrev main_v69 : Ref sig .tc := ⟨.hbm, 90, rfl⟩
abbrev main_cst_7 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩

abbrev nD : Nat := 1
abbrev τ : Topo := Topo.v7x

variable {F : FTy → Type} [FloatOps F]
-- ==== Project.lean ====
abbrev S8x4096x1024 : Shape := ⟨3, ![8, 4096, 1024]⟩
abbrev S1024 : Shape := ⟨1, ![1024]⟩
abbrev S8x1x1024 : Shape := ⟨3, ![8, 1, 1024]⟩
abbrev S1024x7552 : Shape := ⟨2, ![1024, 7552]⟩
abbrev S1024x3456 : Shape := ⟨2, ![1024, 3456]⟩
abbrev S1x1024 : Shape := ⟨2, ![1, 1024]⟩
abbrev S8x4096x768 : Shape := ⟨3, ![8, 4096, 768]⟩
abbrev S8x4096x896 : Shape := ⟨3, ![8, 4096, 896]⟩
abbrev S8x4096x256 : Shape := ⟨3, ![8, 4096, 256]⟩
abbrev S8x4096x512 : Shape := ⟨3, ![8, 4096, 512]⟩
abbrev S1x256x1024 : Shape := ⟨3, ![1, 256, 1024]⟩
abbrev S1x1x1024 : Shape := ⟨3, ![1, 1, 1024]⟩
abbrev S1x256x768 : Shape := ⟨3, ![1, 256, 768]⟩
abbrev S1x256x896 : Shape := ⟨3, ![1, 256, 896]⟩
abbrev S1x256x256 : Shape := ⟨3, ![1, 256, 256]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S1024x768 : Shape := ⟨2, ![1024, 768]⟩
abbrev S256x768 : Shape := ⟨2, ![256, 768]⟩
abbrev S1024x1024 : Shape := ⟨2, ![1024, 1024]⟩
abbrev S1024x896 : Shape := ⟨2, ![1024, 896]⟩
abbrev S256x896 : Shape := ⟨2, ![256, 896]⟩
abbrev S1024x256 : Shape := ⟨2, ![1024, 256]⟩
abbrev S256x256 : Shape := ⟨2, ![256, 256]⟩
abbrev S1024x512 : Shape := ⟨2, ![1024, 512]⟩
abbrev S256x512 : Shape := ⟨2, ![256, 512]⟩

abbrev nBuf : Space → Nat
  | .hbm => 13
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x7552, .f32⟩
  | .hbm, ⟨5, _⟩ => ⟨S1024x3456, .f32⟩
  | .hbm, ⟨6, _⟩ => ⟨S1024x3456, .bf16⟩
  | .hbm, ⟨7, _⟩ => ⟨S1x1024, .f32⟩
  | .hbm, ⟨8, _⟩ => ⟨S8x4096x768, .f32⟩
  | .hbm, ⟨9, _⟩ => ⟨S8x4096x1024, .f32⟩
  | .hbm, ⟨10, _⟩ => ⟨S8x4096x896, .f32⟩
  | .hbm, ⟨11, _⟩ => ⟨S8x4096x256, .f32⟩
  | .hbm, ⟨12, _⟩ => ⟨S8x4096x512, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3456, .bf16⟩
  | .local _ .vmem, ⟨8, _⟩ => ⟨S1x256x768, .f32⟩
  | .local _ .vmem, ⟨9, _⟩ => ⟨S1x256x768, .f32⟩
  | .local _ .vmem, ⟨10, _⟩ => ⟨S1x256x1024, .f32⟩
  | .local _ .vmem, ⟨11, _⟩ => ⟨S1x256x1024, .f32⟩
  | .local _ .vmem, ⟨12, _⟩ => ⟨S1x256x896, .f32⟩
  | .local _ .vmem, ⟨13, _⟩ => ⟨S1x256x896, .f32⟩
  | .local _ .vmem, ⟨14, _⟩ => ⟨S1x256x256, .f32⟩
  | .local _ .vmem, ⟨15, _⟩ => ⟨S1x256x256, .f32⟩
  | .local _ .vmem, ⟨16, _⟩ => ⟨S1x256x512, .f32⟩
  | .local _ .vmem, ⟨17, _⟩ => ⟨S1x256x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x3456 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ProjectRefIdeal.lean ====
abbrev S8x4096x1024 : Shape := ⟨3, ![8, 4096, 1024]⟩
abbrev S1024 : Shape := ⟨1, ![1024]⟩
abbrev S8x1x1024 : Shape := ⟨3, ![8, 1, 1024]⟩
abbrev S1024x7552 : Shape := ⟨2, ![1024, 7552]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x7552 : Shape := ⟨3, ![8, 4096, 7552]⟩
abbrev S8x4096x256 : Shape := ⟨3, ![8, 4096, 256]⟩
abbrev S8x4096x896 : Shape := ⟨3, ![8, 4096, 896]⟩
abbrev S8x4096x4096 : Shape := ⟨3, ![8, 4096, 4096]⟩
abbrev S8x4096x768 : Shape := ⟨3, ![8, 4096, 768]⟩
abbrev S8x4096x512 : Shape := ⟨3, ![8, 4096, 512]⟩

abbrev nBuf : Space → Nat
  | .hbm => 44
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x7552, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x7552, .f32⟩
  | .hbm, ⟨29, _⟩ => ⟨S8x4096x256, .f32⟩
  | .hbm, ⟨30, _⟩ => ⟨S8x4096x256, .f32⟩
  | .hbm, ⟨31, _⟩ => ⟨S8x4096x256, .f32⟩
  | .hbm, ⟨32, _⟩ => ⟨S8x4096x256, .f32⟩
  | .hbm, ⟨33, _⟩ => ⟨S8x4096x256, .f32⟩
  | .hbm, ⟨34, _⟩ => ⟨S8x4096x256, .f32⟩
  | .hbm, ⟨35, _⟩ => ⟨S8x4096x256, .f32⟩
  | .hbm, ⟨36, _⟩ => ⟨S8x4096x896, .f32⟩
  | .hbm, ⟨37, _⟩ => ⟨S8x4096x256, .f32⟩
  | .hbm, ⟨38, _⟩ => ⟨S8x4096x256, .f32⟩
  | .hbm, ⟨39, _⟩ => ⟨S8x4096x256, .f32⟩
  | .hbm, ⟨40, _⟩ => ⟨S8x4096x4096, .f32⟩
  | .hbm, ⟨41, _⟩ => ⟨S8x4096x768, .f32⟩
  | .hbm, ⟨42, _⟩ => ⟨S8x4096x1024, .f32⟩
  | .hbm, ⟨43, _⟩ => ⟨S8x4096x512, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== Gate.lean ====
abbrev S8x4096x256 : Shape := ⟨3, ![8, 4096, 256]⟩
abbrev S8x4096x2560 : Shape := ⟨3, ![8, 4096, 2560]⟩
abbrev S256 : Shape := ⟨1, ![256]⟩
abbrev S1x256 : Shape := ⟨2, ![1, 256]⟩
abbrev S1x512x256 : Shape := ⟨3, ![1, 512, 256]⟩
abbrev S512x256 : Shape := ⟨2, ![512, 256]⟩
abbrev S256x256 : Shape := ⟨2, ![256, 256]⟩

abbrev nBuf : Space → Nat
  | .hbm => 9
  | .vmem => 12
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S8x4096x2560, .f32⟩
  | .hbm, ⟨3, _⟩ => ⟨S8x4096x256, .f32⟩
  | .hbm, ⟨4, _⟩ => ⟨S256, .f32⟩
  | .hbm, ⟨5, _⟩ => ⟨S256, .f32⟩
  | .hbm, ⟨6, _⟩ => ⟨S1x256, .f32⟩
  | .hbm, ⟨7, _⟩ => ⟨S1x256, .f32⟩
  | .hbm, ⟨8, _⟩ => ⟨S8x4096x256, .f32⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x256, .f32⟩
  | .local _ .vmem, ⟨9, _⟩ => ⟨S1x256, .f32⟩
  | .local _ .vmem, ⟨10, _⟩ => ⟨S1x512x256, .f32⟩
  | .local _ .vmem, ⟨11, _⟩ => ⟨S1x512x256, .f32⟩
  | _, _ => ⟨S8x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== GateRefIdeal.lean ====
abbrev S8x4096x256 : Shape := ⟨3, ![8, 4096, 256]⟩
abbrev S8x4096x2560 : Shape := ⟨3, ![8, 4096, 2560]⟩
abbrev S256 : Shape := ⟨1, ![256]⟩
abbrev S8x4096x4x64 : Shape := ⟨4, ![8, 4096, 4, 64]⟩
abbrev S_ : Shape := ⟨0, ![]⟩
abbrev S8x4096x4 : Shape := ⟨3, ![8, 4096, 4]⟩
abbrev S8x4096x4x1 : Shape := ⟨4, ![8, 4096, 4, 1]⟩
abbrev S4x64 : Shape := ⟨2, ![4, 64]⟩
abbrev S1x1x4x64 : Shape := ⟨4, ![1, 1, 4, 64]⟩

abbrev nBuf : Space → Nat
  | .hbm => 54
  | .vmem => 0
  | .smem => 0
  | _ => 0

abbrev bufTy : (tb : Table) → Fin (tcTables nBuf tb) → BufTy
  | .hbm, ⟨0, _⟩ => ⟨S8x4096x256, .f32⟩
  | .hbm, ⟨1, _⟩ => ⟨S8x4096x256, .f32⟩
  | .hbm, ⟨2, _⟩ => ⟨S8x4096x2560, .f32⟩
  | .hbm, ⟨3, _⟩ => ⟨S8x4096x256, .f32⟩
  | .hbm, ⟨4, _⟩ => ⟨S256, .f32⟩
  | .hbm, ⟨5, _⟩ => ⟨S256, .f32⟩
  | .hbm, ⟨6, _⟩ => ⟨S8x4096x4x64, .f32⟩
  | .hbm, ⟨7, _⟩ => ⟨S8x4096x4x64, .f32⟩
  | .hbm, ⟨8, _⟩ => ⟨S8x4096x4x64, .f32⟩
  | .hbm, ⟨9, _⟩ => ⟨S_, .f32⟩
  | .hbm, ⟨10, _⟩ => ⟨S8x4096x4, .f32⟩
  | .hbm, ⟨11, _⟩ => ⟨S8x4096x4x1, .f32⟩
  | .hbm, ⟨12, _⟩ => ⟨S_, .f32⟩
  | .hbm, ⟨13, _⟩ => ⟨S8x4096x4x1, .f32⟩
  | .hbm, ⟨14, _⟩ => ⟨S8x4096x4x1, .f32⟩
  | .hbm, ⟨15, _⟩ => ⟨S8x4096x4x64, .f32⟩
  | .hbm, ⟨16, _⟩ => ⟨S8x4096x4x64, .f32⟩
  | .hbm, ⟨17, _⟩ => ⟨S8x4096x4x64, .f32⟩
  | .hbm, ⟨18, _⟩ => ⟨S_, .f32⟩
  | .hbm, ⟨19, _⟩ => ⟨S8x4096x4, .f32⟩
  | .hbm, ⟨20, _⟩ => ⟨S8x4096x4x1, .f32⟩
  | .hbm, ⟨21, _⟩ => ⟨S_, .f32⟩
  | .hbm, ⟨22, _⟩ => ⟨S8x4096x4x1, .f32⟩
  | .hbm, ⟨23, _⟩ => ⟨S8x4096x4x1, .f32⟩
  | .hbm, ⟨24, _⟩ => ⟨S8x4096x4x64, .f32⟩
  | .hbm, ⟨25, _⟩ => ⟨S8x4096x4x64, .f32⟩
  | .hbm, ⟨26, _⟩ => ⟨S_, .f32⟩
  | .hbm, ⟨27, _⟩ => ⟨S8x4096x4x1, .f32⟩
  | .hbm, ⟨28, _⟩ => ⟨S8x4096x4x1, .f32⟩
  | .hbm, ⟨29, _⟩ => ⟨S8x4096x4x1, .f32⟩
  | .hbm, ⟨30, _⟩ => ⟨S8x4096x4x64, .f32⟩
  | .hbm, ⟨31, _⟩ => ⟨S8x4096x4x64, .f32⟩
  | .hbm, ⟨32, _⟩ => ⟨S4x64, .f32⟩
  | .hbm, ⟨33, _⟩ => ⟨S1x1x4x64, .f32⟩
  | .hbm, ⟨34, _⟩ => ⟨S8x4096x4x64, .f32⟩
  | .hbm, ⟨35, _⟩ => ⟨S8x4096x4x64, .f32⟩
  | .hbm, ⟨36, _⟩ => ⟨S4x64, .f32⟩
  | .hbm, ⟨37, _⟩ => ⟨S1x1x4x64, .f32⟩
  | .hbm, ⟨38, _⟩ => ⟨S8x4096x4x64, .f32⟩
  | .hbm, ⟨39, _⟩ => ⟨S8x4096x4x64, .f32⟩
  | .hbm, ⟨40, _⟩ => ⟨S8x4096x256, .f32⟩
  | .hbm, ⟨41, _⟩ => ⟨S8x4096x4x64, .f32⟩
  | .hbm, ⟨42, _⟩ => ⟨S8x4096x4x64, .f32⟩
  | .hbm, ⟨43, _⟩ => ⟨S8x4096x256, .f32⟩
  | .hbm, ⟨44, _⟩ => ⟨S8x4096x256, .f32⟩
  | .hbm, ⟨45, _⟩ => ⟨S8x4096x256, .f32⟩
  | .hbm, ⟨46, _⟩ => ⟨S_, .f32⟩
  | .hbm, ⟨47, _⟩ => ⟨S8x4096x256, .f32⟩
  | .hbm, ⟨48, _⟩ => ⟨S8x4096x256, .f32⟩
  | .hbm, ⟨49, _⟩ => ⟨S_, .f32⟩
  | .hbm, ⟨50, _⟩ => ⟨S8x4096x256, .f32⟩
  | .hbm, ⟨51, _⟩ => ⟨S8x4096x256, .f32⟩
  | .hbm, ⟨52, _⟩ => ⟨S8x4096x256, .f32⟩
  | .hbm, ⟨53, _⟩ => ⟨S8x4096x256, .f32⟩
  | _, _ => ⟨S8x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v33 : Ref sig .tc := ⟨.hbm, 52, rfl⟩
abbrev main_v34 : Ref sig .tc := ⟨.hbm, 53, rfl⟩

abbrev nD : Nat := 1
abbrev τ : Topo := Topo.v7x

variable {F : FTy → Type} [FloatOps F]
-- ==== Ctx.lean ====
abbrev S8x256x1024 : Shape := ⟨3, ![8, 256, 1024]⟩
abbrev S8x256x256 : Shape := ⟨3, ![8, 256, 256]⟩
abbrev S1x64x256 : Shape := ⟨3, ![1, 64, 256]⟩
abbrev S1x256x256 : Shape := ⟨3, ![1, 256, 256]⟩
abbrev S64x256 : Shape := ⟨2, ![64, 256]⟩
abbrev S256x256 : Shape := ⟨2, ![256, 256]⟩
abbrev S256 : Shape := ⟨1, ![256]⟩
abbrev S256x1 : Shape := ⟨2, ![256, 1]⟩

abbrev nBuf : Space → Nat
  | .hbm => 2
  | .vmem => 10
  | .smem => 0
  | _ => 0

abbrev bufTy : (tb : Table) → Fin (tcTables nBuf tb) → BufTy
  | .hbm, ⟨0, _⟩ => ⟨S8x256x1024, .f32⟩
  | .hbm, ⟨1, _⟩ => ⟨S8x256x256, .f32⟩
  | .local _ .vmem, ⟨0, _⟩ => ⟨S1x64x256, .f32⟩
  | .local _ .vmem, ⟨1, _⟩ => ⟨S1x64x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x64x256, .f32⟩
  | .local _ .vmem, ⟨7, _⟩ => ⟨S1x64x256, .f32⟩
  | .local _ .vmem, ⟨8, _⟩ => ⟨S1x64x256, .f32⟩
  | .local _ .vmem, ⟨9, _⟩ => ⟨S1x64x256, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== CtxRefIdeal.lean ====
abbrev S8x256x1024 : Shape := ⟨3, ![8, 256, 1024]⟩
abbrev S8x256x256 : Shape := ⟨3, ![8, 256, 256]⟩
abbrev S8x256x4x64 : Shape := ⟨4, ![8, 256, 4, 64]⟩
abbrev S8x4x256x256 : Shape := ⟨4, ![8, 4, 256, 256]⟩
abbrev S_ : Shape := ⟨0, ![]⟩
abbrev S8x4x256 : Shape := ⟨3, ![8, 4, 256]⟩
abbrev S8x4x256x1 : Shape := ⟨4, ![8, 4, 256, 1]⟩
abbrev S8x4x64x256 : Shape := ⟨4, ![8, 4, 64, 256]⟩

abbrev nBuf : Space → Nat
  | .hbm => 39
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x256x256, .f32⟩
  | .hbm, ⟨2, _⟩ => ⟨S8x256x256, .f32⟩
  | .hbm, ⟨3, _⟩ => ⟨S8x256x256, .f32⟩
  | .hbm, ⟨4, _⟩ => ⟨S8x256x256, .f32⟩
  | .hbm, ⟨5, _⟩ => ⟨S8x256x4x64, .f32⟩
  | .hbm, ⟨6, _⟩ => ⟨S8x256x4x64, .f32⟩
  | .hbm, ⟨7, _⟩ => ⟨S8x256x4x64, .f32⟩
  | .hbm, ⟨8, _⟩ => ⟨S8x4x256x256, .f32⟩
  | .hbm, ⟨9, _⟩ => ⟨S_, .f32⟩
  | .hbm, ⟨10, _⟩ => ⟨S8x4x256x256, .f32⟩
  | .hbm, ⟨11, _⟩ => ⟨S8x4x256x256, .f32⟩
  | .hbm, ⟨12, _⟩ => ⟨S_, .f32⟩
  | .hbm, ⟨13, _⟩ => ⟨S8x4x256, .f32⟩
  | .hbm, ⟨14, _⟩ => ⟨S_, .f32⟩
  | .hbm, ⟨15, _⟩ => ⟨S8x4x256, .f32⟩
  | .hbm, ⟨16, _⟩ => ⟨S8x4x256, .f32⟩
  | .hbm, ⟨17, _⟩ => ⟨S8x4x256x1, .f32⟩
  | .hbm, ⟨18, _⟩ => ⟨S8x4x256x256, .f32⟩
  | .hbm, ⟨19, _⟩ => ⟨S8x4x256x256, .f32⟩
  | .hbm, ⟨20, _⟩ => ⟨S8x4x256x256, .f32⟩
  | .hbm, ⟨21, _⟩ => ⟨S_, .f32⟩
  | .hbm, ⟨22, _⟩ => ⟨S8x4x256, .f32⟩
  | .hbm, ⟨23, _⟩ => ⟨S8x4x256x1, .f32⟩
  | .hbm, ⟨24, _⟩ => ⟨S8x4x256x256, .f32⟩
  | .hbm, ⟨25, _⟩ => ⟨S8x4x256x256, .f32⟩
  | .hbm, ⟨26, _⟩ => ⟨S8x4x64x256, .f32⟩
  | .hbm, ⟨27, _⟩ => ⟨S8x256x4x64, .f32⟩
  | .hbm, ⟨28, _⟩ => ⟨S8x256x256, .f32⟩
  | .hbm, ⟨29, _⟩ => ⟨S8x256x256, .f32⟩
  | .hbm, ⟨30, _⟩ => ⟨S8x256x256, .f32⟩
  | .hbm, ⟨31, _⟩ => ⟨S_, .f32⟩
  | .hbm, ⟨32, _⟩ => ⟨S8x256x256, .f32⟩
  | .hbm, ⟨33, _⟩ => ⟨S8x256x256, .f32⟩
  | .hbm, ⟨34, _⟩ => ⟨S_, .f32⟩
  | .hbm, ⟨35, _⟩ => ⟨S8x256x256, .f32⟩
  | .hbm, ⟨36, _⟩ => ⟨S8x256x256, .f32⟩
  | .hbm, ⟨37, _⟩ => ⟨S8x256x256, .f32⟩
  | .hbm, ⟨38, _⟩ => ⟨S8x256x256, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_2 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Gmlp.lean ====
abbrev S8x4096x768 : Shape := ⟨3, ![8, 4096, 768]⟩
abbrev S4x64 : Shape := ⟨2, ![4, 64]⟩
abbrev S4x128x128 : Shape := ⟨3, ![4, 128, 128]⟩
abbrev S4x128 : Shape := ⟨2, ![4, 128]⟩
abbrev S128x4 : Shape := ⟨2, ![128, 4]⟩
abbrev S128x4x64 : Shape := ⟨3, ![128, 4, 64]⟩
abbrev S128x256 : Shape := ⟨2, ![128, 256]⟩
abbrev S1x256 : Shape := ⟨2, ![1, 256]⟩
abbrev S8x4096x256 : Shape := ⟨3, ![8, 4096, 256]⟩
abbrev S1x512x768 : Shape := ⟨3, ![1, 512, 768]⟩
abbrev S1x512x256 : Shape := ⟨3, ![1, 512, 256]⟩
abbrev S512x768 : Shape := ⟨2, ![512, 768]⟩
abbrev S512x256 : Shape := ⟨2, ![512, 256]⟩
abbrev S256x256 : Shape := ⟨2, ![256, 256]⟩
abbrev S1x128x128 : Shape := ⟨3, ![1, 128, 128]⟩
abbrev S128x128 : Shape := ⟨2, ![128, 128]⟩
abbrev S1x128x256 : Shape := ⟨3, ![1, 128, 256]⟩

abbrev nBuf : Space → Nat
  | .hbm => 12
  | .vmem => 8
  | .smem => 0
  | _ => 0

abbrev bufTy : (tb : Table) → Fin (tcTables nBuf tb) → BufTy
  | .hbm, ⟨0, _⟩ => ⟨S8x4096x768, .f32⟩
  | .hbm, ⟨1, _⟩ => ⟨S4x64, .f32⟩
  | .hbm, ⟨2, _⟩ => ⟨S4x64, .f32⟩
  | .hbm, ⟨3, _⟩ => ⟨S4x128x128, .f32⟩
  | .hbm, ⟨4, _⟩ => ⟨S4x128, .f32⟩
  | .hbm, ⟨5, _⟩ => ⟨S128x4, .f32⟩
  | .hbm, ⟨6, _⟩ => ⟨S128x4x64, .f32⟩
  | .hbm, ⟨7, _⟩ => ⟨S128x256, .f32⟩
  | .hbm, ⟨8, _⟩ => ⟨S1x256, .f32⟩
  | .hbm, ⟨9, _⟩ => ⟨S1x256, .f32⟩
  | .hbm, ⟨10, _⟩ => ⟨S4x128x128, .bf16⟩
  | .hbm, ⟨11, _⟩ => ⟨S8x4096x256, .f32⟩
  | .local _ .vmem, ⟨0, _⟩ => ⟨S1x512x768, .f32⟩
  | .local _ .vmem, ⟨1, _⟩ => ⟨S1x512x768, .f32⟩
  | .local _ .vmem, ⟨2, _⟩ => ⟨S1x256, .f32⟩
  | .local _ .vmem, ⟨3, _⟩ => ⟨S1x256, .f32⟩
  | .local _ .vmem, ⟨4, _⟩ => ⟨S4x128x128, .bf16⟩
  | .local _ .vmem, ⟨5, _⟩ => ⟨S128x256, .f32⟩
  | .local _ .vmem, ⟨6, _⟩ => ⟨S1x512x256, .f32⟩
  | .local _ .vmem, ⟨7, _⟩ => ⟨S1x512x256, .f32⟩
  | _, _ => ⟨S8x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GmlpRefIdeal.lean ====
abbrev S8x4096x768 : Shape := ⟨3, ![8, 4096, 768]⟩
abbrev S4x64 : Shape := ⟨2, ![4, 64]⟩
abbrev S4x128x128 : Shape := ⟨3, ![4, 128, 128]⟩
abbrev S4x128 : Shape := ⟨2, ![4, 128]⟩
abbrev S8x4096x256 : Shape := ⟨3, ![8, 4096, 256]⟩
abbrev S_ : Shape := ⟨0, ![]⟩
abbrev S8x4096x4x64 : Shape := ⟨4, ![8, 4096, 4, 64]⟩
abbrev S8x4096x4 : Shape := ⟨3, ![8, 4096, 4]⟩
abbrev S8x4096x4x1 : Shape := ⟨4, ![8, 4096, 4, 1]⟩
abbrev S1x1x4x64 : Shape := ⟨4, ![1, 1, 4, 64]⟩
abbrev S8x32x128x4x64 : Shape := ⟨5, ![8, 32, 128, 4, 64]⟩
abbrev S4x8x32x64x128 : Shape := ⟨5, ![4, 8, 32, 64, 128]⟩
abbrev S128x4 : Shape := ⟨2, ![128, 4]⟩
abbrev S1x1x128x4x1 : Shape := ⟨5, ![1, 1, 128, 4, 1]⟩

abbrev nBuf : Space → Nat
  | .hbm => 91
  | .vmem => 0
  | .smem => 0
  | _ => 0

abbrev bufTy : (tb : Table) → Fin (tcTables nBuf tb) → BufTy
  | .hbm, ⟨0, _⟩ => ⟨S8x4096x768, .f32⟩
  | .hbm, ⟨1, _⟩ => ⟨S4x64, .f32⟩
  | .hbm, ⟨2, _⟩ => ⟨S4x64, .f32⟩
  | .hbm, ⟨3, _⟩ => ⟨S4x128x128, .f32⟩
  | .hbm, ⟨4, _⟩ => ⟨S4x128, .f32⟩
  | .hbm, ⟨5, _⟩ => ⟨S8x4096x256, .f32⟩
  | .hbm, ⟨6, _⟩ => ⟨S8x4096x256, .f32⟩
  | .hbm, ⟨7, _⟩ => ⟨S8x4096x256, .f32⟩
  | .hbm, ⟨8, _⟩ => ⟨S8x4096x256, .f32⟩
  | .hbm, ⟨9, _⟩ => ⟨S8x4096x256, .f32⟩
  | .hbm, ⟨10, _⟩ => ⟨S_, .f32⟩
  | .hbm, ⟨11, _⟩ => ⟨S8x4096x256, .f32⟩
  | .hbm, ⟨12, _⟩ => ⟨S8x4096x256, .f32⟩
  | .hbm, ⟨13, _⟩ => ⟨S8x4096x256, .f32⟩
  | .hbm, ⟨14, _⟩ => ⟨S_, .f32⟩
  | .hbm, ⟨15, _⟩ => ⟨S8x4096x256, .f32⟩
  | .hbm, ⟨16, _⟩ => ⟨S8x4096x256, .f32⟩
  | .hbm, ⟨17, _⟩ => ⟨S8x4096x256, .f32⟩
  | .hbm, ⟨18, _⟩ => ⟨S_, .f32⟩
  | .hbm, ⟨19, _⟩ => ⟨S8x4096x256, .f32⟩
  | .hbm, ⟨20, _⟩ => ⟨S8x4096x256, .f32⟩
  | .hbm, ⟨21, _⟩ => ⟨S_, .f32⟩
  | .hbm, ⟨22, _⟩ => ⟨S8x4096x256, .f32⟩
  | .hbm, ⟨23, _⟩ => ⟨S8x4096x256, .f32⟩
  | .hbm, ⟨24, _⟩ => ⟨S8x4096x256, .f32⟩
  | .hbm, ⟨25, _⟩ => ⟨S8x4096x256, .f32⟩
  | .hbm, ⟨26, _⟩ => ⟨S8x4096x256, .f32⟩
  | .hbm, ⟨27, _⟩ => ⟨S_, .f32⟩
  | .hbm, ⟨28, _⟩ => ⟨S8x4096x256, .f32⟩
  | .hbm, ⟨29, _⟩ => ⟨S8x4096x256, .f32⟩
  | .hbm, ⟨30, _⟩ => ⟨S8x4096x256, .f32⟩
  | .hbm, ⟨31, _⟩ => ⟨S_, .f32⟩
  | .hbm, ⟨32, _⟩ => ⟨S8x4096x256, .f32⟩
  | .hbm, ⟨33, _⟩ => ⟨S8x4096x256, .f32⟩
  | .hbm, ⟨34, _⟩ => ⟨S8x4096x256, .f32⟩
  | .hbm, ⟨35, _⟩ => ⟨S_, .f32⟩
  | .hbm, ⟨36, _⟩ => ⟨S8x4096x256, .f32⟩
  | .hbm, ⟨37, _⟩ => ⟨S8x4096x256, .f32⟩
  | .hbm, ⟨38, _⟩ => ⟨S_, .f32⟩
  | .hbm, ⟨39, _⟩ => ⟨S8x4096x256, .f32⟩
  | .hbm, ⟨40, _⟩ => ⟨S8x4096x256, .f32⟩
  | .hbm, ⟨41, _⟩ => ⟨S8x4096x256, .f32⟩
  | .hbm, ⟨42, _⟩ => ⟨S8x4096x4x64, .f32⟩
  | .hbm, ⟨43, _⟩ => ⟨S_, .f32⟩
  | .hbm, ⟨44, _⟩ => ⟨S8x4096x4, .f32⟩
  | .hbm, ⟨45, _⟩ => ⟨S8x4096x4x1, .f32⟩
  | .hbm, ⟨46, _⟩ => ⟨S_, .f32⟩
  | .hbm, ⟨47, _⟩ => ⟨S8x4096x4x1, .f32⟩
  | .hbm, ⟨48, _⟩ => ⟨S8x4096x4x1, .f32⟩
  | .hbm, ⟨49, _⟩ => ⟨S8x4096x4x64, .f32⟩
  | .hbm, ⟨50, _⟩ => ⟨S8x4096x4x64, .f32⟩
  | .hbm, ⟨51, _⟩ => ⟨S8x4096x4x64, .f32⟩
  | .hbm, ⟨52, _⟩ => ⟨S_, .f32⟩
  | .hbm, ⟨53, _⟩ => ⟨S8x4096x4, .f32⟩
  | .hbm, ⟨54, _⟩ => ⟨S8x4096x4x1, .f32⟩
  | .hbm, ⟨55, _⟩ => ⟨S_, .f32⟩
  | .hbm, ⟨56, _⟩ => ⟨S8x4096x4x1, .f32⟩
  | .hbm, ⟨57, _⟩ => ⟨S8x4096x4x1, .f32⟩
  | .hbm, ⟨58, _⟩ => ⟨S8x4096x4x64, .f32⟩
  | .hbm, ⟨59, _⟩ => ⟨S8x4096x4x64, .f32⟩
  | .hbm, ⟨60, _⟩ => ⟨S_, .f32⟩
  | .hbm, ⟨61, _⟩ => ⟨S8x4096x4x1, .f32⟩
  | .hbm, ⟨62, _⟩ => ⟨S8x4096x4x1, .f32⟩
  | .hbm, ⟨63, _⟩ => ⟨S8x4096x4x1, .f32⟩
  | .hbm, ⟨64, _⟩ => ⟨S8x4096x4x64, .f32⟩
  | .hbm, ⟨65, _⟩ => ⟨S8x4096x4x64, .f32⟩
  | .hbm, ⟨66, _⟩ => ⟨S1x1x4x64, .f32⟩
  | .hbm, ⟨67, _⟩ => ⟨S8x4096x4x64, .f32⟩
  | .hbm, ⟨68, _⟩ => ⟨S8x4096x4x64, .f32⟩
  | .hbm, ⟨69, _⟩ => ⟨S1x1x4x64, .f32⟩
  | .hbm, ⟨70, _⟩ => ⟨S8x4096x4x64, .f32⟩
  | .hbm, ⟨71, _⟩ => ⟨S8x4096x4x64, .f32⟩
  | .hbm, ⟨72, _⟩ => ⟨S8x32x128x4x64, .f32⟩
  | .hbm, ⟨73, _⟩ => ⟨S4x8x32x64x128, .f32⟩
  | .hbm, ⟨74, _⟩ => ⟨S8x32x128x4x64, .f32⟩
  | .hbm, ⟨75, _⟩ => ⟨S128x4, .f32⟩
  | .hbm, ⟨76, _⟩ => ⟨S1x1x128x4x1, .f32⟩
  | .hbm, ⟨77, _⟩ => ⟨S8x32x128x4x64, .f32⟩
  | .hbm, ⟨78, _⟩ => ⟨S8x32x128x4x64, .f32⟩
  | .hbm, ⟨79, _⟩ => ⟨S8x4096x256, .f32⟩
  | .hbm, ⟨80, _⟩ => ⟨S8x4096x256, .f32⟩
  | .hbm, ⟨81, _⟩ => ⟨S8x4096x256, .f32⟩
  | .hbm, ⟨82, _⟩ => ⟨S8x4096x256, .f32⟩
  | .hbm, ⟨83, _⟩ => ⟨S_, .f32⟩
  | .hbm, ⟨84, _⟩ => ⟨S8x4096x256, .f32⟩
  | .hbm, ⟨85, _⟩ => ⟨S8x4096x256, .f32⟩
  | .hbm, ⟨86, _⟩ => ⟨S_, .f32⟩
  | .hbm, ⟨87, _⟩ => ⟨S8x4096x256, .f32⟩
  | .hbm, ⟨88, _⟩ => ⟨S8x4096x256, .f32⟩
  | .hbm, ⟨89, _⟩ => ⟨S8x4096x256, .f32⟩
  | .hbm, ⟨90, _⟩ => ⟨S8x4096x256, .f32⟩
  | _, _ => ⟨S8x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_call0_v0 : Ref sig .tc := ⟨.hbm, 81, rfl⟩
abbrev main_call0_v1 : Ref sig .tc := ⟨.hbm, 82, rfl⟩
abbrev main_call0_cst : Ref sig .tc := ⟨.hbm, 83, rfl⟩
abbrev main_call0_v2 : Ref sig .tc := ⟨.hbm, 84, rfl⟩
abbrev main_call0_v3 : Ref sig .tc := ⟨.hbm, 85, rfl⟩
abbrev main_call0_cst_0 : Ref sig .tc := ⟨.hbm, 86, rfl⟩
abbrev main_call0_v4 : Ref sig .tc := ⟨.hbm, 87, rfl⟩
abbrev main_call0_v5 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]
-- ==== Mod.lean ====
abbrev S8x1024 : Shape := ⟨2, ![8, 1024]⟩
abbrev S1024 : Shape := ⟨1, ![1024]⟩
abbrev S2x1024x3072 : Shape := ⟨3, ![2, 1024, 3072]⟩
abbrev S2x3072 : Shape := ⟨2, ![2, 3072]⟩
abbrev S_ : Shape := ⟨0, ![]⟩
abbrev S16x1024 : Shape := ⟨2, ![16, 1024]⟩
abbrev S1 : Shape := ⟨1, ![1]⟩
abbrev S2x1x3072 : Shape := ⟨3, ![2, 1, 3072]⟩
abbrev S2x16x3072 : Shape := ⟨3, ![2, 16, 3072]⟩
abbrev S1x1024x768 : Shape := ⟨3, ![1, 1024, 768]⟩
abbrev S1x1x768 : Shape := ⟨3, ![1, 1, 768]⟩
abbrev S1x16x768 : Shape := ⟨3, ![1, 16, 768]⟩
abbrev S1024x768 : Shape := ⟨2, ![1024, 768]⟩
abbrev S16x768 : Shape := ⟨2, ![16, 768]⟩
abbrev S1x768 : Shape := ⟨2, ![1, 768]⟩

abbrev nBuf : Space → Nat
  | .hbm => 14
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x3072, .f32⟩
  | .hbm, ⟨3, _⟩ => ⟨S2x3072, .f32⟩
  | .hbm, ⟨4, _⟩ => ⟨S_, .f32⟩
  | .hbm, ⟨5, _⟩ => ⟨S16x1024, .f32⟩
  | .hbm, ⟨6, _⟩ => ⟨S_, .i32⟩
  | .hbm, ⟨7, _⟩ => ⟨S1, .i32⟩
  | .hbm, ⟨8, _⟩ => ⟨S16x1024, .f32⟩
  | .hbm, ⟨9, _⟩ => ⟨S_, .i32⟩
  | .hbm, ⟨10, _⟩ => ⟨S1, .i32⟩
  | .hbm, ⟨11, _⟩ => ⟨S16x1024, .f32⟩
  | .hbm, ⟨12, _⟩ => ⟨S2x1x3072, .f32⟩
  | .hbm, ⟨13, _⟩ => ⟨S2x16x3072, .f32⟩
  | .local _ .vmem, ⟨0, _⟩ => ⟨S16x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x1x768, .f32⟩
  | .local _ .vmem, ⟨4, _⟩ => ⟨S1x1x768, .f32⟩
  | .local _ .vmem, ⟨5, _⟩ => ⟨S1x16x768, .f32⟩
  | .local _ .vmem, ⟨6, _⟩ => ⟨S1x16x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S8x1024 : Shape := ⟨2, ![8, 1024]⟩
abbrev S1024 : Shape := ⟨1, ![1024]⟩
abbrev S2x1024x3072 : Shape := ⟨3, ![2, 1024, 3072]⟩
abbrev S2x3072 : Shape := ⟨2, ![2, 3072]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S1x1024x3072 : Shape := ⟨3, ![1, 1024, 3072]⟩
abbrev S1024x3072 : Shape := ⟨2, ![1024, 3072]⟩
abbrev S16x3072 : Shape := ⟨2, ![16, 3072]⟩
abbrev S1x3072 : Shape := ⟨2, ![1, 3072]⟩
abbrev S3072 : Shape := ⟨1, ![3072]⟩
abbrev S1x16x3072 : Shape := ⟨3, ![1, 16, 3072]⟩
abbrev S2x16x3072 : Shape := ⟨3, ![2, 16, 3072]⟩

abbrev nBuf : Space → Nat
  | .hbm => 45
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x3072, .f32⟩
  | .hbm, ⟨3, _⟩ => ⟨S2x3072, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S1x1024x3072, .f32⟩
  | .hbm, ⟨18, _⟩ => ⟨S1024x3072, .f32⟩
  | .hbm, ⟨19, _⟩ => ⟨S16x3072, .f32⟩
  | .hbm, ⟨20, _⟩ => ⟨S1x3072, .f32⟩
  | .hbm, ⟨21, _⟩ => ⟨S3072, .f32⟩
  | .hbm, ⟨22, _⟩ => ⟨S1x3072, .f32⟩
  | .hbm, ⟨23, _⟩ => ⟨S16x3072, .f32⟩
  | .hbm, ⟨24, _⟩ => ⟨S16x3072, .f32⟩
  | .hbm, ⟨25, _⟩ => ⟨S16x1024, .f32⟩
  | .hbm, ⟨26, _⟩ => ⟨S16x1024, .f32⟩
  | .hbm, ⟨27, _⟩ => ⟨S_, .f32⟩
  | .hbm, ⟨28, _⟩ => ⟨S16x1024, .f32⟩
  | .hbm, ⟨29, _⟩ => ⟨S16x1024, .f32⟩
  | .hbm, ⟨30, _⟩ => ⟨S_, .f32⟩
  | .hbm, ⟨31, _⟩ => ⟨S16x1024, .f32⟩
  | .hbm, ⟨32, _⟩ => ⟨S16x1024, .f32⟩
  | .hbm, ⟨33, _⟩ => ⟨S16x1024, .f32⟩
  | .hbm, ⟨34, _⟩ => ⟨S1x1024x3072, .f32⟩
  | .hbm, ⟨35, _⟩ => ⟨S1024x3072, .f32⟩
  | .hbm, ⟨36, _⟩ => ⟨S16x3072, .f32⟩
  | .hbm, ⟨37, _⟩ => ⟨S1x3072, .f32⟩
  | .hbm, ⟨38, _⟩ => ⟨S3072, .f32⟩
  | .hbm, ⟨39, _⟩ => ⟨S1x3072, .f32⟩
  | .hbm, ⟨40, _⟩ => ⟨S16x3072, .f32⟩
  | .hbm, ⟨41, _⟩ => ⟨S16x3072, .f32⟩
  | .hbm, ⟨42, _⟩ => ⟨S1x16x3072, .f32⟩
  | .hbm, ⟨43, _⟩ => ⟨S1x16x3072, .f32⟩
  | .hbm, ⟨44, _⟩ => ⟨S2x16x3072, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== Prep.lean ====
abbrev S8x4096x896 : Shape := ⟨3, ![8, 4096, 896]⟩
abbrev S896 : Shape := ⟨1, ![896]⟩
abbrev S2x256 : Shape := ⟨2, ![2, 256]⟩
abbrev S2x64x256 : Shape := ⟨3, ![2, 64, 256]⟩
abbrev S256 : Shape := ⟨1, ![256]⟩
abbrev S4x64 : Shape := ⟨2, ![4, 64]⟩
abbrev S_ : Shape := ⟨0, ![]⟩
abbrev S2x128x256 : Shape := ⟨3, ![2, 128, 256]⟩
abbrev S1x896 : Shape := ⟨2, ![1, 896]⟩
abbrev S1x256 : Shape := ⟨2, ![1, 256]⟩
abbrev S8x4096x2560 : Shape := ⟨3, ![8, 4096, 2560]⟩
abbrev S1x256x896 : Shape := ⟨3, ![1, 256, 896]⟩
abbrev S1x8x896 : Shape := ⟨3, ![1, 8, 896]⟩
abbrev S1x256x2560 : Shape := ⟨3, ![1, 256, 2560]⟩
abbrev S256x896 : Shape := ⟨2, ![256, 896]⟩
abbrev S1x1x896 : Shape := ⟨3, ![1, 1, 896]⟩
abbrev S256x256 : Shape := ⟨2, ![256, 256]⟩
abbrev S256x128 : Shape := ⟨2, ![256, 128]⟩
abbrev S1x256x256 : Shape := ⟨3, ![1, 256, 256]⟩
abbrev S1x128x256 : Shape := ⟨3, ![1, 128, 256]⟩
abbrev S128x256 : Shape := ⟨2, ![128, 256]⟩

abbrev nBuf : Space → Nat
  | .hbm => 18
  | .vmem => 16
  | .smem => 0
  | _ => 0

abbrev bufTy : (tb : Table) → Fin (tcTables nBuf tb) → BufTy
  | .hbm, ⟨0, _⟩ => ⟨S8x4096x896, .f32⟩
  | .hbm, ⟨1, _⟩ => ⟨S896, .f32⟩
  | .hbm, ⟨2, _⟩ => ⟨S2x256, .f32⟩
  | .hbm, ⟨3, _⟩ => ⟨S2x64x256, .f32⟩
  | .hbm, ⟨4, _⟩ => ⟨S2x256, .f32⟩
  | .hbm, ⟨5, _⟩ => ⟨S2x64x256, .f32⟩
  | .hbm, ⟨6, _⟩ => ⟨S256, .f32⟩
  | .hbm, ⟨7, _⟩ => ⟨S256, .f32⟩
  | .hbm, ⟨8, _⟩ => ⟨S4x64, .f32⟩
  | .hbm, ⟨9, _⟩ => ⟨S_, .f32⟩
  | .hbm, ⟨10, _⟩ => ⟨S2x64x256, .f32⟩
  | .hbm, ⟨11, _⟩ => ⟨S2x128x256, .f32⟩
  | .hbm, ⟨12, _⟩ => ⟨S2x128x256, .f32⟩
  | .hbm, ⟨13, _⟩ => ⟨S1x896, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S8x4096x2560, .f32⟩
  | .local _ .vmem, ⟨0, _⟩ => ⟨S1x256x896, .f32⟩
  | .local _ .vmem, ⟨1, _⟩ => ⟨S1x256x896, .f32⟩
  | .local _ .vmem, ⟨2, _⟩ => ⟨S1x8x896, .f32⟩
  | .local _ .vmem, ⟨3, _⟩ => ⟨S1x8x896, .f32⟩
  | .local _ .vmem, ⟨4, _⟩ => ⟨S1x8x896, .f32⟩
  | .local _ .vmem, ⟨5, _⟩ => ⟨S1x8x896, .f32⟩
  | .local _ .vmem, ⟨6, _⟩ => ⟨S1x896, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S2x256, .f32⟩
  | .local _ .vmem, ⟨11, _⟩ => ⟨S2x256, .f32⟩
  | .local _ .vmem, ⟨12, _⟩ => ⟨S2x128x256, .f32⟩
  | .local _ .vmem, ⟨13, _⟩ => ⟨S2x128x256, .f32⟩
  | .local _ .vmem, ⟨14, _⟩ => ⟨S1x256x2560, .f32⟩
  | .local _ .vmem, ⟨15, _⟩ => ⟨S1x256x2560, .f32⟩
  | _, _ => ⟨S8x4096x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x896 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2x128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x2560 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== PrepRefIdeal.lean ====
abbrev S8x4096x896 : Shape := ⟨3, ![8, 4096, 896]⟩
abbrev S896 : Shape := ⟨1, ![896]⟩
abbrev S2x256 : Shape := ⟨2, ![2, 256]⟩
abbrev S2x64x256 : Shape := ⟨3, ![2, 64, 256]⟩
abbrev S256 : Shape := ⟨1, ![256]⟩
abbrev S4x64 : Shape := ⟨2, ![4, 64]⟩
abbrev S8x4095x896 : Shape := ⟨3, ![8, 4095, 896]⟩
abbrev S_ : Shape := ⟨0, ![]⟩
abbrev S1x1x896 : Shape := ⟨3, ![1, 1, 896]⟩
abbrev S8x4096x256 : Shape := ⟨3, ![8, 4096, 256]⟩
abbrev S8x4096x64 : Shape := ⟨3, ![8, 4096, 64]⟩
abbrev S1x1x256 : Shape := ⟨3, ![1, 1, 256]⟩
abbrev S8x4096x4x64 : Shape := ⟨4, ![8, 4096, 4, 64]⟩
abbrev S8x4096x4 : Shape := ⟨3, ![8, 4096, 4]⟩
abbrev S8x4096x4x1 : Shape := ⟨4, ![8, 4096, 4, 1]⟩
abbrev S1x256 : Shape := ⟨2, ![1, 256]⟩
abbrev S1x64x256 : Shape := ⟨3, ![1, 64, 256]⟩
abbrev S64x256 : Shape := ⟨2, ![64, 256]⟩
abbrev S1x1x4x64 : Shape := ⟨4, ![1, 1, 4, 64]⟩
abbrev S8x4096x2560 : Shape := ⟨3, ![8, 4096, 2560]⟩

abbrev nBuf : Space → Nat
  | .hbm => 192
  | .vmem => 0
  | .smem => 0
  | _ => 0

abbrev hbmTy0_0 (i : Nat) : BufTy := match i % 128 with
  | 0 => ⟨S8x4096x896, .f32⟩
  | 1 => ⟨S896, .f32⟩
  | 2 => ⟨S2x256, .f32⟩
  | 3 => ⟨S2x64x256, .f32⟩
  | 4 => ⟨S2x256, .f32⟩
  | 5 => ⟨S2x64x256, .f32⟩
  | 6 => ⟨S256, .f32⟩
  | 7 => ⟨S256, .f32⟩
  | 8 => ⟨S4x64, .f32⟩
  | 9 => ⟨S8x4095x896, .f32⟩
  | 10 => ⟨S_, .i32⟩
  | 11 => ⟨S_, .f32⟩
  | 12 => ⟨S8x4096x896, .f32⟩
  | 13 => ⟨S8x4095x896, .f32⟩
  | 14 => ⟨S_, .i32⟩
  | 15 => ⟨S_, .f32⟩
  | 16 => ⟨S8x4096x896, .f32⟩
  | 17 => ⟨S8x4096x896, .f32⟩
  | 18 => ⟨S_, .f32⟩
  | 19 => ⟨S8x4096x896, .f32⟩
  | 20 => ⟨S8x4096x896, .f32⟩
  | 21 => ⟨S8x4096x896, .f32⟩
  | 22 => ⟨S1x1x896, .f32⟩
  | 23 => ⟨S8x4096x896, .f32⟩
  | 24 => ⟨S8x4096x896, .f32⟩
  | 25 => ⟨S8x4096x896, .f32⟩
  | 26 => ⟨S8x4096x256, .f32⟩
  | 27 => ⟨S8x4096x256, .f32⟩
  | 28 => ⟨S8x4096x256, .f32⟩
  | 29 => ⟨S8x4096x64, .f32⟩
  | 30 => ⟨S8x4096x64, .f32⟩
  | 31 => ⟨S1x1x256, .f32⟩
  | 32 => ⟨S8x4096x256, .f32⟩
  | 33 => ⟨S8x4096x256, .f32⟩
  | 34 => ⟨S8x4096x4x64, .f32⟩
  | 35 => ⟨S8x4096x4x64, .f32⟩
  | 36 => ⟨S_, .f32⟩
  | 37 => ⟨S8x4096x4, .f32⟩
  | 38 => ⟨S8x4096x4x1, .f32⟩
  | 39 => ⟨S8x4096x4x1, .f32⟩
  | 40 => ⟨S_, .f32⟩
  | 41 => ⟨S8x4096x4x1, .f32⟩
  | 42 => ⟨S8x4096x4x1, .f32⟩
  | 43 => ⟨S8x4096x4x64, .f32⟩
  | 44 => ⟨S8x4096x4x64, .f32⟩
  | 45 => ⟨S8x4096x4x64, .f32⟩
  | 46 => ⟨S8x4096x4x64, .f32⟩
  | 47 => ⟨S8x4096x4x64, .f32⟩
  | 48 => ⟨S4x64, .f32⟩
  | 49 => ⟨S8x4096x4x64, .f32⟩
  | 50 => ⟨S8x4096x256, .f32⟩
  | 51 => ⟨S1x256, .f32⟩
  | 52 => ⟨S256, .f32⟩
  | 53 => ⟨S8x4096x64, .f32⟩
  | 54 => ⟨S1x64x256, .f32⟩
  | 55 => ⟨S64x256, .f32⟩
  | 56 => ⟨S8x4096x256, .f32⟩
  | 57 => ⟨S1x1x256, .f32⟩
  | 58 => ⟨S8x4096x256, .f32⟩
  | 59 => ⟨S8x4096x256, .f32⟩
  | 60 => ⟨S8x4096x256, .f32⟩
  | 61 => ⟨S_, .f32⟩
  | 62 => ⟨S8x4096x256, .f32⟩
  | 63 => ⟨S8x4096x256, .f32⟩
  | 64 => ⟨S8x4096x256, .f32⟩
  | 65 => ⟨S8x4096x256, .f32⟩
  | 66 => ⟨S8x4096x256, .i1⟩
  | 67 => ⟨S8x4096x256, .f32⟩
  | 68 => ⟨S8x4096x256, .f32⟩
  | 69 => ⟨S8x4096x256, .f32⟩
  | 70 => ⟨S8x4096x256, .f32⟩
  | 71 => ⟨S8x4096x256, .f32⟩
  | 72 => ⟨S8x4096x256, .f32⟩
  | 73 => ⟨S8x4096x256, .f32⟩
  | 74 => ⟨S8x4096x256, .f32⟩
  | 75 => ⟨S8x4096x256, .f32⟩
  | 76 => ⟨S_, .f32⟩
  | 77 => ⟨S8x4096x256, .f32⟩
  | 78 => ⟨S8x4096x256, .f32⟩
  | 79 => ⟨S1x256, .f32⟩
  | 80 => ⟨S256, .f32⟩
  | 81 => ⟨S1x64x256, .f32⟩
  | 82 => ⟨S64x256, .f32⟩
  | 83 => ⟨S8x4096x256, .f32⟩
  | 84 => ⟨S1x1x256, .f32⟩
  | 85 => ⟨S8x4096x256, .f32⟩
  | 86 => ⟨S8x4096x256, .f32⟩
  | 87 => ⟨S8x4096x256, .f32⟩
  | 88 => ⟨S8x4096x256, .f32⟩
  | 89 => ⟨S_, .f32⟩
  | 90 => ⟨S8x4096x256, .f32⟩
  | 91 => ⟨S8x4096x256, .f32⟩
  | 92 => ⟨S_, .f32⟩
  | 93 => ⟨S8x4096x256, .f32⟩
  | 94 => ⟨S8x4096x256, .f32⟩
  | 95 => ⟨S8x4096x4x64, .f32⟩
  | 96 => ⟨S_, .f32⟩
  | 97 => ⟨S8x4096x4x64, .f32⟩
  | 98 => ⟨S8x4096x4x64, .f32⟩
  | 99 => ⟨S1x1x4x64, .f32⟩
  | 100 => ⟨S8x4096x4x64, .f32⟩
  | 101 => ⟨S8x4096x4x64, .f32⟩
  | 102 => ⟨S_, .f32⟩
  | 103 => ⟨S8x4096x4x64, .f32⟩
  | 104 => ⟨S8x4096x4x64, .f32⟩
  | 105 => ⟨S8x4096x4x64, .f32⟩
  | 106 => ⟨S8x4096x256, .f32⟩
  | 107 => ⟨S8x4096x256, .f32⟩
  | 108 => ⟨S8x4096x256, .f32⟩
  | 109 => ⟨S8x4096x4x64, .f32⟩
  | 110 => ⟨S8x4096x256, .f32⟩
  | 111 => ⟨S8x4096x4x64, .f32⟩
  | 112 => ⟨S1x1x4x64, .f32⟩
  | 113 => ⟨S8x4096x4x64, .f32⟩
  | 114 => ⟨S8x4096x4x64, .f32⟩
  | 115 => ⟨S_, .f32⟩
  | 116 => ⟨S8x4096x4, .f32⟩
  | 117 => ⟨S8x4096x4x1, .f32⟩
  | 118 => ⟨S8x4096x4x64, .f32⟩
  | 119 => ⟨S8x4096x4x64, .f32⟩
  | 120 => ⟨S1x256, .f32⟩
  | 121 => ⟨S256, .f32⟩
  | 122 => ⟨S8x4096x64, .f32⟩
  | 123 => ⟨S1x64x256, .f32⟩
  | 124 => ⟨S64x256, .f32⟩
  | 125 => ⟨S8x4096x256, .f32⟩
  | 126 => ⟨S1x1x256, .f32⟩
  | 127 => ⟨S8x4096x256, .f32⟩
  | _ => ⟨S8x4096x896, .f32⟩

abbrev hbmTy0_1 (i : Nat) : BufTy := match i % 128 with
  | 0 => ⟨S8x4096x256, .f32⟩
  | 1 => ⟨S8x4096x256, .f32⟩
  | 2 => ⟨S_, .f32⟩
  | 3 => ⟨S8x4096x256, .f32⟩
  | 4 => ⟨S8x4096x256, .f32⟩
  | 5 => ⟨S8x4096x256, .f32⟩
  | 6 => ⟨S8x4096x256, .f32⟩
  | 7 => ⟨S8x4096x256, .i1⟩
  | 8 => ⟨S8x4096x256, .f32⟩
  | 9 => ⟨S8x4096x256, .f32⟩
  | 10 => ⟨S8x4096x256, .f32⟩
  | 11 => ⟨S8x4096x256, .f32⟩
  | 12 => ⟨S8x4096x256, .f32⟩
  | 13 => ⟨S8x4096x256, .f32⟩
  | 14 => ⟨S8x4096x256, .f32⟩
  | 15 => ⟨S8x4096x256, .f32⟩
  | 16 => ⟨S8x4096x256, .f32⟩
  | 17 => ⟨S_, .f32⟩
  | 18 => ⟨S8x4096x256, .f32⟩
  | 19 => ⟨S8x4096x256, .f32⟩
  | 20 => ⟨S1x256, .f32⟩
  | 21 => ⟨S256, .f32⟩
  | 22 => ⟨S1x64x256, .f32⟩
  | 23 => ⟨S64x256, .f32⟩
  | 24 => ⟨S8x4096x256, .f32⟩
  | 25 => ⟨S1x1x256, .f32⟩
  | 26 => ⟨S8x4096x256, .f32⟩
  | 27 => ⟨S8x4096x256, .f32⟩
  | 28 => ⟨S8x4096x256, .f32⟩
  | 29 => ⟨S8x4096x256, .f32⟩
  | 30 => ⟨S_, .f32⟩
  | 31 => ⟨S8x4096x256, .f32⟩
  | 32 => ⟨S8x4096x256, .f32⟩
  | 33 => ⟨S_, .f32⟩
  | 34 => ⟨S8x4096x256, .f32⟩
  | 35 => ⟨S8x4096x256, .f32⟩
  | 36 => ⟨S8x4096x4x64, .f32⟩
  | 37 => ⟨S_, .f32⟩
  | 38 => ⟨S8x4096x4x64, .f32⟩
  | 39 => ⟨S8x4096x4x64, .f32⟩
  | 40 => ⟨S1x1x4x64, .f32⟩
  | 41 => ⟨S8x4096x4x64, .f32⟩
  | 42 => ⟨S8x4096x4x64, .f32⟩
  | 43 => ⟨S_, .f32⟩
  | 44 => ⟨S8x4096x4x64, .f32⟩
  | 45 => ⟨S8x4096x4x64, .f32⟩
  | 46 => ⟨S8x4096x4x64, .f32⟩
  | 47 => ⟨S8x4096x256, .f32⟩
  | 48 => ⟨S8x4096x256, .f32⟩
  | 49 => ⟨S8x4096x256, .f32⟩
  | 50 => ⟨S8x4096x4x64, .f32⟩
  | 51 => ⟨S8x4096x256, .f32⟩
  | 52 => ⟨S8x4096x4x64, .f32⟩
  | 53 => ⟨S1x1x4x64, .f32⟩
  | 54 => ⟨S8x4096x4x64, .f32⟩
  | 55 => ⟨S8x4096x4x64, .f32⟩
  | 56 => ⟨S_, .f32⟩
  | 57 => ⟨S8x4096x4, .f32⟩
  | 58 => ⟨S8x4096x4x1, .f32⟩
  | 59 => ⟨S8x4096x4x64, .f32⟩
  | 60 => ⟨S8x4096x4x64, .f32⟩
  | 61 => ⟨S8x4096x4x64, .f32⟩
  | 62 => ⟨S8x4096x256, .f32⟩
  | 63 => ⟨S8x4096x2560, .f32⟩
  | _ => ⟨S8x4096x896, .f32⟩

abbrev hbmTy (i : Nat) : BufTy := match i / 128 with
  | 0 => hbmTy0_0 i
  | 1 => hbmTy0_1 i
  | _ => ⟨S8x4096x896, .f32⟩

abbrev bufTy : (tb : Table) → Fin (tcTables nBuf tb) → BufTy
  | .hbm, ⟨i, _⟩ => hbmTy i
  | _, _ => ⟨S8x4096x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_call1_v0 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_call2_cst : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_v45 : Ref sig .tc := ⟨.hbm, 74, rfl⟩
abbrev main_v46 : Ref sig .tc := ⟨.hbm, 75, rfl⟩
abbrev main_cst_3 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_4 : Ref sig .tc := ⟨.hbm, 89, rfl⟩
abbrev main_v59 : Ref sig .tc := ⟨.hbm, 90, rfl⟩
abbrev main_v60 : Ref sig .tc := ⟨.hbm, 91, rfl⟩
abbrev main_cst_5 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_6 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_7 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_8 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_call3_cst : Ref sig .tc := ⟨.hbm, 130, rfl⟩
abbrev main_call3_v0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_v7 : Ref sig .tc := ⟨.hbm, 138, rfl⟩
abbrev main_call3_v8 : Ref sig .tc := ⟨.hbm, 139, rfl⟩
abbrev main_call3_v9 : Ref sig .tc := ⟨.hbm, 140, rfl⟩
abbrev main_call3_v10 : Ref sig .tc := ⟨.hbm, 141, rfl⟩
abbrev main_call3_v11 : Ref sig .tc := ⟨.hbm, 142, rfl⟩
abbrev main_v95 : Ref sig .tc := ⟨.hbm, 143, rfl⟩
abbrev main_v96 : Ref sig .tc := ⟨.hbm, 144, rfl⟩
abbrev main_cst_9 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_cst_10 : Ref sig .tc := ⟨.hbm, 158, rfl⟩
abbrev main_v109 : Ref sig .tc := ⟨.hbm, 159, rfl⟩
abbrev main_v110 : Ref sig .tc := ⟨.hbm, 160, rfl⟩
abbrev main_cst_11 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_cst_12 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_cst_13 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_cst_14 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩

abbrev nD : Nat := 1
abbrev τ : Topo := Topo.v7x

variable {F : FTy → Type} [FloatOps F]
-- ==== Proof.Spec.lean ====
module

public import Idealize.ShloMosaic.Lib.Pointwise

/-! Neighbourhood attention in plain indices: which rows and columns a query's window holds, and where its bias lies. -/

@[expose] public section

noncomputable section

namespace Cert.Natten
open Idealize.ShloMosaic

/-- First row of the window of query row `r`. -/
def rowLo (r : Fin 64) : Nat := min (r.val - 4) 56

/-- First column of the window of query column `q`. -/
def colLo (q : Fin 64) : Nat := min (q.val - 8) 48

/-- The `i`-th row of the window of query row `r`. -/
def bandRow (r : Fin 64) (i : Fin 8) : Fin 64 := ⟨rowLo r + i.val, by unfold rowLo; omega⟩

/-- The bias table's row for the `i`-th row of the window of query row `r`. -/
def biasRow (r : Fin 64) (i : Fin 8) : Fin 15 := ⟨rowLo r + i.val + 7 - r.val, by unfold rowLo; omega⟩

/-- The bias table's column for key column `k` seen from query column `q`. -/
def biasCol (q k : Fin 64) : Fin 31 := ⟨min 30 (k.val + 15 - q.val), by omega⟩

/-- Key column `k` lies in the window of query column `q`. -/
def inCols (q k : Fin 64) : Bool := decide (colLo q ≤ k.val ∧ k.val < colLo q + 16)

/-- The lane `d` of head `h` among the 256 lanes of the four heads. -/
def lane (h : Fin 4) (d : Fin 64) : Fin 256 := ⟨h.val * 64 + d.val, by omega⟩

/-- The token at row `r` and column `q`. -/
def tok (r q : Fin 64) : Fin 4096 := ⟨r.val * 64 + q.val, by omega⟩

/-- The factor the scores are scaled by, the constant 0.125. -/
def eighth : EReal := Ideal.ofBits .f32 0x3E000000#32

/-- What a masked score is. -/
def hidden : EReal := Ideal.ofBits .f32 0xFF800000#32

variable (a0 : (⟨3, ![8, 4096, 1024]⟩ : Shape).Idx → EReal) (a1 : (⟨3, ![8, 256, 1024]⟩ : Shape).Idx → EReal)
  (a2 : (⟨3, ![4, 15, 31]⟩ : Shape).Idx → EReal)

/-- The query at row `r`, column `q`, head `h`, lane `d`. -/
def qE (b : Fin 8) (r q : Fin 64) (h : Fin 4) (d : Fin 64) : EReal := a0 (ix3 b (tok r q) ⟨(lane h d).val, by omega⟩)

/-- The key at row `r`, column `k`. -/
def kE (b : Fin 8) (r k : Fin 64) (h : Fin 4) (d : Fin 64) : EReal := a0 (ix3 b (tok r k) ⟨256 + (lane h d).val, by omega⟩)

/-- The value at row `r`, column `k`. -/
def vE (b : Fin 8) (r k : Fin 64) (h : Fin 4) (d : Fin 64) : EReal := a0 (ix3 b (tok r k) ⟨512 + (lane h d).val, by omega⟩)

/-- The context's key at position `k`. -/
def kcE (b : Fin 8) (k : Fin 256) (h : Fin 4) (d : Fin 64) : EReal := a1 (ix3 b k ⟨256 + (lane h d).val, by omega⟩)

/-- The context's value at position `k`. -/
def vcE (b : Fin 8) (k : Fin 256) (h : Fin 4) (d : Fin 64) : EReal := a1 (ix3 b k ⟨512 + (lane h d).val, by omega⟩)

/-- The gate's factor at a token and a lane. -/
def gateE (b : Fin 8) (n : Fin 4096) (l : Fin 256) : EReal :=
  a0 (ix3 b n ⟨768 + l.val, by omega⟩) * Ideal.div 1 (1 + Ideal.exp (-a0 (ix3 b n ⟨768 + l.val, by omega⟩)))

/-- The score of the window's row `i` and key column `k`. -/
def winS (b : Fin 8) (h : Fin 4) (r q : Fin 64) (i : Fin 8) (k : Fin 64) : EReal :=
  if inCols q k = true then
    (∑ d : Fin 64, qE a0 b r q h d * kE a0 b (bandRow r i) k h d) * eighth + a2 (ix3 h (biasRow r i) (biasCol q k))
  else hidden

/-- The score of the context's position `k`. -/
def ctxS (b : Fin 8) (h : Fin 4) (r q : Fin 64) (k : Fin 256) : EReal :=
  (∑ d : Fin 64, qE a0 b r q h d * kcE a1 b k h d) * eighth

end Cert.Natten
-- ==== Proof.Softmax.lean ====
module

public import proofs.«01_k».proof.Proof.Spec

/-! One row of attention on extended reals: dividing the weighted sum once equals weighting the quotients. -/

@[expose] public section

noncomputable section
namespace Cert.Natten
open Idealize.ShloMosaic

/-- The mask's constant is minus infinity. -/
theorem hidden_eq : hidden = ⊥ := by simp [hidden, Ideal.ofBits, Ideal.ieee]

/-- The scale is a real. -/
theorem eighth_eq : eighth = ((1 / 8 : ℝ) : EReal) := by
  simp [eighth, Ideal.ofBits, Ideal.ieee]
  rw [← EReal.coe_mul]; norm_num

theorem eighth_nonneg : 0 ≤ eighth := by rw [eighth_eq]; exact_mod_cast (by norm_num : (0 : ℝ) ≤ 1 / 8)
theorem eighth_ne_top : eighth ≠ ⊤ := by rw [eighth_eq]; exact EReal.coe_ne_top _

/-- An exponential is nonnegative. -/
theorem exp_nonneg' (x : EReal) : 0 ≤ Ideal.exp x := by
  induction x using EReal.rec with
  | bot => exact le_refl _
  | top => exact le_top
  | coe r => exact EReal.coe_nonneg.2 (Real.exp_pos r).le

/-- An exponential above minus infinity is positive. -/
theorem exp_pos' {x : EReal} (h : x ≠ ⊥) : 0 < Ideal.exp x := by
  induction x using EReal.rec with
  | bot => exact absurd rfl h
  | top => exact EReal.zero_lt_top
  | coe r => exact EReal.coe_pos.2 (Real.exp_pos r)

/-- A finite nonnegative factor goes into a sum. -/
theorem sum_mul_const {ι : Type*} (s : Finset ι) (f : ι → EReal) {c : EReal} (h0 : 0 ≤ c) (h1 : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 h1, ih]

/-- The sum over the 512 columns of a band, row by row. -/
theorem sum_band (f : Fin 8 → Fin 64 → EReal) :
    ∑ c : Fin 512, f ⟨c.val / 64, by omega⟩ ⟨c.val % 64, by omega⟩ = ∑ i, ∑ k, f i k := by
  rw [← Fintype.sum_prod_type' f]
  refine (Fintype.sum_equiv (finProdFinEquiv (m := 8) (n := 64)) _ _ fun p => ?_).symm
  have h1 : (finProdFinEquiv p).val = p.2.val + 64 * p.1.val := rfl
  congr 1
  · congr 1; apply Fin.ext; simp only [h1]; omega
  · apply Fin.ext; simp only [h1]; omega

/-- All 768 scores of a row of attention. -/
def cat (s : Fin 8 → Fin 64 → EReal) (t : Fin 256 → EReal) (x : Fin 768) : EReal :=
  if hx : x.val < 512 then s ⟨x.val / 64, by omega⟩ ⟨x.val % 64, by omega⟩ else t ⟨x.val - 512, by omega⟩

/-- The sum over all 768 places. -/
theorem sum_cat (s : Fin 8 → Fin 64 → EReal) (t : Fin 256 → EReal) (g : EReal → EReal) :
    ∑ x, g (cat s t x) = ∑ c : Fin 512, g (s ⟨c.val / 64, by omega⟩ ⟨c.val % 64, by omega⟩) + ∑ k, g (t k) := by
  refine (Fin.sum_univ_add (a := 512) (b := 256) fun x => g (cat s t x)).trans ?_
  congr 1

/-- The largest of all 768 scores. -/
theorem max_cat (s : Fin 8 → Fin 64 → EReal) (t : Fin 256 → EReal) :
    max ((Finset.univ : Finset (Fin 512)).fold max hidden fun c => s ⟨c.val / 64, by omega⟩ ⟨c.val % 64, by omega⟩)
        ((Finset.univ : Finset (Fin 256)).fold max hidden t)
      = max hidden ((Finset.univ : Finset (Fin 768)).fold max hidden (cat s t)) := by
  rw [hidden_eq]
  change Finset.sup _ _ ⊔ Finset.sup _ _ = ⊥ ⊔ Finset.sup _ _
  rw [bot_sup_eq]
  apply le_antisymm
  · refine sup_le (Finset.sup_le fun c _ => ?_) (Finset.sup_le fun c _ => ?_)
    · refine le_trans (le_of_eq ?_) (Finset.le_sup (Finset.mem_univ (⟨c.val, by omega⟩ : Fin 768)))
      simp only [cat, c.isLt, dite_true]
    · refine le_trans (le_of_eq ?_) (Finset.le_sup (Finset.mem_univ (⟨512 + c.val, by omega⟩ : Fin 768)))
      simp only [cat, Nat.not_lt.2 (Nat.le_add_right 512 c.val), dite_false, Nat.add_sub_cancel_left]
  · refine Finset.sup_le fun x _ => ?_
    unfold cat
    split
    · rename_i hx
      exact le_trans (Finset.le_sup (f := fun c : Fin 512 => s ⟨c.val / 64, by omega⟩ ⟨c.val % 64, by omega⟩) (Finset.mem_univ ⟨x.val, hx⟩)) le_sup_left
    · exact le_trans (Finset.le_sup (f := t) (Finset.mem_univ _)) le_sup_right

/-- The largest score is not plus infinity if no score is. -/
theorem max_ne_top (s : Fin 8 → Fin 64 → EReal) (t : Fin 256 → EReal) (hs : ∀ i k, s i k ≠ ⊤) (ht : ∀ k, t k ≠ ⊤) :
    max hidden ((Finset.univ : Finset (Fin 768)).fold max hidden (cat s t)) ≠ ⊤ := by
  rw [hidden_eq]
  change ⊥ ⊔ Finset.sup _ _ ≠ ⊤
  rw [bot_sup_eq, ← lt_top_iff_ne_top, Finset.sup_lt_iff (bot_lt_top)]
  intro x _
  unfold cat
  split
  · exact lt_top_iff_ne_top.2 (hs _ _)
  · exact lt_top_iff_ne_top.2 (ht _)

/-- A row of attention: the weighted sum divided once is the sum weighted by the quotients. -/
theorem row_eq (s v : Fin 8 → Fin 64 → EReal) (t w : Fin 256 → EReal) (hs : ∀ i k, s i k ≠ ⊤) (ht : ∀ k, t k ≠ ⊤) (h0 : t 0 ≠ ⊥)
    (M : EReal) (hM : M = max hidden ((Finset.univ : Finset (Fin 768)).fold max hidden (cat s t))) :
    Ideal.div (∑ c : Fin 512, Ideal.exp (s ⟨c.val / 64, by omega⟩ ⟨c.val % 64, by omega⟩ - M) * v ⟨c.val / 64, by omega⟩ ⟨c.val % 64, by omega⟩
        + ∑ k, Ideal.exp (t k - M) * w k)
      (∑ c : Fin 512, Ideal.exp (s ⟨c.val / 64, by omega⟩ ⟨c.val % 64, by omega⟩ - M) + ∑ k, Ideal.exp (t k - M))
    = ∑ i, ∑ k, v i k * Ideal.div (Ideal.exp (s i k - M)) (∑ x, Ideal.exp (cat s t x - M))
      + ∑ k, w k * Ideal.div (Ideal.exp (t k - M)) (∑ x, Ideal.exp (cat s t x - M)) := by
  have hMt : M ≠ ⊤ := hM ▸ max_ne_top s t hs ht
  rw [sum_cat s t fun x => Ideal.exp (x - M)]
  generalize hD : ∑ c : Fin 512, Ideal.exp (s ⟨c.val / 64, by omega⟩ ⟨c.val % 64, by omega⟩ - M) + ∑ k, Ideal.exp (t k - M) = D
  have hpos : 0 < D := by
    rw [← hD]
    have h1 : t 0 - M ≠ ⊥ := by
      rw [sub_eq_add_neg, Ne, EReal.add_eq_bot_iff, not_or, EReal.neg_eq_bot_iff]
      exact ⟨h0, hMt⟩
    refine lt_of_lt_of_le (exp_pos' h1) ?_
    refine le_trans (Finset.single_le_sum (f := fun k => Ideal.exp (t k - M)) (fun k _ => exp_nonneg' _) (Finset.mem_univ (0 : Fin 256))) ?_
    exact le_add_of_nonneg_left (Finset.sum_nonneg fun c _ => exp_nonneg' _)
  have hd : ∀ x, Ideal.div x D = x * D⁻¹ := fun x => by rw [Ideal.div, if_neg hpos.ne']
  have i0 : 0 ≤ D⁻¹ := EReal.inv_nonneg_of_nonneg hpos.le
  have i1 : D⁻¹ ≠ ⊤ := (EReal.inv_lt_top D).ne
  simp only [hd]
  rw [EReal.right_distrib_of_nonneg_of_ne_top i0 i1, sum_mul_const _ _ i0 i1, sum_mul_const _ _ i0 i1,
    sum_band fun i k => Ideal.exp (s i k - M) * v i k * D⁻¹]
  congr 1
  · exact Finset.sum_congr rfl fun i _ => Finset.sum_congr rfl fun k _ => by rw [mul_comm (Ideal.exp _), mul_assoc]
  · exact Finset.sum_congr rfl fun k _ => by rw [mul_comm (Ideal.exp _), mul_assoc]

end Cert.Natten
-- ==== Proof.Block.lean ====
module

public import proofs.«01_k».proof.Proof.Gen.KernelIdeal.Skeleton
public import proofs.«01_k».proof.Proof.Softmax
public import Idealize.ShloMosaic.Lib.Pointwise

/-! The kernel's body read at an index: stacked queries, scores, quotient, un-stacked output. -/

@[expose] public section
set_option maxRecDepth 16384

noncomputable section
namespace Cert.Natten.Krn
open Idealize.ShloMosaic Cert.KernelIdeal Cert.KernelIdeal.Gen

/-- The row of head `h` and query column `q` among the 256 stacked rows. -/
def row (h : Fin 4) (q : Fin 64) : Fin 256 := ⟨h.val * 64 + q.val, by omega⟩

/-- The head of a lane. -/
theorem head_at (q : Fin 64) (l : Fin 256) : k0_pay3 (ix2 q l) = BitVec.ofNat 32 (l.val / 64) := by
  revert l; pointwise [k0_pay3]; decide +kernel

/-- The head of a lane, as the un-stacking computes it. -/
theorem head2_at (q : Fin 64) (l : Fin 256) : Scalar.select (IntOp.andi (k0_pay12 (ix2 q l)) (IntOp.cmpi .ne (k0_pay13 (ix2 q l)) 0#32))
    (IntOp.subi (k0_pay11 (ix2 q l)) 1#32) (k0_pay11 (ix2 q l)) = BitVec.ofNat 32 (l.val / 64) := by
  revert l; pointwise [k0_pay11, k0_pay12, k0_pay13]; decide +kernel

/-- The comparison of a lane's head with a head. -/
theorem sel_head {α : Type} (l : Fin 256) (n : Fin 4) (x y : α) :
    Scalar.select (IntOp.cmpi .eq (BitVec.ofNat 32 (l.val / 64)) (BitVec.ofNat 32 n.val)) x y = if l.val / 64 = n.val then x else y := by
  have : IntOp.cmpi .eq (BitVec.ofNat 32 (l.val / 64)) (BitVec.ofNat 32 n.val) = BitVec.ofBool (decide (l.val / 64 = n.val)) := by
    revert l n; decide +kernel
  rw [this]
  by_cases h : l.val / 64 = n.val <;> simp [Scalar.select, h]

/-- The stacked queries. -/
def stackQ (x0 : FVec Ideal S1x64x256 .f32) : S256x256.Idx → EReal := k0_pay6 (F := Ideal) (k0_pay2 x0) k0_pay3 (k0_pay4 x0) k0_pay5

/-- The band's scores. -/
def winPay (x0 : FVec Ideal S1x64x256 .f32) (kb : FVec Ideal S1x512x256 .f32) (ok : IVec S256x512 32) (bias : FVec Ideal S1x256x512 .f32) : S256x512.Idx → EReal :=
  k0_pay8 (F := Ideal) (k0_pay2 x0) k0_pay3 (k0_pay4 x0) k0_pay5 kb ok bias

/-- The context's scores. -/
def ctxPay (x0 : FVec Ideal S1x64x256 .f32) (kc : FVec Ideal S1x256x256 .f32) : S256x256.Idx → EReal :=
  k0_pay9 (F := Ideal) (k0_pay2 x0) k0_pay3 (k0_pay4 x0) k0_pay5 kc

/-- The band's values. -/
def valPay (vb : FVec Ideal S1x512x256 .f32) : S512x256.Idx → EReal := k0_pay7 (F := Ideal) vb

/-- The quotient of the weighted values. -/
def quoPay (vb : S512x256.Idx → EReal) (s : S256x512.Idx → EReal) (t : S256x256.Idx → EReal) (vc : FVec Ideal S1x256x256 .f32) : S256x256.Idx → EReal :=
  k0_pay10 (F := Ideal) vb s t vc

/-- What the body stores. -/
def outPay (o : S256x256.Idx → EReal) (g : FVec Ideal S1x64x256 .f32) : S1x64x256.Idx → EReal :=
  k0_pay1 (F := Ideal) o k0_pay11 k0_pay12 k0_pay13 0#32 g

/-- The stacked queries: each row keeps its own head's lanes, scaled. -/
theorem stack_at (x0 : FVec Ideal S1x64x256 .f32) (h : Fin 4) (q : Fin 64) (l : Fin 256) :
    stackQ x0 (ix2 (row h q) l) = if l.val / 64 = h.val then x0 (ix3 0 q l) * eighth else 0 := by
  have e0 : ∀ x y : EReal, Scalar.select (IntOp.cmpi .eq (BitVec.ofNat 32 (l.val / 64)) 0#32) x y = if l.val / 64 = 0 then x else y := fun x y => sel_head l 0 x y
  have e1 : ∀ x y : EReal, Scalar.select (IntOp.cmpi .eq (BitVec.ofNat 32 (l.val / 64)) 1#32) x y = if l.val / 64 = 1 then x else y := fun x y => sel_head l 1 x y
  have e2 : ∀ x y : EReal, Scalar.select (IntOp.cmpi .eq (BitVec.ofNat 32 (l.val / 64)) 2#32) x y = if l.val / 64 = 2 then x else y := fun x y => sel_head l 2 x y
  have e3 : ∀ x y : EReal, Scalar.select (IntOp.cmpi .eq (BitVec.ofNat 32 (l.val / 64)) 3#32) x y = if l.val / 64 = 3 then x else y := fun x y => sel_head l 3 x y
  pointwise [stackQ, k0_pay6, k0_pay2, k0_pay4, k0_pay5, head_at, row, eighth]
  simp only [e0, e1, e2, e3]
  clear e0 e1 e2 e3
  have hq : ∀ (n : Nat) (p : n < 64), n = q.val → (⟨n, p⟩ : Fin 64) = q := fun n p hn => Fin.ext hn
  rcases h with ⟨n, hn⟩
  interval_cases n
  · rw [dif_pos (by dsimp only; omega), hq _ _ (by dsimp only; omega)]
  · rw [dif_neg (by dsimp only; omega), dif_pos (by dsimp only; omega), hq _ _ (by dsimp only; omega)]
  · rw [dif_neg (by dsimp only; omega), dif_neg (by dsimp only; omega), dif_pos (by dsimp only; omega), hq _ _ (by dsimp only; omega)]
  · rw [dif_neg (by dsimp only; omega), dif_neg (by dsimp only; omega), dif_neg (by dsimp only; omega), hq _ _ (by dsimp only; omega)]

/-- The band's scores at an index. -/
theorem winPay_at (x0 : FVec Ideal S1x64x256 .f32) (kb : FVec Ideal S1x512x256 .f32) (ok : IVec S256x512 32) (bias : FVec Ideal S1x256x512 .f32)
    (R : Fin 256) (c : Fin 512) :
    winPay x0 kb ok bias (ix2 R c)
      = ∑ l, stackQ x0 (ix2 R l) * kb (ix3 0 c l) + Scalar.select (IntOp.cmpi .ne (ok (ix2 R c)) 0#32) (bias (ix3 0 R c)) (⊥ : EReal) := by
  pointwise [winPay, k0_pay8]
  rfl

/-- The context's scores at an index. -/
theorem ctxPay_at (x0 : FVec Ideal S1x64x256 .f32) (kc : FVec Ideal S1x256x256 .f32) (R : Fin 256) (c : Fin 256) :
    ctxPay x0 kc (ix2 R c) = ∑ l, stackQ x0 (ix2 R l) * kc (ix3 0 c l) := by
  pointwise [ctxPay, k0_pay9]
  rfl

/-- The band's values at an index. -/
theorem valPay_at (vb : FVec Ideal S1x512x256 .f32) (c : Fin 512) (l : Fin 256) : valPay vb (ix2 c l) = vb (ix3 0 c l) := by
  pointwise [valPay, k0_pay7]

/-- The quotient at an index. -/
theorem quoPay_at (vb : S512x256.Idx → EReal) (s : S256x512.Idx → EReal) (t : S256x256.Idx → EReal) (vc : FVec Ideal S1x256x256 .f32) (R l : Fin 256) (M : EReal)
    (hM : M = max ((Finset.univ : Finset (Fin 512)).fold max hidden fun c => s (ix2 R c)) ((Finset.univ : Finset (Fin 256)).fold max hidden fun c => t (ix2 R c))) :
    quoPay vb s t vc (ix2 R l)
      = Ideal.div (∑ c, Ideal.exp (s (ix2 R c) - M) * vb (ix2 c l) + ∑ c, Ideal.exp (t (ix2 R c) - M) * vc (ix3 0 c l))
          (∑ c, Ideal.exp (s (ix2 R c) - M) + ∑ c, Ideal.exp (t (ix2 R c) - M)) := by
  rw [hM]
  pointwise [quoPay, k0_pay10]
  rfl

/-- The stored block at an index. -/
theorem outPay_at (o : S256x256.Idx → EReal) (g : FVec Ideal S1x64x256 .f32) (q : Fin 64) (h : Fin 4) (d : Fin 64) :
    outPay o g (ix3 0 q (lane h d)) = o (ix2 (row h q) (lane h d)) * (g (ix3 0 q (lane h d)) * Ideal.div 1 (1 + Ideal.exp (-g (ix3 0 q (lane h d))))) := by
  have hl : (lane h d).val / 64 = h.val := by unfold lane; dsimp only; omega
  generalize lane h d = l at hl ⊢
  pointwise [outPay, k0_pay1, head2_at]
  rw [hl, zero_sub]
  have hr : ∀ (n : Nat) (p : n < 256), n = h.val * 64 + q.val → (⟨n, p⟩ : Fin 256) = row h q := fun n p hn => Fin.ext hn
  congr 1
  rcases h with ⟨n, hn⟩
  interval_cases n
  · rw [hr q.val _ (by dsimp only; omega)]; rfl
  · rw [hr (64 + q.val) _ (by dsimp only)]; rfl
  · rw [hr (128 + q.val) _ (by dsimp only)]; rfl
  · rw [hr (192 + q.val) _ (by dsimp only)]; rfl

end Cert.Natten.Krn
-- ==== Proof.Body.lean ====
module

public import proofs.«01_k».proof.Proof.Block

/-! One element of the kernel's output block, as a row of attention times the gate. -/

@[expose] public section
set_option maxRecDepth 16384

noncomputable section
namespace Cert.Natten.Krn
open Idealize.ShloMosaic Cert.KernelIdeal Cert.KernelIdeal.Gen

/-- The column of the band's row `i` and key column `k`. -/
def col (i : Fin 8) (k : Fin 64) : Fin 512 := ⟨i.val * 64 + k.val, by omega⟩

/-- Every band column is one of those. -/
theorem col_eq (c : Fin 512) : col ⟨c.val / 64, by omega⟩ ⟨c.val % 64, by omega⟩ = c := by
  apply Fin.ext; unfold col; dsimp only; omega

/-- A sum over the lanes of one head only. -/
theorem sum_lane (h : Fin 4) (f : Fin 256 → EReal) : ∑ l : Fin 256, (if l.val / 64 = h.val then f l else 0) = ∑ d, f (lane h d) := by
  rw [← Finset.sum_filter]
  refine Finset.sum_bij' (fun l _ => (⟨l.val % 64, by omega⟩ : Fin 64)) (fun d _ => lane h d) ?_ ?_ ?_ ?_ ?_
  · intro l _; exact Finset.mem_univ _
  · intro d _; simp only [Finset.mem_filter, Finset.mem_univ, true_and]; unfold lane; dsimp only; omega
  · intro l hl; simp only [Finset.mem_filter, Finset.mem_univ, true_and] at hl; apply Fin.ext; unfold lane; dsimp only; omega
  · intro d _; apply Fin.ext; unfold lane; dsimp only; omega
  · intro l hl
    simp only [Finset.mem_filter, Finset.mem_univ, true_and] at hl
    congr 1; apply Fin.ext; unfold lane; dsimp only; omega

/-- A stacked query row against a key: the head's own scores, scaled. -/
theorem stack_dot (x0 : FVec Ideal S1x64x256 .f32) (h : Fin 4) (q : Fin 64) (k : Fin 256 → EReal) :
    ∑ l, stackQ x0 (ix2 (row h q) l) * k l = (∑ d, x0 (ix3 0 q (lane h d)) * k (lane h d)) * eighth := by
  rw [sum_mul_const _ _ eighth_nonneg eighth_ne_top, ← sum_lane h fun l => x0 (ix3 0 q l) * k l * eighth]
  refine Finset.sum_congr rfl fun l _ => ?_
  rw [stack_at]
  split
  · rw [mul_assoc, mul_comm eighth, ← mul_assoc]
  · exact zero_mul _

/-- The band's score of a head's row. -/
theorem winPay_row (x0 : FVec Ideal S1x64x256 .f32) (kb : FVec Ideal S1x512x256 .f32) (ok : IVec S256x512 32) (bias : FVec Ideal S1x256x512 .f32)
    (h : Fin 4) (q : Fin 64) (c : Fin 512) :
    winPay x0 kb ok bias (ix2 (row h q) c)
      = (∑ d, x0 (ix3 0 q (lane h d)) * kb (ix3 0 c (lane h d))) * eighth
        + Scalar.select (IntOp.cmpi .ne (ok (ix2 (row h q) c)) 0#32) (bias (ix3 0 (row h q) c)) (⊥ : EReal) := by
  rw [winPay_at, stack_dot x0 h q fun l => kb (ix3 0 c l)]

/-- The context's score of a head's row. -/
theorem ctxPay_row (x0 : FVec Ideal S1x64x256 .f32) (kc : FVec Ideal S1x256x256 .f32) (h : Fin 4) (q : Fin 64) (c : Fin 256) :
    ctxPay x0 kc (ix2 (row h q) c) = (∑ d, x0 (ix3 0 q (lane h d)) * kc (ix3 0 c (lane h d))) * eighth := by
  rw [ctxPay_at, stack_dot x0 h q fun l => kc (ix3 0 c l)]

/-- One element of what the body stores, from the scores and values it reads. -/
theorem body_at (x0 : FVec Ideal S1x64x256 .f32) (kb vb : FVec Ideal S1x512x256 .f32) (g : FVec Ideal S1x64x256 .f32) (kc vc : FVec Ideal S1x256x256 .f32)
    (bias : FVec Ideal S1x256x512 .f32) (ok : IVec S256x512 32) (h : Fin 4) (q d : Fin 64)
    (s v : Fin 8 → Fin 64 → EReal) (t w : Fin 256 → EReal)
    (hs : ∀ i k, winPay x0 kb ok bias (ix2 (row h q) (col i k)) = s i k) (ht : ∀ k, ctxPay x0 kc (ix2 (row h q) k) = t k)
    (hv : ∀ i k, vb (ix3 0 (col i k) (lane h d)) = v i k) (hw : ∀ k, vc (ix3 0 k (lane h d)) = w k)
    (fs : ∀ i k, s i k ≠ ⊤) (ft : ∀ k, t k ≠ ⊤) (f0 : t 0 ≠ ⊥)
    (M : EReal) (hM : M = max hidden ((Finset.univ : Finset (Fin 768)).fold max hidden (cat s t))) :
    outPay (quoPay (valPay vb) (winPay x0 kb ok bias) (ctxPay x0 kc) vc) g (ix3 0 q (lane h d))
      = (∑ i, ∑ k, v i k * Ideal.div (Ideal.exp (s i k - M)) (∑ x, Ideal.exp (cat s t x - M))
          + ∑ k, w k * Ideal.div (Ideal.exp (t k - M)) (∑ x, Ideal.exp (cat s t x - M)))
        * (g (ix3 0 q (lane h d)) * Ideal.div 1 (1 + Ideal.exp (-g (ix3 0 q (lane h d))))) := by
  have hs' : ∀ c : Fin 512, winPay x0 kb ok bias (ix2 (row h q) c) = s ⟨c.val / 64, by omega⟩ ⟨c.val % 64, by omega⟩ := fun c => by
    rw [← hs, col_eq]
  have hv' : ∀ c : Fin 512, valPay vb (ix2 c (lane h d)) = v ⟨c.val / 64, by omega⟩ ⟨c.val % 64, by omega⟩ := fun c => by
    rw [valPay_at, ← hv, col_eq]
  rw [outPay_at, quoPay_at (M := M)]
  · simp only [hs', ht, hv', hw]
    rw [row_eq s v t w fs ft f0 M hM]
  · simp only [hs', ht]
    rw [hM, ← max_cat]

end Cert.Natten.Krn
-- ==== Proof.Windows.lean ====
module

public import proofs.«01_k».proof.Proof.Gen.KernelIdeal.Value
public import proofs.«01_k».proof.Proof.Body
public import Idealize.ShloMosaic.Lib.Pipeline.ValueKit
public import Idealize.ShloMosaic.Lib.Pipeline.Covers

@[expose] public section
set_option maxRecDepth 16384

noncomputable section
namespace Cert.Natten.Krn
open Idealize.ShloMosaic Idealize.ShloMosaic.TcCoe Idealize.ShloMosaic.Pipeline Cert.KernelIdeal Cert.KernelIdeal.Gen Cert.KernelIdeal.Value

variable (m : (ℓ : Loc nD τ sig) → Buf (Elt Ideal) ℓ)

/-- The batch element of a grid point. -/
def bAt (t : Fin cfg0.N) : Fin 8 := grid0.coords t 0
/-- The query row of a grid point. -/
def rAt (t : Fin cfg0.N) : Fin 64 := grid0.coords t 1

theorem off1_at (i : grid0.Coords) : k0_off1 i = ![0, 64 * rowLo (i 1), 0] := by
  have key : ∀ r : Fin 64, (Scalar.indexCast (Scalar.muli (Scalar.minsi 56#32 (Scalar.maxsi 0#32 (Scalar.subi (BitVec.ofNat 32 r.val) 4#32))) 64#32)).toNat = 64 * rowLo r := by
    decide +kernel
  unfold k0_off1
  exact congrArg (fun n => ![0, n, 0]) (key (i 1))

theorem off2_at (i : grid0.Coords) : k0_off2 i = ![rowLo (i 1) + 7 - (i 1).val, 0, 0] := by
  have key : ∀ r : Fin 64, (Scalar.indexCast (Scalar.subi (Scalar.addi (Scalar.subi (Scalar.minsi 56#32 (Scalar.maxsi 0#32 (Scalar.subi (BitVec.ofNat 32 r.val) 4#32))) (BitVec.ofNat 32 r.val)) 8#32) 1#32)).toNat = rowLo r + 7 - r.val := by
    decide +kernel
  unfold k0_off2
  exact congrArg (fun n => ![n, 0, 0]) (key (i 1))

theorem off1_t (t : Fin cfg0.N) : k0_off1 (grid0.coords t) = ![0, 64 * rowLo (rAt t), 0] := off1_at _
theorem off2_t (t : Fin cfg0.N) : k0_off2 (grid0.coords t) = ![rowLo (rAt t) + 7 - (rAt t).val, 0, 0] := off2_at _

theorem w32 (n : Nat) (h : n < 4096) : (BitVec.ofNat 32 n).toNat = n := by
  rw [BitVec.toNat_ofNat]; omega

theorem ix_bAt (t : Fin cfg0.N) : (BitVec.ofNat 32 (grid0.coords t 0).val).toNat = (bAt t).val := w32 _ (by have := (bAt t).isLt; unfold bAt at this; omega)
theorem ix_rAt (t : Fin cfg0.N) : (BitVec.ofNat 32 (grid0.coords t 1).val).toNat = (rAt t).val := w32 _ (by have := (rAt t).isLt; unfold rAt at this; omega)

theorem ix8_0 (t : Fin cfg0.N) : win0_8.index t 0 = (bAt t).val := ix_bAt t
theorem ix8_1 (t : Fin cfg0.N) : win0_8.index t 1 = (rAt t).val := ix_rAt t
theorem ix8_2 (t : Fin cfg0.N) : win0_8.index t 2 = 0 := rfl
theorem ix0_0 (t : Fin cfg0.N) : win0_0.index t 0 = (bAt t).val := ix_bAt t
theorem ix0_1 (t : Fin cfg0.N) : win0_0.index t 1 = (rAt t).val := ix_rAt t
theorem ix0_2 (t : Fin cfg0.N) : win0_0.index t 2 = 0 := rfl
theorem ix1_0 (t : Fin cfg0.N) : win0_1.index t 0 = (bAt t).val := ix_bAt t
theorem ix1_1 (t : Fin cfg0.N) : win0_1.index t 1 = 0 := rfl
theorem ix1_2 (t : Fin cfg0.N) : win0_1.index t 2 = 1 := rfl
theorem ix2_0 (t : Fin cfg0.N) : win0_2.index t 0 = (bAt t).val := ix_bAt t
theorem ix2_1 (t : Fin cfg0.N) : win0_2.index t 1 = 0 := rfl
theorem ix2_2 (t : Fin cfg0.N) : win0_2.index t 2 = 2 := rfl
theorem ix3_0 (t : Fin cfg0.N) : win0_3.index t 0 = (bAt t).val := ix_bAt t
theorem ix3_1 (t : Fin cfg0.N) : win0_3.index t 1 = (rAt t).val := ix_rAt t
theorem ix3_2 (t : Fin cfg0.N) : win0_3.index t 2 = 3 := rfl
theorem ix4_0 (t : Fin cfg0.N) : win0_4.index t 0 = (bAt t).val := ix_bAt t
theorem ix4_1 (t : Fin cfg0.N) : win0_4.index t 1 = 0 := rfl
theorem ix4_2 (t : Fin cfg0.N) : win0_4.index t 2 = 1 := rfl
theorem ix5_0 (t : Fin cfg0.N) : win0_5.index t 0 = (bAt t).val := ix_bAt t
theorem ix5_1 (t : Fin cfg0.N) : win0_5.index t 1 = 0 := rfl
theorem ix5_2 (t : Fin cfg0.N) : win0_5.index t 2 = 2 := rfl
theorem ix6_0 (t : Fin cfg0.N) : win0_6.index t 0 = 0 := rfl
theorem ix6_1 (t : Fin cfg0.N) : win0_6.index t 1 = 0 := rfl
theorem ix6_2 (t : Fin cfg0.N) : win0_6.index t 2 = 0 := rfl
theorem ix7_0 (t : Fin cfg0.N) : win0_7.index t 0 = 0 := rfl
theorem ix7_1 (t : Fin cfg0.N) : win0_7.index t 1 = 0 := rfl

theorem covers8 : (cfg0.win 8).Covers := by
  refine (cfg0.win 8).covers_of_indexMap_surj rfl (by decide) fun β => ?_
  have hβ0 : (β 0).val < 8 := (β 0).isLt
  have hβ1 : (β 1).val < 64 := (β 1).isLt
  have hβ2 : (β 2).val < 1 := (β 2).isLt
  refine ⟨fun a => match a with | ⟨0, _⟩ => ⟨(β 0).val, hβ0⟩ | ⟨1, _⟩ => ⟨(β 1).val, hβ1⟩, fun a => ?_⟩
  match a with
  | ⟨0, _⟩ => exact w32 (β 0).val (by omega)
  | ⟨1, _⟩ => exact w32 (β 1).val (by omega)
  | ⟨2, _⟩ => exact (Nat.lt_one_iff.1 hβ2).symm

/-- The query block. -/
theorem q_blk (c : Dev nD) (t : Fin cfg0.N) (q : Fin 64) (l : Fin 256) :
    iblk m c 0 t (ix3 0 q l) = m ((c : Thread nD τ).loc main_arg0) (ix3 (bAt t) (tok (rAt t) q) ⟨l.val, by omega⟩) := by
  blk_ext [iblk, V_main_arg0, ix0_0, ix0_1, ix0_2, tok]

/-- The band's keys. -/
theorem k_blk (c : Dev nD) (t : Fin cfg0.N) (i : Fin 8) (k : Fin 64) (l : Fin 256) :
    View.ld (iblk m c 1 t) (Rect.unit (s := S1x4096x256) (k0_off1 (grid0.coords t)) S1x512x256.size (k0_off1_inb _)) (ix3 0 (col i k) l)
      = m ((c : Thread nD τ).loc main_arg0) (ix3 (bAt t) (tok (bandRow (rAt t) i) k) ⟨256 + l.val, by omega⟩) := by
  show iblk m c 1 t ((Rect.unit (s := S1x4096x256) (k0_off1 (grid0.coords t)) S1x512x256.size (k0_off1_inb _)).emb (ix3 0 (col i k) l)) = _
  blk_ext [iblk, V_main_arg0, ix1_0, ix1_1, ix1_2, tok, off1_t, col, bandRow]

/-- The band's values. -/
theorem v_blk (c : Dev nD) (t : Fin cfg0.N) (i : Fin 8) (k : Fin 64) (l : Fin 256) :
    View.ld (iblk m c 2 t) (Rect.unit (s := S1x4096x256) (k0_off1 (grid0.coords t)) S1x512x256.size (k0_off1_inb _)) (ix3 0 (col i k) l)
      = m ((c : Thread nD τ).loc main_arg0) (ix3 (bAt t) (tok (bandRow (rAt t) i) k) ⟨512 + l.val, by omega⟩) := by
  show iblk m c 2 t ((Rect.unit (s := S1x4096x256) (k0_off1 (grid0.coords t)) S1x512x256.size (k0_off1_inb _)).emb (ix3 0 (col i k) l)) = _
  blk_ext [iblk, V_main_arg0, ix2_0, ix2_1, ix2_2, tok, off1_t, col, bandRow]

/-- The gate's block. -/
theorem g_blk (c : Dev nD) (t : Fin cfg0.N) (q : Fin 64) (l : Fin 256) :
    iblk m c 3 t (ix3 0 q l) = m ((c : Thread nD τ).loc main_arg0) (ix3 (bAt t) (tok (rAt t) q) ⟨768 + l.val, by omega⟩) := by
  blk_ext [iblk, V_main_arg0, ix3_0, ix3_1, ix3_2, tok]

/-- The context's keys. -/
theorem kc_blk (c : Dev nD) (t : Fin cfg0.N) (k : Fin 256) (l : Fin 256) :
    iblk m c 4 t (ix3 0 k l) = m ((c : Thread nD τ).loc main_arg1) (ix3 (bAt t) k ⟨256 + l.val, by omega⟩) := by
  blk_ext [iblk, V_main_arg1, ix4_0, ix4_1, ix4_2]

/-- The context's values. -/
theorem vc_blk (c : Dev nD) (t : Fin cfg0.N) (k : Fin 256) (l : Fin 256) :
    iblk m c 5 t (ix3 0 k l) = m ((c : Thread nD τ).loc main_arg1) (ix3 (bAt t) k ⟨512 + l.val, by omega⟩) := by
  blk_ext [iblk, V_main_arg1, ix5_0, ix5_1, ix5_2]

/-- The bias table's slice for the row. -/
theorem bias_blk (c : Dev nD) (t : Fin cfg0.N) (R : Fin 256) (k : Fin 512) :
    View.ld (iblk m c 6 t) (Rect.unit (s := S8x256x512) (k0_off2 (grid0.coords t)) S1x256x512.size (k0_off2_inb _)) (ix3 0 R k)
      = V m c main_v52 (ix3 ⟨rowLo (rAt t) + 7 - (rAt t).val, by unfold rowLo; omega⟩ R k) := by
  show iblk m c 6 t ((Rect.unit (s := S8x256x512) (k0_off2 (grid0.coords t)) S1x256x512.size (k0_off2_inb _)).emb (ix3 0 R k)) = _
  blk_ext [iblk, ix6_0, ix6_1, ix6_2, off2_t]

/-- The mask's table. -/
theorem ok_blk (c : Dev nD) (t : Fin cfg0.N) (R : Fin 256) (k : Fin 512) :
    iblk m c 7 t (ix2 R k) = V m c main_v53 (ix2 R k) := by
  blk_ext [iblk, ix7_0, ix7_1]

/-- Where an element of the output block goes. -/
theorem out_emb (t : Fin cfg0.N) (q : Fin 64) (l : Fin 256) : (win0_8.blk t).view.emb (ix3 0 q l) = ix3 (bAt t) (tok (rAt t) q) l := by
  blk_ext [ix8_0, ix8_1, ix8_2, tok]

end Cert.Natten.Krn
-- ==== Proof.Gathers.lean ====
module

public import proofs.«01_k».proof.Proof.Gen.ReferenceIdeal
public import proofs.«01_k».proof.Proof.Gen.KernelIdeal
public import Idealize.ShloMosaic.Lib.Pointwise

/-! What the four table lookups of the two programs read: each result element is one element of the table, named by the
index words. -/

@[expose] public section
set_option maxRecDepth 16384

noncomputable section
namespace Cert.Natten
open Idealize.ShloMosaic

/-- A small natural held in a word and read signed is that natural. -/
theorem toInt_small (n : Nat) (h : n < 2 ^ 31) : (BitVec.ofNat 32 n).toInt = n := by
  rw [BitVec.toInt_eq_toNat_of_lt]
  · simp only [BitVec.toNat_ofNat]; omega
  · simp only [BitVec.toNat_ofNat]; omega

section Ref
open Cert.ReferenceIdeal Cert.ReferenceIdeal.Gen

/-- The reference's lookup of whole rows of keys or values: at row number `R`, the row `R` of the table. -/
theorem gather_rows (x : S8x64x64x4x64.Idx → EReal) (idx : IVec S64x8x1 32) (b : Fin 8) (r : Fin 64) (i : Fin 8) (k : Fin 64)
    (h : Fin 4) (d : Fin 64) (R : Fin 64) (hR : idx (ix3 r i 0) = BitVec.ofNat 32 R.val) :
    Host.gather gather_S8x64x64x4x64_S64x8x1_S8x64x8x64x4x64_0345_1_n_n_1_2_8164464 x idx (ix6 b r i k h d) = x (ix5 b R k h d) := by
  unfold Host.gather
  refine congrArg x (funext fun a => Fin.ext ?_)
  match a with
  | ⟨0, _⟩ => exact Nat.zero_add _
  | ⟨1, _⟩ =>
    have hsi : gather_S8x64x64x4x64_S64x8x1_S8x64x8x64x4x64_0345_1_n_n_1_2_8164464.siIdx (ix6 b r i k h d) ⟨0, by decide⟩ = ix3 r i 0 := by
      funext b'; refine Fin.ext ?_
      match b' with
      | ⟨0, _⟩ => rfl
      | ⟨1, _⟩ => rfl
      | ⟨2, _⟩ => rfl
    show min (idx (gather_S8x64x64x4x64_S64x8x1_S8x64x8x64x4x64_0345_1_n_n_1_2_8164464.siIdx (ix6 b r i k h d) ⟨0, by decide⟩)).toInt.toNat 63 + 0 + 0 = R.val
    rw [hsi, hR, toInt_small _ (by omega)]; omega
  | ⟨2, _⟩ => exact Nat.zero_add _
  | ⟨3, _⟩ => exact Nat.zero_add _
  | ⟨4, _⟩ => exact Nat.zero_add _

/-- The reference's lookup in the bias table by pairs of index words. -/
theorem gather_pairs (x : S4x15x31.Idx → EReal) (idx : IVec S64x64x8x64x2 32) (h : Fin 4) (r q : Fin 64) (i : Fin 8) (k : Fin 64)
    (u : Fin 15) (v : Fin 31) (hu : idx (ix5 r q i k 0) = BitVec.ofNat 32 u.val) (hv : idx (ix5 r q i k 1) = BitVec.ofNat 32 v.val) :
    Host.gather gather_S4x15x31_S64x64x8x64x2_S4x64x64x8x64_0_12_n_n_12_4_411 x idx (ix5 h r q i k) = x (ix3 h u v) := by
  unfold Host.gather
  refine congrArg x (funext fun a => Fin.ext ?_)
  have hsi : ∀ (n : Fin 2), gather_S4x15x31_S64x64x8x64x2_S4x64x64x8x64_0_12_n_n_12_4_411.siIdx (ix5 h r q i k) n = ix5 r q i k n := by
    intro n; funext b'; refine Fin.ext ?_
    match b' with
    | ⟨0, _⟩ => rfl
    | ⟨1, _⟩ => rfl
    | ⟨2, _⟩ => rfl
    | ⟨3, _⟩ => rfl
    | ⟨4, _⟩ => rfl
  match a with
  | ⟨0, _⟩ => exact Nat.zero_add _
  | ⟨1, _⟩ =>
    show min (idx (gather_S4x15x31_S64x64x8x64x2_S4x64x64x8x64_0_12_n_n_12_4_411.siIdx (ix5 h r q i k) (0 : Fin 2))).toInt.toNat 14 + 0 + 0 = u.val
    rw [hsi, hu, toInt_small _ (by omega)]; omega
  | ⟨2, _⟩ =>
    show min (idx (gather_S4x15x31_S64x64x8x64x2_S4x64x64x8x64_0_12_n_n_12_4_411.siIdx (ix5 h r q i k) (1 : Fin 2))).toInt.toNat 30 + 0 + 0 = v.val
    rw [hsi, hv, toInt_small _ (by omega)]; omega
end Ref

section Ker
open Cert.KernelIdeal Cert.KernelIdeal.Gen

/-- The kernel's lookup of the bias table's rows. -/
theorem gather_drow (x : S4x15x31.Idx → EReal) (idx : IVec S8x8x1 32) (h : Fin 4) (a i : Fin 8) (v : Fin 31)
    (u : Fin 15) (hu : idx (ix3 a i 0) = BitVec.ofNat 32 u.val) :
    Host.gather gather_S4x15x31_S8x8x1_S4x8x8x31_03_1_n_n_1_2_4131 x idx (ix4 h a i v) = x (ix3 h u v) := by
  unfold Host.gather
  refine congrArg x (funext fun a' => Fin.ext ?_)
  match a' with
  | ⟨0, _⟩ => exact Nat.zero_add _
  | ⟨1, _⟩ =>
    have hsi : gather_S4x15x31_S8x8x1_S4x8x8x31_03_1_n_n_1_2_4131.siIdx (ix4 h a i v) ⟨0, by decide⟩ = ix3 a i 0 := by
      funext b'; refine Fin.ext ?_
      match b' with
      | ⟨0, _⟩ => rfl
      | ⟨1, _⟩ => rfl
      | ⟨2, _⟩ => rfl
    show min (idx (gather_S4x15x31_S8x8x1_S4x8x8x31_03_1_n_n_1_2_4131.siIdx (ix4 h a i v) ⟨0, by decide⟩)).toInt.toNat 14 + 0 + 0 = u.val
    rw [hsi, hu, toInt_small _ (by omega)]; omega
  | ⟨2, _⟩ => exact Nat.zero_add _

/-- The kernel's lookup of the bias table's columns. -/
theorem gather_dcol (x : S4x8x8x31.Idx → EReal) (idx : IVec S64x64x1 32) (h : Fin 4) (a i : Fin 8) (q k : Fin 64)
    (v : Fin 31) (hv : idx (ix3 q k 0) = BitVec.ofNat 32 v.val) :
    Host.gather gather_S4x8x8x31_S64x64x1_S4x8x8x64x64_012_3_n_n_3_2_4881 x idx (ix5 h a i q k) = x (ix4 h a i v) := by
  unfold Host.gather
  refine congrArg x (funext fun a' => Fin.ext ?_)
  match a' with
  | ⟨0, _⟩ => exact Nat.zero_add _
  | ⟨1, _⟩ => exact Nat.zero_add _
  | ⟨2, _⟩ => exact Nat.zero_add _
  | ⟨3, _⟩ =>
    have hsi : gather_S4x8x8x31_S64x64x1_S4x8x8x64x64_012_3_n_n_3_2_4881.siIdx (ix5 h a i q k) ⟨0, by decide⟩ = ix3 q k 0 := by
      funext b'; refine Fin.ext ?_
      match b' with
      | ⟨0, _⟩ => rfl
      | ⟨1, _⟩ => rfl
      | ⟨2, _⟩ => rfl
    show min (idx (gather_S4x8x8x31_S64x64x1_S4x8x8x64x64_012_3_n_n_3_2_4881.siIdx (ix5 h a i q k) ⟨0, by decide⟩)).toInt.toNat 30 + 0 + 0 = v.val
    rw [hsi, hv, toInt_small _ (by omega)]; omega
end Ker
end Cert.Natten
-- ==== Proof.Tables.lean ====
module

public import proofs.«01_k».proof.Proof.Gen.KernelIdeal.Frame
public import proofs.«01_k».proof.Proof.Body
public import proofs.«01_k».proof.Proof.Gathers
public import Idealize.ShloMosaic.Lib.StableHlo.ReadAt

/-! The kernel's two host tables, bias and mask, read at an index. -/

@[expose] public section
set_option maxRecDepth 16384

noncomputable section
namespace Cert.Natten.Krn
open Idealize.ShloMosaic Idealize.ShloMosaic.TcCoe Idealize.ShloMosaic.Pipeline Cert.KernelIdeal Cert.KernelIdeal.Gen

variable (m : (ℓ : Loc nD τ sig) → Buf (Elt Ideal) ℓ)

theorem row_div (h : Fin 4) (q : Fin 64) : (row h q).val / 64 = h.val := by unfold row; dsimp only; omega
theorem row_mod (h : Fin 4) (q : Fin 64) : (row h q).val % 64 = q.val := by unfold row; dsimp only; omega
theorem col_div (i : Fin 8) (k : Fin 64) : (col i k).val / 64 = i.val := by unfold col; dsimp only; omega
theorem col_mod (i : Fin 8) (k : Fin 64) : (col i k).val % 64 = k.val := by unfold col; dsimp only; omega

/-- The mask's table at an index: whether the key column lies in the query column's window. -/
theorem ok_at (c : Dev nD) (h : Fin 4) (q : Fin 64) (i : Fin 8) (k : Fin 64) :
    IntOp.cmpi .ne ((V m c main_v53 : S256x512.Idx → BitVec 32) (ix2 (row h q) (col i k))) 0#32 = BitVec.ofBool (inCols q k) := by
  have e : (V m c main_v53 : S256x512.Idx → BitVec 32) (ix2 (row h q) (col i k)) = BitVec.ofNat 32 (inCols q k).toNat := by
    unfold V
    after_reads_at
    rw [row_mod, col_mod]
    revert q k
    decide +kernel
  rw [e]
  cases inCols q k <;> rfl

/-- The bias table at an index: the bias of the row offset and the column offset. -/
theorem bias_at (c : Dev nD) (a : Fin 8) (h : Fin 4) (q : Fin 64) (i : Fin 8) (k : Fin 64) :
    (V m c main_v52 : S8x256x512.Idx → EReal) (ix3 a (row h q) (col i k)) = m ((c : Thread nD τ).loc main_arg2) (ix3 h ⟨a.val + i.val, by omega⟩ (biasCol q k)) := by
  unfold V
  after_reads_at
  have e : ∀ (p1 : (row h q).val / 64 < 4) (p2 : (col i k).val / 64 < 8) (p3 : (row h q).val % 64 < 64) (p4 : (col i k).val % 64 < 64),
      ix5 (n0 := 4) (n1 := 8) (n2 := 8) (n3 := 64) (n4 := 64) ⟨(row h q).val / 64, p1⟩ a ⟨(col i k).val / 64, p2⟩ ⟨(row h q).val % 64, p3⟩ ⟨(col i k).val % 64, p4⟩ = ix5 h a i q k := by
    intros
    simp only [row_div, row_mod, col_div, col_mod]
  rw [e, gather_dcol _ _ h a i q k (biasCol q k), gather_drow _ _ h a i (biasCol q k) ⟨a.val + i.val, by omega⟩]
  · pointwise
    clear e
    revert a i
    decide +kernel
  · pointwise
    clear e
    revert q k
    decide +kernel

end Cert.Natten.Krn
-- ==== Proof.RefStages.lean ====
module

public import proofs.«01_k».proof.Proof.Gen.ReferenceIdeal.Run
public import Idealize.ShloMosaic.Lib.Pointwise

/-! The reference's result, cut into named stages: index words, scores, softmax, weighted values. -/

@[expose] public section
set_option maxRecDepth 16384

noncomputable section
namespace Cert.Natten.Ref
open Idealize.ShloMosaic Cert.ReferenceIdeal Cert.ReferenceIdeal.Gen

/-- First row of the window of each query row. -/
def rowStart : IVec S64 32 :=
  minsi (broadcastInDim S64 ![] bcast_S_S64 (id (constantI S_ 32 56#32)))
    (maxsi (broadcastInDim S64 ![] bcast_S_S64 (id (constantI S_ 32 0#32)))
      (subi (iotaInDim S64 32 0) (broadcastInDim S64 ![] bcast_S_S64 (constantI S_ 32 4#32))))

/-- First column of the window of each query column. -/
def colStart : IVec S64 32 :=
  minsi (broadcastInDim S64 ![] bcast_S_S64 (id (constantI S_ 32 48#32)))
    (maxsi (broadcastInDim S64 ![] bcast_S_S64 (id (constantI S_ 32 0#32)))
      (subi (iotaInDim S64 32 0) (broadcastInDim S64 ![] bcast_S_S64 (constantI S_ 32 8#32))))

/-- The eight rows of each query row's window. -/
def bandRows : IVec S64x8 32 :=
  addi (broadcastInDim S64x8 ![0, 1] bcast_S64x1_S64x8_0_1 (broadcastInDim S64x1 ![0] bcast_S64_S64x1_0 rowStart))
    (broadcastInDim S64x8 ![0, 1] bcast_S1x8_S64x8_0_1 (broadcastInDim S1x8 ![1] bcast_S8_S1x8_1 (iotaInDim S8 32 0)))

/-- The same as lookup words. -/
def bandIdx : IVec S64x8x1 32 :=
  broadcastInDim S64x8x1 ![0, 1] bcast_S64x8_S64x8x1_0_1
    (select (cmpi .slt bandRows (broadcastInDim S64x8 ![] bcast_S_S64x8 (constantI S_ 32 0#32)))
      (addi bandRows (broadcastInDim S64x8 ![] bcast_S_S64x8 (constantI S_ 32 64#32))) bandRows)

/-- Which key columns lie in which query column's window. -/
def colOk : IVec S64x64 1 :=
  andi
    (cmpi .sge (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (broadcastInDim S64x1 ![0] bcast_S64_S64x1_0 colStart)))
    (cmpi .slt (broadcastInDim S64x64 ![0, 1] bcast_S1x64_S64x64_0_1 (broadcastInDim S1x64 ![1] bcast_S64_S1x64_1 (iotaInDim S64 32 0)))
      (broadcastInDim S64x64 ![0, 1] bcast_S64x1_S64x64_0_1
        (addi (broadcastInDim S64x1 ![0] bcast_S64_S64x1_0 colStart) (broadcastInDim S64x1 ![] bcast_S_S64x1 (constantI S_ 32 16#32)))))

/-- Row offset words of the bias lookup, before the wrap. -/
def dRow : IVec S64x1x8x1 32 :=
  addi (broadcastInDim S64x1x8x1 ![0, 2] bcast_S64x8_S64x1x8x1_0_2
      (subi bandRows (broadcastInDim S64x8 ![0, 1] bcast_S64x1_S64x8_0_1 (broadcastInDim S64x1 ![0] bcast_S64_S64x1_0 (iotaInDim S64 32 0)))))
    (broadcastInDim S64x1x8x1 ![] bcast_S_S64x1x8x1 (constantI S_ 32 7#32))

/-- Column offset words of the bias lookup, before the wrap. -/
def dCol : IVec S1x64x1x64 32 :=
  addi (broadcastInDim S1x64x1x64 ![1, 3] bcast_S64x64_S1x64x1x64_1_3
      (minsi (broadcastInDim S64x64 ![] bcast_S_S64x64 (id (constantI S_ 32 15#32)))
        (maxsi (broadcastInDim S64x64 ![] bcast_S_S64x64 (id (constantI S_ 32 4294967281#32)))
          (subi (broadcastInDim S64x64 ![0, 1] bcast_S1x64_S64x64_0_1 (broadcastInDim S1x64 ![1] bcast_S64_S1x64_1 (iotaInDim S64 32 0)))
            (broadcastInDim S64x64 ![0, 1] bcast_S64x1_S64x64_0_1 (broadcastInDim S64x1 ![0] bcast_S64_S64x1_0 (iotaInDim S64 32 0)))))))
    (broadcastInDim S1x64x1x64 ![] bcast_S_S1x64x1x64 (constantI S_ 32 15#32))

/-- The bias lookup's pairs of words. -/
def pairIdx : IVec S64x64x8x64x2 32 :=
  Value.fn_main_v87 (F := Ideal)
    (broadcastInDim S64x64x8x64x1 ![0, 1, 2, 3] bcast_S64x64x8x64_S64x64x8x64x1_0_1_2_3
      (broadcastInDim S64x64x8x64 ![0, 1, 2, 3] bcast_S64x1x8x1_S64x64x8x64_0_1_2_3
        (select (cmpi .slt dRow (broadcastInDim S64x1x8x1 ![] bcast_S_S64x1x8x1 (constantI S_ 32 0#32)))
          (addi dRow (broadcastInDim S64x1x8x1 ![] bcast_S_S64x1x8x1 (constantI S_ 32 15#32))) dRow)))
    (broadcastInDim S64x64x8x64x1 ![0, 1, 2, 3] bcast_S64x64x8x64_S64x64x8x64x1_0_1_2_3
      (broadcastInDim S64x64x8x64 ![0, 1, 2, 3] bcast_S1x64x1x64_S64x64x8x64_0_1_2_3
        (select (cmpi .slt dCol (broadcastInDim S1x64x1x64 ![] bcast_S_S1x64x1x64 (constantI S_ 32 0#32)))
          (addi dCol (broadcastInDim S1x64x1x64 ![] bcast_S_S1x64x1x64 (constantI S_ 32 31#32))) dCol)))

/-- The bias of every query row, query column, window row and key column. -/
def biasT (a2 : FVec Ideal S4x15x31 .f32) : FVec Ideal S4x64x64x8x64 .f32 :=
  Host.gather gather_S4x15x31_S64x64x8x64x2_S4x64x64x8x64_0_12_n_n_12_4_411 a2 pairIdx

/-- The queries, split by rows and heads. -/
def qT (a0 : FVec Ideal S8x4096x1024 .f32) : FVec Ideal S8x64x64x4x64 .f32 :=
  shapeCast _ (shapeCast _ (extractStridedSlice S8x4096x256 ![0, 0, 0] a0 slices_S8x4096x1024_S8x4096x256_0_0_0) shapeCasts_S8x4096x256_S8x4096x4x64) shapeCasts_S8x4096x4x64_S8x64x64x4x64

/-- The keys of each row's window. -/
def kT (a0 : FVec Ideal S8x4096x1024 .f32) : FVec Ideal S8x64x8x64x4x64 .f32 :=
  Host.gather gather_S8x64x64x4x64_S64x8x1_S8x64x8x64x4x64_0345_1_n_n_1_2_8164464
    (shapeCast S8x64x64x4x64 (shapeCast _ (extractStridedSlice S8x4096x256 ![0, 0, 256] a0 slices_S8x4096x1024_S8x4096x256_0_0_256) shapeCasts_S8x4096x256_S8x4096x4x64) shapeCasts_S8x4096x4x64_S8x64x64x4x64) bandIdx

/-- The values of each row's window. -/
def vT (a0 : FVec Ideal S8x4096x1024 .f32) : FVec Ideal S8x64x8x64x4x64 .f32 :=
  Host.gather gather_S8x64x64x4x64_S64x8x1_S8x64x8x64x4x64_0345_1_n_n_1_2_8164464
    (shapeCast S8x64x64x4x64 (shapeCast _ (extractStridedSlice S8x4096x256 ![0, 0, 512] a0 slices_S8x4096x1024_S8x4096x256_0_0_512) shapeCasts_S8x4096x256_S8x4096x4x64) shapeCasts_S8x4096x4x64_S8x64x64x4x64) bandIdx

/-- The context keys, split by heads. -/
def kcT (a1 : FVec Ideal S8x256x1024 .f32) : FVec Ideal S8x256x4x64 .f32 :=
  shapeCast _ (extractStridedSlice S8x256x256 ![0, 0, 256] a1 slices_S8x256x1024_S8x256x256_0_0_256) shapeCasts_S8x256x256_S8x256x4x64

/-- The context values, split by heads. -/
def vcT (a1 : FVec Ideal S8x256x1024 .f32) : FVec Ideal S8x256x4x64 .f32 :=
  shapeCast _ (extractStridedSlice S8x256x256 ![0, 0, 512] a1 slices_S8x256x1024_S8x256x256_0_0_512) shapeCasts_S8x256x256_S8x256x4x64

/-- The window's scores, the columns outside the window masked. -/
def winScore (a0 : FVec Ideal S8x4096x1024 .f32) (a2 : FVec Ideal S4x15x31 .f32) : FVec Ideal S8x4x64x64x8x64 .f32 :=
  select (broadcastInDim S8x4x64x64x8x64 ![0, 1, 2, 3, 4, 5] bcast_S1x1x1x64x1x64_S8x4x64x64x8x64_0_1_2_3_4_5
      (broadcastInDim S1x1x1x64x1x64 ![3, 5] bcast_S64x64_S1x1x1x64x1x64_3_5 colOk))
    (addf (mulf (Host.dotGeneral dot_S8x64x64x4x64_S8x64x8x64x4x64_S8x4x64x64x8x64_4_5_2_23_031_041 none (qT a0) (kT a0))
        (broadcastInDim S8x4x64x64x8x64 ![] bcast_S_S8x4x64x64x8x64 (constant S_ .f32 0x3E000000#32)))
      (broadcastInDim S8x4x64x64x8x64 ![0, 1, 2, 3, 4, 5] bcast_S1x4x64x64x8x64_S8x4x64x64x8x64_0_1_2_3_4_5
        (broadcastInDim S1x4x64x64x8x64 ![1, 2, 3, 4, 5] bcast_S4x64x64x8x64_S1x4x64x64x8x64_1_2_3_4_5 (biasT a2))))
    (broadcastInDim S8x4x64x64x8x64 ![] bcast_S_S8x4x64x64x8x64 (id (constant S_ .f32 0xFF800000#32)))

/-- The context's scores. -/
def ctxScore (a0 : FVec Ideal S8x4096x1024 .f32) (a1 : FVec Ideal S8x256x1024 .f32) : FVec Ideal S8x4x64x64x256 .f32 :=
  mulf (Host.dotGeneral dot_S8x64x64x4x64_S8x256x4x64_S8x4x64x64x256_4_3_12_1_03_02 none (qT a0) (kcT a1))
    (broadcastInDim S8x4x64x64x256 ![] bcast_S_S8x4x64x64x256 (constant S_ .f32 0x3E000000#32))

/-- All scores, the window's then the context's. -/
def scores (a0 : FVec Ideal S8x4096x1024 .f32) (a1 : FVec Ideal S8x256x1024 .f32) (a2 : FVec Ideal S4x15x31 .f32) : FVec Ideal S8x4x64x64x768 .f32 :=
  Value.fn_main_v98 (F := Ideal) (shapeCast _ (winScore a0 a2) shapeCasts_S8x4x64x64x8x64_S8x4x64x64x512) (ctxScore a0 a1)

/-- Softmax over the last axis: the largest score. -/
def rowMax (s : FVec Ideal S8x4x64x64x768 .f32) : FVec Ideal S8x4x64x64 .f32 :=
  Host.reduce FloatOps.maximumf s (constant S_ .f32 0xFF800000#32) reducesTo_S8x4x64x64x768_S8x4x64x64_d4 h_S_

/-- The same, with the minus infinity the softmax starts from. -/
def rowTop (M : FVec Ideal S8x4x64x64 .f32) : FVec Ideal S8x4x64x64 .f32 :=
  maximumf (broadcastInDim S8x4x64x64 ![] bcast_S_S8x4x64x64 (constant S_ .f32 0xFF800000#32)) M

/-- Softmax over the last axis: the exponentials below a given top. -/
def expoOf (s : FVec Ideal S8x4x64x64x768 .f32) (M : FVec Ideal S8x4x64x64 .f32) : FVec Ideal S8x4x64x64x768 .f32 :=
  Host.exp (subf s (broadcastInDim S8x4x64x64x768 ![0, 1, 2, 3, 4] bcast_S8x4x64x64x1_S8x4x64x64x768_0_1_2_3_4
    (broadcastInDim S8x4x64x64x1 ![0, 1, 2, 3] bcast_S8x4x64x64_S8x4x64x64x1_0_1_2_3 M)))

/-- Softmax over the last axis: the exponentials. -/
def expo (s : FVec Ideal S8x4x64x64x768 .f32) : FVec Ideal S8x4x64x64x768 .f32 := expoOf s (rowTop (rowMax s))

/-- Softmax over the last axis: the quotients. -/
def soft (e : FVec Ideal S8x4x64x64x768 .f32) : FVec Ideal S8x4x64x64x768 .f32 :=
  Host.divf e (broadcastInDim S8x4x64x64x768 ![0, 1, 2, 3, 4] bcast_S8x4x64x64x1_S8x4x64x64x768_0_1_2_3_4
    (broadcastInDim S8x4x64x64x1 ![0, 1, 2, 3] bcast_S8x4x64x64_S8x4x64x64x1_0_1_2_3
      (Host.reduceAdd e (constant S_ .f32 0x00000000#32) reducesTo_S8x4x64x64x768_S8x4x64x64_d4 h_S_)))

/-- The weighted values. -/
def mix (v : FVec Ideal S8x64x8x64x4x64 .f32) (vc : FVec Ideal S8x256x4x64 .f32) (p : FVec Ideal S8x4x64x64x768 .f32) : FVec Ideal S8x4096x256 .f32 :=
  shapeCast _ (addf
    (transpose S8x64x64x4x64 [0, 1, 4, 2, 3]
      (Host.dotGeneral dot_S8x64x8x64x4x64_S8x4x64x64x8x64_S8x64x4x64x64_23_45_5_3_014_021 none v
        (shapeCast S8x4x64x64x8x64 (extractStridedSlice S8x4x64x64x512 ![0, 0, 0, 0, 0] p slices_S8x4x64x64x768_S8x4x64x64x512_0_0_0_0_0) shapeCasts_S8x4x64x64x512_S8x4x64x64x8x64))
      transposes_S8x64x4x64x64_S8x64x64x4x64_0_1_4_2_3)
    (transpose S8x64x64x4x64 [0, 3, 4, 1, 2]
      (Host.dotGeneral dot_S8x256x4x64_S8x4x64x64x256_S8x4x64x64x64_1_4_3_23_02_01 none vc
        (extractStridedSlice S8x4x64x64x256 ![0, 0, 0, 0, 512] p slices_S8x4x64x64x768_S8x4x64x64x256_0_0_0_0_512))
      transposes_S8x4x64x64x64_S8x64x64x4x64_0_3_4_1_2)) shapeCasts_S8x64x64x4x64_S8x4096x256

/-- The gate, `g · logistic g`. -/
def gate (a0 : FVec Ideal S8x4096x1024 .f32) : FVec Ideal S8x4096x256 .f32 :=
  let g := extractStridedSlice S8x4096x256 ![0, 0, 768] a0 slices_S8x4096x1024_S8x4096x256_0_0_768
  mulf g (Host.divf (broadcastInDim S8x4096x256 ![] bcast_S_S8x4096x256 (constant S_ .f32 0x3F800000#32))
    (addf (broadcastInDim S8x4096x256 ![] bcast_S_S8x4096x256 (constant S_ .f32 0x3F800000#32)) (Host.exp (Host.negf g))))

/-- The whole result. -/
def out (a0 : FVec Ideal S8x4096x1024 .f32) (a1 : FVec Ideal S8x256x1024 .f32) (a2 : FVec Ideal S4x15x31 .f32) : FVec Ideal S8x4096x256 .f32 :=
  mulf (mix (vT a0) (vcT a1) (soft (expo (scores a0 a1 a2)))) (gate a0)

/-- The printed reference's result is these stages composed. -/
theorem res_eq (m : (ℓ : Loc nD τ sig) → Buf (Elt Ideal) ℓ) (c : Dev nD) :
    Value.res_main_v120 m c = out (m ((c.tc : Thread nD τ).loc main_arg0)) (m ((c.tc : Thread nD τ).loc main_arg1)) (m ((c.tc : Thread nD τ).loc main_arg2)) := rfl

end Cert.Natten.Ref
-- ==== Proof.RefAt.lean ====
module

public import proofs.«01_k».proof.Proof.Softmax
public import proofs.«01_k».proof.Proof.Gathers
public import proofs.«01_k».proof.Proof.RefStages

/-! The reference's stages read at an index. -/

@[expose] public section
set_option maxRecDepth 16384

noncomputable section
namespace Cert.Natten.Ref
open Idealize.ShloMosaic Cert.ReferenceIdeal Cert.ReferenceIdeal.Gen

theorem rowStart_at (r : Fin 64) : rowStart (ix1 r) = BitVec.ofNat 32 (rowLo r) := by
  revert r; pointwise [rowStart]; decide +kernel

theorem colStart_at (q : Fin 64) : colStart (ix1 q) = BitVec.ofNat 32 (colLo q) := by
  revert q; pointwise [colStart]; decide +kernel

theorem bandRows_at (r : Fin 64) (i : Fin 8) : bandRows (ix2 r i) = BitVec.ofNat 32 (bandRow r i).val := by
  revert r i; pointwise [bandRows, rowStart_at]; decide +kernel

theorem bandIdx_at (r : Fin 64) (i : Fin 8) : bandIdx (ix3 r i 0) = BitVec.ofNat 32 (bandRow r i).val := by
  revert r i; pointwise [bandIdx, bandRows_at]; decide +kernel

theorem colOk_at (q k : Fin 64) : colOk (ix2 q k) = BitVec.ofBool (inCols q k) := by
  revert q k; pointwise [colOk, colStart_at]; decide +kernel

theorem dRow_at (r : Fin 64) (i : Fin 8) : dRow (ix4 r 0 i 0) = BitVec.ofNat 32 (biasRow r i).val := by
  revert r i; pointwise [dRow, bandRows_at]; decide +kernel

theorem dCol_at (q k : Fin 64) : dCol (ix4 0 q 0 k) = BitVec.ofNat 32 (biasCol q k).val := by
  revert q k; pointwise [dCol]; decide +kernel

theorem wrapRow : ∀ r : Fin 64, ∀ i : Fin 8, Scalar.select (IntOp.cmpi .slt (BitVec.ofNat 32 (biasRow r i).val) 0#32)
    (IntOp.addi (BitVec.ofNat 32 (biasRow r i).val) 15#32) (BitVec.ofNat 32 (biasRow r i).val) = BitVec.ofNat 32 (biasRow r i).val := by
  decide +kernel

theorem wrapCol : ∀ q k : Fin 64, Scalar.select (IntOp.cmpi .slt (BitVec.ofNat 32 (biasCol q k).val) 0#32)
    (IntOp.addi (BitVec.ofNat 32 (biasCol q k).val) 31#32) (BitVec.ofNat 32 (biasCol q k).val) = BitVec.ofNat 32 (biasCol q k).val := by
  decide +kernel

theorem pairIdx_row (r q : Fin 64) (i : Fin 8) (k : Fin 64) : pairIdx (ix5 r q i k 0) = BitVec.ofNat 32 (biasRow r i).val := by
  pointwise [pairIdx, Value.fn_main_v87, dRow_at]
  exact wrapRow r i

theorem pairIdx_col (r q : Fin 64) (i : Fin 8) (k : Fin 64) : pairIdx (ix5 r q i k 1) = BitVec.ofNat 32 (biasCol q k).val := by
  pointwise [pairIdx, Value.fn_main_v87, dCol_at]
  exact wrapCol q k

theorem biasT_at (a2 : FVec Ideal S4x15x31 .f32) (h : Fin 4) (r q : Fin 64) (i : Fin 8) (k : Fin 64) :
    biasT a2 (ix5 h r q i k) = a2 (ix3 h (biasRow r i) (biasCol q k)) :=
  gather_pairs a2 pairIdx h r q i k _ _ (pairIdx_row r q i k) (pairIdx_col r q i k)

/-- The queries at an index. -/
theorem qT_at (a0 : FVec Ideal S8x4096x1024 .f32) (b : Fin 8) (r q : Fin 64) (h : Fin 4) (d : Fin 64) :
    qT a0 (ix5 b r q h d) = qE a0 b r q h d := by
  pointwise [qT, qE, lane, tok]

/-- The window's keys at an index. -/
theorem kT_at (a0 : FVec Ideal S8x4096x1024 .f32) (b : Fin 8) (r : Fin 64) (i : Fin 8) (k : Fin 64) (h : Fin 4) (d : Fin 64) :
    kT a0 (ix6 b r i k h d) = kE a0 b (bandRow r i) k h d := by
  unfold kT
  rw [gather_rows _ _ b r i k h d (bandRow r i) (bandIdx_at r i)]
  pointwise [kE, lane, tok]

/-- The window's values at an index. -/
theorem vT_at (a0 : FVec Ideal S8x4096x1024 .f32) (b : Fin 8) (r : Fin 64) (i : Fin 8) (k : Fin 64) (h : Fin 4) (d : Fin 64) :
    vT a0 (ix6 b r i k h d) = vE a0 b (bandRow r i) k h d := by
  unfold vT
  rw [gather_rows _ _ b r i k h d (bandRow r i) (bandIdx_at r i)]
  pointwise [vE, lane, tok]

/-- The context's keys at an index. -/
theorem kcT_at (a1 : FVec Ideal S8x256x1024 .f32) (b : Fin 8) (k : Fin 256) (h : Fin 4) (d : Fin 64) :
    kcT a1 (ix4 b k h d) = kcE a1 b k h d := by
  pointwise [kcT, kcE, lane]

/-- The context's values at an index. -/
theorem vcT_at (a1 : FVec Ideal S8x256x1024 .f32) (b : Fin 8) (k : Fin 256) (h : Fin 4) (d : Fin 64) :
    vcT a1 (ix4 b k h d) = vcE a1 b k h d := by
  pointwise [vcT, vcE, lane]

/-- The window's scores at an index. -/
theorem winScore_at (a0 : FVec Ideal S8x4096x1024 .f32) (a2 : FVec Ideal S4x15x31 .f32) (b : Fin 8) (h : Fin 4) (r q : Fin 64) (i : Fin 8) (k : Fin 64) :
    winScore a0 a2 (ix6 b h r q i k) = winS a0 a2 b h r q i k := by
  pointwise [winScore, colOk_at, biasT_at, qT_at, kT_at]
  rfl

/-- The context's scores at an index. -/
theorem ctxScore_at (a0 : FVec Ideal S8x4096x1024 .f32) (a1 : FVec Ideal S8x256x1024 .f32) (b : Fin 8) (h : Fin 4) (r q : Fin 64) (k : Fin 256) :
    ctxScore a0 a1 (ix5 b h r q k) = ctxS a0 a1 b h r q k := by
  pointwise [ctxScore, qT_at, kcT_at]
  rfl

/-- All scores at an index: the window's on the first 512 places, then the context's. -/
theorem scores_at (a0 : FVec Ideal S8x4096x1024 .f32) (a1 : FVec Ideal S8x256x1024 .f32) (a2 : FVec Ideal S4x15x31 .f32) (b : Fin 8) (h : Fin 4) (r q : Fin 64) (x : Fin 768) :
    scores a0 a1 a2 (ix5 b h r q x) = if hx : x.val < 512
      then winS a0 a2 b h r q ⟨x.val / 64, by omega⟩ ⟨x.val % 64, by omega⟩ else ctxS a0 a1 b h r q ⟨x.val - 512, by omega⟩ := by
  pointwise [scores, Value.fn_main_v98, winScore_at, ctxScore_at]

/-- A maximum over the last of five axes, at an index, is the maximum along that axis. -/
theorem reduceMax_last {n0 n1 n2 n3 n4 : ℕ} (x : (⟨5, ![n0, n1, n2, n3, n4]⟩ : Shape).Idx → EReal) (init : (⟨0, ![]⟩ : Shape).Idx → EReal)
    (hr : (⟨5, ![n0, n1, n2, n3, n4]⟩ : Shape).ReducesTo [4] ⟨4, ![n0, n1, n2, n3]⟩) (hu : 0 < (⟨0, ![]⟩ : Shape).numel)
    (a : Fin n0) (b : Fin n1) (c : Fin n2) (d : Fin n3) :
    Host.reduce (FloatOps.maximumf (F := Ideal) (φ := .f32)) x init hr hu (ix4 a b c d)
      = (Finset.univ : Finset (Fin n4)).fold max (init ix0) (fun k => x (ix5 a b c d k)) := by
  pointwise
  rw [show Shape.Idx.first hu = ix0 from funext fun e => Fin.elim0 e]

/-- The largest score at an index, its start a constant's element. -/
theorem rowMax_unf (s : FVec Ideal S8x4x64x64x768 .f32) (b : Fin 8) (h : Fin 4) (r q : Fin 64) :
    rowMax s (ix4 b h r q) = (Finset.univ : Finset (Fin 768)).fold max ((constant (F := Ideal) S_ .f32 0xFF800000#32) ix0) fun y => s (ix5 b h r q y) := by
  unfold rowMax
  rw [reduceMax_last]

/-- The largest score at an index. -/
theorem rowMax_at (s : FVec Ideal S8x4x64x64x768 .f32) (b : Fin 8) (h : Fin 4) (r q : Fin 64) :
    rowMax s (ix4 b h r q) = (Finset.univ : Finset (Fin 768)).fold max hidden fun y => s (ix5 b h r q y) :=
  rowMax_unf s b h r q

/-- The top at an index. -/
theorem rowTop_at (M : FVec Ideal S8x4x64x64 .f32) (b : Fin 8) (h : Fin 4) (r q : Fin 64) :
    rowTop M (ix4 b h r q) = max hidden (M (ix4 b h r q)) := rfl

/-- The exponentials below a given top, at an index. -/
theorem expoOf_at (s : FVec Ideal S8x4x64x64x768 .f32) (M : FVec Ideal S8x4x64x64 .f32) (b : Fin 8) (h : Fin 4) (r q : Fin 64) (x : Fin 768) :
    expoOf s M (ix5 b h r q x) = Ideal.exp (s (ix5 b h r q x) - M (ix4 b h r q)) := by
  pointwise [expoOf]

/-- The softmax's exponentials at an index. -/
theorem expo_at (s : FVec Ideal S8x4x64x64x768 .f32) (b : Fin 8) (h : Fin 4) (r q : Fin 64) (x : Fin 768) :
    expo s (ix5 b h r q x) = Ideal.exp (s (ix5 b h r q x) - max hidden ((Finset.univ : Finset (Fin 768)).fold max hidden fun y => s (ix5 b h r q y))) := by
  unfold expo
  rw [expoOf_at, rowTop_at, rowMax_at]

/-- The softmax's quotients at an index. -/
theorem soft_at (s : FVec Ideal S8x4x64x64x768 .f32)  (b : Fin 8) (h : Fin 4) (r q : Fin 64) (x : Fin 768) :
    soft s (ix5 b h r q x) = Ideal.div (s (ix5 b h r q x)) (∑ y, s (ix5 b h r q y)) := by
  pointwise [soft]

/-- The weighted values at an index. -/
theorem mix_at (v : FVec Ideal S8x64x8x64x4x64 .f32) (vc : FVec Ideal S8x256x4x64 .f32) (p : FVec Ideal S8x4x64x64x768 .f32) (b : Fin 8) (r q : Fin 64) (h : Fin 4) (d : Fin 64) :
    mix v vc p (ix3 b (tok r q) (lane h d))
      = ∑ i : Fin 8, ∑ k : Fin 64, v (ix6 b r i k h d) * p (ix5 b h r q ⟨i.val * 64 + k.val, by omega⟩)
        + ∑ k : Fin 256, vc (ix4 b k h d) * p (ix5 b h r q ⟨512 + k.val, by omega⟩) := by
  have e1 : (tok r q).val / 64 = r.val := by unfold tok; dsimp only; omega
  have e2 : (tok r q).val % 64 = q.val := by unfold tok; dsimp only; omega
  have e3 : (lane h d).val / 64 = h.val := by unfold lane; dsimp only; omega
  have e4 : (lane h d).val % 64 = d.val := by unfold lane; dsimp only; omega
  pointwise [mix]
  simp only [e1, e2, e3, e4]

/-- The gate at an index. -/
theorem gate_at (a0 : FVec Ideal S8x4096x1024 .f32) (b : Fin 8) (n : Fin 4096) (l : Fin 256) :
    gate a0 (ix3 b n l) = gateE a0 b n l := by
  pointwise [gate, gateE]

/-- The whole reference at an index. -/
theorem out_at (a0 : FVec Ideal S8x4096x1024 .f32) (a1 : FVec Ideal S8x256x1024 .f32) (a2 : FVec Ideal S4x15x31 .f32) (b : Fin 8) (r q : Fin 64) (h : Fin 4) (d : Fin 64)
    (s : Fin 8 → Fin 64 → EReal) (t : Fin 256 → EReal) (hs : s = winS a0 a2 b h r q) (ht : t = ctxS a0 a1 b h r q)
    (M : EReal) (hM : M = max hidden ((Finset.univ : Finset (Fin 768)).fold max hidden (cat s t))) :
    out a0 a1 a2 (ix3 b (tok r q) (lane h d))
      = (∑ i, ∑ k, vE a0 b (bandRow r i) k h d * Ideal.div (Ideal.exp (s i k - M)) (∑ x, Ideal.exp (cat s t x - M))
        + ∑ k, vcE a1 b k h d * Ideal.div (Ideal.exp (t k - M)) (∑ x, Ideal.exp (cat s t x - M))) * gateE a0 b (tok r q) (lane h d) := by
  have hc : ∀ x, scores a0 a1 a2 (ix5 b h r q x) = cat s t x := fun x => by rw [scores_at, hs, ht]; rfl
  have he : ∀ x, expo (scores a0 a1 a2) (ix5 b h r q x) = Ideal.exp (cat s t x - M) := fun x => by
    rw [expo_at, hM]; simp only [hc]
  have e1 : ∀ (i : Fin 8) (k : Fin 64), cat s t ⟨i.val * 64 + k.val, by omega⟩ = s i k := fun i k => by
    have h1 : i.val * 64 + k.val < 512 := by omega
    simp only [cat, h1, dite_true]
    congr 1
    · congr 1; omega
    · apply Fin.ext; dsimp only; omega
  have e2 : ∀ k : Fin 256, cat s t ⟨512 + k.val, by omega⟩ = t k := fun k => by
    simp only [cat, Nat.not_lt.2 (Nat.le_add_right 512 k.val), dite_false, Nat.add_sub_cancel_left]
  have hout : out a0 a1 a2 (ix3 b (tok r q) (lane h d))
      = mix (vT a0) (vcT a1) (soft (expo (scores a0 a1 a2))) (ix3 b (tok r q) (lane h d)) * gate a0 (ix3 b (tok r q) (lane h d)) := rfl
  rw [hout, gate_at, mix_at]
  simp only [soft_at, he, e1, e2, vT_at, vcT_at]

end Cert.Natten.Ref
-- ==== Proof.Array.lean ====
module

public import proofs.«01_k».proof.Proof.Windows
public import proofs.«01_k».proof.Proof.Tables
public import proofs.«01_k».proof.Proof.RefAt

/-! The kernel's output array is the reference's stages composed. -/

@[expose] public section
set_option maxRecDepth 16384

noncomputable section
namespace Cert.Natten.Krn
open Idealize.ShloMosaic Idealize.ShloMosaic.TcCoe Idealize.ShloMosaic.Pipeline Cert.KernelIdeal Cert.KernelIdeal.Gen Cert.KernelIdeal.Value

variable (m : (ℓ : Loc nD τ sig) → Buf (Elt Ideal) ℓ)

/-- The three arguments. -/
abbrev A0 (c : Dev nD) : S8x4096x1024.Idx → EReal := m ((c : Thread nD τ).loc main_arg0)
abbrev A1 (c : Dev nD) : S8x256x1024.Idx → EReal := m ((c : Thread nD τ).loc main_arg1)
abbrev A2 (c : Dev nD) : S4x15x31.Idx → EReal := m ((c : Thread nD τ).loc main_arg2)

/-- The band's scores at a grid point are the reference's. -/
theorem win_blk (c : Dev nD) (t : Fin cfg0.N) (h : Fin 4) (q : Fin 64) (i : Fin 8) (k : Fin 64) :
    winPay (iblk m c 0 t) (View.ld (iblk m c 1 t) (Rect.unit (s := S1x4096x256) (k0_off1 (grid0.coords t)) S1x512x256.size (k0_off1_inb _)))
        (iblk m c 7 t) (View.ld (iblk m c 6 t) (Rect.unit (s := S8x256x512) (k0_off2 (grid0.coords t)) S1x256x512.size (k0_off2_inb _)))
        (ix2 (row h q) (col i k))
      = winS (A0 m c) (A2 m c) (bAt t) h (rAt t) q i k := by
  have hb : (⟨(⟨rowLo (rAt t) + 7 - (rAt t).val, by unfold rowLo; omega⟩ : Fin 8).val + i.val, by unfold rowLo; omega⟩ : Fin 15) = biasRow (rAt t) i := by
    apply Fin.ext; unfold biasRow rowLo; dsimp only; omega
  have e1 := (bias_blk m c t (row h q) (col i k)).trans (bias_at m c _ h q i k)
  rw [hb] at e1
  have e2 : IntOp.cmpi .ne (iblk m c 7 t (ix2 (row h q) (col i k))) 0#32 = BitVec.ofBool (inCols q k) :=
    (congrArg (fun w => IntOp.cmpi .ne w 0#32) (ok_blk m c t (row h q) (col i k))).trans (ok_at m c h q i k)
  have s0 : ∀ a b : EReal, Scalar.select (BitVec.ofBool false) a b = b := fun _ _ => rfl
  have s1 : ∀ a b : EReal, Scalar.select (BitVec.ofBool true) a b = a := fun _ _ => rfl
  rw [winPay_row, e1, e2]
  simp only [q_blk]
  unfold winS qE kE
  cases inCols q k
  · rw [if_neg (by decide), hidden_eq, s0]; exact EReal.add_bot _
  · rw [if_pos rfl, s1]
    have hs : ∀ d : Fin 64, A0 m c (ix3 (bAt t) (tok (rAt t) q) ⟨(lane h d).val, by omega⟩)
          * (View.ld (iblk m c 1 t) (Rect.unit (s := S1x4096x256) (k0_off1 (grid0.coords t)) S1x512x256.size (k0_off1_inb _)) (ix3 0 (col i k) (lane h d)) : EReal)
        = A0 m c (ix3 (bAt t) (tok (rAt t) q) ⟨(lane h d).val, by omega⟩) * A0 m c (ix3 (bAt t) (tok (bandRow (rAt t) i) k) ⟨256 + (lane h d).val, by omega⟩) :=
      fun d => congrArg (A0 m c (ix3 (bAt t) (tok (rAt t) q) ⟨(lane h d).val, by omega⟩) * ·) (k_blk m c t i k (lane h d))
    exact congrArg (· * eighth + A2 m c (ix3 h (biasRow (rAt t) i) (biasCol q k))) (Finset.sum_congr rfl fun d _ => hs d)

/-- The context's scores at a grid point are the reference's. -/
theorem ctx_blk (c : Dev nD) (t : Fin cfg0.N) (h : Fin 4) (q : Fin 64) (k : Fin 256) :
    ctxPay (iblk m c 0 t) (iblk m c 4 t) (ix2 (row h q) k) = ctxS (A0 m c) (A1 m c) (bAt t) h (rAt t) q k := by
  rw [ctxPay_row]
  simp only [kc_blk, q_blk]
  rfl

/-- An index of the output block. -/
theorem idx_block (y : S1x64x256.Idx) : ∃ (q : Fin 64) (h : Fin 4) (d : Fin 64), y = ix3 0 q (lane h d) := by
  have h2 : (y 2).val < 256 := (y 2).isLt
  have h0 : (y 0).val < 1 := (y 0).isLt
  refine ⟨y 1, ⟨(y 2).val / 64, by omega⟩, ⟨(y 2).val % 64, by omega⟩, funext fun a => ?_⟩
  match a with
  | ⟨0, _⟩ => exact Fin.ext (Nat.lt_one_iff.1 h0)
  | ⟨1, _⟩ => rfl
  | ⟨2, _⟩ => apply Fin.ext; show (y 2).val = (y 2).val / 64 * 64 + (y 2).val % 64; omega

/-- The kernel's output array. -/
theorem arr_eq (c : Dev nD) (hw : ∀ b h r q i k, winS (A0 m c) (A2 m c) b h r q i k ≠ ⊤)
    (ht : ∀ b h r q k, ctxS (A0 m c) (A1 m c) b h r q k ≠ ⊤) (hb : ∀ b h r q, ctxS (A0 m c) (A1 m c) b h r q 0 ≠ ⊥) :
    (dats m 0 c).arrAt 8 cfg0.N = (Ref.out (A0 m c) (A1 m c) (A2 m c) : S8x4096x256.Idx → EReal) := by
  refine (dats m 0 c).arrAt_eq_of_covers 8 _ covers8 fun t hf y => ?_
  rw [after0_8]
  unfold outsAt0
  frame_out
  blk_simp
  obtain ⟨q, h, d, rfl⟩ := idx_block y
  rw [out_emb]
  refine (body_at (iblk m c 0 t) _ _ (iblk m c 3 t) (iblk m c 4 t) (iblk m c 5 t) _ (iblk m c 7 t) h q d
    (winS (A0 m c) (A2 m c) (bAt t) h (rAt t) q) (fun i k => vE (A0 m c) (bAt t) (bandRow (rAt t) i) k h d)
    (ctxS (A0 m c) (A1 m c) (bAt t) h (rAt t) q) (fun k => vcE (A1 m c) (bAt t) k h d)
    (fun i k => win_blk m c t h q i k) (fun k => ctx_blk m c t h q k) (fun i k => v_blk m c t i k _) (fun k => vc_blk m c t k _)
    (hw _ _ _ _) (ht _ _ _ _) (hb _ _ _ _) _ rfl).trans ?_
  rw [Ref.out_at (A0 m c) (A1 m c) (A2 m c) (bAt t) (rAt t) q h d _ _ rfl rfl _ rfl, g_blk]
  rfl

end Cert.Natten.Krn
-- ==== Proof.Pre.lean ====
module

public import proofs.«01_k».proof.Defs
public import proofs.«01_k».proof.Proof.Softmax
public import Idealize.ShloMosaic.Lib.Pointwise
public import Idealize.ShloMosaic.Lib.ReduceAll

/-! The precondition read at an index, and the scores it makes finite. -/

@[expose] public section
set_option maxRecDepth 16384

noncomputable section
namespace Cert.Natten
open Idealize.ShloMosaic

/-- The precondition's stated facts. -/
theorem preFacts : Cert.Pre_finite_scores.Facts where
  slices_S8x4096x1024_S8x4096x512_0_0_0 := by decide
  bcast_S_S8x4096x512 := by decide
  reducesTo_S8x4096x512_S_d0_1_2 := by decide
  h_S_ := by decide
  slices_S8x256x1024_S8x256x256_0_0_256 := by decide
  bcast_S_S8x256x256 := by decide
  reducesTo_S8x256x256_S_d0_1_2 := by decide
  bcast_S_S4x15x31 := by decide
  reducesTo_S4x15x31_S_d0_1_2 := by decide

/-- An extended real that is a real. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sum {ι : Type*} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih
theorem IsReal.ne_top {x : EReal} (h : IsReal x) : x ≠ ⊤ := by obtain ⟨a, rfl⟩ := h; exact EReal.coe_ne_top a
theorem IsReal.ne_bot {x : EReal} (h : IsReal x) : x ≠ ⊥ := by obtain ⟨a, rfl⟩ := h; exact EReal.coe_ne_bot a

/-- A magnitude below plus infinity is a real's. -/
theorem isReal_of_abs (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  unfold Ideal.cmp at h
  have h' : max x (-x) < ⊤ := by
    by_contra hn
    simp [hn] at h
  induction x using EReal.rec with
  | bot => simp at h'
  | top => simp at h'
  | coe r => exact ⟨r, rfl⟩

instance : Subsingleton (Cert.Pre_finite_scores.S_).Idx := ⟨fun a b => funext fun i => Fin.elim0 i⟩

variable (a0 : (⟨3, ![8, 4096, 1024]⟩ : Shape).Idx → EReal) (a1 : (⟨3, ![8, 256, 1024]⟩ : Shape).Idx → EReal)
  (a2 : (⟨3, ![4, 15, 31]⟩ : Shape).Idx → EReal)

/-- What the precondition says: the queries and keys, the context's keys and the biases are reals. -/
theorem pre_reals [Cert.Pre_finite_scores.Facts] (h : Cert.Pre_finite_scores.fn (F := Ideal) a0 a1 a2 = fun _ => 1#1) :
    (∀ b n (j : Fin 512), IsReal (a0 (ix3 b n ⟨j.val, by omega⟩)))
    ∧ (∀ b k (j : Fin 256), IsReal (a1 (ix3 b k ⟨256 + j.val, by omega⟩)))
    ∧ ∀ i, IsReal (a2 i) := by
  have h0 := congrFun h ix0
  dsimp only [Cert.Pre_finite_scores.fn] at h0
  have h1 := IntOp.andi_eq_one.1 h0
  have h2 := IntOp.andi_eq_one.1 h1.1
  refine ⟨fun b n j => ?_, fun b k j => ?_, fun i => ?_⟩
  · have e := Host.reduce_andi_all _ _ _ _ _ h2.1 (ix3 b n j)
    refine isReal_of_abs _ ?_
    rw [← e]
    pointwise
    rfl
  · have e := Host.reduce_andi_all _ _ _ _ _ h2.2 (ix3 b k j)
    refine isReal_of_abs _ ?_
    rw [← e]
    pointwise
    rfl
  · have e := Host.reduce_andi_all _ _ _ _ _ h1.2 i
    exact isReal_of_abs _ e

variable {a0 a1 a2}

/-- The window's scores are below plus infinity. -/
theorem winS_ne_top (h0 : ∀ b n (j : Fin 512), IsReal (a0 (ix3 b n ⟨j.val, by omega⟩))) (h2 : ∀ i, IsReal (a2 i))
    (b : Fin 8) (h : Fin 4) (r q : Fin 64) (i : Fin 8) (k : Fin 64) : winS a0 a2 b h r q i k ≠ ⊤ := by
  unfold winS
  split
  · refine IsReal.ne_top (IsReal.add (IsReal.mul (IsReal.sum _ fun d => IsReal.mul ?_ ?_) ⟨_, eighth_eq⟩) (h2 _))
    · exact h0 b _ ⟨(lane h d).val, by omega⟩
    · exact h0 b _ ⟨256 + (lane h d).val, by omega⟩
  · rw [hidden_eq]; exact bot_ne_top

/-- The context's scores are reals. -/
theorem ctxS_real (h0 : ∀ b n (j : Fin 512), IsReal (a0 (ix3 b n ⟨j.val, by omega⟩))) (h1 : ∀ b k (j : Fin 256), IsReal (a1 (ix3 b k ⟨256 + j.val, by omega⟩)))
    (b : Fin 8) (h : Fin 4) (r q : Fin 64) (k : Fin 256) : IsReal (ctxS a0 a1 b h r q k) := by
  unfold ctxS
  refine IsReal.mul (IsReal.sum _ fun d => IsReal.mul ?_ ?_) ⟨_, eighth_eq⟩
  · exact h0 b _ ⟨(lane h d).val, by omega⟩
  · exact h1 b k (lane h d)

end Cert.Natten
-- ==== Proof.Rows.lean ====
module

public import Idealize.ShloMosaic.Lib.Pointwise

/-! What one token's row goes through: the modulated norm, the gates, the merge of the branches, the final norm. -/

@[expose] public section
set_option maxRecDepth 16384

noncomputable section
namespace Cert.Rows
open Idealize.ShloMosaic

/-- The literals of the row's width, and the norm's epsilon. -/
def width : EReal := Ideal.ofBits .f32 0x44800000#32
def eps : EReal := Ideal.ofBits .f32 0x358637BD#32

/-- A row divided by its root mean square, times the norm's weights. -/
def normed (x g : Fin 1024 → EReal) (j : Fin 1024) : EReal :=
  x j * Ideal.rsqrt (Ideal.div (∑ k, x k * x k) width + eps) * g j

/-- A normed row, scaled and shifted by the token's modulation. -/
def modulated (x g shift scale : Fin 1024 → EReal) (j : Fin 1024) : EReal :=
  normed x g j * (1 + scale j) + shift j

/-- The logistic function. -/
def logistic (z : EReal) : EReal := Ideal.div 1 (1 + Ideal.exp (-z))

/-- One branch's gated term: the gate of its column, times its projection. -/
def gated (h : Fin 1024 → EReal) (w : Fin 1024 → EReal) (br u : Fin 256 → EReal) : EReal :=
  logistic (∑ k, h k * w k) * ∑ k, br k * u k

/-- The residual row: the stream plus the gate times the output projection of the merged branches. -/
def residual (x gate : Fin 1024 → EReal) (y : Fin 1024 → EReal) (w : Fin 1024 → Fin 1024 → EReal) (j : Fin 1024) : EReal :=
  x j + gate j * ∑ k, y k * w k j

end Cert.Rows
-- ==== Proof.MergeBody.lean ====
module

public import proofs.«01_k».proof.Proof.Gen.MergeIdeal.Skeleton
public import proofs.«01_k».proof.Proof.Rows

/-! The merge's body read at an index. -/

@[expose] public section
set_option maxRecDepth 16384

noncomputable section
namespace Cert.Merge.Krn
open Idealize.ShloMosaic Cert.MergeIdeal Cert.MergeIdeal.Gen Cert.Rows

/-- The stream's block without its unit axis. -/
def strPay (x : FVec Ideal S1x256x1024 .f32) : S256x1024.Idx → EReal := k0_pay2 (F := Ideal) x

/-- The modulated rows of the block. -/
def hPay (x : FVec Ideal S1x256x1024 .f32) (g : FVec Ideal S1x1024 .f32) (shift scale : FVec Ideal S1x1x1024 .f32) : S256x1024.Idx → EReal :=
  k0_pay3 (F := Ideal) x g shift scale

/-- The first branch's gate. -/
def gatePay (x : FVec Ideal S1x256x1024 .f32) (g : FVec Ideal S1x1024 .f32) (shift scale : FVec Ideal S1x1x1024 .f32) (w : S1024x1024.Idx → EReal) : S256x1024.Idx → EReal :=
  k0_pay4 (F := Ideal) x g shift scale w

/-- The first two branches' terms. -/
def twoPay (h gt : S256x1024.Idx → EReal) (b0 : FVec Ideal S1x256x256 .f32) (u0 : S1x256x1024.Idx → EReal) (w1 : S1024x1024.Idx → EReal) (b1 : FVec Ideal S1x256x256 .f32) (u1 : S1x256x1024.Idx → EReal) : S256x1024.Idx → EReal :=
  k0_pay5 (F := Ideal) h gt b0 u0 w1 b1 u1

/-- The third gate's denominator. -/
def denPay (h : S256x1024.Idx → EReal) (w2 : S1024x1024.Idx → EReal) : S256x1024.Idx → EReal := k0_pay6 (F := Ideal) h w2

/-- The output projection of the merged branches. -/
def projPay (h y d : S256x1024.Idx → EReal) (b2 : FVec Ideal S1x256x256 .f32) (u2 : S1x256x1024.Idx → EReal) (w3 : S1024x1024.Idx → EReal) (b3 : FVec Ideal S1x256x256 .f32) (u3 : S1x256x1024.Idx → EReal) (wo : S1024x1024.Idx → EReal) : S256x1024.Idx → EReal :=
  k0_pay8 (F := Ideal) h y d k0_pay7 b2 u2 w3 b3 u3 wo

/-- The residual gate, over the block's rows. -/
def resGatePay (gate : FVec Ideal S1x1x1024 .f32) : S256x1024.Idx → EReal := k0_pay9 (F := Ideal) gate

/-- What the body stores. -/
def outPay (x p gt : S256x1024.Idx → EReal) (fg : FVec Ideal S1x1024 .f32) : S1x256x1024.Idx → EReal := k0_pay1 (F := Ideal) x p gt fg

theorem strPay_at (x : FVec Ideal S1x256x1024 .f32) (r : Fin 256) (j : Fin 1024) : strPay x (ix2 r j) = x (ix3 0 r j) := by
  pointwise [strPay, k0_pay2]

theorem hPay_at (x : FVec Ideal S1x256x1024 .f32) (g : FVec Ideal S1x1024 .f32) (shift scale : FVec Ideal S1x1x1024 .f32) (r : Fin 256) (j : Fin 1024) :
    hPay x g shift scale (ix2 r j)
      = modulated (fun k => x (ix3 0 r k)) (fun k => g (ix2 0 k)) (fun k => shift (ix3 0 0 k)) (fun k => scale (ix3 0 0 k)) j := by
  pointwise [hPay, k0_pay3, k0_pay2]
  rfl

theorem gatePay_at (x : FVec Ideal S1x256x1024 .f32) (g : FVec Ideal S1x1024 .f32) (shift scale : FVec Ideal S1x1x1024 .f32) (w : S1024x1024.Idx → EReal) (r : Fin 256) (j : Fin 1024) :
    gatePay x g shift scale w (ix2 r j) = logistic (∑ k : Fin 1024, hPay x g shift scale (ix2 r k) * w (ix2 k j)) := by
  pointwise [gatePay, k0_pay4]
  simp only [zero_sub]
  rfl

theorem twoPay_at (h gt : S256x1024.Idx → EReal) (b0 : FVec Ideal S1x256x256 .f32) (u0 : S1x256x1024.Idx → EReal) (w1 : S1024x1024.Idx → EReal) (b1 : FVec Ideal S1x256x256 .f32) (u1 : S1x256x1024.Idx → EReal) (r : Fin 256) (j : Fin 1024) :
    twoPay h gt b0 u0 w1 b1 u1 (ix2 r j)
      = gt (ix2 r j) * (∑ k : Fin 256, b0 (ix3 0 r k) * u0 (ix3 0 k j))
        + logistic (∑ k : Fin 1024, h (ix2 r k) * w1 (ix2 k j)) * (∑ k : Fin 256, b1 (ix3 0 r k) * u1 (ix3 0 k j)) := by
  pointwise [twoPay, k0_pay5]
  simp only [zero_sub]
  rfl

theorem denPay_at (h : S256x1024.Idx → EReal) (w2 : S1024x1024.Idx → EReal) (r : Fin 256) (j : Fin 1024) :
    denPay h w2 (ix2 r j) = 1 + Ideal.exp (-∑ k : Fin 1024, h (ix2 r k) * w2 (ix2 k j)) := by
  pointwise [denPay, k0_pay6]
  simp only [zero_sub]

theorem projPay_at (h y d : S256x1024.Idx → EReal) (b2 : FVec Ideal S1x256x256 .f32) (u2 : S1x256x1024.Idx → EReal) (w3 : S1024x1024.Idx → EReal) (b3 : FVec Ideal S1x256x256 .f32) (u3 : S1x256x1024.Idx → EReal) (wo : S1024x1024.Idx → EReal) (r : Fin 256) (j : Fin 1024) :
    projPay h y d b2 u2 w3 b3 u3 wo (ix2 r j)
      = ∑ k : Fin 1024, (y (ix2 r k) + Ideal.div 1 (d (ix2 r k)) * (∑ l : Fin 256, b2 (ix3 0 r l) * u2 (ix3 0 l k))
        + logistic (∑ l : Fin 1024, h (ix2 r l) * w3 (ix2 l k)) * (∑ l : Fin 256, b3 (ix3 0 r l) * u3 (ix3 0 l k))) * wo (ix2 k j) := by
  pointwise [projPay, k0_pay8, k0_pay7]
  simp only [zero_sub]
  rfl

theorem resGatePay_at (gate : FVec Ideal S1x1x1024 .f32) (r : Fin 256) (j : Fin 1024) : resGatePay gate (ix2 r j) = gate (ix3 0 0 j) := by
  pointwise [resGatePay, k0_pay9]

theorem outPay_at (x p gt : S256x1024.Idx → EReal) (fg : FVec Ideal S1x1024 .f32) (r : Fin 256) (j : Fin 1024) :
    outPay x p gt fg (ix3 0 r j) = normed (fun k => x (ix2 r k) + gt (ix2 r k) * p (ix2 r k)) (fun k => fg (ix2 0 k)) j := by
  pointwise [outPay, k0_pay1]
  rfl

/-- The whole body. -/
def body (x : FVec Ideal S1x256x1024 .f32) (g : FVec Ideal S1x1024 .f32) (shift scale gate : FVec Ideal S1x1x1024 .f32) (b0 b1 b2 b3 : FVec Ideal S1x256x256 .f32)
    (w0 w1 w2 w3 : S1024x1024.Idx → EReal) (u0 u1 u2 u3 : S1x256x1024.Idx → EReal) (wo : S1024x1024.Idx → EReal) (fg : FVec Ideal S1x1024 .f32) : S1x256x1024.Idx → EReal :=
  outPay (strPay x) (projPay (hPay x g shift scale) (twoPay (hPay x g shift scale) (gatePay x g shift scale w0) b0 u0 w1 b1 u1)
    (denPay (hPay x g shift scale) w2) b2 u2 w3 b3 u3 wo) (resGatePay gate) fg

/-- One element of what the body stores, from the rows it reads. -/
theorem body_at (x : FVec Ideal S1x256x1024 .f32) (g : FVec Ideal S1x1024 .f32) (shift scale gate : FVec Ideal S1x1x1024 .f32) (b0 b1 b2 b3 : FVec Ideal S1x256x256 .f32)
    (w0 w1 w2 w3 : S1024x1024.Idx → EReal) (u0 u1 u2 u3 : S1x256x1024.Idx → EReal) (wo : S1024x1024.Idx → EReal) (fg : FVec Ideal S1x1024 .f32) (r : Fin 256) (j : Fin 1024) :
    body x g shift scale gate b0 b1 b2 b3 w0 w1 w2 w3 u0 u1 u2 u3 wo fg (ix3 0 r j)
      = (let h := modulated (fun k => x (ix3 0 r k)) (fun k => g (ix2 0 k)) (fun k => shift (ix3 0 0 k)) (fun k => scale (ix3 0 0 k))
         let y : Fin 1024 → EReal := fun j =>
          gated h (fun k => w0 (ix2 k j)) (fun k => b0 (ix3 0 r k)) (fun k => u0 (ix3 0 k j))
          + gated h (fun k => w1 (ix2 k j)) (fun k => b1 (ix3 0 r k)) (fun k => u1 (ix3 0 k j))
          + gated h (fun k => w2 (ix2 k j)) (fun k => b2 (ix3 0 r k)) (fun k => u2 (ix3 0 k j))
          + gated h (fun k => w3 (ix2 k j)) (fun k => b3 (ix3 0 r k)) (fun k => u3 (ix3 0 k j))
         normed (residual (fun k => x (ix3 0 r k)) (fun k => gate (ix3 0 0 k)) y (fun k l => wo (ix2 k l))) (fun k => fg (ix2 0 k)) j) := by
  unfold body
  simp only [outPay_at, strPay_at, resGatePay_at, projPay_at, twoPay_at, denPay_at, gatePay_at, hPay_at]
  rfl

end Cert.Merge.Krn
-- ==== Proof.MergeRef.lean ====
module

public import proofs.«01_k».proof.Proof.Gen.MergeRefIdeal.Run
public import proofs.«01_k».proof.Proof.Rows

/-! The merge's reference: its result cut into named stages, and each stage read at an index. -/

@[expose] public section
set_option maxRecDepth 16384

noncomputable section
namespace Cert.Merge.Ref
open Idealize.ShloMosaic Cert.MergeRefIdeal Cert.MergeRefIdeal.Gen Cert.Rows

/-- The root-mean-square norm of a stream. -/
def normT (x : FVec Ideal S8x4096x1024 .f32) (g : FVec Ideal S1024 .f32) : FVec Ideal S8x4096x1024 .f32 :=
  mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))

/-- The norm at an index. -/
theorem normT_at (x : FVec Ideal S8x4096x1024 .f32) (g : FVec Ideal S1024 .f32) (b : Fin 8) (t : Fin 4096) (j : Fin 1024) :
    normT x g (ix3 b t j) = normed (fun k => x (ix3 b t k)) (fun k => g (ix1 k)) j := by
  pointwise [normT]
  rfl

/-- The modulated stream. -/
def modT (n : FVec Ideal S8x4096x1024 .f32) (shift scale : FVec Ideal S8x1x1024 .f32) : FVec Ideal S8x4096x1024 .f32 :=
  addf (mulf n (broadcastInDim S8x4096x1024 ![0, 1, 2] bcast_S8x1x1024_S8x4096x1024_0_1_2 (addf (broadcastInDim S8x1x1024 ![] bcast_S_S8x1x1024 (constant S_ .f32 0x3F800000#32)) scale)))
    (broadcastInDim S8x4096x1024 ![0, 1, 2] bcast_S8x1x1024_S8x4096x1024_0_1_2 shift)

/-- The modulated stream at an index. -/
theorem modT_at (n : FVec Ideal S8x4096x1024 .f32) (shift scale : FVec Ideal S8x1x1024 .f32) (b : Fin 8) (t : Fin 4096) (j : Fin 1024) :
    modT n shift scale (ix3 b t j) = n (ix3 b t j) * (1 + scale (ix3 b 0 j)) + shift (ix3 b 0 j) := by
  pointwise [modT]

/-- The merge gates of all branches. -/
def gateT (h : FVec Ideal S8x4096x1024 .f32) (w : FVec Ideal S1024x7552 .f32) : FVec Ideal S8x4096x4096 .f32 :=
  Host.divf (broadcastInDim S8x4096x4096 ![] bcast_S_S8x4096x4096 (constant S_ .f32 0x3F800000#32)) (addf (broadcastInDim S8x4096x4096 ![] bcast_S_S8x4096x4096 (constant S_ .f32 0x3F800000#32)) (Host.exp (Host.negf (extractStridedSlice S8x4096x4096 ![0, 0, 3456] (Host.dotGeneral dot_S8x4096x1024_S1024x7552_S8x4096x7552_2_0_01_1_n_n none h w) slices_S8x4096x7552_S8x4096x4096_0_0_3456))))

/-- The gates at an index. -/
theorem gateT_at (h : FVec Ideal S8x4096x1024 .f32) (w : FVec Ideal S1024x7552 .f32) (b : Fin 8) (t : Fin 4096) (j : Fin 4096) :
    gateT h w (ix3 b t j) = logistic (∑ k : Fin 1024, h (ix3 b t k) * w (ix2 k ⟨3456 + j.val, by omega⟩)) := by
  pointwise [gateT]
  rfl

/-- The branches merged. -/
def mergeT (gt : FVec Ideal S8x4096x4096 .f32) (b0 b1 b2 b3 : FVec Ideal S8x4096x256 .f32) (w : FVec Ideal S4x256x1024 .f32) : FVec Ideal S8x4096x1024 .f32 :=
  addf (addf (addf
    (mulf (extractStridedSlice S8x4096x1024 ![0, 0, 0] gt slices_S8x4096x4096_S8x4096x1024_0_0_0) (Host.dotGeneral dot_S8x4096x256_S256x1024_S8x4096x1024_2_0_01_1_n_n none b0 (shapeCast _ (extractStridedSlice S1x256x1024 ![0, 0, 0] w slices_S4x256x1024_S1x256x1024_0_0_0) shapeCasts_S1x256x1024_S256x1024)))
    (mulf (extractStridedSlice S8x4096x1024 ![0, 0, 1024] gt slices_S8x4096x4096_S8x4096x1024_0_0_1024) (Host.dotGeneral dot_S8x4096x256_S256x1024_S8x4096x1024_2_0_01_1_n_n none b1 (shapeCast _ (extractStridedSlice S1x256x1024 ![1, 0, 0] w slices_S4x256x1024_S1x256x1024_1_0_0) shapeCasts_S1x256x1024_S256x1024))))
    (mulf (extractStridedSlice S8x4096x1024 ![0, 0, 2048] gt slices_S8x4096x4096_S8x4096x1024_0_0_2048) (Host.dotGeneral dot_S8x4096x256_S256x1024_S8x4096x1024_2_0_01_1_n_n none b2 (shapeCast _ (extractStridedSlice S1x256x1024 ![2, 0, 0] w slices_S4x256x1024_S1x256x1024_2_0_0) shapeCasts_S1x256x1024_S256x1024))))
    (mulf (extractStridedSlice S8x4096x1024 ![0, 0, 3072] gt slices_S8x4096x4096_S8x4096x1024_0_0_3072) (Host.dotGeneral dot_S8x4096x256_S256x1024_S8x4096x1024_2_0_01_1_n_n none b3 (shapeCast _ (extractStridedSlice S1x256x1024 ![3, 0, 0] w slices_S4x256x1024_S1x256x1024_3_0_0) shapeCasts_S1x256x1024_S256x1024)))

/-- The merged branches at an index: four gated projections, added from the first on. -/
theorem mergeT_at (gt : FVec Ideal S8x4096x4096 .f32) (b0 b1 b2 b3 : FVec Ideal S8x4096x256 .f32) (w : FVec Ideal S4x256x1024 .f32) (b : Fin 8) (t : Fin 4096) (j : Fin 1024) :
    mergeT gt b0 b1 b2 b3 w (ix3 b t j)
      = gt (ix3 b t ⟨j.val, by omega⟩) * (∑ k : Fin 256, b0 (ix3 b t k) * w (ix3 0 k j))
        + gt (ix3 b t ⟨1024 + j.val, by omega⟩) * (∑ k : Fin 256, b1 (ix3 b t k) * w (ix3 1 k j))
        + gt (ix3 b t ⟨2048 + j.val, by omega⟩) * (∑ k : Fin 256, b2 (ix3 b t k) * w (ix3 2 k j))
        + gt (ix3 b t ⟨3072 + j.val, by omega⟩) * (∑ k : Fin 256, b3 (ix3 b t k) * w (ix3 3 k j)) := by
  pointwise [mergeT]

/-- The residual stream. -/
def resT (x : FVec Ideal S8x4096x1024 .f32) (gate : FVec Ideal S8x1x1024 .f32) (y : FVec Ideal S8x4096x1024 .f32) (w : FVec Ideal S1024x1024 .f32) : FVec Ideal S8x4096x1024 .f32 :=
  addf x (mulf (broadcastInDim S8x4096x1024 ![0, 1, 2] bcast_S8x1x1024_S8x4096x1024_0_1_2 gate) (Host.dotGeneral dot_S8x4096x1024_S1024x1024_S8x4096x1024_2_0_01_1_n_n none y w))

/-- The residual stream at an index. -/
theorem resT_at (x : FVec Ideal S8x4096x1024 .f32) (gate : FVec Ideal S8x1x1024 .f32) (y : FVec Ideal S8x4096x1024 .f32) (w : FVec Ideal S1024x1024 .f32) (b : Fin 8) (t : Fin 4096) (j : Fin 1024) :
    resT x gate y w (ix3 b t j) = residual (fun k => x (ix3 b t k)) (fun k => gate (ix3 b 0 k)) (fun k => y (ix3 b t k)) (fun k l => w (ix2 k l)) j := by
  pointwise [resT]
  rfl

/-- The whole of the reference. -/
def out (x : FVec Ideal S8x4096x1024 .f32) (g : FVec Ideal S1024 .f32) (shift scale gate : FVec Ideal S8x1x1024 .f32) (b0 b1 b2 b3 : FVec Ideal S8x4096x256 .f32)
    (wi : FVec Ideal S1024x7552 .f32) (wb : FVec Ideal S4x256x1024 .f32) (wo : FVec Ideal S1024x1024 .f32) (fg : FVec Ideal S1024 .f32) : FVec Ideal S8x4096x1024 .f32 :=
  normT (resT x gate (mergeT (gateT (modT (normT x g) shift scale) wi) b0 b1 b2 b3 wb) wo) fg

/-- One element of the reference's result, from the rows it depends on. -/
def elem (x : FVec Ideal S8x4096x1024 .f32) (g : FVec Ideal S1024 .f32) (shift scale gate : FVec Ideal S8x1x1024 .f32) (b0 b1 b2 b3 : FVec Ideal S8x4096x256 .f32)
    (wi : FVec Ideal S1024x7552 .f32) (wb : FVec Ideal S4x256x1024 .f32) (wo : FVec Ideal S1024x1024 .f32) (fg : FVec Ideal S1024 .f32) (b : Fin 8) (t : Fin 4096) (j : Fin 1024) : EReal :=
  let h := modulated (fun k => x (ix3 b t k)) (fun k => g (ix1 k)) (fun k => shift (ix3 b 0 k)) (fun k => scale (ix3 b 0 k))
  let y : Fin 1024 → EReal := fun j =>
    gated h (fun k => wi (ix2 k ⟨3456 + j.val, by omega⟩)) (fun k => b0 (ix3 b t k)) (fun k => wb (ix3 0 k j))
    + gated h (fun k => wi (ix2 k ⟨3456 + (1024 + j.val), by omega⟩)) (fun k => b1 (ix3 b t k)) (fun k => wb (ix3 1 k j))
    + gated h (fun k => wi (ix2 k ⟨3456 + (2048 + j.val), by omega⟩)) (fun k => b2 (ix3 b t k)) (fun k => wb (ix3 2 k j))
    + gated h (fun k => wi (ix2 k ⟨3456 + (3072 + j.val), by omega⟩)) (fun k => b3 (ix3 b t k)) (fun k => wb (ix3 3 k j))
  normed (residual (fun k => x (ix3 b t k)) (fun k => gate (ix3 b 0 k)) y (fun k l => wo (ix2 k l))) (fun k => fg (ix1 k)) j

/-- The reference's result at an index. -/
theorem out_at (x : FVec Ideal S8x4096x1024 .f32) (g : FVec Ideal S1024 .f32) (shift scale gate : FVec Ideal S8x1x1024 .f32) (b0 b1 b2 b3 : FVec Ideal S8x4096x256 .f32)
    (wi : FVec Ideal S1024x7552 .f32) (wb : FVec Ideal S4x256x1024 .f32) (wo : FVec Ideal S1024x1024 .f32) (fg : FVec Ideal S1024 .f32) (b : Fin 8) (t : Fin 4096) (j : Fin 1024) :
    out x g shift scale gate b0 b1 b2 b3 wi wb wo fg (ix3 b t j) = elem x g shift scale gate b0 b1 b2 b3 wi wb wo fg b t j := by
  unfold out elem
  simp only [normT_at, resT_at, mergeT_at, gateT_at, modT_at]
  rfl

/-- The printed reference's result is these stages composed. -/
theorem res_eq (m : (ℓ : Loc nD τ sig) → Buf (Elt Ideal) ℓ) (c : Dev nD) :
    Value.res_out0 m c = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      (m ((c.tc : Thread nD τ).loc main_arg10)) (m ((c.tc : Thread nD τ).loc main_arg11)) (m ((c.tc : Thread nD τ).loc main_arg12)) := rfl

end Cert.Merge.Ref
-- ==== Proof.MergeArray.lean ====
module

public import proofs.«01_k».proof.Proof.Gen.MergeIdeal.Value
public import proofs.«01_k».proof.Proof.MergeBody
public import proofs.«01_k».proof.Proof.MergeRef
public import Idealize.ShloMosaic.Lib.Pipeline.ValueKit
public import Idealize.ShloMosaic.Lib.Pipeline.Covers
public import Idealize.ShloMosaic.Lib.StableHlo.ReadAt

/-! The merge's windows, and its output array: the reference's stages composed. -/

@[expose] public section
set_option maxRecDepth 16384

noncomputable section
namespace Cert.Merge.Krn
open Idealize.ShloMosaic Idealize.ShloMosaic.TcCoe Idealize.ShloMosaic.Pipeline Cert.MergeIdeal Cert.MergeIdeal.Gen Cert.MergeIdeal.Value

variable (m : (ℓ : Loc nD τ sig) → Buf (Elt Ideal) ℓ)

/-- The thirteen arguments. -/
abbrev A0 (c : Dev nD) : S8x4096x1024.Idx → EReal := m ((c : Thread nD τ).loc main_arg0)
abbrev A1 (c : Dev nD) : S1024.Idx → EReal := m ((c : Thread nD τ).loc main_arg1)
abbrev A2 (c : Dev nD) : S8x1x1024.Idx → EReal := m ((c : Thread nD τ).loc main_arg2)
abbrev A3 (c : Dev nD) : S8x1x1024.Idx → EReal := m ((c : Thread nD τ).loc main_arg3)
abbrev A4 (c : Dev nD) : S8x1x1024.Idx → EReal := m ((c : Thread nD τ).loc main_arg4)
abbrev A5 (c : Dev nD) : S8x4096x256.Idx → EReal := m ((c : Thread nD τ).loc main_arg5)
abbrev A6 (c : Dev nD) : S8x4096x256.Idx → EReal := m ((c : Thread nD τ).loc main_arg6)
abbrev A7 (c : Dev nD) : S8x4096x256.Idx → EReal := m ((c : Thread nD τ).loc main_arg7)
abbrev A8 (c : Dev nD) : S8x4096x256.Idx → EReal := m ((c : Thread nD τ).loc main_arg8)
abbrev A9 (c : Dev nD) : S1024x7552.Idx → EReal := m ((c : Thread nD τ).loc main_arg9)
abbrev A10 (c : Dev nD) : S4x256x1024.Idx → EReal := m ((c : Thread nD τ).loc main_arg10)
abbrev A11 (c : Dev nD) : S1024x1024.Idx → EReal := m ((c : Thread nD τ).loc main_arg11)
abbrev A12 (c : Dev nD) : S1024.Idx → EReal := m ((c : Thread nD τ).loc main_arg12)

/-- The batch element of a grid point. -/
def bAt (t : Fin cfg0.N) : Fin 8 := grid0.coords t 0
/-- The tile of 256 tokens of a grid point. -/
def tAt (t : Fin cfg0.N) : Fin 16 := grid0.coords t 1
/-- The token of a tile's row. -/
def tok (n : Fin 16) (r : Fin 256) : Fin 4096 := ⟨n.val * 256 + r.val, by omega⟩

theorem w32 (n : Nat) (h : n < 4096) : (BitVec.ofNat 32 n).toNat = n := by
  rw [BitVec.toNat_ofNat]; omega

theorem ix_bAt (t : Fin cfg0.N) : (BitVec.ofNat 32 (grid0.coords t 0).val).toNat = (bAt t).val := w32 _ (by have := (bAt t).isLt; unfold bAt at this; omega)
theorem ix_tAt (t : Fin cfg0.N) : (BitVec.ofNat 32 (grid0.coords t 1).val).toNat = (tAt t).val := w32 _ (by have := (tAt t).isLt; unfold tAt at this; omega)

theorem ix0_0 (t : Fin cfg0.N) : win0_0.index t 0 = (bAt t).val := ix_bAt t
theorem ix0_1 (t : Fin cfg0.N) : win0_0.index t 1 = (tAt t).val := ix_tAt t
theorem ix0_2 (t : Fin cfg0.N) : win0_0.index t 2 = 0 := rfl
theorem ix1_0 (t : Fin cfg0.N) : win0_1.index t 0 = 0 := rfl
theorem ix1_1 (t : Fin cfg0.N) : win0_1.index t 1 = 0 := rfl
theorem ix2_0 (t : Fin cfg0.N) : win0_2.index t 0 = (bAt t).val := ix_bAt t
theorem ix2_1 (t : Fin cfg0.N) : win0_2.index t 1 = 0 := rfl
theorem ix2_2 (t : Fin cfg0.N) : win0_2.index t 2 = 0 := rfl
theorem ix3_0 (t : Fin cfg0.N) : win0_3.index t 0 = (bAt t).val := ix_bAt t
theorem ix3_1 (t : Fin cfg0.N) : win0_3.index t 1 = 0 := rfl
theorem ix3_2 (t : Fin cfg0.N) : win0_3.index t 2 = 0 := rfl
theorem ix4_0 (t : Fin cfg0.N) : win0_4.index t 0 = (bAt t).val := ix_bAt t
theorem ix4_1 (t : Fin cfg0.N) : win0_4.index t 1 = 0 := rfl
theorem ix4_2 (t : Fin cfg0.N) : win0_4.index t 2 = 0 := rfl
theorem ix5_0 (t : Fin cfg0.N) : win0_5.index t 0 = (bAt t).val := ix_bAt t
theorem ix5_1 (t : Fin cfg0.N) : win0_5.index t 1 = (tAt t).val := ix_tAt t
theorem ix5_2 (t : Fin cfg0.N) : win0_5.index t 2 = 0 := rfl
theorem ix6_0 (t : Fin cfg0.N) : win0_6.index t 0 = (bAt t).val := ix_bAt t
theorem ix6_1 (t : Fin cfg0.N) : win0_6.index t 1 = (tAt t).val := ix_tAt t
theorem ix6_2 (t : Fin cfg0.N) : win0_6.index t 2 = 0 := rfl
theorem ix7_0 (t : Fin cfg0.N) : win0_7.index t 0 = (bAt t).val := ix_bAt t
theorem ix7_1 (t : Fin cfg0.N) : win0_7.index t 1 = (tAt t).val := ix_tAt t
theorem ix7_2 (t : Fin cfg0.N) : win0_7.index t 2 = 0 := rfl
theorem ix8_0 (t : Fin cfg0.N) : win0_8.index t 0 = (bAt t).val := ix_bAt t
theorem ix8_1 (t : Fin cfg0.N) : win0_8.index t 1 = (tAt t).val := ix_tAt t
theorem ix8_2 (t : Fin cfg0.N) : win0_8.index t 2 = 0 := rfl
theorem ix9_0 (t : Fin cfg0.N) : win0_9.index t 0 = 0 := rfl
theorem ix9_1 (t : Fin cfg0.N) : win0_9.index t 1 = 0 := rfl
theorem ix10_0 (t : Fin cfg0.N) : win0_10.index t 0 = 0 := rfl
theorem ix10_1 (t : Fin cfg0.N) : win0_10.index t 1 = 0 := rfl
theorem ix10_2 (t : Fin cfg0.N) : win0_10.index t 2 = 0 := rfl
theorem ix11_0 (t : Fin cfg0.N) : win0_11.index t 0 = 0 := rfl
theorem ix11_1 (t : Fin cfg0.N) : win0_11.index t 1 = 0 := rfl
theorem ix12_0 (t : Fin cfg0.N) : win0_12.index t 0 = 0 := rfl
theorem ix12_1 (t : Fin cfg0.N) : win0_12.index t 1 = 0 := rfl
theorem ix13_0 (t : Fin cfg0.N) : win0_13.index t 0 = (bAt t).val := ix_bAt t
theorem ix13_1 (t : Fin cfg0.N) : win0_13.index t 1 = (tAt t).val := ix_tAt t
theorem ix13_2 (t : Fin cfg0.N) : win0_13.index t 2 = 0 := rfl

theorem covers13 : (cfg0.win 13).Covers := by
  refine (cfg0.win 13).covers_of_indexMap_surj rfl (by decide) fun β => ?_
  have hβ0 : (β 0).val < 8 := (β 0).isLt
  have hβ1 : (β 1).val < 16 := (β 1).isLt
  have hβ2 : (β 2).val < 1 := (β 2).isLt
  refine ⟨fun a => match a with | ⟨0, _⟩ => ⟨(β 0).val, hβ0⟩ | ⟨1, _⟩ => ⟨(β 1).val, hβ1⟩, fun a => ?_⟩
  match a with
  | ⟨0, _⟩ => exact w32 (β 0).val (by omega)
  | ⟨1, _⟩ => exact w32 (β 1).val (by omega)
  | ⟨2, _⟩ => exact (Nat.lt_one_iff.1 hβ2).symm

/-- The stream's block. -/
theorem x_blk (c : Dev nD) (t : Fin cfg0.N) (r : Fin 256) (j : Fin 1024) : iblk m c 0 t (ix3 0 r j) = A0 m c (ix3 (bAt t) (tok (tAt t) r) j) := by
  blk_ext [iblk, V_main_arg0, ix0_0, ix0_1, ix0_2, tok]

/-- The norm's weights, which the host lays out as one row. -/
theorem g_blk (c : Dev nD) (t : Fin cfg0.N) (j : Fin 1024) : iblk m c 1 t (ix2 0 j) = A1 m c (ix1 j) := by
  have e : V m c main_v4 (ix2 0 j) = A1 m c (ix1 j) := by
    unfold V
    after_reads_at
  rw [← e]
  blk_ext [iblk, ix1_0, ix1_1]

/-- The modulation vectors of the batch element. -/
theorem shift_blk (c : Dev nD) (t : Fin cfg0.N) (j : Fin 1024) : iblk m c 2 t (ix3 0 0 j) = A2 m c (ix3 (bAt t) 0 j) := by
  blk_ext [iblk, V_main_arg2, ix2_0, ix2_1, ix2_2]
theorem scale_blk (c : Dev nD) (t : Fin cfg0.N) (j : Fin 1024) : iblk m c 3 t (ix3 0 0 j) = A3 m c (ix3 (bAt t) 0 j) := by
  blk_ext [iblk, V_main_arg3, ix3_0, ix3_1, ix3_2]
theorem gate_blk (c : Dev nD) (t : Fin cfg0.N) (j : Fin 1024) : iblk m c 4 t (ix3 0 0 j) = A4 m c (ix3 (bAt t) 0 j) := by
  blk_ext [iblk, V_main_arg4, ix4_0, ix4_1, ix4_2]

/-- The branches' blocks. -/
theorem b0_blk (c : Dev nD) (t : Fin cfg0.N) (r : Fin 256) (k : Fin 256) : iblk m c 5 t (ix3 0 r k) = A5 m c (ix3 (bAt t) (tok (tAt t) r) k) := by
  blk_ext [iblk, V_main_arg5, ix5_0, ix5_1, ix5_2, tok]
theorem b1_blk (c : Dev nD) (t : Fin cfg0.N) (r : Fin 256) (k : Fin 256) : iblk m c 6 t (ix3 0 r k) = A6 m c (ix3 (bAt t) (tok (tAt t) r) k) := by
  blk_ext [iblk, V_main_arg6, ix6_0, ix6_1, ix6_2, tok]
theorem b2_blk (c : Dev nD) (t : Fin cfg0.N) (r : Fin 256) (k : Fin 256) : iblk m c 7 t (ix3 0 r k) = A7 m c (ix3 (bAt t) (tok (tAt t) r) k) := by
  blk_ext [iblk, V_main_arg7, ix7_0, ix7_1, ix7_2, tok]
theorem b3_blk (c : Dev nD) (t : Fin cfg0.N) (r : Fin 256) (k : Fin 256) : iblk m c 8 t (ix3 0 r k) = A8 m c (ix3 (bAt t) (tok (tAt t) r) k) := by
  blk_ext [iblk, V_main_arg8, ix8_0, ix8_1, ix8_2, tok]

/-- The merge logits' weights: the host's slice of the combined projection. -/
theorem wm_at (c : Dev nD) (k : Fin 1024) (j : Fin 4096) : (V m c main_v1 : S1024x4096.Idx → EReal) (ix2 k j) = A9 m c (ix2 k ⟨3456 + j.val, by omega⟩) := by
  unfold V
  after_reads_at
theorem wb_at (c : Dev nD) (i : Fin 4) (k : Fin 256) (j : Fin 1024) : (V m c main_v2 : S4x256x1024.Idx → EReal) (ix3 i k j) = A10 m c (ix3 i k j) := by
  unfold V
  after_reads_at
theorem wo_at (c : Dev nD) (k : Fin 1024) (j : Fin 1024) : (V m c main_v3 : S1024x1024.Idx → EReal) (ix2 k j) = A11 m c (ix2 k j) := by
  unfold V
  after_reads_at

/-- The four column groups of the logits' weights, as the body loads them. -/
theorem w0_blk (c : Dev nD) (t : Fin cfg0.N) (k j : Fin 1024) : (View.ld (iblk m c 9 t) r0_3 : S1024x1024.Idx → EReal) (ix2 k j) = A9 m c (ix2 k ⟨3456 + j.val, by omega⟩) := by
  refine Eq.trans ?_ (wm_at m c k ⟨j.val, by omega⟩)
  show iblk m c 9 t (r0_3.emb (ix2 k j)) = _
  blk_ext [iblk, ix9_0, ix9_1, r0_3]
theorem w1_blk (c : Dev nD) (t : Fin cfg0.N) (k j : Fin 1024) : (View.ld (iblk m c 9 t) r0_6 : S1024x1024.Idx → EReal) (ix2 k j) = A9 m c (ix2 k ⟨3456 + (1024 + j.val), by omega⟩) := by
  refine Eq.trans ?_ (wm_at m c k ⟨1024 + j.val, by omega⟩)
  show iblk m c 9 t (r0_6.emb (ix2 k j)) = _
  blk_ext [iblk, ix9_0, ix9_1, r0_6]
theorem w2_blk (c : Dev nD) (t : Fin cfg0.N) (k j : Fin 1024) : (View.ld (iblk m c 9 t) r0_8 : S1024x1024.Idx → EReal) (ix2 k j) = A9 m c (ix2 k ⟨3456 + (2048 + j.val), by omega⟩) := by
  refine Eq.trans ?_ (wm_at m c k ⟨2048 + j.val, by omega⟩)
  show iblk m c 9 t (r0_8.emb (ix2 k j)) = _
  blk_ext [iblk, ix9_0, ix9_1, r0_8]
theorem w3_blk (c : Dev nD) (t : Fin cfg0.N) (k j : Fin 1024) : (View.ld (iblk m c 9 t) r0_10 : S1024x1024.Idx → EReal) (ix2 k j) = A9 m c (ix2 k ⟨3456 + (3072 + j.val), by omega⟩) := by
  refine Eq.trans ?_ (wm_at m c k ⟨3072 + j.val, by omega⟩)
  show iblk m c 9 t (r0_10.emb (ix2 k j)) = _
  blk_ext [iblk, ix9_0, ix9_1, r0_10]

/-- The four branches' weights, as the body loads them. -/
theorem u0_blk (c : Dev nD) (t : Fin cfg0.N) (k : Fin 256) (j : Fin 1024) : (View.ld (iblk m c 10 t) r0_5 : S1x256x1024.Idx → EReal) (ix3 0 k j) = A10 m c (ix3 0 k j) := by
  refine Eq.trans ?_ (wb_at m c 0 k j)
  show iblk m c 10 t (r0_5.emb (ix3 0 k j)) = _
  blk_ext [iblk, ix10_0, ix10_1, ix10_2, r0_5]
theorem u1_blk (c : Dev nD) (t : Fin cfg0.N) (k : Fin 256) (j : Fin 1024) : (View.ld (iblk m c 10 t) r0_7 : S1x256x1024.Idx → EReal) (ix3 0 k j) = A10 m c (ix3 1 k j) := by
  refine Eq.trans ?_ (wb_at m c 1 k j)
  show iblk m c 10 t (r0_7.emb (ix3 0 k j)) = _
  blk_ext [iblk, ix10_0, ix10_1, ix10_2, r0_7]
theorem u2_blk (c : Dev nD) (t : Fin cfg0.N) (k : Fin 256) (j : Fin 1024) : (View.ld (iblk m c 10 t) r0_9 : S1x256x1024.Idx → EReal) (ix3 0 k j) = A10 m c (ix3 2 k j) := by
  refine Eq.trans ?_ (wb_at m c 2 k j)
  show iblk m c 10 t (r0_9.emb (ix3 0 k j)) = _
  blk_ext [iblk, ix10_0, ix10_1, ix10_2, r0_9]
theorem u3_blk (c : Dev nD) (t : Fin cfg0.N) (k : Fin 256) (j : Fin 1024) : (View.ld (iblk m c 10 t) r0_11 : S1x256x1024.Idx → EReal) (ix3 0 k j) = A10 m c (ix3 3 k j) := by
  refine Eq.trans ?_ (wb_at m c 3 k j)
  show iblk m c 10 t (r0_11.emb (ix3 0 k j)) = _
  blk_ext [iblk, ix10_0, ix10_1, ix10_2, r0_11]

/-- The output projection's weights. -/
theorem wo_blk (c : Dev nD) (t : Fin cfg0.N) (k j : Fin 1024) : iblk m c 11 t (ix2 k j) = A11 m c (ix2 k j) := by
  refine Eq.trans ?_ (wo_at m c k j)
  blk_ext [iblk, ix11_0, ix11_1]

/-- The final norm's weights, which the host lays out as one row. -/
theorem fg_blk (c : Dev nD) (t : Fin cfg0.N) (j : Fin 1024) : iblk m c 12 t (ix2 0 j) = A12 m c (ix1 j) := by
  have e : V m c main_v5 (ix2 0 j) = A12 m c (ix1 j) := by
    unfold V
    after_reads_at
  rw [← e]
  blk_ext [iblk, ix12_0, ix12_1]

/-- Where an element of the output block goes. -/
theorem out_emb (t : Fin cfg0.N) (r : Fin 256) (j : Fin 1024) : (win0_13.blk t).view.emb (ix3 0 r j) = ix3 (bAt t) (tok (tAt t) r) j := by
  blk_ext [ix13_0, ix13_1, ix13_2, tok]

/-- An index of the output block. -/
theorem idx_block (y : S1x256x1024.Idx) : ∃ (r : Fin 256) (j : Fin 1024), y = ix3 0 r j := by
  have h0 : (y 0).val < 1 := (y 0).isLt
  refine ⟨y 1, y 2, funext fun a => ?_⟩
  match a with
  | ⟨0, _⟩ => exact Fin.ext (Nat.lt_one_iff.1 h0)
  | ⟨1, _⟩ => rfl
  | ⟨2, _⟩ => rfl

/-- The merge's output array is the reference's function of the arguments. -/
theorem arr_eq (c : Dev nD) : (dats m 0 c).arrAt 13 cfg0.N
    = (Ref.out (A0 m c) (A1 m c) (A2 m c) (A3 m c) (A4 m c) (A5 m c) (A6 m c) (A7 m c) (A8 m c) (A9 m c) (A10 m c) (A11 m c) (A12 m c) : S8x4096x1024.Idx → EReal) := by
  refine (dats m 0 c).arrAt_eq_of_covers 13 _ covers13 fun t hf y => ?_
  rw [after0_13]
  unfold_out out0_13
  frame_out
  blk_simp
  obtain ⟨r, j, rfl⟩ := idx_block y
  rw [out_emb]
  refine (body_at (iblk m c 0 t) (iblk m c 1 t) (iblk m c 2 t) (iblk m c 3 t) (iblk m c 4 t) (iblk m c 5 t) (iblk m c 6 t) (iblk m c 7 t) (iblk m c 8 t)
    (View.ld (iblk m c 9 t) r0_3) (View.ld (iblk m c 9 t) r0_6) (View.ld (iblk m c 9 t) r0_8) (View.ld (iblk m c 9 t) r0_10)
    (View.ld (iblk m c 10 t) r0_5) (View.ld (iblk m c 10 t) r0_7) (View.ld (iblk m c 10 t) r0_9) (View.ld (iblk m c 10 t) r0_11)
    (iblk m c 11 t) (iblk m c 12 t) r j).trans ?_
  rw [Ref.out_at]
  simp only [x_blk, g_blk, shift_blk, scale_blk, gate_blk, b0_blk, b1_blk, b2_blk, b3_blk, w0_blk, w1_blk, w2_blk, w3_blk, u0_blk, u1_blk, u2_blk, u3_blk, wo_blk, fg_blk]
  rfl

end Cert.Merge.Krn
-- ==== Proof.ProjectBody.lean ====
module

public import proofs.«01_k».proof.Proof.Gen.ProjectIdeal.Skeleton
public import proofs.«01_k».proof.Proof.Rows

/-! The input projection's body read at an index. -/

@[expose] public section
set_option maxRecDepth 16384

noncomputable section
namespace Cert.Proj.Krn
open Idealize.ShloMosaic Cert.ProjectIdeal Cert.ProjectIdeal.Gen Cert.Rows

/-- The modulated rows of the block. -/
def hPay (x : FVec Ideal S1x256x1024 .f32) (g : FVec Ideal S1x1024 .f32) (shift scale : FVec Ideal S1x1x1024 .f32) : S256x1024.Idx → EReal :=
  k0_pay5 (F := Ideal) x g shift scale

theorem hPay_at (x : FVec Ideal S1x256x1024 .f32) (g : FVec Ideal S1x1024 .f32) (shift scale : FVec Ideal S1x1x1024 .f32) (r : Fin 256) (j : Fin 1024) :
    hPay x g shift scale (ix2 r j)
      = modulated (fun k => x (ix3 0 r k)) (fun k => g (ix2 0 k)) (fun k => shift (ix3 0 0 k)) (fun k => scale (ix3 0 0 k)) j := by
  pointwise [hPay, k0_pay5]
  rfl

/-- What the body stores of the gMLP columns. -/
def gmPay (x : FVec Ideal S1x256x1024 .f32) (g : FVec Ideal S1x1024 .f32) (shift scale : FVec Ideal S1x1x1024 .f32) (w : S1024x768.Idx → EReal) : S1x256x768.Idx → EReal :=
  k0_pay6 (F := Ideal) x g shift scale w

theorem gmPay_at (x : FVec Ideal S1x256x1024 .f32) (g : FVec Ideal S1x1024 .f32) (shift scale : FVec Ideal S1x1x1024 .f32) (w : S1024x768.Idx → EReal) (r : Fin 256) (j : Fin 768) :
    gmPay x g shift scale w (ix3 0 r j)
      = ∑ k : Fin 1024, modulated (fun k => x (ix3 0 r k)) (fun k => g (ix2 0 k)) (fun k => shift (ix3 0 0 k)) (fun k => scale (ix3 0 0 k)) k * w (ix2 k j) := by
  simp only [← hPay_at]
  pointwise [gmPay, k0_pay6]
  rfl

/-- What the body stores of the attention columns. -/
def naPay (x : FVec Ideal S1x256x1024 .f32) (g : FVec Ideal S1x1024 .f32) (shift scale : FVec Ideal S1x1x1024 .f32) (w : S1024x1024.Idx → EReal) : S1x256x1024.Idx → EReal :=
  k0_pay1 (F := Ideal) (hPay x g shift scale) w

theorem naPay_at (x : FVec Ideal S1x256x1024 .f32) (g : FVec Ideal S1x1024 .f32) (shift scale : FVec Ideal S1x1x1024 .f32) (w : S1024x1024.Idx → EReal) (r : Fin 256) (j : Fin 1024) :
    naPay x g shift scale w (ix3 0 r j)
      = ∑ k : Fin 1024, modulated (fun k => x (ix3 0 r k)) (fun k => g (ix2 0 k)) (fun k => shift (ix3 0 0 k)) (fun k => scale (ix3 0 0 k)) k * w (ix2 k j) := by
  simp only [← hPay_at]
  pointwise [naPay, k0_pay1]

/-- What the body stores of the recurrence columns. -/
def rwPay (x : FVec Ideal S1x256x1024 .f32) (g : FVec Ideal S1x1024 .f32) (shift scale : FVec Ideal S1x1x1024 .f32) (w : S1024x896.Idx → EReal) : S1x256x896.Idx → EReal :=
  k0_pay2 (F := Ideal) (hPay x g shift scale) w

theorem rwPay_at (x : FVec Ideal S1x256x1024 .f32) (g : FVec Ideal S1x1024 .f32) (shift scale : FVec Ideal S1x1x1024 .f32) (w : S1024x896.Idx → EReal) (r : Fin 256) (j : Fin 896) :
    rwPay x g shift scale w (ix3 0 r j)
      = ∑ k : Fin 1024, modulated (fun k => x (ix3 0 r k)) (fun k => g (ix2 0 k)) (fun k => shift (ix3 0 0 k)) (fun k => scale (ix3 0 0 k)) k * w (ix2 k j) := by
  simp only [← hPay_at]
  pointwise [rwPay, k0_pay2]

/-- What the body stores of the recurrence's gate columns. -/
def rgPay (x : FVec Ideal S1x256x1024 .f32) (g : FVec Ideal S1x1024 .f32) (shift scale : FVec Ideal S1x1x1024 .f32) (w : S1024x256.Idx → EReal) : S1x256x256.Idx → EReal :=
  k0_pay3 (F := Ideal) (hPay x g shift scale) w

theorem rgPay_at (x : FVec Ideal S1x256x1024 .f32) (g : FVec Ideal S1x1024 .f32) (shift scale : FVec Ideal S1x1x1024 .f32) (w : S1024x256.Idx → EReal) (r : Fin 256) (j : Fin 256) :
    rgPay x g shift scale w (ix3 0 r j)
      = ∑ k : Fin 1024, modulated (fun k => x (ix3 0 r k)) (fun k => g (ix2 0 k)) (fun k => shift (ix3 0 0 k)) (fun k => scale (ix3 0 0 k)) k * w (ix2 k j) := by
  simp only [← hPay_at]
  pointwise [rgPay, k0_pay3]

/-- What the body stores of the pooling columns. -/
def plPay (x : FVec Ideal S1x256x1024 .f32) (g : FVec Ideal S1x1024 .f32) (shift scale : FVec Ideal S1x1x1024 .f32) (w : S1024x512.Idx → EReal) : S1x256x512.Idx → EReal :=
  k0_pay4 (F := Ideal) (hPay x g shift scale) w

theorem plPay_at (x : FVec Ideal S1x256x1024 .f32) (g : FVec Ideal S1x1024 .f32) (shift scale : FVec Ideal S1x1x1024 .f32) (w : S1024x512.Idx → EReal) (r : Fin 256) (j : Fin 512) :
    plPay x g shift scale w (ix3 0 r j)
      = ∑ k : Fin 1024, modulated (fun k => x (ix3 0 r k)) (fun k => g (ix2 0 k)) (fun k => shift (ix3 0 0 k)) (fun k => scale (ix3 0 0 k)) k * w (ix2 k j) := by
  simp only [← hPay_at]
  pointwise [plPay, k0_pay4]

end Cert.Proj.Krn
-- ==== Proof.ProjectRef.lean ====
module

public import proofs.«01_k».proof.Proof.Gen.ProjectRefIdeal.Run
public import proofs.«01_k».proof.Proof.Rows

/-! The input projection's reference: its five results cut into named stages, and each read at an index. -/

@[expose] public section
set_option maxRecDepth 16384

noncomputable section
namespace Cert.Proj.Ref
open Idealize.ShloMosaic Cert.ProjectRefIdeal Cert.ProjectRefIdeal.Gen Cert.Rows

/-- The root-mean-square norm of a stream. -/
def normT (x : FVec Ideal S8x4096x1024 .f32) (g : FVec Ideal S1024 .f32) : FVec Ideal S8x4096x1024 .f32 :=
  mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))

/-- The norm at an index. -/
theorem normT_at (x : FVec Ideal S8x4096x1024 .f32) (g : FVec Ideal S1024 .f32) (b : Fin 8) (t : Fin 4096) (j : Fin 1024) :
    normT x g (ix3 b t j) = normed (fun k => x (ix3 b t k)) (fun k => g (ix1 k)) j := by
  pointwise [normT]
  rfl

/-- The modulated stream. -/
def modT (n : FVec Ideal S8x4096x1024 .f32) (shift scale : FVec Ideal S8x1x1024 .f32) : FVec Ideal S8x4096x1024 .f32 :=
  addf (mulf n (broadcastInDim S8x4096x1024 ![0, 1, 2] bcast_S8x1x1024_S8x4096x1024_0_1_2 (addf (broadcastInDim S8x1x1024 ![] bcast_S_S8x1x1024 (constant S_ .f32 0x3F800000#32)) scale)))
    (broadcastInDim S8x4096x1024 ![0, 1, 2] bcast_S8x1x1024_S8x4096x1024_0_1_2 shift)

/-- The modulated stream at an index. -/
theorem modT_at (n : FVec Ideal S8x4096x1024 .f32) (shift scale : FVec Ideal S8x1x1024 .f32) (b : Fin 8) (t : Fin 4096) (j : Fin 1024) :
    modT n shift scale (ix3 b t j) = n (ix3 b t j) * (1 + scale (ix3 b 0 j)) + shift (ix3 b 0 j) := by
  pointwise [modT]

/-- The combined projection, all its columns. -/
def zT (x : FVec Ideal S8x4096x1024 .f32) (g : FVec Ideal S1024 .f32) (shift scale : FVec Ideal S8x1x1024 .f32) (w : FVec Ideal S1024x7552 .f32) : FVec Ideal S8x4096x7552 .f32 :=
  Host.dotGeneral dot_S8x4096x1024_S1024x7552_S8x4096x7552_2_0_01_1_n_n none (modT (normT x g) shift scale) w

/-- One element of the combined projection, from the token's row and the column's weights. -/
def elem (x : FVec Ideal S8x4096x1024 .f32) (g : FVec Ideal S1024 .f32) (shift scale : FVec Ideal S8x1x1024 .f32) (w : FVec Ideal S1024x7552 .f32) (b : Fin 8) (t : Fin 4096) (j : Fin 7552) : EReal :=
  ∑ k : Fin 1024, modulated (fun k => x (ix3 b t k)) (fun k => g (ix1 k)) (fun k => shift (ix3 b 0 k)) (fun k => scale (ix3 b 0 k)) k * w (ix2 k j)

/-- The combined projection at an index. -/
theorem zT_at (x : FVec Ideal S8x4096x1024 .f32) (g : FVec Ideal S1024 .f32) (shift scale : FVec Ideal S8x1x1024 .f32) (w : FVec Ideal S1024x7552 .f32) (b : Fin 8) (t : Fin 4096) (j : Fin 7552) :
    zT x g shift scale w (ix3 b t j) = elem x g shift scale w b t j := by
  pointwise [zT, elem, modT_at, normT_at]
  rfl

/-- The result of the gMLP columns: their groups side by side. -/
def gmT (z : FVec Ideal S8x4096x7552 .f32) : FVec Ideal S8x4096x768 .f32 :=
  concatenate S8x4096x768 2 [⟨S8x4096x256, (extractStridedSlice S8x4096x256 ![0, 0, 0] z slices_S8x4096x7552_S8x4096x256_0_0_0 : FVec Ideal S8x4096x256 .f32)⟩, ⟨S8x4096x256, (extractStridedSlice S8x4096x256 ![0, 0, 256] z slices_S8x4096x7552_S8x4096x256_0_0_256 : FVec Ideal S8x4096x256 .f32)⟩, ⟨S8x4096x256, (extractStridedSlice S8x4096x256 ![0, 0, 512] z slices_S8x4096x7552_S8x4096x256_0_0_512 : FVec Ideal S8x4096x256 .f32)⟩] concatenates_S8x4096x256_S8x4096x256_S8x4096x256_S8x4096x768_d2

/-- It is a run of the combined projection's columns. -/
theorem gmT_at (z : FVec Ideal S8x4096x7552 .f32) (b : Fin 8) (t : Fin 4096) (j : Fin 768) : gmT z (ix3 b t j) = z (ix3 b t ⟨j.val, by omega⟩) := by
  pointwise [gmT]
  repeat' split
  all_goals first | rfl | (congr 2; done) | (congr 2; apply Fin.ext; dsimp only; omega)

/-- The result of the attention columns: their groups side by side. -/
def naT (z : FVec Ideal S8x4096x7552 .f32) : FVec Ideal S8x4096x1024 .f32 :=
  concatenate S8x4096x1024 2 [⟨S8x4096x256, (extractStridedSlice S8x4096x256 ![0, 0, 768] z slices_S8x4096x7552_S8x4096x256_0_0_768 : FVec Ideal S8x4096x256 .f32)⟩, ⟨S8x4096x256, (extractStridedSlice S8x4096x256 ![0, 0, 1024] z slices_S8x4096x7552_S8x4096x256_0_0_1024 : FVec Ideal S8x4096x256 .f32)⟩, ⟨S8x4096x256, (extractStridedSlice S8x4096x256 ![0, 0, 1280] z slices_S8x4096x7552_S8x4096x256_0_0_1280 : FVec Ideal S8x4096x256 .f32)⟩, ⟨S8x4096x256, (extractStridedSlice S8x4096x256 ![0, 0, 1536] z slices_S8x4096x7552_S8x4096x256_0_0_1536 : FVec Ideal S8x4096x256 .f32)⟩] concatenates_S8x4096x256_S8x4096x256_S8x4096x256_S8x4096x256_S8x4096x1024_d2

/-- It is a run of the combined projection's columns. -/
theorem naT_at (z : FVec Ideal S8x4096x7552 .f32) (b : Fin 8) (t : Fin 4096) (j : Fin 1024) : naT z (ix3 b t j) = z (ix3 b t ⟨768 + j.val, by omega⟩) := by
  pointwise [naT]
  repeat' split
  all_goals first | rfl | (congr 2; done) | (congr 2; apply Fin.ext; dsimp only; omega)

/-- The result of the recurrence columns. -/
def rwT (z : FVec Ideal S8x4096x7552 .f32) : FVec Ideal S8x4096x896 .f32 :=
  extractStridedSlice S8x4096x896 ![0, 0, 1792] z slices_S8x4096x7552_S8x4096x896_0_0_1792

/-- It is a run of the combined projection's columns. -/
theorem rwT_at (z : FVec Ideal S8x4096x7552 .f32) (b : Fin 8) (t : Fin 4096) (j : Fin 896) : rwT z (ix3 b t j) = z (ix3 b t ⟨1792 + j.val, by omega⟩) := by
  pointwise [rwT]

/-- The result of the recurrence's gate columns. -/
def rgT (z : FVec Ideal S8x4096x7552 .f32) : FVec Ideal S8x4096x256 .f32 :=
  extractStridedSlice S8x4096x256 ![0, 0, 2688] z slices_S8x4096x7552_S8x4096x256_0_0_2688

/-- It is a run of the combined projection's columns. -/
theorem rgT_at (z : FVec Ideal S8x4096x7552 .f32) (b : Fin 8) (t : Fin 4096) (j : Fin 256) : rgT z (ix3 b t j) = z (ix3 b t ⟨2688 + j.val, by omega⟩) := by
  pointwise [rgT]

/-- The result of the pooling columns: their groups side by side. -/
def plT (z : FVec Ideal S8x4096x7552 .f32) : FVec Ideal S8x4096x512 .f32 :=
  concatenate S8x4096x512 2 [⟨S8x4096x256, (extractStridedSlice S8x4096x256 ![0, 0, 2944] z slices_S8x4096x7552_S8x4096x256_0_0_2944 : FVec Ideal S8x4096x256 .f32)⟩, ⟨S8x4096x256, (extractStridedSlice S8x4096x256 ![0, 0, 3200] z slices_S8x4096x7552_S8x4096x256_0_0_3200 : FVec Ideal S8x4096x256 .f32)⟩] concatenates_S8x4096x256_S8x4096x256_S8x4096x512_d2

/-- It is a run of the combined projection's columns. -/
theorem plT_at (z : FVec Ideal S8x4096x7552 .f32) (b : Fin 8) (t : Fin 4096) (j : Fin 512) : plT z (ix3 b t j) = z (ix3 b t ⟨2944 + j.val, by omega⟩) := by
  pointwise [plT]
  repeat' split
  all_goals first | rfl | (congr 2; done) | (congr 2; apply Fin.ext; dsimp only; omega)

/-- The combined projection of the launch's arguments. -/
def zOf (m : (ℓ : Loc nD τ sig) → Buf (Elt Ideal) ℓ) (c : Dev nD) : FVec Ideal S8x4096x7552 .f32 :=
  zT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- The reference's run, its five results these stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32) = gmT (zOf m c)
      ∧ r.2.mem ((c.tc : Thread nD τ).loc main_v33) = naT (zOf m c)
      ∧ r.2.mem ((c.tc : Thread nD τ).loc main_v27) = rwT (zOf m c)
      ∧ r.2.mem ((c.tc : Thread nD τ).loc main_v28) = rgT (zOf m c)
      ∧ r.2.mem ((c.tc : Thread nD τ).loc main_v34) = plT (zOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2.1.trans rfl, (h c).2.2.1.trans rfl, (h c).2.2.2.1.trans rfl, (h c).2.2.2.2.1.trans rfl, (h c).2.2.2.2.2⟩) (Value.run m ρ)

end Cert.Proj.Ref
-- ==== Proof.ProjectArray.lean ====
module

public import proofs.«01_k».proof.Proof.Gen.ProjectIdeal.Value
public import proofs.«01_k».proof.Proof.ProjectBody
public import proofs.«01_k».proof.Proof.ProjectRef
public import Idealize.ShloMosaic.Lib.Pipeline.ValueKit
public import Idealize.ShloMosaic.Lib.Pipeline.Covers
public import Idealize.ShloMosaic.Lib.StableHlo.ReadAt

/-! The input projection's windows, and its five output arrays: runs of the reference's columns. -/

@[expose] public section
set_option maxRecDepth 16384

noncomputable section
namespace Cert.Proj.Krn
open Idealize.ShloMosaic Idealize.ShloMosaic.TcCoe Idealize.ShloMosaic.Pipeline Cert.ProjectIdeal Cert.ProjectIdeal.Gen Cert.ProjectIdeal.Value

variable (m : (ℓ : Loc nD τ sig) → Buf (Elt Ideal) ℓ)

/-- The five arguments. -/
abbrev A0 (c : Dev nD) : S8x4096x1024.Idx → EReal := m ((c : Thread nD τ).loc main_arg0)
abbrev A1 (c : Dev nD) : S1024.Idx → EReal := m ((c : Thread nD τ).loc main_arg1)
abbrev A2 (c : Dev nD) : S8x1x1024.Idx → EReal := m ((c : Thread nD τ).loc main_arg2)
abbrev A3 (c : Dev nD) : S8x1x1024.Idx → EReal := m ((c : Thread nD τ).loc main_arg3)
abbrev A4 (c : Dev nD) : S1024x7552.Idx → EReal := m ((c : Thread nD τ).loc main_arg4)

/-- The batch element of a grid point. -/
def bAt (t : Fin cfg0.N) : Fin 8 := grid0.coords t 0
/-- The tile of 256 tokens of a grid point. -/
def tAt (t : Fin cfg0.N) : Fin 16 := grid0.coords t 1
/-- The token of a tile's row. -/
def tok (n : Fin 16) (r : Fin 256) : Fin 4096 := ⟨n.val * 256 + r.val, by omega⟩

theorem w32 (n : Nat) (h : n < 4096) : (BitVec.ofNat 32 n).toNat = n := by
  rw [BitVec.toNat_ofNat]; omega

theorem ix_bAt (t : Fin cfg0.N) : (BitVec.ofNat 32 (grid0.coords t 0).val).toNat = (bAt t).val := w32 _ (by have := (bAt t).isLt; unfold bAt at this; omega)
theorem ix_tAt (t : Fin cfg0.N) : (BitVec.ofNat 32 (grid0.coords t 1).val).toNat = (tAt t).val := w32 _ (by have := (tAt t).isLt; unfold tAt at this; omega)

theorem ix0_0 (t : Fin cfg0.N) : win0_0.index t 0 = (bAt t).val := ix_bAt t
theorem ix0_1 (t : Fin cfg0.N) : win0_0.index t 1 = (tAt t).val := ix_tAt t
theorem ix0_2 (t : Fin cfg0.N) : win0_0.index t 2 = 0 := rfl
theorem ix1_0 (t : Fin cfg0.N) : win0_1.index t 0 = 0 := rfl
theorem ix1_1 (t : Fin cfg0.N) : win0_1.index t 1 = 0 := rfl
theorem ix2_0 (t : Fin cfg0.N) : win0_2.index t 0 = (bAt t).val := ix_bAt t
theorem ix2_1 (t : Fin cfg0.N) : win0_2.index t 1 = 0 := rfl
theorem ix2_2 (t : Fin cfg0.N) : win0_2.index t 2 = 0 := rfl
theorem ix3_0 (t : Fin cfg0.N) : win0_3.index t 0 = (bAt t).val := ix_bAt t
theorem ix3_1 (t : Fin cfg0.N) : win0_3.index t 1 = 0 := rfl
theorem ix3_2 (t : Fin cfg0.N) : win0_3.index t 2 = 0 := rfl
theorem ix4_0 (t : Fin cfg0.N) : win0_4.index t 0 = 0 := rfl
theorem ix4_1 (t : Fin cfg0.N) : win0_4.index t 1 = 0 := rfl
theorem ix5_0 (t : Fin cfg0.N) : win0_5.index t 0 = (bAt t).val := ix_bAt t
theorem ix5_1 (t : Fin cfg0.N) : win0_5.index t 1 = (tAt t).val := ix_tAt t
theorem ix5_2 (t : Fin cfg0.N) : win0_5.index t 2 = 0 := rfl
theorem ix6_0 (t : Fin cfg0.N) : win0_6.index t 0 = (bAt t).val := ix_bAt t
theorem ix6_1 (t : Fin cfg0.N) : win0_6.index t 1 = (tAt t).val := ix_tAt t
theorem ix6_2 (t : Fin cfg0.N) : win0_6.index t 2 = 0 := rfl
theorem ix7_0 (t : Fin cfg0.N) : win0_7.index t 0 = (bAt t).val := ix_bAt t
theorem ix7_1 (t : Fin cfg0.N) : win0_7.index t 1 = (tAt t).val := ix_tAt t
theorem ix7_2 (t : Fin cfg0.N) : win0_7.index t 2 = 0 := rfl
theorem ix8_0 (t : Fin cfg0.N) : win0_8.index t 0 = (bAt t).val := ix_bAt t
theorem ix8_1 (t : Fin cfg0.N) : win0_8.index t 1 = (tAt t).val := ix_tAt t
theorem ix8_2 (t : Fin cfg0.N) : win0_8.index t 2 = 0 := rfl
theorem ix9_0 (t : Fin cfg0.N) : win0_9.index t 0 = (bAt t).val := ix_bAt t
theorem ix9_1 (t : Fin cfg0.N) : win0_9.index t 1 = (tAt t).val := ix_tAt t
theorem ix9_2 (t : Fin cfg0.N) : win0_9.index t 2 = 0 := rfl

/-- The stream's block. -/
theorem x_blk (c : Dev nD) (t : Fin cfg0.N) (r : Fin 256) (j : Fin 1024) : iblk m c 0 t (ix3 0 r j) = A0 m c (ix3 (bAt t) (tok (tAt t) r) j) := by
  blk_ext [iblk, V_main_arg0, ix0_0, ix0_1, ix0_2, tok]

/-- The norm's weights, which the host lays out as one row. -/
theorem g_blk (c : Dev nD) (t : Fin cfg0.N) (j : Fin 1024) : iblk m c 1 t (ix2 0 j) = A1 m c (ix1 j) := by
  have e : V m c main_v2 (ix2 0 j) = A1 m c (ix1 j) := by
    unfold V
    after_reads_at
  rw [← e]
  blk_ext [iblk, ix1_0, ix1_1]

/-- The modulation vectors of the batch element. -/
theorem shift_blk (c : Dev nD) (t : Fin cfg0.N) (j : Fin 1024) : iblk m c 2 t (ix3 0 0 j) = A2 m c (ix3 (bAt t) 0 j) := by
  blk_ext [iblk, V_main_arg2, ix2_0, ix2_1, ix2_2]
theorem scale_blk (c : Dev nD) (t : Fin cfg0.N) (j : Fin 1024) : iblk m c 3 t (ix3 0 0 j) = A3 m c (ix3 (bAt t) 0 j) := by
  blk_ext [iblk, V_main_arg3, ix3_0, ix3_1, ix3_2]

/-- The weights: the host's slice of the combined projection. -/
theorem w_at (c : Dev nD) (k : Fin 1024) (j : Fin 3456) : (V m c main_v1 : S1024x3456.Idx → EReal) (ix2 k j) = A4 m c (ix2 k ⟨j.val, by omega⟩) := by
  unfold V
  after_reads_at

/-- The weights of the gMLP columns, as the body loads them. -/
theorem wgm_blk (c : Dev nD) (t : Fin cfg0.N) (k : Fin 1024) (j : Fin 768) : (View.ld (iblk m c 4 t) r0_3 : S1024x768.Idx → EReal) (ix2 k j) = A4 m c (ix2 k ⟨j.val, by omega⟩) := by
  refine Eq.trans ?_ (w_at m c k ⟨j.val, by omega⟩)
  show iblk m c 4 t (r0_3.emb (ix2 k j)) = _
  blk_ext [iblk, ix4_0, ix4_1, r0_3]

theorem covers5 : (cfg0.win 5).Covers := by
  refine (cfg0.win 5).covers_of_indexMap_surj rfl (by decide) fun β => ?_
  have hβ0 : (β 0).val < 8 := (β 0).isLt
  have hβ1 : (β 1).val < 16 := (β 1).isLt
  have hβ2 : (β 2).val < 1 := (β 2).isLt
  refine ⟨fun a => match a with | ⟨0, _⟩ => ⟨(β 0).val, hβ0⟩ | ⟨1, _⟩ => ⟨(β 1).val, hβ1⟩, fun a => ?_⟩
  match a with
  | ⟨0, _⟩ => exact w32 (β 0).val (by omega)
  | ⟨1, _⟩ => exact w32 (β 1).val (by omega)
  | ⟨2, _⟩ => exact (Nat.lt_one_iff.1 hβ2).symm

theorem emb_gm (t : Fin cfg0.N) (r : Fin 256) (j : Fin 768) : (win0_5.blk t).view.emb (ix3 0 r j) = ix3 (bAt t) (tok (tAt t) r) j := by
  blk_ext [ix5_0, ix5_1, ix5_2, tok]

theorem idx_gm (y : S1x256x768.Idx) : ∃ (r : Fin 256) (j : Fin 768), y = ix3 0 r j := by
  have h0 : (y 0).val < 1 := (y 0).isLt
  refine ⟨y 1, y 2, funext fun a => ?_⟩
  match a with
  | ⟨0, _⟩ => exact Fin.ext (Nat.lt_one_iff.1 h0)
  | ⟨1, _⟩ => rfl
  | ⟨2, _⟩ => rfl

/-- The output array of the gMLP columns is the reference's. -/
theorem arr_gm (c : Dev nD) : (dats m 0 c).arrAt 5 cfg0.N
    = (Ref.gmT (Ref.zT (A0 m c) (A1 m c) (A2 m c) (A3 m c) (A4 m c)) : S8x4096x768.Idx → EReal) := by
  refine (dats m 0 c).arrAt_eq_of_covers 5 _ covers5 fun t hf y => ?_
  rw [after0_5]
  unfold_out out0_5
  frame_out
  blk_simp
  obtain ⟨r, j, rfl⟩ := idx_gm y
  rw [emb_gm]
  refine (gmPay_at (iblk m c 0 t) (iblk m c 1 t) (iblk m c 2 t) (iblk m c 3 t) (View.ld (iblk m c 4 t) r0_3) r j).trans ?_
  rw [Ref.gmT_at, Ref.zT_at]
  simp only [x_blk, g_blk, shift_blk, scale_blk, wgm_blk]
  rfl

/-- The weights of the attention columns, as the body loads them. -/
theorem wna_blk (c : Dev nD) (t : Fin cfg0.N) (k : Fin 1024) (j : Fin 1024) : (View.ld (iblk m c 4 t) r0_5 : S1024x1024.Idx → EReal) (ix2 k j) = A4 m c (ix2 k ⟨768 + j.val, by omega⟩) := by
  refine Eq.trans ?_ (w_at m c k ⟨768 + j.val, by omega⟩)
  show iblk m c 4 t (r0_5.emb (ix2 k j)) = _
  blk_ext [iblk, ix4_0, ix4_1, r0_5]

theorem covers6 : (cfg0.win 6).Covers := by
  refine (cfg0.win 6).covers_of_indexMap_surj rfl (by decide) fun β => ?_
  have hβ0 : (β 0).val < 8 := (β 0).isLt
  have hβ1 : (β 1).val < 16 := (β 1).isLt
  have hβ2 : (β 2).val < 1 := (β 2).isLt
  refine ⟨fun a => match a with | ⟨0, _⟩ => ⟨(β 0).val, hβ0⟩ | ⟨1, _⟩ => ⟨(β 1).val, hβ1⟩, fun a => ?_⟩
  match a with
  | ⟨0, _⟩ => exact w32 (β 0).val (by omega)
  | ⟨1, _⟩ => exact w32 (β 1).val (by omega)
  | ⟨2, _⟩ => exact (Nat.lt_one_iff.1 hβ2).symm

theorem emb_na (t : Fin cfg0.N) (r : Fin 256) (j : Fin 1024) : (win0_6.blk t).view.emb (ix3 0 r j) = ix3 (bAt t) (tok (tAt t) r) j := by
  blk_ext [ix6_0, ix6_1, ix6_2, tok]

theorem idx_na (y : S1x256x1024.Idx) : ∃ (r : Fin 256) (j : Fin 1024), y = ix3 0 r j := by
  have h0 : (y 0).val < 1 := (y 0).isLt
  refine ⟨y 1, y 2, funext fun a => ?_⟩
  match a with
  | ⟨0, _⟩ => exact Fin.ext (Nat.lt_one_iff.1 h0)
  | ⟨1, _⟩ => rfl
  | ⟨2, _⟩ => rfl

/-- The output array of the attention columns is the reference's. -/
theorem arr_na (c : Dev nD) : (dats m 0 c).arrAt 6 cfg0.N
    = (Ref.naT (Ref.zT (A0 m c) (A1 m c) (A2 m c) (A3 m c) (A4 m c)) : S8x4096x1024.Idx → EReal) := by
  refine (dats m 0 c).arrAt_eq_of_covers 6 _ covers6 fun t hf y => ?_
  rw [after0_6]
  unfold_out out0_6
  frame_out
  blk_simp
  obtain ⟨r, j, rfl⟩ := idx_na y
  rw [emb_na]
  refine (naPay_at (iblk m c 0 t) (iblk m c 1 t) (iblk m c 2 t) (iblk m c 3 t) (View.ld (iblk m c 4 t) r0_5) r j).trans ?_
  rw [Ref.naT_at, Ref.zT_at]
  simp only [x_blk, g_blk, shift_blk, scale_blk, wna_blk]
  rfl

/-- The weights of the recurrence columns, as the body loads them. -/
theorem wrw_blk (c : Dev nD) (t : Fin cfg0.N) (k : Fin 1024) (j : Fin 896) : (View.ld (iblk m c 4 t) r0_6 : S1024x896.Idx → EReal) (ix2 k j) = A4 m c (ix2 k ⟨1792 + j.val, by omega⟩) := by
  refine Eq.trans ?_ (w_at m c k ⟨1792 + j.val, by omega⟩)
  show iblk m c 4 t (r0_6.emb (ix2 k j)) = _
  blk_ext [iblk, ix4_0, ix4_1, r0_6]

theorem covers7 : (cfg0.win 7).Covers := by
  refine (cfg0.win 7).covers_of_indexMap_surj rfl (by decide) fun β => ?_
  have hβ0 : (β 0).val < 8 := (β 0).isLt
  have hβ1 : (β 1).val < 16 := (β 1).isLt
  have hβ2 : (β 2).val < 1 := (β 2).isLt
  refine ⟨fun a => match a with | ⟨0, _⟩ => ⟨(β 0).val, hβ0⟩ | ⟨1, _⟩ => ⟨(β 1).val, hβ1⟩, fun a => ?_⟩
  match a with
  | ⟨0, _⟩ => exact w32 (β 0).val (by omega)
  | ⟨1, _⟩ => exact w32 (β 1).val (by omega)
  | ⟨2, _⟩ => exact (Nat.lt_one_iff.1 hβ2).symm

theorem emb_rw (t : Fin cfg0.N) (r : Fin 256) (j : Fin 896) : (win0_7.blk t).view.emb (ix3 0 r j) = ix3 (bAt t) (tok (tAt t) r) j := by
  blk_ext [ix7_0, ix7_1, ix7_2, tok]

theorem idx_rw (y : S1x256x896.Idx) : ∃ (r : Fin 256) (j : Fin 896), y = ix3 0 r j := by
  have h0 : (y 0).val < 1 := (y 0).isLt
  refine ⟨y 1, y 2, funext fun a => ?_⟩
  match a with
  | ⟨0, _⟩ => exact Fin.ext (Nat.lt_one_iff.1 h0)
  | ⟨1, _⟩ => rfl
  | ⟨2, _⟩ => rfl

/-- The output array of the recurrence columns is the reference's. -/
theorem arr_rw (c : Dev nD) : (dats m 0 c).arrAt 7 cfg0.N
    = (Ref.rwT (Ref.zT (A0 m c) (A1 m c) (A2 m c) (A3 m c) (A4 m c)) : S8x4096x896.Idx → EReal) := by
  refine (dats m 0 c).arrAt_eq_of_covers 7 _ covers7 fun t hf y => ?_
  rw [after0_7]
  unfold_out out0_7
  frame_out
  blk_simp
  obtain ⟨r, j, rfl⟩ := idx_rw y
  rw [emb_rw]
  refine (rwPay_at (iblk m c 0 t) (iblk m c 1 t) (iblk m c 2 t) (iblk m c 3 t) (View.ld (iblk m c 4 t) r0_6) r j).trans ?_
  rw [Ref.rwT_at, Ref.zT_at]
  simp only [x_blk, g_blk, shift_blk, scale_blk, wrw_blk]
  rfl

/-- The weights of the recurrence's gate columns, as the body loads them. -/
theorem wrg_blk (c : Dev nD) (t : Fin cfg0.N) (k : Fin 1024) (j : Fin 256) : (View.ld (iblk m c 4 t) r0_8 : S1024x256.Idx → EReal) (ix2 k j) = A4 m c (ix2 k ⟨2688 + j.val, by omega⟩) := by
  refine Eq.trans ?_ (w_at m c k ⟨2688 + j.val, by omega⟩)
  show iblk m c 4 t (r0_8.emb (ix2 k j)) = _
  blk_ext [iblk, ix4_0, ix4_1, r0_8]

theorem covers8 : (cfg0.win 8).Covers := by
  refine (cfg0.win 8).covers_of_indexMap_surj rfl (by decide) fun β => ?_
  have hβ0 : (β 0).val < 8 := (β 0).isLt
  have hβ1 : (β 1).val < 16 := (β 1).isLt
  have hβ2 : (β 2).val < 1 := (β 2).isLt
  refine ⟨fun a => match a with | ⟨0, _⟩ => ⟨(β 0).val, hβ0⟩ | ⟨1, _⟩ => ⟨(β 1).val, hβ1⟩, fun a => ?_⟩
  match a with
  | ⟨0, _⟩ => exact w32 (β 0).val (by omega)
  | ⟨1, _⟩ => exact w32 (β 1).val (by omega)
  | ⟨2, _⟩ => exact (Nat.lt_one_iff.1 hβ2).symm

theorem emb_rg (t : Fin cfg0.N) (r : Fin 256) (j : Fin 256) : (win0_8.blk t).view.emb (ix3 0 r j) = ix3 (bAt t) (tok (tAt t) r) j := by
  blk_ext [ix8_0, ix8_1, ix8_2, tok]

theorem idx_rg (y : S1x256x256.Idx) : ∃ (r : Fin 256) (j : Fin 256), y = ix3 0 r j := by
  have h0 : (y 0).val < 1 := (y 0).isLt
  refine ⟨y 1, y 2, funext fun a => ?_⟩
  match a with
  | ⟨0, _⟩ => exact Fin.ext (Nat.lt_one_iff.1 h0)
  | ⟨1, _⟩ => rfl
  | ⟨2, _⟩ => rfl

/-- The output array of the recurrence's gate columns is the reference's. -/
theorem arr_rg (c : Dev nD) : (dats m 0 c).arrAt 8 cfg0.N
    = (Ref.rgT (Ref.zT (A0 m c) (A1 m c) (A2 m c) (A3 m c) (A4 m c)) : S8x4096x256.Idx → EReal) := by
  refine (dats m 0 c).arrAt_eq_of_covers 8 _ covers8 fun t hf y => ?_
  rw [after0_8]
  unfold_out out0_8
  frame_out
  blk_simp
  obtain ⟨r, j, rfl⟩ := idx_rg y
  rw [emb_rg]
  refine (rgPay_at (iblk m c 0 t) (iblk m c 1 t) (iblk m c 2 t) (iblk m c 3 t) (View.ld (iblk m c 4 t) r0_8) r j).trans ?_
  rw [Ref.rgT_at, Ref.zT_at]
  simp only [x_blk, g_blk, shift_blk, scale_blk, wrg_blk]
  rfl

/-- The weights of the pooling columns, as the body loads them. -/
theorem wpl_blk (c : Dev nD) (t : Fin cfg0.N) (k : Fin 1024) (j : Fin 512) : (View.ld (iblk m c 4 t) r0_10 : S1024x512.Idx → EReal) (ix2 k j) = A4 m c (ix2 k ⟨2944 + j.val, by omega⟩) := by
  refine Eq.trans ?_ (w_at m c k ⟨2944 + j.val, by omega⟩)
  show iblk m c 4 t (r0_10.emb (ix2 k j)) = _
  blk_ext [iblk, ix4_0, ix4_1, r0_10]

theorem covers9 : (cfg0.win 9).Covers := by
  refine (cfg0.win 9).covers_of_indexMap_surj rfl (by decide) fun β => ?_
  have hβ0 : (β 0).val < 8 := (β 0).isLt
  have hβ1 : (β 1).val < 16 := (β 1).isLt
  have hβ2 : (β 2).val < 1 := (β 2).isLt
  refine ⟨fun a => match a with | ⟨0, _⟩ => ⟨(β 0).val, hβ0⟩ | ⟨1, _⟩ => ⟨(β 1).val, hβ1⟩, fun a => ?_⟩
  match a with
  | ⟨0, _⟩ => exact w32 (β 0).val (by omega)
  | ⟨1, _⟩ => exact w32 (β 1).val (by omega)
  | ⟨2, _⟩ => exact (Nat.lt_one_iff.1 hβ2).symm

theorem emb_pl (t : Fin cfg0.N) (r : Fin 256) (j : Fin 512) : (win0_9.blk t).view.emb (ix3 0 r j) = ix3 (bAt t) (tok (tAt t) r) j := by
  blk_ext [ix9_0, ix9_1, ix9_2, tok]

theorem idx_pl (y : S1x256x512.Idx) : ∃ (r : Fin 256) (j : Fin 512), y = ix3 0 r j := by
  have h0 : (y 0).val < 1 := (y 0).isLt
  refine ⟨y 1, y 2, funext fun a => ?_⟩
  match a with
  | ⟨0, _⟩ => exact Fin.ext (Nat.lt_one_iff.1 h0)
  | ⟨1, _⟩ => rfl
  | ⟨2, _⟩ => rfl

/-- The output array of the pooling columns is the reference's. -/
theorem arr_pl (c : Dev nD) : (dats m 0 c).arrAt 9 cfg0.N
    = (Ref.plT (Ref.zT (A0 m c) (A1 m c) (A2 m c) (A3 m c) (A4 m c)) : S8x4096x512.Idx → EReal) := by
  refine (dats m 0 c).arrAt_eq_of_covers 9 _ covers9 fun t hf y => ?_
  rw [after0_9]
  unfold_out out0_9
  frame_out
  blk_simp
  obtain ⟨r, j, rfl⟩ := idx_pl y
  rw [emb_pl]
  refine (plPay_at (iblk m c 0 t) (iblk m c 1 t) (iblk m c 2 t) (iblk m c 3 t) (View.ld (iblk m c 4 t) r0_10) r j).trans ?_
  rw [Ref.plT_at, Ref.zT_at]
  simp only [x_blk, g_blk, shift_blk, scale_blk, wpl_blk]
  rfl

end Cert.Proj.Krn
-- ==== Proof.Groups.lean ====
module

public import proofs.«01_k».proof.Proof.Body
public import proofs.«01_k».proof.Proof.Pre
public import proofs.«01_k».proof.Proof.Rows

/-! Sums and means over the 64 lanes of a channel group, and products split into a high and a low part. -/

@[expose] public section
set_option maxRecDepth 16384

noncomputable section
namespace Cert.Groups
open Idealize.ShloMosaic Cert.Natten

/-- The literals of a group's size and its reciprocal. -/
def size : EReal := Ideal.ofBits .f32 0x42800000#32
def part : EReal := Ideal.ofBits .f32 0x3C800000#32

theorem size_eq : size = ((64 : ℝ) : EReal) := by
  simp [size, Ideal.ofBits, Ideal.ieee]
  rw [← EReal.coe_mul]; norm_num

theorem part_eq : part = ((1 / 64 : ℝ) : EReal) := by
  simp [part, Ideal.ofBits, Ideal.ieee]
  rw [← EReal.coe_mul]; norm_num

/-- The mean of a group. -/
def mean (f : Fin 64 → EReal) : EReal := Ideal.div (∑ e, f e) size

theorem mean_eq (f : Fin 64 → EReal) : mean f = (∑ e, f e) * part := by
  rw [mean, size_eq, Ideal.div_coe (by norm_num), part_eq]

/-- A group's values less their mean. -/
def centred (f : Fin 64 → EReal) (d : Fin 64) : EReal := f d - mean f

/-- The reciprocal root of the group's variance. -/
def spread (f : Fin 64 → EReal) (eps : EReal) : EReal := Ideal.rsqrt (mean (fun e => centred f e * centred f e) + eps)

/-- The head of a lane, and its place in the head. -/
def hd (l : Fin 256) : Fin 4 := ⟨l.val / 64, by omega⟩
def pl (l : Fin 256) : Fin 64 := ⟨l.val % 64, by omega⟩
theorem lane_hd (l : Fin 256) : lane (hd l) (pl l) = l := by
  apply Fin.ext; unfold lane hd pl; dsimp only; omega
theorem hd_lane (h : Fin 4) (d : Fin 64) : hd (lane h d) = h := by
  apply Fin.ext; unfold lane hd; dsimp only; omega
theorem pl_lane (h : Fin 4) (d : Fin 64) : pl (lane h d) = d := by
  apply Fin.ext; unfold lane pl; dsimp only; omega

theorem real_sub {x y : EReal} (hx : IsReal x) (hy : IsReal y) : IsReal (x - y) := by
  obtain ⟨a, rfl⟩ := hx; obtain ⟨b, rfl⟩ := hy; exact ⟨a - b, (EReal.coe_sub a b).symm⟩

theorem mean_real {f : Fin 64 → EReal} (hf : ∀ e, IsReal (f e)) : IsReal (mean f) := by
  rw [mean_eq]; exact (IsReal.sum _ hf).mul ⟨_, part_eq⟩

theorem centred_real {f : Fin 64 → EReal} (hf : ∀ e, IsReal (f e)) (d : Fin 64) : IsReal (centred f d) :=
  real_sub (hf d) (mean_real hf)

/-- A real less itself. -/
theorem sub_self_real {x : EReal} (hx : IsReal x) : x - x = 0 := by
  obtain ⟨a, rfl⟩ := hx
  rw [← EReal.coe_sub, sub_self]; rfl

/-- A product with the three parts of a real row. -/
theorem split_three {ι : Type*} [Fintype ι] (a w : ι → EReal) (ha : ∀ i, IsReal (a i)) :
    ∑ i, a i * w i + ∑ i, (a i - a i) * w i + ∑ i, (a i - a i - (a i - a i)) * w i = ∑ i, a i * w i := by
  have h0 : ∀ i, a i - a i = 0 := fun i => sub_self_real (ha i)
  have h1 : ∀ i, a i - a i - (a i - a i) = 0 := fun i => by rw [h0 i, sub_zero]
  simp only [h1]
  simp only [h0, zero_mul, Finset.sum_const_zero, add_zero]

/-- A product of two real rows in two parts each, less the product of the low parts. -/
theorem split_pair {ι : Type*} [Fintype ι] (a w : ι → EReal) (ha : ∀ i, IsReal (a i)) (hw : ∀ i, IsReal (w i)) :
    ∑ i, a i * w i + ∑ i, a i * (w i - w i) + ∑ i, (a i - a i) * w i = ∑ i, a i * w i := by
  have h0 : ∀ i, a i - a i = 0 := fun i => sub_self_real (ha i)
  have h1 : ∀ i, w i - w i = 0 := fun i => sub_self_real (hw i)
  simp only [h0, h1, zero_mul, mul_zero, Finset.sum_const_zero, add_zero]

/-- A row times the column of a matrix that is a constant on each group and zero off it. -/
theorem sum_group (a : Fin 256 → EReal) (c : EReal) (h0 : 0 ≤ c) (h1 : c ≠ ⊤) (l : Fin 256) :
    ∑ k : Fin 256, a k * (if k.val / 64 = l.val / 64 then c else 0) = (∑ e, a (lane (hd l) e)) * c := by
  rw [sum_mul_const _ _ h0 h1, ← Krn.sum_lane (hd l) fun k => a k * c]
  refine Finset.sum_congr rfl fun k _ => ?_
  show _ = if k.val / 64 = l.val / 64 then _ else _
  split
  · rfl
  · exact mul_zero _

/-- The comparison of two heads as words. -/
theorem sel_eq {α : Type} (k l : Fin 256) (x y : α) :
    Scalar.select (IntOp.cmpi .eq (BitVec.ofNat 32 (k.val / 64)) (BitVec.ofNat 32 (l.val / 64))) x y = if k.val / 64 = l.val / 64 then x else y := by
  have e : ∀ a b : Fin 4, IntOp.cmpi .eq (BitVec.ofNat 32 a.val) (BitVec.ofNat 32 b.val) = BitVec.ofBool (decide (a.val = b.val)) := by
    decide +kernel
  have := e (hd k) (hd l)
  simp only [hd] at this
  rw [this]
  by_cases h : k.val / 64 = l.val / 64 <;> simp [Scalar.select, h]

end Cert.Groups
-- ==== Proof.GateBody.lean ====
module

public import proofs.«01_k».proof.Proof.Gen.GateIdeal.Skeleton
public import proofs.«01_k».proof.Proof.Groups

/-! The group norm's body read at an index. -/

@[expose] public section
set_option maxRecDepth 16384

noncomputable section
namespace Cert.Gnorm.Krn
open Idealize.ShloMosaic Cert.GateIdeal Cert.GateIdeal.Gen Cert.Groups Cert.Rows Cert.Natten

/-- The lane's index along the second axis. -/
def laneIx : IVec S256x256 32 := iota .tc S256x256 32 [1] iota_S256x256_d1_w32

/-- The matrix of group means. -/
def avgPay : S256x256.Idx → EReal := k0_pay6 (F := Ideal) k0_pay3 laneIx 64#32 k0_pay4 k0_pay5 (Scalar.cmpi .sgt 64#32 0#32)

/-- The head of a row's lane. -/
theorem rowHead_at (k l : Fin 256) : k0_pay3 (ix2 k l) = BitVec.ofNat 32 (k.val / 64) := by
  revert k; pointwise [k0_pay3]; decide +kernel

/-- The head of a column's lane, as the matrix computes it. -/
theorem colHead_at (k l : Fin 256) :
    Scalar.select (IntOp.andi (IntOp.cmpi .ne (k0_pay5 (ix2 k l)) (Scalar.subi (Scalar.extui (Scalar.cmpi .sgt 64#32 0#32)) (Scalar.extui (Scalar.cmpi .slt 64#32 0#32))))
        (IntOp.cmpi .ne (IntOp.remsi .vector (laneIx (ix2 k l)) 64#32) 0#32)) (IntOp.subi (k0_pay4 (ix2 k l)) 1#32) (k0_pay4 (ix2 k l)) = BitVec.ofNat 32 (l.val / 64) := by
  revert l; pointwise [k0_pay4, k0_pay5, laneIx]; decide +kernel

theorem avgPay_at (k l : Fin 256) : avgPay (ix2 k l) = if k.val / 64 = l.val / 64 then part else 0 := by
  pointwise [avgPay, k0_pay6, rowHead_at]
  rw [colHead_at, sel_eq]
  rfl

/-- The sum of the two scans. -/
def oPay (yf yb : FVec Ideal S1x512x256 .f32) : S512x256.Idx → EReal := k0_pay2 (F := Ideal) yf yb

theorem oPay_at (yf yb : FVec Ideal S1x512x256 .f32) (r : Fin 512) (l : Fin 256) : oPay yf yb (ix2 r l) = yf (ix3 0 r l) + yb (ix3 0 r l) := by
  pointwise [oPay, k0_pay2]

/-- The values less their group's mean. -/
def cenPay (o : S512x256.Idx → EReal) : S512x256.Idx → EReal := k0_pay7 (F := Ideal) o k0_pay3 laneIx 64#32 k0_pay4 k0_pay5 (Scalar.cmpi .sgt 64#32 0#32)

/-- A real row times the matrix of group means. -/
theorem dot_avg (a : Fin 256 → EReal) (ha : ∀ k, IsReal (a k)) (l : Fin 256) :
    ∑ k, a k * avgPay (ix2 k l) + ∑ k, (a k - a k) * avgPay (ix2 k l) + ∑ k, (a k - a k - (a k - a k)) * avgPay (ix2 k l) = mean fun e => a (lane (hd l) e) := by
  rw [split_three _ _ ha, mean_eq]
  simp only [avgPay_at]
  exact sum_group a part (by rw [part_eq]; exact_mod_cast (by norm_num : (0 : ℝ) ≤ 1 / 64)) (by rw [part_eq]; exact EReal.coe_ne_top _) l

theorem cenPay_at (o : S512x256.Idx → EReal) (r : Fin 512) (ho : ∀ l, IsReal (o (ix2 r l))) (l : Fin 256) :
    cenPay o (ix2 r l) = centred (fun e => o (ix2 r (lane (hd l) e))) (pl l) := by
  have h := dot_avg (fun k => o (ix2 r k)) ho l
  rw [centred, lane_hd, ← h]
  pointwise [cenPay, k0_pay7]
  rfl

/-- The reciprocal root of the group's variance. -/
def spreadPay (o : S512x256.Idx → EReal) : S512x256.Idx → EReal := k0_pay8 (F := Ideal) o k0_pay3 laneIx 64#32 k0_pay4 k0_pay5 (Scalar.cmpi .sgt 64#32 0#32)

theorem spreadPay_at (o : S512x256.Idx → EReal) (r : Fin 512) (ho : ∀ l, IsReal (o (ix2 r l))) (l : Fin 256) :
    spreadPay o (ix2 r l) = spread (fun e => o (ix2 r (lane (hd l) e))) (Ideal.ofBits .f32 0x3A27C5AC#32) := by
  have hc : ∀ k, IsReal (cenPay o (ix2 r k) * cenPay o (ix2 r k)) := fun k => by
    rw [cenPay_at o r ho]; exact (centred_real (fun e => ho _) _).mul (centred_real (fun e => ho _) _)
  have h := dot_avg (fun k => cenPay o (ix2 r k) * cenPay o (ix2 r k)) hc l
  have e : spread (fun e => o (ix2 r (lane (hd l) e))) (Ideal.ofBits .f32 0x3A27C5AC#32)
      = Ideal.rsqrt ((mean fun e => cenPay o (ix2 r (lane (hd l) e)) * cenPay o (ix2 r (lane (hd l) e))) + Ideal.ofBits .f32 0x3A27C5AC#32) := by
    simp only [cenPay_at o r ho, hd_lane, pl_lane]
    rfl
  rw [e, ← h]
  pointwise [spreadPay, k0_pay8]
  rfl

/-- What the body stores. -/
def outPay (c s : S512x256.Idx → EReal) (g b : FVec Ideal S1x256 .f32) (bonus gate : FVec Ideal S1x512x256 .f32) : S1x512x256.Idx → EReal :=
  k0_pay1 (F := Ideal) c s g b bonus gate

theorem outPay_at (c s : S512x256.Idx → EReal) (g b : FVec Ideal S1x256 .f32) (bonus gate : FVec Ideal S1x512x256 .f32) (r : Fin 512) (l : Fin 256) :
    outPay c s g b bonus gate (ix3 0 r l)
      = (c (ix2 r l) * s (ix2 r l) * g (ix2 0 l) + b (ix2 0 l) + bonus (ix3 0 r l)) * (gate (ix3 0 r l) * logistic (gate (ix3 0 r l))) := by
  pointwise [outPay, k0_pay1]
  simp only [zero_sub]
  rfl

/-- One element of what the body stores, the scans being real. -/
theorem body_at (yf yb bonus gate : FVec Ideal S1x512x256 .f32) (g b : FVec Ideal S1x256 .f32) (r : Fin 512)
    (hf : ∀ l, IsReal (yf (ix3 0 r l))) (hb : ∀ l, IsReal (yb (ix3 0 r l))) (h : Fin 4) (d : Fin 64) :
    outPay (cenPay (oPay yf yb)) (spreadPay (oPay yf yb)) g b bonus gate (ix3 0 r (lane h d))
      = (centred (fun e => yf (ix3 0 r (lane h e)) + yb (ix3 0 r (lane h e))) d
          * spread (fun e => yf (ix3 0 r (lane h e)) + yb (ix3 0 r (lane h e))) (Ideal.ofBits .f32 0x3A27C5AC#32) * g (ix2 0 (lane h d)) + b (ix2 0 (lane h d))
          + bonus (ix3 0 r (lane h d))) * (gate (ix3 0 r (lane h d)) * logistic (gate (ix3 0 r (lane h d)))) := by
  have ho : ∀ l, IsReal (oPay yf yb (ix2 r l)) := fun l => by rw [oPay_at]; exact (hf l).add (hb l)
  rw [outPay_at, cenPay_at _ r ho, spreadPay_at _ r ho]
  simp only [oPay_at, hd_lane, pl_lane]

end Cert.Gnorm.Krn
-- ==== Proof.GateRef.lean ====
module

public import proofs.«01_k».proof.Proof.Gen.GateRefIdeal.Run
public import proofs.«01_k».proof.Proof.Groups

/-! The group norm's reference, cut into named stages, each read at an index. -/

@[expose] public section
set_option maxRecDepth 16384

noncomputable section
namespace Cert.Gnorm.Ref
open Idealize.ShloMosaic Cert.GateRefIdeal Cert.GateRefIdeal.Gen Cert.Groups Cert.Rows

/-- The sum of the two scans, by channel groups. -/
def oT (yf yb : FVec Ideal S8x4096x256 .f32) : FVec Ideal S8x4096x4x64 .f32 :=
  addf (shapeCast _ yf shapeCasts_S8x4096x256_S8x4096x4x64) (shapeCast _ yb shapeCasts_S8x4096x256_S8x4096x4x64)

/-- The mean of each group. -/
def meanT (o : FVec Ideal S8x4096x4x64 .f32) : FVec Ideal S8x4096x4x1 .f32 :=
  Host.divf (broadcastInDim S8x4096x4x1 ![0, 1, 2] bcast_S8x4096x4_S8x4096x4x1_0_1_2 (Host.reduceAdd o (constant S_ .f32 0x00000000#32) reducesTo_S8x4096x4x64_S8x4096x4_d3 h_S_))
    (broadcastInDim S8x4096x4x1 ![] bcast_S_S8x4096x4x1 (constant S_ .f32 0x42800000#32))

/-- The values less their group's mean. -/
def cenT (o : FVec Ideal S8x4096x4x64 .f32) : FVec Ideal S8x4096x4x64 .f32 :=
  subf o (broadcastInDim S8x4096x4x64 ![0, 1, 2, 3] bcast_S8x4096x4x1_S8x4096x4x64_0_1_2_3 (meanT o))

/-- The reciprocal root of each group's variance. -/
def spreadT (o : FVec Ideal S8x4096x4x64 .f32) : FVec Ideal S8x4096x4x1 .f32 :=
  Host.rsqrt (addf (meanT (mulf (cenT o) (cenT o))) (broadcastInDim S8x4096x4x1 ![] bcast_S_S8x4096x4x1 (constant S_ .f32 0x3A27C5AC#32)))

/-- The normed sum with weights, shift and bonus. -/
def normT (o : FVec Ideal S8x4096x4x64 .f32) (prep : FVec Ideal S8x4096x2560 .f32) (g b : FVec Ideal S256 .f32) : FVec Ideal S8x4096x256 .f32 :=
  shapeCast _ (addf (addf (mulf (mulf (cenT o) (broadcastInDim S8x4096x4x64 ![0, 1, 2, 3] bcast_S8x4096x4x1_S8x4096x4x64_0_1_2_3 (spreadT o)))
      (broadcastInDim S8x4096x4x64 ![0, 1, 2, 3] bcast_S1x1x4x64_S8x4096x4x64_0_1_2_3 (broadcastInDim S1x1x4x64 ![2, 3] bcast_S4x64_S1x1x4x64_2_3 (shapeCast _ g shapeCasts_S256_S4x64))))
      (broadcastInDim S8x4096x4x64 ![0, 1, 2, 3] bcast_S1x1x4x64_S8x4096x4x64_0_1_2_3 (broadcastInDim S1x1x4x64 ![2, 3] bcast_S4x64_S1x1x4x64_2_3 (shapeCast _ b shapeCasts_S256_S4x64))))
    (shapeCast _ (extractStridedSlice S8x4096x256 ![0, 0, 2304] prep slices_S8x4096x2560_S8x4096x256_0_0_2304) shapeCasts_S8x4096x256_S8x4096x4x64)) shapeCasts_S8x4096x4x64_S8x4096x256

/-- The whole reference. -/
def out (yf yb : FVec Ideal S8x4096x256 .f32) (prep : FVec Ideal S8x4096x2560 .f32) (gate : FVec Ideal S8x4096x256 .f32) (g b : FVec Ideal S256 .f32) : FVec Ideal S8x4096x256 .f32 :=
  mulf (normT (oT yf yb) prep g b)
    (mulf gate (Host.divf (broadcastInDim S8x4096x256 ![] bcast_S_S8x4096x256 (constant S_ .f32 0x3F800000#32))
      (addf (broadcastInDim S8x4096x256 ![] bcast_S_S8x4096x256 (constant S_ .f32 0x3F800000#32)) (Host.exp (Host.negf gate)))))

theorem oT_at (yf yb : FVec Ideal S8x4096x256 .f32) (b : Fin 8) (t : Fin 4096) (h : Fin 4) (d : Fin 64) :
    oT yf yb (ix4 b t h d) = yf (ix3 b t (Natten.lane h d)) + yb (ix3 b t (Natten.lane h d)) := by
  pointwise [oT, Natten.lane]

theorem meanT_at (o : FVec Ideal S8x4096x4x64 .f32) (b : Fin 8) (t : Fin 4096) (h : Fin 4) :
    meanT o (ix4 b t h 0) = mean fun e => o (ix4 b t h e) := by
  pointwise [meanT]
  rfl

theorem cenT_at (o : FVec Ideal S8x4096x4x64 .f32) (b : Fin 8) (t : Fin 4096) (h : Fin 4) (d : Fin 64) :
    cenT o (ix4 b t h d) = centred (fun e => o (ix4 b t h e)) d := by
  pointwise [cenT, meanT_at]
  rfl

theorem spreadT_at (o : FVec Ideal S8x4096x4x64 .f32) (b : Fin 8) (t : Fin 4096) (h : Fin 4) :
    spreadT o (ix4 b t h 0) = spread (fun e => o (ix4 b t h e)) (Ideal.ofBits .f32 0x3A27C5AC#32) := by
  pointwise [spreadT, meanT_at, cenT_at]
  rfl

theorem normT_at (o : FVec Ideal S8x4096x4x64 .f32) (prep : FVec Ideal S8x4096x2560 .f32) (g b : FVec Ideal S256 .f32) (i : Fin 8) (t : Fin 4096) (h : Fin 4) (d : Fin 64) :
    normT o prep g b (ix3 i t (Natten.lane h d))
      = centred (fun e => o (ix4 i t h e)) d * spread (fun e => o (ix4 i t h e)) (Ideal.ofBits .f32 0x3A27C5AC#32) * g (ix1 (Natten.lane h d)) + b (ix1 (Natten.lane h d))
        + prep (ix3 i t ⟨2304 + (Natten.lane h d).val, by omega⟩) := by
  have e3 : (Natten.lane h d).val / 64 = h.val := by unfold Natten.lane; dsimp only; omega
  have e4 : (Natten.lane h d).val % 64 = d.val := by unfold Natten.lane; dsimp only; omega
  pointwise [normT, cenT_at, spreadT_at]
  simp only [e3, e4]

/-- One element of the result, from the token's values. -/
def elem (y : Fin 64 → EReal) (g b bonus gate : EReal) (d : Fin 64) : EReal :=
  (centred y d * spread y (Ideal.ofBits .f32 0x3A27C5AC#32) * g + b + bonus) * (gate * logistic gate)

theorem out_at (yf yb : FVec Ideal S8x4096x256 .f32) (prep : FVec Ideal S8x4096x2560 .f32) (gate : FVec Ideal S8x4096x256 .f32) (g b : FVec Ideal S256 .f32) (i : Fin 8) (t : Fin 4096) (h : Fin 4) (d : Fin 64) :
    out yf yb prep gate g b (ix3 i t (Natten.lane h d))
      = elem (fun e => yf (ix3 i t (Natten.lane h e)) + yb (ix3 i t (Natten.lane h e))) (g (ix1 (Natten.lane h d))) (b (ix1 (Natten.lane h d)))
          (prep (ix3 i t ⟨2304 + (Natten.lane h d).val, by omega⟩)) (gate (ix3 i t (Natten.lane h d))) d := by
  pointwise [out, normT_at, oT_at]
  rfl

/-- The reference's run, its result these stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans rfl, (h c).2⟩) (Value.run m ρ)

end Cert.Gnorm.Ref
-- ==== Proof.GateArray.lean ====
module

public import proofs.«01_k».proof.Proof.Gen.GateIdeal.Value
public import proofs.«01_k».proof.Proof.GateBody
public import proofs.«01_k».proof.Proof.GateRef
public import Idealize.ShloMosaic.Lib.Pipeline.ValueKit
public import Idealize.ShloMosaic.Lib.Pipeline.Covers
public import Idealize.ShloMosaic.Lib.StableHlo.ReadAt

/-! The group norm's windows, and its output array: the reference's result. -/

@[expose] public section
set_option maxRecDepth 16384

noncomputable section
namespace Cert.Gnorm.Krn
open Idealize.ShloMosaic Idealize.ShloMosaic.TcCoe Idealize.ShloMosaic.Pipeline Cert.GateIdeal Cert.GateIdeal.Gen Cert.GateIdeal.Value

variable (m : (ℓ : Loc nD τ sig) → Buf (Elt Ideal) ℓ)

/-- The six arguments. -/
abbrev A0 (c : Dev nD) : S8x4096x256.Idx → EReal := m ((c : Thread nD τ).loc main_arg0)
abbrev A1 (c : Dev nD) : S8x4096x256.Idx → EReal := m ((c : Thread nD τ).loc main_arg1)
abbrev A2 (c : Dev nD) : S8x4096x2560.Idx → EReal := m ((c : Thread nD τ).loc main_arg2)
abbrev A3 (c : Dev nD) : S8x4096x256.Idx → EReal := m ((c : Thread nD τ).loc main_arg3)
abbrev A4 (c : Dev nD) : S256.Idx → EReal := m ((c : Thread nD τ).loc main_arg4)
abbrev A5 (c : Dev nD) : S256.Idx → EReal := m ((c : Thread nD τ).loc main_arg5)

/-- The batch element of a grid point. -/
def bAt (t : Fin cfg0.N) : Fin 8 := grid0.coords t 0
/-- The tile of 512 tokens of a grid point. -/
def tAt (t : Fin cfg0.N) : Fin 8 := grid0.coords t 1
/-- The token of a tile's row. -/
def tok (n : Fin 8) (r : Fin 512) : Fin 4096 := ⟨n.val * 512 + r.val, by omega⟩

theorem w32 (n : Nat) (h : n < 4096) : (BitVec.ofNat 32 n).toNat = n := by
  rw [BitVec.toNat_ofNat]; omega

theorem ix_bAt (t : Fin cfg0.N) : (BitVec.ofNat 32 (grid0.coords t 0).val).toNat = (bAt t).val := w32 _ (by have := (bAt t).isLt; unfold bAt at this; omega)
theorem ix_tAt (t : Fin cfg0.N) : (BitVec.ofNat 32 (grid0.coords t 1).val).toNat = (tAt t).val := w32 _ (by have := (tAt t).isLt; unfold tAt at this; omega)

theorem ix0_0 (t : Fin cfg0.N) : win0_0.index t 0 = (bAt t).val := ix_bAt t
theorem ix0_1 (t : Fin cfg0.N) : win0_0.index t 1 = (tAt t).val := ix_tAt t
theorem ix0_2 (t : Fin cfg0.N) : win0_0.index t 2 = 0 := rfl
theorem ix1_0 (t : Fin cfg0.N) : win0_1.index t 0 = (bAt t).val := ix_bAt t
theorem ix1_1 (t : Fin cfg0.N) : win0_1.index t 1 = (tAt t).val := ix_tAt t
theorem ix1_2 (t : Fin cfg0.N) : win0_1.index t 2 = 0 := rfl
theorem ix2_0 (t : Fin cfg0.N) : win0_2.index t 0 = (bAt t).val := ix_bAt t
theorem ix2_1 (t : Fin cfg0.N) : win0_2.index t 1 = (tAt t).val := ix_tAt t
theorem ix2_2 (t : Fin cfg0.N) : win0_2.index t 2 = 9 := rfl
theorem ix3_0 (t : Fin cfg0.N) : win0_3.index t 0 = (bAt t).val := ix_bAt t
theorem ix3_1 (t : Fin cfg0.N) : win0_3.index t 1 = (tAt t).val := ix_tAt t
theorem ix3_2 (t : Fin cfg0.N) : win0_3.index t 2 = 0 := rfl
theorem ix6_0 (t : Fin cfg0.N) : win0_6.index t 0 = (bAt t).val := ix_bAt t
theorem ix6_1 (t : Fin cfg0.N) : win0_6.index t 1 = (tAt t).val := ix_tAt t
theorem ix6_2 (t : Fin cfg0.N) : win0_6.index t 2 = 0 := rfl
theorem ix4_0 (t : Fin cfg0.N) : win0_4.index t 0 = 0 := rfl
theorem ix4_1 (t : Fin cfg0.N) : win0_4.index t 1 = 0 := rfl
theorem ix5_0 (t : Fin cfg0.N) : win0_5.index t 0 = 0 := rfl
theorem ix5_1 (t : Fin cfg0.N) : win0_5.index t 1 = 0 := rfl

theorem yf_blk (c : Dev nD) (t : Fin cfg0.N) (r : Fin 512) (j : Fin 256) : iblk m c 0 t (ix3 0 r j) = A0 m c (ix3 (bAt t) (tok (tAt t) r) j) := by
  blk_ext [iblk, V_main_arg0, ix0_0, ix0_1, ix0_2, tok]

theorem yb_blk (c : Dev nD) (t : Fin cfg0.N) (r : Fin 512) (j : Fin 256) : iblk m c 1 t (ix3 0 r j) = A1 m c (ix3 (bAt t) (tok (tAt t) r) j) := by
  blk_ext [iblk, V_main_arg1, ix1_0, ix1_1, ix1_2, tok]

theorem gate_blk (c : Dev nD) (t : Fin cfg0.N) (r : Fin 512) (j : Fin 256) : iblk m c 3 t (ix3 0 r j) = A3 m c (ix3 (bAt t) (tok (tAt t) r) j) := by
  blk_ext [iblk, V_main_arg3, ix3_0, ix3_1, ix3_2, tok]

/-- The bonus: the last of the prepared array's column blocks. -/
theorem bonus_blk (c : Dev nD) (t : Fin cfg0.N) (r : Fin 512) (j : Fin 256) : iblk m c 2 t (ix3 0 r j) = A2 m c (ix3 (bAt t) (tok (tAt t) r) ⟨2304 + j.val, by omega⟩) := by
  blk_ext [iblk, V_main_arg2, ix2_0, ix2_1, ix2_2, tok]

/-- The norm's weights, which the host lays out as one row. -/
theorem g_blk (c : Dev nD) (t : Fin cfg0.N) (j : Fin 256) : iblk m c 4 t (ix2 0 j) = A4 m c (ix1 j) := by
  have e : V m c main_v0 (ix2 0 j) = A4 m c (ix1 j) := by
    unfold V
    after_reads_at
  rw [← e]
  blk_ext [iblk, ix4_0, ix4_1]

/-- The norm's shift, which the host lays out as one row. -/
theorem b_blk (c : Dev nD) (t : Fin cfg0.N) (j : Fin 256) : iblk m c 5 t (ix2 0 j) = A5 m c (ix1 j) := by
  have e : V m c main_v1 (ix2 0 j) = A5 m c (ix1 j) := by
    unfold V
    after_reads_at
  rw [← e]
  blk_ext [iblk, ix5_0, ix5_1]

theorem covers6 : (cfg0.win 6).Covers := by
  refine (cfg0.win 6).covers_of_indexMap_surj rfl (by decide) fun β => ?_
  have hβ0 : (β 0).val < 8 := (β 0).isLt
  have hβ1 : (β 1).val < 8 := (β 1).isLt
  have hβ2 : (β 2).val < 1 := (β 2).isLt
  refine ⟨fun a => match a with | ⟨0, _⟩ => ⟨(β 0).val, hβ0⟩ | ⟨1, _⟩ => ⟨(β 1).val, hβ1⟩, fun a => ?_⟩
  match a with
  | ⟨0, _⟩ => exact w32 (β 0).val (by omega)
  | ⟨1, _⟩ => exact w32 (β 1).val (by omega)
  | ⟨2, _⟩ => exact (Nat.lt_one_iff.1 hβ2).symm

theorem emb_out (t : Fin cfg0.N) (r : Fin 512) (j : Fin 256) : (win0_6.blk t).view.emb (ix3 0 r j) = ix3 (bAt t) (tok (tAt t) r) j := by
  blk_ext [ix6_0, ix6_1, ix6_2, tok]

theorem idx_out (y : S1x512x256.Idx) : ∃ (r : Fin 512) (h : Fin 4) (d : Fin 64), y = ix3 0 r (Natten.lane h d) := by
  have h0 : (y 0).val < 1 := (y 0).isLt
  refine ⟨y 1, Groups.hd (y 2), Groups.pl (y 2), funext fun a => ?_⟩
  match a with
  | ⟨0, _⟩ => exact Fin.ext (Nat.lt_one_iff.1 h0)
  | ⟨1, _⟩ => rfl
  | ⟨2, _⟩ => exact (Groups.lane_hd (y 2)).symm

/-- The output array is the reference's result, the scans being real. -/
theorem arr_eq (c : Dev nD) (hf : ∀ i, Natten.IsReal (A0 m c i)) (hb : ∀ i, Natten.IsReal (A1 m c i)) : (dats m 0 c).arrAt 6 cfg0.N
    = (Ref.out (A0 m c) (A1 m c) (A2 m c) (A3 m c) (A4 m c) (A5 m c) : S8x4096x256.Idx → EReal) := by
  refine (dats m 0 c).arrAt_eq_of_covers 6 _ covers6 fun t _ y => ?_
  rw [after0_6]
  unfold_out out0_6
  frame_out
  blk_simp
  obtain ⟨r, h, d, rfl⟩ := idx_out y
  rw [emb_out]
  refine (body_at (iblk m c 0 t) (iblk m c 1 t) (iblk m c 2 t) (iblk m c 3 t) (iblk m c 4 t) (iblk m c 5 t) r
    (fun l => by rw [yf_blk]; exact hf _) (fun l => by rw [yb_blk]; exact hb _) h d).trans ?_
  rw [Ref.out_at]
  simp only [yf_blk, yb_blk, bonus_blk, gate_blk, g_blk, b_blk]
  rfl

end Cert.Gnorm.Krn
-- ==== Proof.CtxRef.lean ====
module

public import proofs.«01_k».proof.Proof.Gen.CtxRefIdeal.Run
public import proofs.«01_k».proof.Proof.Groups

/-! The context attention's reference, cut into named stages, each read at an index. -/

@[expose] public section
set_option maxRecDepth 16384

noncomputable section
namespace Cert.Context
open Idealize.ShloMosaic Cert.Natten

/-- A row of attention over the context: the weighted sum divided once is the sum weighted by the quotients. -/
theorem row_eq (t w : Fin 256 → EReal) (ht : ∀ k, IsReal (t k)) (M : EReal) (hM : M = (Finset.univ : Finset (Fin 256)).fold max Natten.hidden t) :
    Ideal.div (∑ k, Ideal.exp (t k - M) * w k) (∑ k, Ideal.exp (t k - M)) = ∑ k, w k * Ideal.div (Ideal.exp (t k - M)) (∑ x, Ideal.exp (t x - M)) := by
  have hMt : M ≠ ⊤ := by
    rw [hM, hidden_eq]
    change Finset.sup _ _ ≠ ⊤
    rw [← lt_top_iff_ne_top, Finset.sup_lt_iff bot_lt_top]
    exact fun k _ => lt_top_iff_ne_top.2 (ht k).ne_top
  generalize hD : ∑ k, Ideal.exp (t k - M) = D
  have hpos : 0 < D := by
    rw [← hD]
    have h1 : t 0 - M ≠ ⊥ := by
      rw [sub_eq_add_neg, Ne, EReal.add_eq_bot_iff, not_or, EReal.neg_eq_bot_iff]
      exact ⟨(ht 0).ne_bot, hMt⟩
    exact lt_of_lt_of_le (exp_pos' h1) (Finset.single_le_sum (f := fun k => Ideal.exp (t k - M)) (fun k _ => exp_nonneg' _) (Finset.mem_univ (0 : Fin 256)))
  have hd : ∀ x, Ideal.div x D = x * D⁻¹ := fun x => by rw [Ideal.div, if_neg hpos.ne']
  simp only [hd]
  rw [sum_mul_const _ _ (EReal.inv_nonneg_of_nonneg hpos.le) (EReal.inv_lt_top D).ne]
  exact Finset.sum_congr rfl fun k _ => by rw [mul_comm (Ideal.exp _), mul_assoc]

/-- The greatest of a row, with minus infinity beside it. -/
theorem top_eq (t : Fin 256 → EReal) : max Natten.hidden ((Finset.univ : Finset (Fin 256)).fold max Natten.hidden t) = (Finset.univ : Finset (Fin 256)).fold max Natten.hidden t := by
  rw [hidden_eq]; exact bot_sup_eq _

end Cert.Context

namespace Cert.Context.Ref
open Idealize.ShloMosaic Cert.CtxRefIdeal Cert.CtxRefIdeal.Gen Cert.Natten Cert.Rows

/-- Queries, keys and values by heads. -/
def qT (a : FVec Ideal S8x256x1024 .f32) : FVec Ideal S8x256x4x64 .f32 :=
  shapeCast _ (extractStridedSlice S8x256x256 ![0, 0, 0] a slices_S8x256x1024_S8x256x256_0_0_0) shapeCasts_S8x256x256_S8x256x4x64
def kT (a : FVec Ideal S8x256x1024 .f32) : FVec Ideal S8x256x4x64 .f32 :=
  shapeCast _ (extractStridedSlice S8x256x256 ![0, 0, 256] a slices_S8x256x1024_S8x256x256_0_0_256) shapeCasts_S8x256x256_S8x256x4x64
def vT (a : FVec Ideal S8x256x1024 .f32) : FVec Ideal S8x256x4x64 .f32 :=
  shapeCast _ (extractStridedSlice S8x256x256 ![0, 0, 512] a slices_S8x256x1024_S8x256x256_0_0_512) shapeCasts_S8x256x256_S8x256x4x64

/-- The scaled scores. -/
def scoreT (a : FVec Ideal S8x256x1024 .f32) : FVec Ideal S8x4x256x256 .f32 :=
  mulf (Host.dotGeneral dot_S8x256x4x64_S8x256x4x64_S8x4x256x256_3_3_1_1_02_02 none (qT a) (kT a)) (broadcastInDim S8x4x256x256 ![] bcast_S_S8x4x256x256 (constant S_ .f32 0x3E000000#32))

/-- Each row's greatest score. -/
def maxT (s : FVec Ideal S8x4x256x256 .f32) : FVec Ideal S8x4x256 .f32 :=
  Host.reduce FloatOps.maximumf s (constant S_ .f32 0xFF800000#32) reducesTo_S8x4x256x256_S8x4x256_d3 h_S_
def topT (M : FVec Ideal S8x4x256 .f32) : FVec Ideal S8x4x256 .f32 :=
  maximumf (broadcastInDim S8x4x256 ![] bcast_S_S8x4x256 (constant S_ .f32 0xFF800000#32)) M

/-- The exponentials below it. -/
def expT (s : FVec Ideal S8x4x256x256 .f32) (M : FVec Ideal S8x4x256 .f32) : FVec Ideal S8x4x256x256 .f32 :=
  Host.exp (subf s (broadcastInDim S8x4x256x256 ![0, 1, 2, 3] bcast_S8x4x256x1_S8x4x256x256_0_1_2_3 (broadcastInDim S8x4x256x1 ![0, 1, 2] bcast_S8x4x256_S8x4x256x1_0_1_2 M)))

/-- Their quotients by the row's sum. -/
def softT (e : FVec Ideal S8x4x256x256 .f32) : FVec Ideal S8x4x256x256 .f32 :=
  Host.divf e (broadcastInDim S8x4x256x256 ![0, 1, 2, 3] bcast_S8x4x256x1_S8x4x256x256_0_1_2_3 (broadcastInDim S8x4x256x1 ![0, 1, 2] bcast_S8x4x256_S8x4x256x1_0_1_2
    (Host.reduceAdd e (constant S_ .f32 0x00000000#32) reducesTo_S8x4x256x256_S8x4x256_d3 h_S_)))

/-- The weighted values, heads side by side. -/
def mixT (v : FVec Ideal S8x256x4x64 .f32) (p : FVec Ideal S8x4x256x256 .f32) : FVec Ideal S8x256x256 .f32 :=
  shapeCast _ (transpose S8x256x4x64 [0, 3, 1, 2] (Host.dotGeneral dot_S8x256x4x64_S8x4x256x256_S8x4x64x256_1_3_3_2_02_01 none v p) transposes_S8x4x64x256_S8x256x4x64_0_3_1_2) shapeCasts_S8x256x4x64_S8x256x256

/-- The gate's factor. -/
def gateT (a : FVec Ideal S8x256x1024 .f32) : FVec Ideal S8x256x256 .f32 :=
  mulf (extractStridedSlice S8x256x256 ![0, 0, 768] a slices_S8x256x1024_S8x256x256_0_0_768)
    (Host.divf (broadcastInDim S8x256x256 ![] bcast_S_S8x256x256 (constant S_ .f32 0x3F800000#32))
      (addf (broadcastInDim S8x256x256 ![] bcast_S_S8x256x256 (constant S_ .f32 0x3F800000#32)) (Host.exp (Host.negf (extractStridedSlice S8x256x256 ![0, 0, 768] a slices_S8x256x1024_S8x256x256_0_0_768)))))

/-- The whole reference. -/
def out (a : FVec Ideal S8x256x1024 .f32) : FVec Ideal S8x256x256 .f32 :=
  mulf (mixT (vT a) (softT (expT (scoreT a) (topT (maxT (scoreT a)))))) (gateT a)

theorem qT_at (a : FVec Ideal S8x256x1024 .f32) (b : Fin 8) (n : Fin 256) (h : Fin 4) (d : Fin 64) : qT a (ix4 b n h d) = a (ix3 b n ⟨(lane h d).val, by omega⟩) := by
  pointwise [qT, lane]
theorem kT_at (a : FVec Ideal S8x256x1024 .f32) (b : Fin 8) (n : Fin 256) (h : Fin 4) (d : Fin 64) : kT a (ix4 b n h d) = a (ix3 b n ⟨256 + (lane h d).val, by omega⟩) := by
  pointwise [kT, lane]
theorem vT_at (a : FVec Ideal S8x256x1024 .f32) (b : Fin 8) (n : Fin 256) (h : Fin 4) (d : Fin 64) : vT a (ix4 b n h d) = a (ix3 b n ⟨512 + (lane h d).val, by omega⟩) := by
  pointwise [vT, lane]

/-- One score: a query's head against a key's. -/
def score (q k : Fin 256 → EReal) (h : Fin 4) : EReal := (∑ d, q (lane h d) * k (lane h d)) * eighth

theorem scoreT_at (a : FVec Ideal S8x256x1024 .f32) (b : Fin 8) (h : Fin 4) (n k : Fin 256) :
    scoreT a (ix4 b h n k) = score (fun l => a (ix3 b n ⟨l.val, by omega⟩)) (fun l => a (ix3 b k ⟨256 + l.val, by omega⟩)) h := by
  pointwise [scoreT, qT_at, kT_at]
  rfl

/-- A maximum over the last of four axes is the maximum along it. -/
theorem reduceMax_last {p q r s : ℕ} (x : (⟨4, ![p, q, r, s]⟩ : Shape).Idx → EReal) (init : (⟨0, ![]⟩ : Shape).Idx → EReal)
    (hr : (⟨4, ![p, q, r, s]⟩ : Shape).ReducesTo [3] ⟨3, ![p, q, r]⟩) (hu : 0 < (⟨0, ![]⟩ : Shape).numel) (a : Fin p) (b : Fin q) (c : Fin r) :
    Host.reduce (FloatOps.maximumf (F := Ideal) (φ := .f32)) x init hr hu (ix3 a b c) = (Finset.univ : Finset (Fin s)).fold max (init ix0) (fun k => x (ix4 a b c k)) := by
  pointwise
  rw [show Shape.Idx.first hu = ix0 from funext fun e => Fin.elim0 e]

theorem maxT_start (s : FVec Ideal S8x4x256x256 .f32) (b : Fin 8) (h : Fin 4) (n : Fin 256) :
    maxT s (ix3 b h n) = (Finset.univ : Finset (Fin 256)).fold max ((constant (F := Ideal) S_ .f32 0xFF800000#32) ix0) fun k => s (ix4 b h n k) := by
  unfold maxT
  rw [reduceMax_last]

theorem maxT_at (s : FVec Ideal S8x4x256x256 .f32) (b : Fin 8) (h : Fin 4) (n : Fin 256) :
    maxT s (ix3 b h n) = (Finset.univ : Finset (Fin 256)).fold max Natten.hidden fun k => s (ix4 b h n k) :=
  maxT_start s b h n

theorem topT_at (M : FVec Ideal S8x4x256 .f32) (b : Fin 8) (h : Fin 4) (n : Fin 256) : topT M (ix3 b h n) = max Natten.hidden (M (ix3 b h n)) := rfl

theorem expT_at (s : FVec Ideal S8x4x256x256 .f32) (M : FVec Ideal S8x4x256 .f32) (b : Fin 8) (h : Fin 4) (n k : Fin 256) :
    expT s M (ix4 b h n k) = Ideal.exp (s (ix4 b h n k) - M (ix3 b h n)) := by
  pointwise [expT]

theorem softT_at (e : FVec Ideal S8x4x256x256 .f32) (b : Fin 8) (h : Fin 4) (n k : Fin 256) :
    softT e (ix4 b h n k) = Ideal.div (e (ix4 b h n k)) (∑ x, e (ix4 b h n x)) := by
  pointwise [softT]

theorem mixT_at (v : FVec Ideal S8x256x4x64 .f32) (p : FVec Ideal S8x4x256x256 .f32) (b : Fin 8) (n : Fin 256) (h : Fin 4) (d : Fin 64) :
    mixT v p (ix3 b n (lane h d)) = ∑ k, v (ix4 b k h d) * p (ix4 b h n k) := by
  have e3 : (lane h d).val / 64 = h.val := by unfold lane; dsimp only; omega
  have e4 : (lane h d).val % 64 = d.val := by unfold lane; dsimp only; omega
  pointwise [mixT]
  simp only [e3, e4]

theorem gateT_at (a : FVec Ideal S8x256x1024 .f32) (b : Fin 8) (n l : Fin 256) :
    gateT a (ix3 b n l) = a (ix3 b n ⟨768 + l.val, by omega⟩) * logistic (a (ix3 b n ⟨768 + l.val, by omega⟩)) := by
  pointwise [gateT]
  rfl

/-- The whole reference at an index, from a row's scores and their greatest. -/
theorem out_at (a : FVec Ideal S8x256x1024 .f32) (b : Fin 8) (n : Fin 256) (h : Fin 4) (d : Fin 64) (t : Fin 256 → EReal)
    (ht : ∀ k, score (fun l => a (ix3 b n ⟨l.val, by omega⟩)) (fun l => a (ix3 b k ⟨256 + l.val, by omega⟩)) h = t k)
    (M : EReal) (hM : M = (Finset.univ : Finset (Fin 256)).fold max Natten.hidden t) :
    out a (ix3 b n (lane h d))
      = (∑ k, a (ix3 b k ⟨512 + (lane h d).val, by omega⟩) * Ideal.div (Ideal.exp (t k - M)) (∑ x, Ideal.exp (t x - M)))
        * (a (ix3 b n ⟨768 + (lane h d).val, by omega⟩) * logistic (a (ix3 b n ⟨768 + (lane h d).val, by omega⟩))) := by
  have hs : ∀ k, scoreT a (ix4 b h n k) = t k := fun k => (scoreT_at a b h n k).trans (ht k)
  have he : ∀ k, expT (scoreT a) (topT (maxT (scoreT a))) (ix4 b h n k) = Ideal.exp (t k - M) := fun k => by
    rw [expT_at, topT_at, maxT_at, top_eq, hM]; simp only [hs]
  have ho : out a (ix3 b n (lane h d)) = mixT (vT a) (softT (expT (scoreT a) (topT (maxT (scoreT a))))) (ix3 b n (lane h d)) * gateT a (ix3 b n (lane h d)) := rfl
  rw [ho, gateT_at, mixT_at]
  simp only [softT_at, he, vT_at]

/-- The reference's run, its result these stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = out (m ((c.tc : Thread nD τ).loc main_arg0))
      ∧ r.2.mem ((c.tc : Thread nD τ).loc main_arg0) = m ((c.tc : Thread nD τ).loc main_arg0) :=
  (θ_run defs _ _).mono (fun _ h c => ⟨(h c).1.trans rfl, (h c).2⟩) (Value.run m ρ)

end Cert.Context.Ref
-- ==== Proof.CtxBody.lean ====
module

public import proofs.«01_k».proof.Proof.Gen.CtxIdeal.Skeleton
public import proofs.«01_k».proof.Proof.Block
public import proofs.«01_k».proof.Proof.CtxRef

/-! The context attention's body read at an index. -/

@[expose] public section
set_option maxRecDepth 16384

noncomputable section
namespace Cert.Context.Krn
open Idealize.ShloMosaic Cert.CtxIdeal Cert.CtxIdeal.Gen Cert.Natten Cert.Natten.Krn Cert.Rows

/-- The head of a lane, as the stacking and the un-stacking compute it. -/
theorem laneHead_at (q : Fin 64) (l : Fin 256) : Cert.CtxIdeal.Gen.k0_pay3 (ix2 q l) = BitVec.ofNat 32 (l.val / 64) := by
  revert l; pointwise [Cert.CtxIdeal.Gen.k0_pay3]; decide +kernel
theorem laneBack_at (q : Fin 64) (l : Fin 256) : Scalar.select (IntOp.andi (k0_pay9 (ix2 q l)) (IntOp.cmpi .ne (k0_pay10 (ix2 q l)) 0#32))
    (IntOp.subi (k0_pay8 (ix2 q l)) 1#32) (k0_pay8 (ix2 q l)) = BitVec.ofNat 32 (l.val / 64) := by
  revert l; pointwise [k0_pay8, k0_pay9, k0_pay10]; decide +kernel

/-- A selection by a lane's head, for each of the four heads. -/
theorem sel_four (l : Fin 256) (x y : EReal) :
    Scalar.select (IntOp.cmpi .eq (BitVec.ofNat 32 (l.val / 64)) 0#32) x y = (if l.val / 64 = 0 then x else y)
    ∧ Scalar.select (IntOp.cmpi .eq (BitVec.ofNat 32 (l.val / 64)) 1#32) x y = (if l.val / 64 = 1 then x else y)
    ∧ Scalar.select (IntOp.cmpi .eq (BitVec.ofNat 32 (l.val / 64)) 2#32) x y = (if l.val / 64 = 2 then x else y)
    ∧ Scalar.select (IntOp.cmpi .eq (BitVec.ofNat 32 (l.val / 64)) 3#32) x y = (if l.val / 64 = 3 then x else y) :=
  ⟨sel_head l 0 x y, sel_head l 1 x y, sel_head l 2 x y, sel_head l 3 x y⟩

/-- The stacked, scaled queries. -/
def headsPay (x : FVec Ideal S1x64x256 .f32) : S256x256.Idx → EReal :=
  concatenate S256x256 0 [⟨S64x256, Cert.CtxIdeal.Gen.k0_pay4 (F := Ideal) x⟩, ⟨S64x256, Cert.CtxIdeal.Gen.k0_pay5 (F := Ideal) x⟩, ⟨S64x256, Cert.CtxIdeal.Gen.k0_pay6 (F := Ideal) x⟩,
    ⟨S64x256, (select (cmpi .eq Cert.CtxIdeal.Gen.k0_pay3 (broadcast S64x256 3#32)) (Cert.CtxIdeal.Gen.k0_pay2 (F := Ideal) x) (broadcast S64x256 (Scalar.ofBits (F := Ideal) .f32 0x00000000#32)) : FVec Ideal S64x256 .f32)⟩]
    concatenates_S64x256_S64x256_S64x256_S64x256_S256x256_d0

/-- The scores against the context's keys. -/
def scorePay (q : S256x256.Idx → EReal) (k : FVec Ideal S1x256x256 .f32) : S256x256.Idx → EReal :=
  matmul (F := Ideal) (φ₁ := .bf16) (φ₂ := .f32) dot_S256x256_S256x256_S256x256_1_1_0_0_n_n none q (truncf .bf16 (shapeCast S256x256 k shapeCasts_S1x256x256_S256x256) bitsLt_bf16_f32) (constant S256x256 .f32 0x00000000#32)

/-- The exponentials below each row's greatest score. -/
def expPay (s : S256x256.Idx → EReal) : S256x256.Idx → EReal :=
  exp (F := Ideal) (φ := .f32) (subf (F := Ideal) (φ := .f32) s (broadcastTo S256x256 (shapeCast S256x1 (multiReduction (F := Ideal) (φ := .f32) .maximumf [1] S256 s 0xFF800000#32 reduces_S256x256_S256 (.inl rfl) rfl) shapeCasts_S256_S256x1) broadcasts_S256x1_S256x256))

/-- The weighted values over the exponentials' sum. -/
def divPay (e : S256x256.Idx → EReal) (v : FVec Ideal S1x256x256 .f32) : S256x256.Idx → EReal :=
  divf (F := Ideal) (φ := .f32) (matmul (F := Ideal) (φ₁ := .bf16) (φ₂ := .f32) dot_S256x256_S256x256_S256x256_1_0_0_1_n_n none e (truncf .bf16 (shapeCast S256x256 v shapeCasts_S1x256x256_S256x256) bitsLt_bf16_f32) (constant S256x256 .f32 0x00000000#32))
    (broadcastTo S256x256 (shapeCast S256x1 (multiReduction (F := Ideal) (φ := .f32) .add [1] S256 e 0x00000000#32 reduces_S256x256_S256 (.inl rfl) rfl) shapeCasts_S256_S256x1) broadcasts_S256x1_S256x256)

/-- The printed quotient is those stages. -/
def quoPay (x : FVec Ideal S1x64x256 .f32) (k v : FVec Ideal S1x256x256 .f32) : S256x256.Idx → EReal :=
  Cert.CtxIdeal.Gen.k0_pay7 (F := Ideal) (Cert.CtxIdeal.Gen.k0_pay2 x) Cert.CtxIdeal.Gen.k0_pay3 (Cert.CtxIdeal.Gen.k0_pay4 x) (Cert.CtxIdeal.Gen.k0_pay5 x) (Cert.CtxIdeal.Gen.k0_pay6 x) k v
theorem quoPay_eq (x : FVec Ideal S1x64x256 .f32) (k v : FVec Ideal S1x256x256 .f32) : quoPay x k v = divPay (expPay (scorePay (headsPay x) k)) v := rfl

/-- What the body stores. -/
def storePay (o : S256x256.Idx → EReal) (g : FVec Ideal S1x64x256 .f32) : S1x64x256.Idx → EReal := Cert.CtxIdeal.Gen.k0_pay1 (F := Ideal) o k0_pay8 k0_pay9 k0_pay10 g

theorem headsPay_at (x : FVec Ideal S1x64x256 .f32) (h : Fin 4) (q : Fin 64) (l : Fin 256) :
    headsPay x (ix2 (row h q) l) = if l.val / 64 = h.val then x (ix3 0 q l) * eighth else 0 := by
  pointwise [headsPay, Cert.CtxIdeal.Gen.k0_pay2, Cert.CtxIdeal.Gen.k0_pay4, Cert.CtxIdeal.Gen.k0_pay5, Cert.CtxIdeal.Gen.k0_pay6, laneHead_at, row, eighth]
  simp only [(sel_four l _ _).1, (sel_four l _ _).2.1, (sel_four l _ _).2.2.1, (sel_four l _ _).2.2.2]
  have hq : ∀ (n : Nat) (p : n < 64), n = q.val → (⟨n, p⟩ : Fin 64) = q := fun n p hn => Fin.ext hn
  rcases h with ⟨n, hn⟩
  interval_cases n
  · rw [dif_pos (by dsimp only; omega), hq _ _ (by dsimp only; omega)]
  · rw [dif_neg (by dsimp only; omega), dif_pos (by dsimp only; omega), hq _ _ (by dsimp only; omega)]
  · rw [dif_neg (by dsimp only; omega), dif_neg (by dsimp only; omega), dif_pos (by dsimp only; omega), hq _ _ (by dsimp only; omega)]
  · rw [dif_neg (by dsimp only; omega), dif_neg (by dsimp only; omega), dif_neg (by dsimp only; omega), hq _ _ (by dsimp only; omega)]

theorem scorePay_at (q : S256x256.Idx → EReal) (k : FVec Ideal S1x256x256 .f32) (R c : Fin 256) : scorePay q k (ix2 R c) = ∑ l, q (ix2 R l) * k (ix3 0 c l) := by
  pointwise [scorePay]

/-- A head's row of scores. -/
theorem scorePay_row (x : FVec Ideal S1x64x256 .f32) (k : FVec Ideal S1x256x256 .f32) (h : Fin 4) (q : Fin 64) (c : Fin 256) :
    scorePay (headsPay x) k (ix2 (row h q) c) = Ref.score (fun l => x (ix3 0 q l)) (fun l => k (ix3 0 c l)) h := by
  rw [scorePay_at, Ref.score, sum_mul_const _ _ eighth_nonneg eighth_ne_top, ← sum_lane h fun l => x (ix3 0 q l) * k (ix3 0 c l) * eighth]
  refine Finset.sum_congr rfl fun l _ => ?_
  rw [headsPay_at]
  split
  · rw [mul_assoc, mul_comm eighth, ← mul_assoc]
  · exact zero_mul _

theorem expPay_at (s : S256x256.Idx → EReal) (R c : Fin 256) : expPay s (ix2 R c) = Ideal.exp (s (ix2 R c) - (Finset.univ : Finset (Fin 256)).fold max Natten.hidden fun k => s (ix2 R k)) := by
  pointwise [expPay]
  rfl

theorem divPay_at (e : S256x256.Idx → EReal) (v : FVec Ideal S1x256x256 .f32) (R l : Fin 256) : divPay e v (ix2 R l) = Ideal.div (∑ k, e (ix2 R k) * v (ix3 0 k l)) (∑ k, e (ix2 R k)) := by
  pointwise [divPay]

theorem storePay_at (o : S256x256.Idx → EReal) (g : FVec Ideal S1x64x256 .f32) (q : Fin 64) (h : Fin 4) (d : Fin 64) :
    storePay o g (ix3 0 q (lane h d)) = o (ix2 (row h q) (lane h d)) * (g (ix3 0 q (lane h d)) * logistic (g (ix3 0 q (lane h d)))) := by
  have hl : (lane h d).val / 64 = h.val := by unfold lane; dsimp only; omega
  generalize lane h d = l at hl ⊢
  pointwise [storePay, Cert.CtxIdeal.Gen.k0_pay1, laneBack_at]
  rw [hl, zero_sub]
  have hr : ∀ (n : Nat) (p : n < 256), n = h.val * 64 + q.val → (⟨n, p⟩ : Fin 256) = row h q := fun n p hn => Fin.ext hn
  unfold Rows.logistic
  congr 1
  rcases h with ⟨n, hn⟩
  interval_cases n
  · rw [hr q.val _ (by dsimp only; omega)]; rfl
  · rw [hr (64 + q.val) _ (by dsimp only)]; rfl
  · rw [hr (128 + q.val) _ (by dsimp only)]; rfl
  · rw [hr (192 + q.val) _ (by dsimp only)]; rfl

/-- One element of what the body stores, the row's scores being real. -/
theorem body_at (x : FVec Ideal S1x64x256 .f32) (k v : FVec Ideal S1x256x256 .f32) (g : FVec Ideal S1x64x256 .f32) (q : Fin 64) (h : Fin 4) (d : Fin 64)
    (t : Fin 256 → EReal) (ht : ∀ c, Ref.score (fun l => x (ix3 0 q l)) (fun l => k (ix3 0 c l)) h = t c) (hr : ∀ c, IsReal (t c))
    (M : EReal) (hM : M = (Finset.univ : Finset (Fin 256)).fold max Natten.hidden t) :
    storePay (quoPay x k v) g (ix3 0 q (lane h d))
      = (∑ c, v (ix3 0 c (lane h d)) * Ideal.div (Ideal.exp (t c - M)) (∑ y, Ideal.exp (t y - M))) * (g (ix3 0 q (lane h d)) * logistic (g (ix3 0 q (lane h d)))) := by
  have hs : ∀ c, scorePay (headsPay x) k (ix2 (row h q) c) = t c := fun c => (scorePay_row x k h q c).trans (ht c)
  have he : ∀ c, expPay (scorePay (headsPay x) k) (ix2 (row h q) c) = Ideal.exp (t c - M) := fun c => by
    rw [expPay_at, hM]; simp only [hs]
  rw [storePay_at, quoPay_eq, divPay_at]
  simp only [he]
  rw [row_eq t (fun c => v (ix3 0 c (lane h d))) hr M hM]

end Cert.Context.Krn
-- ==== Proof.CtxArray.lean ====
module

public import proofs.«01_k».proof.Proof.Gen.CtxIdeal.Value
public import proofs.«01_k».proof.Proof.CtxBody
public import proofs.«01_k».proof.Proof.CtxRef
public import Idealize.ShloMosaic.Lib.Pipeline.ValueKit
public import Idealize.ShloMosaic.Lib.Pipeline.Covers
public import Idealize.ShloMosaic.Lib.StableHlo.ReadAt

/-! The context attention's windows, and its output array: the reference's result. -/

@[expose] public section
set_option maxRecDepth 16384

noncomputable section
namespace Cert.Context.Krn
open Idealize.ShloMosaic Idealize.ShloMosaic.TcCoe Idealize.ShloMosaic.Pipeline Cert.CtxIdeal Cert.CtxIdeal.Gen Cert.CtxIdeal.Value

variable (m : (ℓ : Loc nD τ sig) → Buf (Elt Ideal) ℓ)

/-- The argument. -/
abbrev A0 (c : Dev nD) : S8x256x1024.Idx → EReal := m ((c : Thread nD τ).loc main_arg0)

/-- The batch element of a grid point. -/
def bAt (t : Fin cfg0.N) : Fin 8 := grid0.coords t 0
/-- The tile of 64 queries of a grid point. -/
def tAt (t : Fin cfg0.N) : Fin 4 := grid0.coords t 1
/-- The position of a tile's row. -/
def pos (n : Fin 4) (r : Fin 64) : Fin 256 := ⟨n.val * 64 + r.val, by omega⟩

theorem w32 (n : Nat) (h : n < 4096) : (BitVec.ofNat 32 n).toNat = n := by
  rw [BitVec.toNat_ofNat]; omega

theorem ix_bAt (t : Fin cfg0.N) : (BitVec.ofNat 32 (grid0.coords t 0).val).toNat = (bAt t).val := w32 _ (by have := (bAt t).isLt; unfold bAt at this; omega)
theorem ix_tAt (t : Fin cfg0.N) : (BitVec.ofNat 32 (grid0.coords t 1).val).toNat = (tAt t).val := w32 _ (by have := (tAt t).isLt; unfold tAt at this; omega)

theorem ix0_0 (t : Fin cfg0.N) : win0_0.index t 0 = (bAt t).val := ix_bAt t
theorem ix0_1 (t : Fin cfg0.N) : win0_0.index t 1 = (tAt t).val := ix_tAt t
theorem ix0_2 (t : Fin cfg0.N) : win0_0.index t 2 = 0 := rfl
theorem ix1_0 (t : Fin cfg0.N) : win0_1.index t 0 = (bAt t).val := ix_bAt t
theorem ix1_1 (t : Fin cfg0.N) : win0_1.index t 1 = 0 := rfl
theorem ix1_2 (t : Fin cfg0.N) : win0_1.index t 2 = 1 := rfl
theorem ix2_0 (t : Fin cfg0.N) : win0_2.index t 0 = (bAt t).val := ix_bAt t
theorem ix2_1 (t : Fin cfg0.N) : win0_2.index t 1 = 0 := rfl
theorem ix2_2 (t : Fin cfg0.N) : win0_2.index t 2 = 2 := rfl
theorem ix3_0 (t : Fin cfg0.N) : win0_3.index t 0 = (bAt t).val := ix_bAt t
theorem ix3_1 (t : Fin cfg0.N) : win0_3.index t 1 = (tAt t).val := ix_tAt t
theorem ix3_2 (t : Fin cfg0.N) : win0_3.index t 2 = 3 := rfl
theorem ix4_0 (t : Fin cfg0.N) : win0_4.index t 0 = (bAt t).val := ix_bAt t
theorem ix4_1 (t : Fin cfg0.N) : win0_4.index t 1 = (tAt t).val := ix_tAt t
theorem ix4_2 (t : Fin cfg0.N) : win0_4.index t 2 = 0 := rfl

theorem q_blk (c : Dev nD) (t : Fin cfg0.N) (r : Fin 64) (j : Fin 256) : iblk m c 0 t (ix3 0 r j) = A0 m c (ix3 (bAt t) (pos (tAt t) r) ⟨j.val, by omega⟩) := by
  blk_ext [iblk, V_main_arg0, ix0_0, ix0_1, ix0_2, pos]

theorem k_blk (c : Dev nD) (t : Fin cfg0.N) (r : Fin 256) (j : Fin 256) : iblk m c 1 t (ix3 0 r j) = A0 m c (ix3 (bAt t) r ⟨256 + j.val, by omega⟩) := by
  blk_ext [iblk, V_main_arg0, ix1_0, ix1_1, ix1_2]

theorem v_blk (c : Dev nD) (t : Fin cfg0.N) (r : Fin 256) (j : Fin 256) : iblk m c 2 t (ix3 0 r j) = A0 m c (ix3 (bAt t) r ⟨512 + j.val, by omega⟩) := by
  blk_ext [iblk, V_main_arg0, ix2_0, ix2_1, ix2_2]

theorem g_blk (c : Dev nD) (t : Fin cfg0.N) (r : Fin 64) (j : Fin 256) : iblk m c 3 t (ix3 0 r j) = A0 m c (ix3 (bAt t) (pos (tAt t) r) ⟨768 + j.val, by omega⟩) := by
  blk_ext [iblk, V_main_arg0, ix3_0, ix3_1, ix3_2, pos]

theorem covers4 : (cfg0.win 4).Covers := by
  refine (cfg0.win 4).covers_of_indexMap_surj rfl (by decide) fun β => ?_
  have hβ0 : (β 0).val < 8 := (β 0).isLt
  have hβ1 : (β 1).val < 4 := (β 1).isLt
  have hβ2 : (β 2).val < 1 := (β 2).isLt
  refine ⟨fun a => match a with | ⟨0, _⟩ => ⟨(β 0).val, hβ0⟩ | ⟨1, _⟩ => ⟨(β 1).val, hβ1⟩, fun a => ?_⟩
  match a with
  | ⟨0, _⟩ => exact w32 (β 0).val (by omega)
  | ⟨1, _⟩ => exact w32 (β 1).val (by omega)
  | ⟨2, _⟩ => exact (Nat.lt_one_iff.1 hβ2).symm

theorem emb_out (t : Fin cfg0.N) (r : Fin 64) (j : Fin 256) : (win0_4.blk t).view.emb (ix3 0 r j) = ix3 (bAt t) (pos (tAt t) r) j := by
  blk_ext [ix4_0, ix4_1, ix4_2, pos]

theorem idx_out (y : S1x64x256.Idx) : ∃ (r : Fin 64) (h : Fin 4) (d : Fin 64), y = ix3 0 r (Natten.lane h d) := by
  have h0 : (y 0).val < 1 := (y 0).isLt
  refine ⟨y 1, Groups.hd (y 2), Groups.pl (y 2), funext fun a => ?_⟩
  match a with
  | ⟨0, _⟩ => exact Fin.ext (Nat.lt_one_iff.1 h0)
  | ⟨1, _⟩ => rfl
  | ⟨2, _⟩ => exact (Groups.lane_hd (y 2)).symm

/-- The output array is the reference's result, the queries and keys being real. -/
theorem arr_eq (c : Dev nD) (hr : ∀ b n (j : Fin 512), Natten.IsReal (A0 m c (ix3 b n ⟨j.val, by omega⟩))) :
    (dats m 0 c).arrAt 4 cfg0.N = (Ref.out (A0 m c) : S8x256x256.Idx → EReal) := by
  refine (dats m 0 c).arrAt_eq_of_covers 4 _ covers4 fun t _ y => ?_
  rw [after0_4]
  unfold out0_4
  frame_out
  blk_simp
  obtain ⟨r, h, d, rfl⟩ := idx_out y
  rw [emb_out]
  have hs : ∀ k, Natten.IsReal (Ref.score (fun l => A0 m c (ix3 (bAt t) (pos (tAt t) r) ⟨l.val, by omega⟩)) (fun l => A0 m c (ix3 (bAt t) k ⟨256 + l.val, by omega⟩)) h) := fun k =>
    Natten.IsReal.mul (Natten.IsReal.sum _ fun e => Natten.IsReal.mul (hr _ _ ⟨(Natten.lane h e).val, by omega⟩) (hr _ _ ⟨256 + (Natten.lane h e).val, by omega⟩)) ⟨_, Natten.eighth_eq⟩
  refine (body_at (iblk m c 0 t) (iblk m c 1 t) (iblk m c 2 t) (iblk m c 3 t) r h d
    (fun k => Ref.score (fun l => A0 m c (ix3 (bAt t) (pos (tAt t) r) ⟨l.val, by omega⟩)) (fun l => A0 m c (ix3 (bAt t) k ⟨256 + l.val, by omega⟩)) h)
    (fun k => by simp only [q_blk, k_blk]) hs _ rfl).trans ?_
  rw [Ref.out_at (A0 m c) (bAt t) (pos (tAt t) r) h d _ (fun _ => rfl) _ rfl]
  simp only [v_blk, g_blk]

end Cert.Context.Krn
-- ==== Proof.GmlpRef.lean ====
module

public import proofs.«01_k».proof.Proof.Gen.GmlpRefIdeal.Run
public import proofs.«01_k».proof.Proof.Groups

/-! The spatial mixer's reference, cut into named stages, each read at an index. -/

@[expose] public section
set_option maxRecDepth 16384

noncomputable section
namespace Cert.Spatial
open Idealize.ShloMosaic Cert.Groups Cert.Rows

/-- The literals of the activation and of the norm. -/
def half : EReal := Ideal.ofBits .f32 0x3F000000#32
def slope : EReal := Ideal.ofBits .f32 0x3F4C422A#32
def cubic : EReal := Ideal.ofBits .f32 0x3D372713#32
def eps : EReal := Ideal.ofBits .f32 0x358637BD#32

/-- The activation. -/
def gelu (x : EReal) : EReal := x * (half * (1 + Ideal.tanh (slope * (x + cubic * (x * x * x)))))

/-- The activation as the kernel associates its products. -/
theorem gelu_eq (x : EReal) : half * x * (1 + Ideal.tanh (slope * (x + cubic * x * x * x))) = gelu x := by
  unfold gelu
  rw [mul_comm half x, mul_assoc x half, mul_assoc cubic x x, mul_assoc cubic (x * x) x]

theorem half_real : Natten.IsReal half := by
  refine ⟨1 / 2, ?_⟩
  simp [half, Ideal.ofBits, Ideal.ieee]
  rw [← EReal.coe_mul]; norm_num

theorem slope_real : Natten.IsReal slope := by
  refine ⟨13386282 / 16777216, ?_⟩
  simp [slope, Ideal.ofBits, Ideal.ieee]
  rw [← EReal.coe_mul]; norm_num

theorem cubic_real : Natten.IsReal cubic := by
  refine ⟨12003091 / 268435456, ?_⟩
  simp [cubic, Ideal.ofBits, Ideal.ieee]
  rw [← EReal.coe_mul]; norm_num

theorem tanh_real {x : EReal} (h : Natten.IsReal x) : Natten.IsReal (Ideal.tanh x) := by
  obtain ⟨a, rfl⟩ := h; exact ⟨Real.tanh a, rfl⟩

/-- The activation of a real is a real. -/
theorem gelu_real {x : EReal} (h : Natten.IsReal x) : Natten.IsReal (gelu x) :=
  h.mul (half_real.mul (Natten.IsReal.add ⟨1, rfl⟩ (tanh_real (slope_real.mul (h.add (cubic_real.mul ((h.mul h).mul h)))))))

/-- The token of a chunk's row. -/
def row (n : Fin 32) (p : Fin 128) : Fin 4096 := ⟨n.val * 128 + p.val, by omega⟩

/-- One lane of a token's normed values. -/
def normed (y : Fin 64 → EReal) (g b : EReal) (d : Fin 64) : EReal := centred y d * spread y eps * g + b

/-- One element of the result: from the token's two other operands and the chunk's normed values. -/
def elem (u gate : EReal) (v w : Fin 128 → EReal) (bias : EReal) : EReal :=
  gelu u * (∑ q, v q * w q + bias) * (gate * logistic gate)

namespace Ref
open Cert.GmlpRefIdeal Cert.GmlpRefIdeal.Gen

/-- The activation, elementwise. -/
def geluT (x : FVec Ideal S8x4096x256 .f32) : FVec Ideal S8x4096x256 .f32 :=
  mulf x (mulf (broadcastInDim S8x4096x256 ![] bcast_S_S8x4096x256 (constant S_ .f32 0x3F000000#32))
    (addf (broadcastInDim S8x4096x256 ![] bcast_S_S8x4096x256 (constant S_ .f32 0x3F800000#32))
      (Host.tanh (mulf (broadcastInDim S8x4096x256 ![] bcast_S_S8x4096x256 (constant S_ .f32 0x3F4C422A#32))
        (addf x (mulf (broadcastInDim S8x4096x256 ![] bcast_S_S8x4096x256 (constant S_ .f32 0x3D372713#32)) (mulf (mulf x x) x)))))))

/-- The values, by channel groups. -/
def vT (a0 : FVec Ideal S8x4096x768 .f32) : FVec Ideal S8x4096x4x64 .f32 :=
  shapeCast _ (geluT (extractStridedSlice S8x4096x256 ![0, 0, 256] a0 slices_S8x4096x768_S8x4096x256_0_0_256)) shapeCasts_S8x4096x256_S8x4096x4x64

/-- The mean of each group. -/
def meanT (o : FVec Ideal S8x4096x4x64 .f32) : FVec Ideal S8x4096x4x1 .f32 :=
  Host.divf (broadcastInDim S8x4096x4x1 ![0, 1, 2] bcast_S8x4096x4_S8x4096x4x1_0_1_2 (Host.reduceAdd o (constant S_ .f32 0x00000000#32) reducesTo_S8x4096x4x64_S8x4096x4_d3 h_S_))
    (broadcastInDim S8x4096x4x1 ![] bcast_S_S8x4096x4x1 (constant S_ .f32 0x42800000#32))

/-- The values less their group's mean. -/
def cenT (o : FVec Ideal S8x4096x4x64 .f32) : FVec Ideal S8x4096x4x64 .f32 :=
  subf o (broadcastInDim S8x4096x4x64 ![0, 1, 2, 3] bcast_S8x4096x4x1_S8x4096x4x64_0_1_2_3 (meanT o))

/-- The reciprocal root of each group's variance. -/
def spreadT (o : FVec Ideal S8x4096x4x64 .f32) : FVec Ideal S8x4096x4x1 .f32 :=
  Host.rsqrt (addf (meanT (mulf (cenT o) (cenT o))) (broadcastInDim S8x4096x4x1 ![] bcast_S_S8x4096x4x1 (constant S_ .f32 0x358637BD#32)))

/-- The normed values. -/
def normT (o : FVec Ideal S8x4096x4x64 .f32) (g b : FVec Ideal S4x64 .f32) : FVec Ideal S8x4096x4x64 .f32 :=
  addf (mulf (mulf (cenT o) (broadcastInDim S8x4096x4x64 ![0, 1, 2, 3] bcast_S8x4096x4x1_S8x4096x4x64_0_1_2_3 (spreadT o)))
      (broadcastInDim S8x4096x4x64 ![0, 1, 2, 3] bcast_S1x1x4x64_S8x4096x4x64_0_1_2_3 (broadcastInDim S1x1x4x64 ![2, 3] bcast_S4x64_S1x1x4x64_2_3 g)))
    (broadcastInDim S8x4096x4x64 ![0, 1, 2, 3] bcast_S1x1x4x64_S8x4096x4x64_0_1_2_3 (broadcastInDim S1x1x4x64 ![2, 3] bcast_S4x64_S1x1x4x64_2_3 b))

/-- The chunks' mixed values with their bias. -/
def mixT (n : FVec Ideal S8x4096x4x64 .f32) (w : FVec Ideal S4x128x128 .f32) (bs : FVec Ideal S4x128 .f32) : FVec Ideal S8x32x128x4x64 .f32 :=
  addf (transpose S8x32x128x4x64 [1, 2, 4, 0, 3]
      (Host.dotGeneral dot_S8x32x128x4x64_S4x128x128_S4x8x32x64x128_2_2_014_1_3_0 none (shapeCast _ n shapeCasts_S8x4096x4x64_S8x32x128x4x64) w)
      transposes_S4x8x32x64x128_S8x32x128x4x64_1_2_4_0_3)
    (broadcastInDim S8x32x128x4x64 ![0, 1, 2, 3, 4] bcast_S1x1x128x4x1_S8x32x128x4x64_0_1_2_3_4
      (broadcastInDim S1x1x128x4x1 ![2, 3] bcast_S128x4_S1x1x128x4x1_2_3 (transpose S128x4 [1, 0] bs transposes_S4x128_S128x4_1_0)))

/-- The gate's activation. -/
def siluT (gate : FVec Ideal S8x4096x256 .f32) : FVec Ideal S8x4096x256 .f32 :=
  mulf gate (Host.divf (broadcastInDim S8x4096x256 ![] bcast_S_S8x4096x256 (constant S_ .f32 0x3F800000#32))
    (addf (broadcastInDim S8x4096x256 ![] bcast_S_S8x4096x256 (constant S_ .f32 0x3F800000#32)) (Host.exp (Host.negf gate))))

/-- The whole reference. -/
def out (a0 : FVec Ideal S8x4096x768 .f32) (g b : FVec Ideal S4x64 .f32) (w : FVec Ideal S4x128x128 .f32) (bs : FVec Ideal S4x128 .f32) : FVec Ideal S8x4096x256 .f32 :=
  mulf (mulf (geluT (extractStridedSlice S8x4096x256 ![0, 0, 0] a0 slices_S8x4096x768_S8x4096x256_0_0_0))
      (shapeCast _ (mixT (normT (vT a0) g b) w bs) shapeCasts_S8x32x128x4x64_S8x4096x256))
    (siluT (extractStridedSlice S8x4096x256 ![0, 0, 512] a0 slices_S8x4096x768_S8x4096x256_0_0_512))

theorem geluT_at (x : FVec Ideal S8x4096x256 .f32) (b : Fin 8) (t : Fin 4096) (l : Fin 256) : geluT x (ix3 b t l) = gelu (x (ix3 b t l)) := by
  pointwise [geluT]
  rfl

theorem vT_at (a0 : FVec Ideal S8x4096x768 .f32) (b : Fin 8) (t : Fin 4096) (h : Fin 4) (d : Fin 64) :
    vT a0 (ix4 b t h d) = gelu (a0 (ix3 b t ⟨256 + (Natten.lane h d).val, by omega⟩)) := by
  pointwise [vT, geluT_at, Natten.lane]

theorem meanT_at (o : FVec Ideal S8x4096x4x64 .f32) (b : Fin 8) (t : Fin 4096) (h : Fin 4) :
    meanT o (ix4 b t h 0) = mean fun e => o (ix4 b t h e) := by
  pointwise [meanT]
  rfl

theorem cenT_at (o : FVec Ideal S8x4096x4x64 .f32) (b : Fin 8) (t : Fin 4096) (h : Fin 4) (d : Fin 64) :
    cenT o (ix4 b t h d) = centred (fun e => o (ix4 b t h e)) d := by
  pointwise [cenT, meanT_at]
  rfl

theorem spreadT_at (o : FVec Ideal S8x4096x4x64 .f32) (b : Fin 8) (t : Fin 4096) (h : Fin 4) :
    spreadT o (ix4 b t h 0) = spread (fun e => o (ix4 b t h e)) eps := by
  pointwise [spreadT, meanT_at, cenT_at]
  rfl

theorem normT_at (o : FVec Ideal S8x4096x4x64 .f32) (g b : FVec Ideal S4x64 .f32) (i : Fin 8) (t : Fin 4096) (h : Fin 4) (d : Fin 64) :
    normT o g b (ix4 i t h d) = normed (fun e => o (ix4 i t h e)) (g (ix2 h d)) (b (ix2 h d)) d := by
  pointwise [normT, cenT_at, spreadT_at]
  rfl

theorem siluT_at (x : FVec Ideal S8x4096x256 .f32) (b : Fin 8) (t : Fin 4096) (l : Fin 256) : siluT x (ix3 b t l) = x (ix3 b t l) * logistic (x (ix3 b t l)) := by
  pointwise [siluT]
  rfl

theorem mixT_at (n : FVec Ideal S8x4096x4x64 .f32) (w : FVec Ideal S4x128x128 .f32) (bs : FVec Ideal S4x128 .f32) (i : Fin 8) (c : Fin 32) (p : Fin 128) (h : Fin 4) (d : Fin 64) :
    mixT n w bs (ix5 i c p h d) = ∑ q, n (ix4 i (row c q) h d) * w (ix3 h p q) + bs (ix2 h p) := by
  pointwise [mixT, row]

theorem out_at (a0 : FVec Ideal S8x4096x768 .f32) (g b : FVec Ideal S4x64 .f32) (w : FVec Ideal S4x128x128 .f32) (bs : FVec Ideal S4x128 .f32) (i : Fin 8) (c : Fin 32) (p : Fin 128) (h : Fin 4) (d : Fin 64) :
    out a0 g b w bs (ix3 i (row c p) (Natten.lane h d))
      = elem (a0 (ix3 i (row c p) ⟨(Natten.lane h d).val, by omega⟩)) (a0 (ix3 i (row c p) ⟨512 + (Natten.lane h d).val, by omega⟩))
          (fun q => normed (fun e => gelu (a0 (ix3 i (row c q) ⟨256 + (Natten.lane h e).val, by omega⟩))) (g (ix2 h d)) (b (ix2 h d)) d)
          (fun q => w (ix3 h p q)) (bs (ix2 h p)) := by
  have e1 : (row c p).val / 128 = c.val := by unfold row; dsimp only; omega
  have e2 : (row c p).val % 128 = p.val := by unfold row; dsimp only; omega
  have e3 : (Natten.lane h d).val / 64 = h.val := by unfold Natten.lane; dsimp only; omega
  have e4 : (Natten.lane h d).val % 64 = d.val := by unfold Natten.lane; dsimp only; omega
  have hm := mixT_at (normT (vT a0) g b) w bs i c p h d
  simp only [normT_at, vT_at] at hm
  unfold elem
  rw [← hm]
  pointwise [out, geluT_at, siluT_at]
  simp only [e1, e2, e3, e4]

/-- The reference's run, its result these stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v64) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2⟩) (Value.run m ρ)

end Ref
end Cert.Spatial
-- ==== Proof.GmlpBody.lean ====
module

public import proofs.«01_k».proof.Proof.Gen.GmlpIdeal.Skeleton
public import proofs.«01_k».proof.Proof.GmlpRef

/-! The spatial mixer's body read at an index. -/

@[expose] public section
set_option maxRecDepth 16384

noncomputable section
namespace Cert.Spatial.Krn
open Idealize.ShloMosaic Cert.GmlpIdeal Cert.GmlpIdeal.Gen Cert.Groups Cert.Rows Cert.Natten

/-! ## The matrix of group means -/

/-- The row's index. -/
def rowIx : IVec S256x256 32 := iota .tc S256x256 32 [0] iota_S256x256_d0_w32

/-- The matrix of group means. -/
def avgPay : S256x256.Idx → EReal := k0_pay8 (F := Ideal) rowIx 64#32 k0_pay6 k0_pay7 (Scalar.extui (Scalar.cmpi .sgt 64#32 0#32))

/-- The head of a row or a column, as the matrix computes it. -/
def headWord (i : BitVec 32) : BitVec 32 :=
  Scalar.select (IntOp.andi
      (IntOp.cmpi .ne (IntOp.subi ((IntOp.cmpi .sgt i 0#32).setWidth 32) ((IntOp.cmpi .slt i 0#32).setWidth 32)) (Scalar.subi (Scalar.extui (Scalar.cmpi .sgt 64#32 0#32)) (Scalar.extui (Scalar.cmpi .slt 64#32 0#32))))
      (IntOp.cmpi .ne (IntOp.remsi .vector i 64#32) 0#32))
    (IntOp.subi (IntOp.divsi .vector i 64#32) 1#32) (IntOp.divsi .vector i 64#32)

theorem headWord_at (l : Fin 256) : headWord (BitVec.ofNat 32 l.val) = BitVec.ofNat 32 (l.val / 64) := by
  revert l; unfold headWord; decide +kernel

theorem avgPay_at (k l : Fin 256) : avgPay (ix2 k l) = if k.val / 64 = l.val / 64 then part else 0 := by
  rw [← sel_eq, ← headWord_at, ← headWord_at]
  pointwise [avgPay, k0_pay8, k0_pay6, k0_pay7, rowIx]
  rfl

/-- A real row times the matrix of group means. -/
theorem dot_avg (a : Fin 256 → EReal) (ha : ∀ k, IsReal (a k)) (l : Fin 256) :
    ∑ k, a k * avgPay (ix2 k l) + ∑ k, (a k - a k) * avgPay (ix2 k l) + ∑ k, (a k - a k - (a k - a k)) * avgPay (ix2 k l) = mean fun e => a (lane (hd l) e) := by
  rw [split_three _ _ ha, mean_eq]
  simp only [avgPay_at]
  exact sum_group a part (by rw [part_eq]; exact_mod_cast (by norm_num : (0 : ℝ) ≤ 1 / 64)) (by rw [part_eq]; exact EReal.coe_ne_top _) l

/-! ## The normed values -/

/-- The product with the matrix, in the three parts the body takes. -/
def three (a : Fin 256 → EReal) (l : Fin 256) : EReal :=
  ∑ k, a k * avgPay (ix2 k l) + ∑ k, (a k - a k) * avgPay (ix2 k l) + ∑ k, (a k - a k - (a k - a k)) * avgPay (ix2 k l)

/-- A row's values less their group's mean. -/
def cen (a : Fin 256 → EReal) (l : Fin 256) : EReal := a l - three a l

theorem cen_eq (a : Fin 256 → EReal) (ha : ∀ k, IsReal (a k)) (l : Fin 256) : cen a l = centred (fun e => a (lane (hd l) e)) (pl l) := by
  rw [cen, three, dot_avg a ha, centred, lane_hd]

/-- The values, normed by groups. -/
def normPay (x : S512x256.Idx → EReal) (g b : S1x256.Idx → EReal) : S512x256.Idx → EReal :=
  k0_pay13 (F := Ideal) x avgPay (k0_pay9 (F := Ideal) x) (k0_pay10 (F := Ideal) x) (k0_pay11 (F := Ideal) x) (k0_pay12 (F := Ideal) x) g b

theorem normPay_raw (x : S512x256.Idx → EReal) (g b : S1x256.Idx → EReal) (r : Fin 512) (l : Fin 256) :
    normPay x g b (ix2 r l)
      = cen (fun k => x (ix2 r k)) l * Ideal.rsqrt (three (fun k => cen (fun k => x (ix2 r k)) k * cen (fun k => x (ix2 r k)) k) l + eps) * g (ix2 0 l) + b (ix2 0 l) := by
  pointwise [normPay, k0_pay13, k0_pay9, k0_pay10, k0_pay11, k0_pay12]
  rfl

theorem normPay_at (x : S512x256.Idx → EReal) (g b : S1x256.Idx → EReal) (r : Fin 512) (hx : ∀ k, IsReal (x (ix2 r k))) (h : Fin 4) (d : Fin 64) :
    normPay x g b (ix2 r (lane h d)) = normed (fun e => x (ix2 r (lane h e))) (g (ix2 0 (lane h d))) (b (ix2 0 (lane h d))) d := by
  have hc : ∀ k, cen (fun k => x (ix2 r k)) k = centred (fun e => x (ix2 r (lane (hd k) e))) (pl k) := fun k => cen_eq _ hx k
  rw [normPay_raw]
  simp only [hc]
  rw [three, dot_avg _ fun k => (centred_real (fun e => hx _) _).mul (centred_real (fun e => hx _) _)]
  simp only [hd_lane, pl_lane]
  rfl

/-! ## The activations -/

/-- The values' activation. -/
def vPay (x : S1x512x768.Idx → EReal) : S512x256.Idx → EReal := k0_pay4 (F := Ideal) x

theorem vPay_at (x : S1x512x768.Idx → EReal) (r : Fin 512) (l : Fin 256) : vPay x (ix2 r l) = gelu (x (ix3 0 r ⟨256 + l.val, by omega⟩)) := by
  rw [← gelu_eq]
  pointwise [vPay, k0_pay4, k0_pay2]
  rfl

/-- The product of the two gates' activations. -/
def suPay (x : S1x512x768.Idx → EReal) : S512x256.Idx → EReal := k0_pay17 (F := Ideal) (k0_pay3 (F := Ideal) x) (k0_pay5 (F := Ideal) x)

theorem suPay_at (x : S1x512x768.Idx → EReal) (r : Fin 512) (l : Fin 256) : suPay x (ix2 r l)
    = gelu (x (ix3 0 r ⟨l.val, by omega⟩)) * (x (ix3 0 r ⟨512 + l.val, by omega⟩) * logistic (x (ix3 0 r ⟨512 + l.val, by omega⟩))) := by
  rw [← gelu_eq]
  pointwise [suPay, k0_pay17, k0_pay3, k0_pay5, k0_pay2]
  simp only [zero_sub]
  rfl

/-! ## The four chunks -/

/-- The lane's index. -/
def laneIx : IVec S128x256 32 := iota .tc S128x256 32 [1] iota_S128x256_d1_w32

/-- The lane's head. -/
def headPay : IVec S128x256 32 := k0_pay16 laneIx 64#32 k0_pay14 k0_pay15 (Scalar.cmpi .sgt 64#32 0#32)

theorem headPay_at (p : Fin 128) (l : Fin 256) : headPay (ix2 p l) = BitVec.ofNat 32 (l.val / 64) := by
  rw [← headWord_at]
  pointwise [headPay, k0_pay16, k0_pay14, k0_pay15, laneIx]
  rfl

/-- The selection of a lane's head among four. -/
theorem pick (p : Fin 128) (l : Fin 256) (s : Fin 4 → EReal) :
    Scalar.select (IntOp.cmpi .eq (headPay (ix2 p l)) 3#32) (s 3) (Scalar.select (IntOp.cmpi .eq (headPay (ix2 p l)) 2#32) (s 2)
      (Scalar.select (IntOp.cmpi .eq (headPay (ix2 p l)) 1#32) (s 1) (Scalar.select (IntOp.cmpi .eq (headPay (ix2 p l)) 0#32) (s 0) 0))) = s (hd l) := by
  rw [headPay_at]
  have e : ∀ k : Fin 4, Scalar.select (IntOp.cmpi .eq (BitVec.ofNat 32 k.val) 3#32) (s 3) (Scalar.select (IntOp.cmpi .eq (BitVec.ofNat 32 k.val) 2#32) (s 2)
      (Scalar.select (IntOp.cmpi .eq (BitVec.ofNat 32 k.val) 1#32) (s 1) (Scalar.select (IntOp.cmpi .eq (BitVec.ofNat 32 k.val) 0#32) (s 0) 0))) = s k := by
    intro k
    fin_cases k <;> rfl
  exact e (hd l)

/-- The row of a tile's chunk. -/
def sub (n : Fin 4) (p : Fin 128) : Fin 512 := ⟨n.val * 128 + p.val, by omega⟩

/-- One element of a chunk, from the gates' product, the normed values, the four heads' matrices and the bias. -/
def chunk (n : Fin 4) (v su : S512x256.Idx → EReal) (w : Fin 4 → S1x128x128.Idx → EReal) (bs : S128x256.Idx → EReal) (p : Fin 128) (l : Fin 256) : EReal :=
  su (ix2 (sub n p) l) * (∑ q, w (hd l) (ix3 0 p q) * v (ix2 (sub n q) l) + bs (ix2 p l))

variable (v su : S512x256.Idx → EReal) (w : Fin 4 → S1x128x128.Idx → EReal) (bs : S128x256.Idx → EReal)

/-- What the body stores for each chunk. -/
def outPay0 : S1x128x256.Idx → EReal :=
  k0_pay21 (F := Ideal) headPay su (k0_pay18 (F := Ideal) v) (k0_pay19 (F := Ideal) v laneIx 64#32 k0_pay14 k0_pay15 (Scalar.cmpi .sgt 64#32 0#32) (w 0) (w 1)) (k0_pay20 (F := Ideal) (w 2))
    (constant S128x256 .f32 0x00000000#32) (w 3) bs
def outPay1 : S1x128x256.Idx → EReal :=
  k0_pay25 (F := Ideal) headPay su (k0_pay22 (F := Ideal) v) (k0_pay23 (F := Ideal) v headPay (w 0) (w 1)) (k0_pay24 (F := Ideal) (w 2)) (w 3) bs
def outPay2 : S1x128x256.Idx → EReal :=
  k0_pay28 (F := Ideal) headPay su (k0_pay26 (F := Ideal) v) (k0_pay27 (F := Ideal) v headPay (w 0) (w 1)) (w 2) (w 3) bs
def outPay3 : S1x128x256.Idx → EReal :=
  k0_pay1 (F := Ideal) headPay su (k0_pay29 (F := Ideal) v) (k0_pay30 (F := Ideal) v headPay (w 0) (w 1)) (w 2) (w 3) bs

theorem outPay0_at (p : Fin 128) (l : Fin 256) : outPay0 v su w bs (ix3 0 p l) = chunk 0 v su w bs p l := by
  have e := pick p l fun h => ∑ q, w h (ix3 0 p q) * v (ix2 (sub 0 q) l)
  rw [chunk, ← e]
  have k : k0_pay16 laneIx 64#32 k0_pay14 k0_pay15 (Scalar.cmpi .sgt 64#32 0#32) = headPay := rfl
  unfold outPay0 k0_pay21 k0_pay18 k0_pay19 k0_pay18 k0_pay20
  simp only [k]
  pointwise [sub]

theorem outPay1_at (p : Fin 128) (l : Fin 256) : outPay1 v su w bs (ix3 0 p l) = chunk 1 v su w bs p l := by
  have e := pick p l fun h => ∑ q, w h (ix3 0 p q) * v (ix2 (sub 1 q) l)
  rw [chunk, ← e]
  pointwise [outPay1, k0_pay25, k0_pay22, k0_pay23, k0_pay24, sub]

theorem outPay2_at (p : Fin 128) (l : Fin 256) : outPay2 v su w bs (ix3 0 p l) = chunk 2 v su w bs p l := by
  have e := pick p l fun h => ∑ q, w h (ix3 0 p q) * v (ix2 (sub 2 q) l)
  rw [chunk, ← e]
  pointwise [outPay2, k0_pay28, k0_pay26, k0_pay27, sub]

theorem outPay3_at (p : Fin 128) (l : Fin 256) : outPay3 v su w bs (ix3 0 p l) = chunk 3 v su w bs p l := by
  have e := pick p l fun h => ∑ q, w h (ix3 0 p q) * v (ix2 (sub 3 q) l)
  rw [chunk, ← e]
  pointwise [outPay3, k0_pay1, k0_pay29, k0_pay30, sub]

/-- One element of a chunk, the values being real. -/
theorem chunk_eq (n : Fin 4) (x : S1x512x768.Idx → EReal) (g b : S1x256.Idx → EReal) (hx : ∀ (r : Fin 512) (l : Fin 256), IsReal (x (ix3 0 r ⟨256 + l.val, by omega⟩))) (p : Fin 128) (h : Fin 4) (d : Fin 64) :
    chunk n (normPay (vPay x) g b) (suPay x) w bs p (lane h d)
      = elem (x (ix3 0 (sub n p) ⟨(lane h d).val, by omega⟩)) (x (ix3 0 (sub n p) ⟨512 + (lane h d).val, by omega⟩))
          (fun q => normed (fun e => gelu (x (ix3 0 (sub n q) ⟨256 + (lane h e).val, by omega⟩))) (g (ix2 0 (lane h d))) (b (ix2 0 (lane h d))) d)
          (fun q => w h (ix3 0 p q)) (bs (ix2 p (lane h d))) := by
  have hv : ∀ (r : Fin 512) (k : Fin 256), IsReal (vPay x (ix2 r k)) := fun r k => by rw [vPay_at]; exact gelu_real (hx r k)
  unfold chunk elem
  rw [suPay_at, hd_lane, mul_right_comm]
  congr 2
  congr 1
  refine Finset.sum_congr rfl fun q _ => ?_
  rw [normPay_at _ g b _ (hv _), mul_comm]
  simp only [vPay_at]

end Cert.Spatial.Krn
-- ==== Proof.GmlpArray.lean ====
module

public import proofs.«01_k».proof.Proof.Gen.GmlpIdeal.Value
public import proofs.«01_k».proof.Proof.GmlpBody
public import proofs.«01_k».proof.Proof.GmlpRef
public import Idealize.ShloMosaic.Lib.Pipeline.ValueKit
public import Idealize.ShloMosaic.Lib.Pipeline.Covers
public import Idealize.ShloMosaic.Lib.StableHlo.ReadAt

/-! The spatial mixer's windows, and its output array: the reference's result. -/

@[expose] public section
set_option maxRecDepth 16384

noncomputable section
namespace Cert.Spatial.Krn
open Idealize.ShloMosaic Idealize.ShloMosaic.TcCoe Idealize.ShloMosaic.Pipeline Cert.GmlpIdeal Cert.GmlpIdeal.Gen Cert.GmlpIdeal.Value

variable (m : (ℓ : Loc nD τ sig) → Buf (Elt Ideal) ℓ)

/-- The five arguments. -/
abbrev A0 (c : Dev nD) : S8x4096x768.Idx → EReal := m ((c : Thread nD τ).loc main_arg0)
abbrev A1 (c : Dev nD) : S4x64.Idx → EReal := m ((c : Thread nD τ).loc main_arg1)
abbrev A2 (c : Dev nD) : S4x64.Idx → EReal := m ((c : Thread nD τ).loc main_arg2)
abbrev A3 (c : Dev nD) : S4x128x128.Idx → EReal := m ((c : Thread nD τ).loc main_arg3)
abbrev A4 (c : Dev nD) : S4x128.Idx → EReal := m ((c : Thread nD τ).loc main_arg4)

/-- The batch element of a grid point. -/
def bAt (t : Fin cfg0.N) : Fin 8 := grid0.coords t 0
/-- The tile of 512 tokens of a grid point. -/
def tAt (t : Fin cfg0.N) : Fin 8 := grid0.coords t 1
/-- The token of a tile's row. -/
def tok (n : Fin 8) (r : Fin 512) : Fin 4096 := ⟨n.val * 512 + r.val, by omega⟩
/-- The chunk of a tile's chunk. -/
def chunkAt (n : Fin 8) (k : Fin 4) : Fin 32 := ⟨n.val * 4 + k.val, by omega⟩

theorem tok_sub (n : Fin 8) (k : Fin 4) (p : Fin 128) : tok n (sub k p) = row (chunkAt n k) p := by
  apply Fin.ext; unfold tok sub row chunkAt; dsimp only; omega

theorem w32 (n : Nat) (h : n < 4096) : (BitVec.ofNat 32 n).toNat = n := by
  rw [BitVec.toNat_ofNat]; omega

theorem ix_bAt (t : Fin cfg0.N) : (BitVec.ofNat 32 (grid0.coords t 0).val).toNat = (bAt t).val := w32 _ (by have := (bAt t).isLt; unfold bAt at this; omega)
theorem ix_tAt (t : Fin cfg0.N) : (BitVec.ofNat 32 (grid0.coords t 1).val).toNat = (tAt t).val := w32 _ (by have := (tAt t).isLt; unfold tAt at this; omega)

theorem ix0_0 (t : Fin cfg0.N) : win0_0.index t 0 = (bAt t).val := ix_bAt t
theorem ix0_1 (t : Fin cfg0.N) : win0_0.index t 1 = (tAt t).val := ix_tAt t
theorem ix0_2 (t : Fin cfg0.N) : win0_0.index t 2 = 0 := rfl
theorem ix1_0 (t : Fin cfg0.N) : win0_1.index t 0 = 0 := rfl
theorem ix1_1 (t : Fin cfg0.N) : win0_1.index t 1 = 0 := rfl
theorem ix2_0 (t : Fin cfg0.N) : win0_2.index t 0 = 0 := rfl
theorem ix2_1 (t : Fin cfg0.N) : win0_2.index t 1 = 0 := rfl
theorem ix3_0 (t : Fin cfg0.N) : win0_3.index t 0 = 0 := rfl
theorem ix3_1 (t : Fin cfg0.N) : win0_3.index t 1 = 0 := rfl
theorem ix3_2 (t : Fin cfg0.N) : win0_3.index t 2 = 0 := rfl
theorem ix4_0 (t : Fin cfg0.N) : win0_4.index t 0 = 0 := rfl
theorem ix4_1 (t : Fin cfg0.N) : win0_4.index t 1 = 0 := rfl
theorem ix5_0 (t : Fin cfg0.N) : win0_5.index t 0 = (bAt t).val := ix_bAt t
theorem ix5_1 (t : Fin cfg0.N) : win0_5.index t 1 = (tAt t).val := ix_tAt t
theorem ix5_2 (t : Fin cfg0.N) : win0_5.index t 2 = 0 := rfl

theorem gm_blk (c : Dev nD) (t : Fin cfg0.N) (r : Fin 512) (j : Fin 768) : iblk m c 0 t (ix3 0 r j) = A0 m c (ix3 (bAt t) (tok (tAt t) r) j) := by
  blk_ext [iblk, V_main_arg0, ix0_0, ix0_1, ix0_2, tok]

/-- The norm's weights, which the host lays out as one row. -/
theorem g_blk (c : Dev nD) (t : Fin cfg0.N) (h : Fin 4) (d : Fin 64) : iblk m c 1 t (ix2 0 (Natten.lane h d)) = A1 m c (ix2 h d) := by
  have e3 : (Natten.lane h d).val / 64 = h.val := by unfold Natten.lane; dsimp only; omega
  have e4 : (Natten.lane h d).val % 64 = d.val := by unfold Natten.lane; dsimp only; omega
  have e : V m c main_v3 (ix2 0 (Natten.lane h d)) = A1 m c (ix2 h d) := by
    unfold V
    after_reads_at
    simp only [e3, e4]
  rw [← e]
  blk_ext [iblk, ix1_0, ix1_1]

/-- The norm's shift, which the host lays out as one row. -/
theorem b_blk (c : Dev nD) (t : Fin cfg0.N) (h : Fin 4) (d : Fin 64) : iblk m c 2 t (ix2 0 (Natten.lane h d)) = A2 m c (ix2 h d) := by
  have e3 : (Natten.lane h d).val / 64 = h.val := by unfold Natten.lane; dsimp only; omega
  have e4 : (Natten.lane h d).val % 64 = d.val := by unfold Natten.lane; dsimp only; omega
  have e : V m c main_v4 (ix2 0 (Natten.lane h d)) = A2 m c (ix2 h d) := by
    unfold V
    after_reads_at
    simp only [e3, e4]
  rw [← e]
  blk_ext [iblk, ix2_0, ix2_1]

/-- The heads' matrices. -/
theorem w_blk (c : Dev nD) (t : Fin cfg0.N) (h : Fin 4) (p q : Fin 128) : iblk m c 3 t (ix3 h p q) = A3 m c (ix3 h p q) := by
  have e : V m c main_v5 (ix3 h p q) = A3 m c (ix3 h p q) := by
    unfold V
    after_reads_at
  rw [← e]
  blk_ext [iblk, ix3_0, ix3_1, ix3_2]

/-- The bias, which the host spreads over the lanes of each head. -/
theorem bs_blk (c : Dev nD) (t : Fin cfg0.N) (p : Fin 128) (h : Fin 4) (d : Fin 64) : iblk m c 4 t (ix2 p (Natten.lane h d)) = A4 m c (ix2 h p) := by
  have e3 : (Natten.lane h d).val / 64 = h.val := by unfold Natten.lane; dsimp only; omega
  have e : V m c main_v2 (ix2 p (Natten.lane h d)) = A4 m c (ix2 h p) := by
    unfold V
    after_reads_at
    simp only [e3]
  rw [← e]
  blk_ext [iblk, ix4_0, ix4_1]

theorem covers5 : (cfg0.win 5).Covers := by
  refine (cfg0.win 5).covers_of_indexMap_surj rfl (by decide) fun β => ?_
  have hβ0 : (β 0).val < 8 := (β 0).isLt
  have hβ1 : (β 1).val < 8 := (β 1).isLt
  have hβ2 : (β 2).val < 1 := (β 2).isLt
  refine ⟨fun a => match a with | ⟨0, _⟩ => ⟨(β 0).val, hβ0⟩ | ⟨1, _⟩ => ⟨(β 1).val, hβ1⟩, fun a => ?_⟩
  match a with
  | ⟨0, _⟩ => exact w32 (β 0).val (by omega)
  | ⟨1, _⟩ => exact w32 (β 1).val (by omega)
  | ⟨2, _⟩ => exact (Nat.lt_one_iff.1 hβ2).symm

theorem emb_out (t : Fin cfg0.N) (r : Fin 512) (j : Fin 256) : (win0_5.blk t).view.emb (ix3 0 r j) = ix3 (bAt t) (tok (tAt t) r) j := by
  blk_ext [ix5_0, ix5_1, ix5_2, tok]

theorem idx_piece (y : S1x128x256.Idx) : ∃ (p : Fin 128) (h : Fin 4) (d : Fin 64), y = ix3 0 p (Natten.lane h d) := by
  have h0 : (y 0).val < 1 := (y 0).isLt
  refine ⟨y 1, Groups.hd (y 2), Groups.pl (y 2), funext fun a => ?_⟩
  match a with
  | ⟨0, _⟩ => exact Fin.ext (Nat.lt_one_iff.1 h0)
  | ⟨1, _⟩ => rfl
  | ⟨2, _⟩ => exact (Groups.lane_hd (y 2)).symm

/-- The four heads' matrices, as the body loads them. -/
def heads (x : S4x128x128.Idx → EReal) (h : Fin 4) : S1x128x128.Idx → EReal := match h with
  | 0 => View.ld (Val := Elt Ideal) (e' := .bf16) x r0_2
  | 1 => View.ld (Val := Elt Ideal) (e' := .bf16) x r0_3
  | 2 => View.ld (Val := Elt Ideal) (e' := .bf16) x r0_4
  | 3 => View.ld (Val := Elt Ideal) (e' := .bf16) x r0_5

theorem heads_at (x : S4x128x128.Idx → EReal) (h : Fin 4) (p q : Fin 128) : heads x h (ix3 0 p q) = x (ix3 h p q) := by
  have e : ∀ (r : Rect S4x128x128) (i : r.shape.Idx) (j : S4x128x128.Idx), (∀ a, (r.idx i a).val = (j a).val) → View.ld (Val := Elt Ideal) (e' := .bf16) x r i = x j :=
    fun r i j hij => congrArg x (funext fun a => Fin.ext (hij a))
  match h with
  | 0 => exact e r0_2 (ix3 0 p q) _ fun a => by match a with | ⟨0, _⟩ => rfl | ⟨1, _⟩ => show 0 + 1 * p.val = p.val; omega | ⟨2, _⟩ => show 0 + 1 * q.val = q.val; omega
  | 1 => exact e r0_3 (ix3 0 p q) _ fun a => by match a with | ⟨0, _⟩ => rfl | ⟨1, _⟩ => show 0 + 1 * p.val = p.val; omega | ⟨2, _⟩ => show 0 + 1 * q.val = q.val; omega
  | 2 => exact e r0_4 (ix3 0 p q) _ fun a => by match a with | ⟨0, _⟩ => rfl | ⟨1, _⟩ => show 0 + 1 * p.val = p.val; omega | ⟨2, _⟩ => show 0 + 1 * q.val = q.val; omega
  | 3 => exact e r0_5 (ix3 0 p q) _ fun a => by match a with | ⟨0, _⟩ => rfl | ⟨1, _⟩ => show 0 + 1 * p.val = p.val; omega | ⟨2, _⟩ => show 0 + 1 * q.val = q.val; omega

/-- The row a piece of the block starts at. -/
theorem emb_piece (n : Fin 4) (r : Rect S1x512x256) (x : r.shape.Idx) (p : Fin 128) (l : Fin 256) (h : ∀ a, (r.emb x a).val = (ix3 (0 : Fin 1) (sub n p) l a).val) : r.emb x = ix3 0 (sub n p) l :=
  funext fun a => Fin.ext (h a)

/-- The normed values, the gates' product and the bias, from the blocks as the body loads them. -/
def vBlk (c : Dev nD) (t : Fin cfg0.N) : S512x256.Idx → EReal :=
  normPay (vPay (View.ld (Val := Elt Ideal) (iblk m c 0 t) r0_0)) (View.ld (Val := Elt Ideal) (iblk m c 1 t) r0_1) (View.ld (Val := Elt Ideal) (iblk m c 2 t) r0_1)
def suBlk (c : Dev nD) (t : Fin cfg0.N) : S512x256.Idx → EReal := suPay (View.ld (Val := Elt Ideal) (iblk m c 0 t) r0_0)
def bsBlk (c : Dev nD) (t : Fin cfg0.N) : S128x256.Idx → EReal := View.ld (Val := Elt Ideal) (iblk m c 4 t) r0_6

theorem ld0 (c : Dev nD) (t : Fin cfg0.N) : View.ld (Val := Elt Ideal) (iblk m c 0 t) r0_0 = iblk m c 0 t := View.ld_unit_lit (S := S1x512x768) _ _ (by decide)
theorem ld1 (c : Dev nD) (t : Fin cfg0.N) : View.ld (Val := Elt Ideal) (iblk m c 1 t) r0_1 = iblk m c 1 t := View.ld_unit_lit (S := S1x256) _ _ (by decide)
theorem ld2 (c : Dev nD) (t : Fin cfg0.N) : View.ld (Val := Elt Ideal) (iblk m c 2 t) r0_1 = iblk m c 2 t := View.ld_unit_lit (S := S1x256) _ _ (by decide)
theorem ld4 (c : Dev nD) (t : Fin cfg0.N) : View.ld (Val := Elt Ideal) (iblk m c 4 t) r0_6 = iblk m c 4 t := View.ld_unit_lit (S := S128x256) _ _ (by decide)

theorem vBlk_eq (c : Dev nD) (t : Fin cfg0.N) : vBlk m c t = normPay (vPay (iblk m c 0 t)) (iblk m c 1 t) (iblk m c 2 t) :=
  congr (congr (congrArg (fun x => normPay (vPay x)) (ld0 m c t)) (ld1 m c t)) (ld2 m c t)
theorem suBlk_eq (c : Dev nD) (t : Fin cfg0.N) : suBlk m c t = suPay (iblk m c 0 t) := congrArg suPay (ld0 m c t)
theorem bsBlk_eq (c : Dev nD) (t : Fin cfg0.N) : bsBlk m c t = iblk m c 4 t := ld4 m c t

/-- One element of a chunk is the reference's. -/
theorem chunk_ref (c : Dev nD) (hv : ∀ b n (j : Fin 256), Natten.IsReal (A0 m c (ix3 b n ⟨256 + j.val, by omega⟩))) (t : Fin cfg0.N) (n : Fin 4) (p : Fin 128) (h : Fin 4) (d : Fin 64) :
    chunk n (vBlk m c t) (suBlk m c t) (heads (iblk m c 3 t)) (bsBlk m c t) p (Natten.lane h d)
      = Ref.out (A0 m c) (A1 m c) (A2 m c) (A3 m c) (A4 m c) ((win0_5.blk t).view.emb (ix3 0 (sub n p) (Natten.lane h d))) := by
  rw [vBlk_eq, suBlk_eq, bsBlk_eq, emb_out, tok_sub, Ref.out_at, chunk_eq _ _ n _ _ _ (fun r l => by rw [gm_blk]; exact hv _ _ _)]
  simp only [gm_blk, g_blk, b_blk, bs_blk, heads_at, w_blk, tok_sub]

/-- The output array is the reference's result, the values being real. -/
theorem arr_eq (c : Dev nD) (hv : ∀ b n (j : Fin 256), Natten.IsReal (A0 m c (ix3 b n ⟨256 + j.val, by omega⟩))) : (dats m 0 c).arrAt 5 cfg0.N
    = (Ref.out (A0 m c) (A1 m c) (A2 m c) (A3 m c) (A4 m c) : S8x4096x256.Idx → EReal) := by
  refine (dats m 0 c).arrAt_eq_of_covers 5 _ covers5 fun t _ y => ?_
  rw [after0_5]
  refine View.canon_apply_of_pieces (Val := Elt Ideal) (fun y => Ref.out (A0 m c) (A1 m c) (A2 m c) (A3 m c) (A4 m c) ((win0_5.blk t).view.emb y)) _ (fun q hq => ?_) y (cover0_5 _ _ _ _ y)
  simp only [List.mem_cons, List.not_mem_nil, or_false] at hq
  rcases hq with rfl | rfl | rfl | rfl
  all_goals intro x; obtain ⟨p, h, d, rfl⟩ := idx_piece x
  · rw [emb_piece 3 r0_10 _ p (Natten.lane h d) fun a => by match a with | ⟨0, _⟩ => rfl | ⟨1, _⟩ => show 384 + 1 * p.val = 3 * 128 + p.val; omega | ⟨2, _⟩ => show 0 + 1 * (Natten.lane h d).val = (Natten.lane h d).val; omega]
    exact (outPay3_at (vBlk m c t) (suBlk m c t) (heads (iblk m c 3 t)) (bsBlk m c t) p _).trans (chunk_ref m c hv t 3 p h d)
  · rw [emb_piece 2 r0_9 _ p (Natten.lane h d) fun a => by match a with | ⟨0, _⟩ => rfl | ⟨1, _⟩ => show 256 + 1 * p.val = 2 * 128 + p.val; omega | ⟨2, _⟩ => show 0 + 1 * (Natten.lane h d).val = (Natten.lane h d).val; omega]
    exact (outPay2_at (vBlk m c t) (suBlk m c t) (heads (iblk m c 3 t)) (bsBlk m c t) p _).trans (chunk_ref m c hv t 2 p h d)
  · rw [emb_piece 1 r0_8 _ p (Natten.lane h d) fun a => by match a with | ⟨0, _⟩ => rfl | ⟨1, _⟩ => show 128 + 1 * p.val = 1 * 128 + p.val; omega | ⟨2, _⟩ => show 0 + 1 * (Natten.lane h d).val = (Natten.lane h d).val; omega]
    exact (outPay1_at (vBlk m c t) (suBlk m c t) (heads (iblk m c 3 t)) (bsBlk m c t) p _).trans (chunk_ref m c hv t 1 p h d)
  · rw [emb_piece 0 r0_7 _ p (Natten.lane h d) fun a => by match a with | ⟨0, _⟩ => rfl | ⟨1, _⟩ => show 0 + 1 * p.val = 0 * 128 + p.val; omega | ⟨2, _⟩ => show 0 + 1 * (Natten.lane h d).val = (Natten.lane h d).val; omega]
    exact (outPay0_at (vBlk m c t) (suBlk m c t) (heads (iblk m c 3 t)) (bsBlk m c t) p _).trans (chunk_ref m c hv t 0 p h d)

end Cert.Spatial.Krn
-- ==== Proof.ModRef.lean ====
module

public import proofs.«01_k».proof.Proof.Gen.ModRefIdeal.Run
public import proofs.«01_k».proof.Proof.Groups

/-! The modulation's reference, cut into named stages, each read at an index. -/

@[expose] public section
set_option maxRecDepth 16384

noncomputable section
namespace Cert.Modul
open Idealize.ShloMosaic Cert.Rows

/-- A row of the stacked conditioning: the eight batch elements, then the context's, then zeros. -/
def cond (a : (⟨2, ![8, 1024]⟩ : Shape).Idx → EReal) (x : (⟨1, ![1024]⟩ : Shape).Idx → EReal) (r : Fin 16) (k : Fin 1024) : EReal :=
  if h : r.val < 8 then a (ix2 ⟨r.val, h⟩ k) else if r.val = 8 then x (ix1 k) else 0

/-- One element of the result. -/
def elem (s w : Fin 1024 → EReal) (bias : EReal) : EReal := ∑ k, s k * logistic (s k) * w k + bias

namespace Ref
open Cert.ModRefIdeal Cert.ModRefIdeal.Gen

/-- The stacked conditioning. -/
def conT (a : FVec Ideal S8x1024 .f32) (x : FVec Ideal S1024 .f32) : FVec Ideal S16x1024 .f32 :=
  concatenate S16x1024 0 [⟨S8x1024, a⟩, ⟨S1x1024, (broadcastInDim S1x1024 ![1] bcast_S1024_S1x1024_1 x : FVec Ideal S1x1024 .f32)⟩,
    ⟨S7x1024, (broadcastInDim S7x1024 ![] bcast_S_S7x1024 (constant S_ .f32 0x00000000#32) : FVec Ideal S7x1024 .f32)⟩] concatenates_S8x1024_S1x1024_S7x1024_S16x1024_d0

/-- The activation. -/
def actT (s : FVec Ideal S16x1024 .f32) : FVec Ideal S16x1024 .f32 :=
  mulf s (Host.divf (broadcastInDim S16x1024 ![] bcast_S_S16x1024 (constant S_ .f32 0x3F800000#32))
    (addf (broadcastInDim S16x1024 ![] bcast_S_S16x1024 (constant S_ .f32 0x3F800000#32)) (Host.exp (Host.negf s))))

/-- One layer's modulation. -/
def halfT (s : FVec Ideal S16x1024 .f32) (w : FVec Ideal S1x1024x3072 .f32) (b : FVec Ideal S1x3072 .f32) : FVec Ideal S1x16x3072 .f32 :=
  broadcastInDim S1x16x3072 ![1, 2] bcast_S16x3072_S1x16x3072_1_2
    (addf (Host.dotGeneral dot_S16x1024_S1024x3072_S16x3072_1_0_0_1_n_n none s (shapeCast S1024x3072 w shapeCasts_S1x1024x3072_S1024x3072))
      (broadcastInDim S16x3072 ![0, 1] bcast_S1x3072_S16x3072_0_1 (broadcastInDim S1x3072 ![1] bcast_S3072_S1x3072_1 (shapeCast S3072 b shapeCasts_S1x3072_S3072))))

/-- The whole reference. -/
def out (a : FVec Ideal S8x1024 .f32) (x : FVec Ideal S1024 .f32) (w : FVec Ideal S2x1024x3072 .f32) (b : FVec Ideal S2x3072 .f32) : FVec Ideal S2x16x3072 .f32 :=
  concatenate S2x16x3072 0
    [⟨S1x16x3072, halfT (actT (conT a x)) (extractStridedSlice S1x1024x3072 ![0, 0, 0] w slices_S2x1024x3072_S1x1024x3072_0_0_0) (extractStridedSlice S1x3072 ![0, 0] b slices_S2x3072_S1x3072_0_0)⟩,
      ⟨S1x16x3072, halfT (actT (conT a x)) (extractStridedSlice S1x1024x3072 ![1, 0, 0] w slices_S2x1024x3072_S1x1024x3072_1_0_0) (extractStridedSlice S1x3072 ![1, 0] b slices_S2x3072_S1x3072_1_0)⟩]
    concatenates_S1x16x3072_S1x16x3072_S2x16x3072_d0

theorem conT_at (a : FVec Ideal S8x1024 .f32) (x : FVec Ideal S1024 .f32) (r : Fin 16) (k : Fin 1024) : conT a x (ix2 r k) = cond a x r k := by
  by_cases h : r.val < 8
  · rw [cond, dif_pos h]
    pointwise [conT]
    simp only [h, dif_pos]
  · by_cases h8 : r.val = 8
    · rw [cond, dif_neg h, if_pos h8]
      pointwise [conT]
      simp only [h8]
      rfl
    · have h1 : ¬ r.val - 8 < 1 := by omega
      rw [cond, dif_neg h, if_neg h8]
      pointwise [conT]
      simp only [h, h1, dif_neg, not_false_eq_true]

theorem actT_at (s : FVec Ideal S16x1024 .f32) (r : Fin 16) (k : Fin 1024) : actT s (ix2 r k) = s (ix2 r k) * logistic (s (ix2 r k)) := by
  pointwise [actT]
  rfl

theorem halfT_at (s : FVec Ideal S16x1024 .f32) (w : FVec Ideal S1x1024x3072 .f32) (b : FVec Ideal S1x3072 .f32) (r : Fin 16) (j : Fin 3072) :
    halfT s w b (ix3 0 r j) = ∑ k, s (ix2 r k) * w (ix3 0 k j) + b (ix2 0 j) := by
  pointwise [halfT]

theorem out_at (a : FVec Ideal S8x1024 .f32) (x : FVec Ideal S1024 .f32) (w : FVec Ideal S2x1024x3072 .f32) (b : FVec Ideal S2x3072 .f32) (l : Fin 2) (r : Fin 16) (j : Fin 3072) :
    out a x w b (ix3 l r j) = elem (cond a x r) (fun k => w (ix3 l k j)) (b (ix2 l j)) := by
  unfold elem
  match l with
  | 0 =>
    pointwise [out, halfT_at, actT_at, conT_at]
  | 1 =>
    pointwise [out, halfT_at, actT_at, conT_at]

/-- The reference's run, its result these stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = out (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2⟩) (Value.run m ρ)

end Ref
end Cert.Modul
-- ==== Proof.ModBody.lean ====
module

public import proofs.«01_k».proof.Proof.Gen.ModIdeal.Skeleton
public import proofs.«01_k».proof.Proof.ModRef
public import Idealize.ShloMosaic.Lib.Routing.OpsSet

/-! The modulation's body read at an index, and the stacked conditioning the host writes. -/

@[expose] public section
set_option maxRecDepth 16384

noncomputable section
namespace Cert.Modul.Krn
open Idealize.ShloMosaic Idealize.ShloMosaic.Routing Cert.ModIdeal Cert.ModIdeal.Gen Cert.Groups Cert.Rows Cert.Natten

/-- What the body stores. -/
def outPay (s : S16x1024.Idx → EReal) (w : S1x1024x768.Idx → EReal) (b : S1x1x768.Idx → EReal) : S1x16x768.Idx → EReal := k0_pay1 (F := Ideal) s w b

theorem logistic_real {x : EReal} (h : IsReal x) : IsReal (logistic x) := by
  obtain ⟨a, rfl⟩ := h
  have e : (1 : EReal) + Ideal.exp (-(a : EReal)) = ((1 + Real.exp (-a) : ℝ) : EReal) := rfl
  unfold Rows.logistic
  rw [e, Ideal.div_coe (by positivity)]
  exact IsReal.mul ⟨1, rfl⟩ ⟨_, rfl⟩

theorem body_at (s : S16x1024.Idx → EReal) (w : S1x1024x768.Idx → EReal) (b : S1x1x768.Idx → EReal) (r : Fin 16) (e : Fin 768)
    (hs : ∀ k, IsReal (s (ix2 r k))) (hw : ∀ k, IsReal (w (ix3 0 k e))) :
    outPay s w b (ix3 0 r e) = elem (fun k => s (ix2 r k)) (fun k => w (ix3 0 k e)) (b (ix3 0 0 e)) := by
  have h := split_pair (fun k => s (ix2 r k) * logistic (s (ix2 r k))) (fun k => w (ix3 0 k e)) (fun k => (hs k).mul (logistic_real (hs k))) hw
  rw [elem, ← h]
  pointwise [outPay, k0_pay1]
  simp only [zero_sub]
  rfl

/-! ## The conditioning, stacked by two updates of an array of zeros -/

theorem lands_rows (idx : IVec S1 32) (h0 : ∀ i, idx i = 0#32) (j : S8x1024.Idx) (r : Fin 16) (k : Fin 1024) :
    scatter_S16x1024_S1_S8x1024_01_n_0_0.resultIdx? j idx = some (ix2 r k) ↔ (j 0).val = r.val ∧ (j 1).val = k.val := by
  have s0 : scatter_S16x1024_S1_S8x1024_01_n_0_0.start j idx 0 = 0 := by
    unfold ScatterDims.start
    rw [dif_pos (by decide), h0]; rfl
  have s1 : scatter_S16x1024_S1_S8x1024_01_n_0_0.start j idx 1 = 0 := by
    unfold ScatterDims.start
    rw [dif_neg (by decide)]
  have w0 : scatter_S16x1024_S1_S8x1024_01_n_0_0.window j 0 = (j 0).val := by
    unfold ScatterDims.window
    rw [dif_pos (by decide)]; rfl
  have w1 : scatter_S16x1024_S1_S8x1024_01_n_0_0.window j 1 = (j 1).val := by
    unfold ScatterDims.window
    rw [dif_pos (by decide)]; rfl
  refine (resultIdx?_ix2 _ j idx r k).trans ?_
  rw [s0, s1, w0, w1]
  omega

theorem lands_row (idx : IVec S1 32) (h8 : ∀ i, idx i = 8#32) (j : S1024.Idx) (r : Fin 16) (k : Fin 1024) :
    scatter_S16x1024_S1_S1024_0_0_0_0.resultIdx? j idx = some (ix2 r k) ↔ r.val = 8 ∧ (j 0).val = k.val := by
  have s0 : scatter_S16x1024_S1_S1024_0_0_0_0.start j idx 0 = 8 := by
    unfold ScatterDims.start
    rw [dif_pos (by decide), h8]; rfl
  have s1 : scatter_S16x1024_S1_S1024_0_0_0_0.start j idx 1 = 0 := by
    unfold ScatterDims.start
    rw [dif_neg (by decide)]
  have w0 : scatter_S16x1024_S1_S1024_0_0_0_0.window j 0 = 0 := by
    unfold ScatterDims.window
    rw [dif_neg (by decide)]
  have w1 : scatter_S16x1024_S1_S1024_0_0_0_0.window j 1 = (j 0).val := by
    unfold ScatterDims.window
    rw [dif_pos (by decide)]; rfl
  refine (resultIdx?_ix2 _ j idx r k).trans ?_
  rw [s0, s1, w0, w1]
  omega

/-- The stacked conditioning. -/
theorem stacked_at (z : S16x1024.Idx → EReal) (i0 i8 : IVec S1 32) (h0 : ∀ i, i0 i = 0#32) (h8 : ∀ i, i8 i = 8#32) (hz : ∀ i, z i = 0)
    (a : S8x1024.Idx → EReal) (x : S1024.Idx → EReal) (r : Fin 16) (k : Fin 1024) :
    Host.scatter scatter_S16x1024_S1_S1024_0_0_0_0 (fun _ b => b) (Host.scatter scatter_S16x1024_S1_S8x1024_01_n_0_0 (fun _ b => b) z i0 a) i8 x (ix2 r k) = cond a x r k := by
  by_cases e8 : r.val = 8
  · rw [cond, dif_neg (by omega), if_pos e8]
    refine scatter_set_hit _ _ _ _ _ _ (fun j hj => ?_) (ix1 k) ((lands_row i8 h8 _ r k).2 ⟨e8, rfl⟩)
    have := ((lands_row i8 h8 j r k).1 hj).2
    refine congrArg x (funext fun b => ?_)
    match b with
    | ⟨0, _⟩ => exact Fin.ext this
  · rw [scatter_set_miss _ _ _ _ _ fun j hj => e8 ((lands_row i8 h8 j r k).1 hj).1]
    by_cases e : r.val < 8
    · rw [cond, dif_pos e]
      refine scatter_set_hit _ _ _ _ _ _ (fun j hj => ?_) (ix2 ⟨r.val, e⟩ k) ((lands_rows i0 h0 _ r k).2 ⟨rfl, rfl⟩)
      have := (lands_rows i0 h0 j r k).1 hj
      refine congrArg a (funext fun b => ?_)
      match b with
      | ⟨0, _⟩ => exact Fin.ext this.1
      | ⟨1, _⟩ => exact Fin.ext this.2
    · rw [cond, dif_neg e, if_neg e8, scatter_set_miss _ _ _ _ _ fun j hj => ?_, hz]
      have := ((lands_rows i0 h0 j r k).1 hj).1
      have h : (j 0).val < 8 := (j 0).isLt
      omega

end Cert.Modul.Krn
-- ==== Proof.ModArray.lean ====
module

public import proofs.«01_k».proof.Proof.Gen.ModIdeal.Value
public import proofs.«01_k».proof.Proof.ModBody
public import proofs.«01_k».proof.Proof.ModRef
public import Idealize.ShloMosaic.Lib.Pipeline.ValueKit
public import Idealize.ShloMosaic.Lib.Pipeline.Covers
public import Idealize.ShloMosaic.Lib.StableHlo.ReadAt

/-! The modulation's windows, and its output array: the reference's result. -/

@[expose] public section
set_option maxRecDepth 16384

noncomputable section
namespace Cert.Modul.Krn
open Idealize.ShloMosaic Idealize.ShloMosaic.TcCoe Idealize.ShloMosaic.Pipeline Cert.ModIdeal Cert.ModIdeal.Gen Cert.ModIdeal.Value

variable (m : (ℓ : Loc nD τ sig) → Buf (Elt Ideal) ℓ)

/-- The four arguments. -/
abbrev A0 (c : Dev nD) : S8x1024.Idx → EReal := m ((c : Thread nD τ).loc main_arg0)
abbrev A1 (c : Dev nD) : S1024.Idx → EReal := m ((c : Thread nD τ).loc main_arg1)
abbrev A2 (c : Dev nD) : S2x1024x3072.Idx → EReal := m ((c : Thread nD τ).loc main_arg2)
abbrev A3 (c : Dev nD) : S2x3072.Idx → EReal := m ((c : Thread nD τ).loc main_arg3)

/-- The layer of a grid point. -/
def lAt (t : Fin cfg0.N) : Fin 2 := grid0.coords t 0
/-- The tile of 768 columns of a grid point. -/
def jAt (t : Fin cfg0.N) : Fin 4 := grid0.coords t 1
/-- The column of a tile's lane. -/
def col (n : Fin 4) (e : Fin 768) : Fin 3072 := ⟨n.val * 768 + e.val, by omega⟩

theorem w32 (n : Nat) (h : n < 4096) : (BitVec.ofNat 32 n).toNat = n := by
  rw [BitVec.toNat_ofNat]; omega

theorem ix_lAt (t : Fin cfg0.N) : (BitVec.ofNat 32 (grid0.coords t 0).val).toNat = (lAt t).val := w32 _ (by have := (lAt t).isLt; unfold lAt at this; omega)
theorem ix_jAt (t : Fin cfg0.N) : (BitVec.ofNat 32 (grid0.coords t 1).val).toNat = (jAt t).val := w32 _ (by have := (jAt t).isLt; unfold jAt at this; omega)

theorem ix0_0 (t : Fin cfg0.N) : win0_0.index t 0 = 0 := rfl
theorem ix0_1 (t : Fin cfg0.N) : win0_0.index t 1 = 0 := rfl
theorem ix1_0 (t : Fin cfg0.N) : win0_1.index t 0 = (lAt t).val := ix_lAt t
theorem ix1_1 (t : Fin cfg0.N) : win0_1.index t 1 = 0 := rfl
theorem ix1_2 (t : Fin cfg0.N) : win0_1.index t 2 = (jAt t).val := ix_jAt t
theorem ix2_0 (t : Fin cfg0.N) : win0_2.index t 0 = (lAt t).val := ix_lAt t
theorem ix2_1 (t : Fin cfg0.N) : win0_2.index t 1 = 0 := rfl
theorem ix2_2 (t : Fin cfg0.N) : win0_2.index t 2 = (jAt t).val := ix_jAt t
theorem ix3_0 (t : Fin cfg0.N) : win0_3.index t 0 = (lAt t).val := ix_lAt t
theorem ix3_1 (t : Fin cfg0.N) : win0_3.index t 1 = 0 := rfl
theorem ix3_2 (t : Fin cfg0.N) : win0_3.index t 2 = (jAt t).val := ix_jAt t

/-- The stacked conditioning, which the host writes into an array of zeros. -/
theorem con_eq (c : Dev nD) : V m c main_v4
    = Host.scatter scatter_S16x1024_S1_S1024_0_0_0_0 (fun _ b => b) (Host.scatter scatter_S16x1024_S1_S8x1024_01_n_0_0 (fun _ b => b)
        (broadcastInDim S16x1024 ![] bcast_S_S16x1024 (constant (F := Ideal) S_ .f32 0x00000000#32)) (broadcastInDim S1 ![] bcast_S_S1 (constantI S_ 32 0#32)) (A0 m c))
        (broadcastInDim S1 ![] bcast_S_S1 (constantI S_ 32 8#32)) (A1 m c) := by
  unfold V
  after_results_simp

theorem con_blk (c : Dev nD) (t : Fin cfg0.N) (r : Fin 16) (k : Fin 1024) : iblk m c 0 t (ix2 r k) = cond (A0 m c) (A1 m c) r k := by
  have e : V m c main_v4 (ix2 r k) = cond (A0 m c) (A1 m c) r k := by
    rw [con_eq]
    exact stacked_at _ _ _ (fun _ => rfl) (fun _ => rfl) (fun _ => Ideal.ofBits_zero_f32) _ _ r k
  rw [← e]
  blk_ext [iblk, ix0_0, ix0_1]

theorem w_blk (c : Dev nD) (t : Fin cfg0.N) (k : Fin 1024) (e : Fin 768) : iblk m c 1 t (ix3 0 k e) = A2 m c (ix3 (lAt t) k (col (jAt t) e)) := by
  blk_ext [iblk, V_main_arg2, ix1_0, ix1_1, ix1_2, col]

/-- The bias, which the host lays out by layers. -/
theorem b_blk (c : Dev nD) (t : Fin cfg0.N) (e : Fin 768) : iblk m c 2 t (ix3 0 0 e) = A3 m c (ix2 (lAt t) (col (jAt t) e)) := by
  have e : V m c main_v5 (ix3 (lAt t) 0 (col (jAt t) e)) = A3 m c (ix2 (lAt t) (col (jAt t) e)) := by
    unfold V
    after_reads_at
  rw [← e]
  blk_ext [iblk, ix2_0, ix2_1, ix2_2, col]

theorem covers3 : (cfg0.win 3).Covers := by
  refine (cfg0.win 3).covers_of_indexMap_surj rfl (by decide) fun β => ?_
  have hβ0 : (β 0).val < 2 := (β 0).isLt
  have hβ1 : (β 1).val < 1 := (β 1).isLt
  have hβ2 : (β 2).val < 4 := (β 2).isLt
  refine ⟨fun a => match a with | ⟨0, _⟩ => ⟨(β 0).val, hβ0⟩ | ⟨1, _⟩ => ⟨(β 2).val, hβ2⟩, fun a => ?_⟩
  match a with
  | ⟨0, _⟩ => exact w32 (β 0).val (by omega)
  | ⟨1, _⟩ => exact (Nat.lt_one_iff.1 hβ1).symm
  | ⟨2, _⟩ => exact w32 (β 2).val (by omega)

theorem emb_out (t : Fin cfg0.N) (r : Fin 16) (e : Fin 768) : (win0_3.blk t).view.emb (ix3 0 r e) = ix3 (lAt t) r (col (jAt t) e) := by
  blk_ext [ix3_0, ix3_1, ix3_2, col]

theorem idx_out (y : S1x16x768.Idx) : ∃ (r : Fin 16) (e : Fin 768), y = ix3 0 r e := by
  have h0 : (y 0).val < 1 := (y 0).isLt
  refine ⟨y 1, y 2, funext fun a => ?_⟩
  match a with
  | ⟨0, _⟩ => exact Fin.ext (Nat.lt_one_iff.1 h0)
  | ⟨1, _⟩ => rfl
  | ⟨2, _⟩ => rfl

theorem cond_real (c : Dev nD) (ha : ∀ i, Natten.IsReal (A0 m c i)) (hx : ∀ i, Natten.IsReal (A1 m c i)) (r : Fin 16) (k : Fin 1024) : Natten.IsReal (cond (A0 m c) (A1 m c) r k) := by
  unfold cond
  split
  · exact ha _
  · split
    · exact hx _
    · exact ⟨0, rfl⟩

/-- The output array is the reference's result, the conditioning and the weights being real. -/
theorem arr_eq (c : Dev nD) (ha : ∀ i, Natten.IsReal (A0 m c i)) (hx : ∀ i, Natten.IsReal (A1 m c i)) (hw : ∀ i, Natten.IsReal (A2 m c i)) : (dats m 0 c).arrAt 3 cfg0.N
    = (Ref.out (A0 m c) (A1 m c) (A2 m c) (A3 m c) : S2x16x3072.Idx → EReal) := by
  refine (dats m 0 c).arrAt_eq_of_covers 3 _ covers3 fun t _ y => ?_
  rw [after0_3]
  unfold out0_3
  frame_out
  blk_simp
  obtain ⟨r, e, rfl⟩ := idx_out y
  rw [emb_out]
  refine (body_at (iblk m c 0 t) (iblk m c 1 t) (iblk m c 2 t) r e (fun k => by rw [con_blk]; exact cond_real m c ha hx r k) (fun k => by rw [w_blk]; exact hw _)).trans ?_
  rw [Ref.out_at]
  simp only [con_blk, w_blk, b_blk]

end Cert.Modul.Krn
-- ==== Proof.PrepRef.lean ====
module

public import proofs.«01_k».proof.Proof.Gen.PrepRefIdeal.Run
public import proofs.«01_k».proof.Proof.Groups

/-! The reference of the recurrence's operands, cut into named stages, each read at an index. -/

@[expose] public section
set_option maxRecDepth 16384

noncomputable section
namespace Cert.Operands
open Idealize.ShloMosaic Cert.Groups Cert.Rows

/-- The literals one half, and the least norm a key is divided by. -/
def half : EReal := Ideal.ofBits .f32 0x3F000000#32
def tiny : EReal := Ideal.ofBits .f32 0x2B8CBCCC#32

/-- A token's element moved towards the mean of its neighbours. -/
def lerp (z p n mu : EReal) : EReal := z + (half * (p + n) - z) * mu

/-- The element before a token and the one after it, zero outside the sequence. -/
def before (z : Fin 4096 → EReal) (t : Fin 4096) : EReal := if t.val = 0 then 0 else z ⟨t.val - 1, by omega⟩
def after (z : Fin 4096 → EReal) (t : Fin 4096) : EReal := if h : t.val + 1 < 4096 then z ⟨t.val + 1, h⟩ else 0

/-- The columns of a mixed row: the receptance, the key, the value, and the two low-rank inputs. -/
def colR (l : Fin 256) : Fin 896 := ⟨l.val, by omega⟩
def colK (l : Fin 256) : Fin 896 := ⟨256 + l.val, by omega⟩
def colV (l : Fin 256) : Fin 896 := ⟨512 + l.val, by omega⟩
def colW (e : Fin 64) : Fin 896 := ⟨768 + e.val, by omega⟩
def colA (e : Fin 64) : Fin 896 := ⟨832 + e.val, by omega⟩

/-- The softplus. -/
def soft (x : EReal) : EReal := max x 0 + Ideal.log (1 + Ideal.exp (-(max x (-x))))

/-- The key divided by its norm over the head. -/
def unit (k : Fin 64 → EReal) (d : Fin 64) : EReal := Ideal.div (k d) (max (Ideal.sqrt (∑ e, k e * k e)) tiny)

/-- The exponent of the decay, from its low-rank input. -/
def decay (x w : Fin 64 → EReal) (w0 : EReal) : EReal := -Ideal.exp (-soft (-(w0 + ∑ e, Ideal.tanh (x e) * w e)) - half)

/-- The learning rate, from its low-rank input. -/
def rate (x w : Fin 64 → EReal) (a0 : EReal) : EReal := logistic (a0 + ∑ e, x e * w e)

/-- The key as the state takes it. -/
def key (k a ka : EReal) : EReal := k * (1 + (a - 1) * ka)

/-- The bonus of one direction. -/
def bonus (r k rk : Fin 64 → EReal) (v : EReal) : EReal := (∑ e, r e * k e * rk e) * v

namespace Ref
open Cert.PrepRefIdeal Cert.PrepRefIdeal.Gen

/-- The mixed rows. -/
def zT (z : FVec Ideal S8x4096x896 .f32) (mu : FVec Ideal S896 .f32) : FVec Ideal S8x4096x896 .f32 :=
  addf z (mulf (subf (mulf (broadcastInDim S8x4096x896 ![] bcast_S_S8x4096x896 (constant S_ .f32 0x3F000000#32))
      (addf (pad S8x4096x896 ![0, 1, 0] ![0, 0, 0] ![0, 0, 0] (extractStridedSlice S8x4095x896 ![0, 0, 0] z slices_S8x4096x896_S8x4095x896_0_0_0) (sitofp .f32 (constantI S_ 32 0#32) : FVec Ideal S_ .f32) pads_S8x4095x896_S8x4096x896_000_100_000 h_S_)
        (pad S8x4096x896 ![0, 0, 0] ![0, 1, 0] ![0, 0, 0] (extractStridedSlice S8x4095x896 ![0, 1, 0] z slices_S8x4096x896_S8x4095x896_0_1_0) (sitofp .f32 (constantI S_ 32 0#32) : FVec Ideal S_ .f32) pads_S8x4095x896_S8x4096x896_000_010_000 h_S_))) z)
    (broadcastInDim S8x4096x896 ![0, 1, 2] bcast_S1x1x896_S8x4096x896_0_1_2 (broadcastInDim S1x1x896 ![2] bcast_S896_S1x1x896_2 mu)))

def rT (y : FVec Ideal S8x4096x896 .f32) : FVec Ideal S8x4096x256 .f32 := extractStridedSlice S8x4096x256 ![0, 0, 0] y slices_S8x4096x896_S8x4096x256_0_0_0
def kT (y : FVec Ideal S8x4096x896 .f32) : FVec Ideal S8x4096x256 .f32 := extractStridedSlice S8x4096x256 ![0, 0, 256] y slices_S8x4096x896_S8x4096x256_0_0_256
def vT (y : FVec Ideal S8x4096x896 .f32) : FVec Ideal S8x4096x256 .f32 := extractStridedSlice S8x4096x256 ![0, 0, 512] y slices_S8x4096x896_S8x4096x256_0_0_512
def wT (y : FVec Ideal S8x4096x896 .f32) : FVec Ideal S8x4096x64 .f32 := extractStridedSlice S8x4096x64 ![0, 0, 768] y slices_S8x4096x896_S8x4096x64_0_0_768
def aT (y : FVec Ideal S8x4096x896 .f32) : FVec Ideal S8x4096x64 .f32 := extractStridedSlice S8x4096x64 ![0, 0, 832] y slices_S8x4096x896_S8x4096x64_0_0_832

/-- A row of weights over the tokens. -/
def spreadT (x : FVec Ideal S256 .f32) : FVec Ideal S8x4096x256 .f32 :=
  broadcastInDim S8x4096x256 ![0, 1, 2] bcast_S1x1x256_S8x4096x256_0_1_2 (broadcastInDim S1x1x256 ![2] bcast_S256_S1x1x256_2 x)

/-- The weighted keys, by heads. -/
def wkT (k : FVec Ideal S8x4096x256 .f32) (kk : FVec Ideal S256 .f32) : FVec Ideal S8x4096x4x64 .f32 :=
  shapeCast _ (mulf k (spreadT kk)) shapeCasts_S8x4096x256_S8x4096x4x64

/-- The keys of unit norm. -/
def unitT (x : FVec Ideal S8x4096x4x64 .f32) : FVec Ideal S8x4096x4x64 .f32 :=
  Host.divf x (broadcastInDim S8x4096x4x64 ![0, 1, 2, 3] bcast_S8x4096x4x1_S8x4096x4x64_0_1_2_3
    (maximumf (Host.sqrt (broadcastInDim S8x4096x4x1 ![0, 1, 2] bcast_S8x4096x4_S8x4096x4x1_0_1_2 (Host.reduceAdd (mulf x x) (constant S_ .f32 0x00000000#32) reducesTo_S8x4096x4x64_S8x4096x4_d3 h_S_)))
      (broadcastInDim S8x4096x4x1 ![] bcast_S_S8x4096x4x1 (constant S_ .f32 0x2B8CBCCC#32))))

/-- The softplus. -/
def softT (x : FVec Ideal S8x4096x256 .f32) : FVec Ideal S8x4096x256 .f32 :=
  have s : FVec Ideal S8x4096x256 .f32 := broadcastInDim S8x4096x256 ![] bcast_S_S8x4096x256 (constant S_ .f32 0x00000000#32)
  select (cmpf .une (subf x s) (subf x s)) (addf x s) (addf (maximumf x s) (Host.log1p (Host.exp (Host.negf (Host.absf (subf x s))))))

/-- The decay's exponent, of one direction. -/
def decayT (x : FVec Ideal S8x4096x64 .f32) (w0 : FVec Ideal S1x256 .f32) (w : FVec Ideal S1x64x256 .f32) : FVec Ideal S8x4096x256 .f32 :=
  Host.negf (Host.exp (subf (Host.negf (softT (Host.negf (addf (spreadT (shapeCast _ w0 shapeCasts_S1x256_S256))
      (Host.dotGeneral dot_S8x4096x64_S64x256_S8x4096x256_2_0_01_1_n_n none (Host.tanh x) (shapeCast _ w shapeCasts_S1x64x256_S64x256))))))
    (broadcastInDim S8x4096x256 ![] bcast_S_S8x4096x256 (constant S_ .f32 0x3F000000#32))))

/-- The learning rate of one direction, by heads. -/
def rateT (x : FVec Ideal S8x4096x64 .f32) (a0 : FVec Ideal S1x256 .f32) (w : FVec Ideal S1x64x256 .f32) : FVec Ideal S8x4096x4x64 .f32 :=
  shapeCast _ (Host.divf (broadcastInDim S8x4096x256 ![] bcast_S_S8x4096x256 (constant S_ .f32 0x3F800000#32))
    (addf (broadcastInDim S8x4096x256 ![] bcast_S_S8x4096x256 (constant S_ .f32 0x3F800000#32))
      (Host.exp (Host.negf (addf (spreadT (shapeCast _ a0 shapeCasts_S1x256_S256))
        (Host.dotGeneral dot_S8x4096x64_S64x256_S8x4096x256_2_0_01_1_n_n none x (shapeCast _ w shapeCasts_S1x64x256_S64x256))))))) shapeCasts_S8x4096x256_S8x4096x4x64

/-- A head's weights over the tokens. -/
def headT (x : FVec Ideal S4x64 .f32) : FVec Ideal S8x4096x4x64 .f32 :=
  broadcastInDim S8x4096x4x64 ![0, 1, 2, 3] bcast_S1x1x4x64_S8x4096x4x64_0_1_2_3 (broadcastInDim S1x1x4x64 ![2, 3] bcast_S4x64_S1x1x4x64_2_3 x)

/-- The keys as one direction's state takes them. -/
def keyT (k : FVec Ideal S8x4096x256 .f32) (a : FVec Ideal S8x4096x4x64 .f32) (ka : FVec Ideal S256 .f32) : FVec Ideal S8x4096x4x64 .f32 :=
  mulf (shapeCast _ k shapeCasts_S8x4096x256_S8x4096x4x64) (addf (broadcastInDim S8x4096x4x64 ![] bcast_S_S8x4096x4x64 (constant S_ .f32 0x3F800000#32))
    (mulf (subf a (broadcastInDim S8x4096x4x64 ![] bcast_S_S8x4096x4x64 (constant S_ .f32 0x3F800000#32))) (headT (shapeCast _ ka shapeCasts_S256_S4x64))))

/-- One direction's bonus. -/
def bonusT (r v : FVec Ideal S8x4096x256 .f32) (kd : FVec Ideal S8x4096x4x64 .f32) (rk : FVec Ideal S4x64 .f32) : FVec Ideal S8x4096x4x64 .f32 :=
  mulf (broadcastInDim S8x4096x4x64 ![0, 1, 2, 3] bcast_S8x4096x4x1_S8x4096x4x64_0_1_2_3 (broadcastInDim S8x4096x4x1 ![0, 1, 2] bcast_S8x4096x4_S8x4096x4x1_0_1_2
      (Host.reduceAdd (mulf (mulf (shapeCast _ r shapeCasts_S8x4096x256_S8x4096x4x64) kd) (headT rk)) (constant S_ .f32 0x00000000#32) reducesTo_S8x4096x4x64_S8x4096x4_d3 h_S_)))
    (shapeCast _ v shapeCasts_S8x4096x256_S8x4096x4x64)

/-- Heads laid out as lanes. -/
def flatT (x : FVec Ideal S8x4096x4x64 .f32) : FVec Ideal S8x4096x256 .f32 := shapeCast _ x shapeCasts_S8x4096x4x64_S8x4096x256

/-- One direction's offsets and matrix. -/
def vec0 (x : FVec Ideal S2x256 .f32) : FVec Ideal S1x256 .f32 := extractStridedSlice S1x256 ![0, 0] x slices_S2x256_S1x256_0_0
def vec1 (x : FVec Ideal S2x256 .f32) : FVec Ideal S1x256 .f32 := extractStridedSlice S1x256 ![1, 0] x slices_S2x256_S1x256_1_0
def mat0 (x : FVec Ideal S2x64x256 .f32) : FVec Ideal S1x64x256 .f32 := extractStridedSlice S1x64x256 ![0, 0, 0] x slices_S2x64x256_S1x64x256_0_0_0
def mat1 (x : FVec Ideal S2x64x256 .f32) : FVec Ideal S1x64x256 .f32 := extractStridedSlice S1x64x256 ![1, 0, 0] x slices_S2x64x256_S1x64x256_1_0_0

/-- The ten groups of columns of the result, from the mixed rows. -/
def colsT (y : FVec Ideal S8x4096x896 .f32) (w0 : FVec Ideal S2x256 .f32) (w2 : FVec Ideal S2x64x256 .f32) (a0 : FVec Ideal S2x256 .f32) (a2 : FVec Ideal S2x64x256 .f32) (kk ka : FVec Ideal S256 .f32) (rk : FVec Ideal S4x64 .f32) :
    Fin 10 → FVec Ideal S8x4096x256 .f32
  | 0 => rT y
  | 1 => vT y
  | 2 => flatT (Host.negf (unitT (wkT (kT y) kk)))
  | 3 => decayT (wT y) (vec0 w0) (mat0 w2)
  | 4 => flatT (keyT (kT y) (rateT (aT y) (vec0 a0) (mat0 a2)) ka)
  | 5 => flatT (mulf (unitT (wkT (kT y) kk)) (rateT (aT y) (vec0 a0) (mat0 a2)))
  | 6 => decayT (wT y) (vec1 w0) (mat1 w2)
  | 7 => flatT (keyT (kT y) (rateT (aT y) (vec1 a0) (mat1 a2)) ka)
  | 8 => flatT (mulf (unitT (wkT (kT y) kk)) (rateT (aT y) (vec1 a0) (mat1 a2)))
  | 9 => flatT (addf (bonusT (rT y) (vT y) (keyT (kT y) (rateT (aT y) (vec0 a0) (mat0 a2)) ka) rk) (bonusT (rT y) (vT y) (keyT (kT y) (rateT (aT y) (vec1 a0) (mat1 a2)) ka) rk))

/-- Ten groups of columns side by side. -/
def joinT (u : Fin 10 → FVec Ideal S8x4096x256 .f32) : FVec Ideal S8x4096x2560 .f32 :=
  concatenate S8x4096x2560 2 [⟨S8x4096x256, u 0⟩, ⟨S8x4096x256, u 1⟩, ⟨S8x4096x256, u 2⟩, ⟨S8x4096x256, u 3⟩, ⟨S8x4096x256, u 4⟩, ⟨S8x4096x256, u 5⟩, ⟨S8x4096x256, u 6⟩, ⟨S8x4096x256, u 7⟩, ⟨S8x4096x256, u 8⟩, ⟨S8x4096x256, u 9⟩]
    concatenates_S8x4096x256_S8x4096x256_S8x4096x256_S8x4096x256_S8x4096x256_S8x4096x256_S8x4096x256_S8x4096x256_S8x4096x256_S8x4096x256_S8x4096x2560_d2

/-- The whole reference. -/
def out (z : FVec Ideal S8x4096x896 .f32) (mu : FVec Ideal S896 .f32) (w0 : FVec Ideal S2x256 .f32) (w2 : FVec Ideal S2x64x256 .f32) (a0 : FVec Ideal S2x256 .f32) (a2 : FVec Ideal S2x64x256 .f32) (kk ka : FVec Ideal S256 .f32) (rk : FVec Ideal S4x64 .f32) : FVec Ideal S8x4096x2560 .f32 :=
  joinT (colsT (zT z mu) w0 w2 a0 a2 kk ka rk)

/-- The reference's run, its result these stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v137) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans rfl, (h c).2⟩) (Value.run m ρ)

theorem zT_at (z : FVec Ideal S8x4096x896 .f32) (mu : FVec Ideal S896 .f32) (b : Fin 8) (t : Fin 4096) (j : Fin 896) :
    zT z mu (ix3 b t j) = lerp (z (ix3 b t j)) (before (fun s => z (ix3 b s j)) t) (after (fun s => z (ix3 b s j)) t) (mu (ix1 j)) := by
  have e0 : (FloatOps.sitofp (F := Ideal) .f32 (0#32 : BitVec 32) : EReal) = 0 := by
    show (((0#32 : BitVec 32).toInt : ℝ) : EReal) = 0
    simp
  have e1 : before (fun s => z (ix3 b s j)) t = if h : 1 ≤ t.val ∧ t.val - 1 < 4095 then z (ix3 b ⟨t.val - 1, by omega⟩ j) else 0 := by
    unfold before
    by_cases h : t.val = 0
    · rw [if_pos h, dif_neg (by omega)]
    · rw [if_neg h, dif_pos (by omega)]
  have e2 : after (fun s => z (ix3 b s j)) t = if h : t.val < 4095 then z (ix3 b ⟨1 + t.val, by omega⟩ j) else 0 := by
    unfold after
    by_cases h : t.val < 4095
    · rw [dif_pos h, dif_pos (by omega)]
      exact congrArg (fun s => z (ix3 b s j)) (Fin.ext (Nat.add_comm _ _))
    · rw [dif_neg h, dif_neg (by omega)]
  pointwise [zT]
  rw [lerp, e1, e2, ← e0]
  rfl

theorem rT_at (y : FVec Ideal S8x4096x896 .f32) (b : Fin 8) (t : Fin 4096) (l : Fin 256) : rT y (ix3 b t l) = y (ix3 b t (colR l)) := by
  pointwise [rT, colR]
theorem kT_at (y : FVec Ideal S8x4096x896 .f32) (b : Fin 8) (t : Fin 4096) (l : Fin 256) : kT y (ix3 b t l) = y (ix3 b t (colK l)) := by
  pointwise [kT, colK]
theorem vT_at (y : FVec Ideal S8x4096x896 .f32) (b : Fin 8) (t : Fin 4096) (l : Fin 256) : vT y (ix3 b t l) = y (ix3 b t (colV l)) := by
  pointwise [vT, colV]
theorem wT_at (y : FVec Ideal S8x4096x896 .f32) (b : Fin 8) (t : Fin 4096) (e : Fin 64) : wT y (ix3 b t e) = y (ix3 b t (colW e)) := by
  pointwise [wT, colW]
theorem aT_at (y : FVec Ideal S8x4096x896 .f32) (b : Fin 8) (t : Fin 4096) (e : Fin 64) : aT y (ix3 b t e) = y (ix3 b t (colA e)) := by
  pointwise [aT, colA]

theorem spreadT_at (x : FVec Ideal S256 .f32) (b : Fin 8) (t : Fin 4096) (l : Fin 256) : spreadT x (ix3 b t l) = x (ix1 l) := by
  pointwise [spreadT]

theorem wkT_at (k : FVec Ideal S8x4096x256 .f32) (kk : FVec Ideal S256 .f32) (b : Fin 8) (t : Fin 4096) (h : Fin 4) (d : Fin 64) :
    wkT k kk (ix4 b t h d) = k (ix3 b t (Natten.lane h d)) * kk (ix1 (Natten.lane h d)) := by
  pointwise [wkT, spreadT_at, Natten.lane]

theorem unitT_at (x : FVec Ideal S8x4096x4x64 .f32) (b : Fin 8) (t : Fin 4096) (h : Fin 4) (d : Fin 64) :
    unitT x (ix4 b t h d) = unit (fun e => x (ix4 b t h e)) d := by
  pointwise [unitT]
  rfl

theorem softT_at (x : FVec Ideal S8x4096x256 .f32) (b : Fin 8) (t : Fin 4096) (l : Fin 256) : softT x (ix3 b t l) = soft (x (ix3 b t l)) := by
  pointwise [softT]
  rw [if_neg (fun h => h rfl)]
  rfl

theorem decayT_at (x : FVec Ideal S8x4096x64 .f32) (w0 : FVec Ideal S1x256 .f32) (w : FVec Ideal S1x64x256 .f32) (b : Fin 8) (t : Fin 4096) (l : Fin 256) :
    decayT x w0 w (ix3 b t l) = decay (fun e => x (ix3 b t e)) (fun e => w (ix3 0 e l)) (w0 (ix2 0 l)) := by
  pointwise [decayT, softT_at, spreadT_at]
  rfl

theorem rateT_at (x : FVec Ideal S8x4096x64 .f32) (a0 : FVec Ideal S1x256 .f32) (w : FVec Ideal S1x64x256 .f32) (b : Fin 8) (t : Fin 4096) (h : Fin 4) (d : Fin 64) :
    rateT x a0 w (ix4 b t h d) = rate (fun e => x (ix3 b t e)) (fun e => w (ix3 0 e (Natten.lane h d))) (a0 (ix2 0 (Natten.lane h d))) := by
  pointwise [rateT, spreadT_at, Natten.lane]
  rfl

theorem keyT_at (k : FVec Ideal S8x4096x256 .f32) (a : FVec Ideal S8x4096x4x64 .f32) (ka : FVec Ideal S256 .f32) (b : Fin 8) (t : Fin 4096) (h : Fin 4) (d : Fin 64) :
    keyT k a ka (ix4 b t h d) = key (k (ix3 b t (Natten.lane h d))) (a (ix4 b t h d)) (ka (ix1 (Natten.lane h d))) := by
  pointwise [keyT, headT, Natten.lane, key]

theorem bonusT_at (r v : FVec Ideal S8x4096x256 .f32) (kd : FVec Ideal S8x4096x4x64 .f32) (rk : FVec Ideal S4x64 .f32) (b : Fin 8) (t : Fin 4096) (h : Fin 4) (d : Fin 64) :
    bonusT r v kd rk (ix4 b t h d) = bonus (fun e => r (ix3 b t (Natten.lane h e))) (fun e => kd (ix4 b t h e)) (fun e => rk (ix2 h e)) (v (ix3 b t (Natten.lane h d))) := by
  pointwise [bonusT, headT, Natten.lane, bonus]

theorem flatT_at (x : FVec Ideal S8x4096x4x64 .f32) (b : Fin 8) (t : Fin 4096) (h : Fin 4) (d : Fin 64) : flatT x (ix3 b t (Natten.lane h d)) = x (ix4 b t h d) := by
  have e3 : (Natten.lane h d).val / 64 = h.val := by unfold Natten.lane; dsimp only; omega
  have e4 : (Natten.lane h d).val % 64 = d.val := by unfold Natten.lane; dsimp only; omega
  pointwise [flatT]
  simp only [e3, e4]

theorem joinT_at (u : Fin 10 → FVec Ideal S8x4096x256 .f32) (q : Fin 10) (b : Fin 8) (t : Fin 4096) (l : Fin 256) : joinT u (ix3 b t ⟨256 * q.val + l.val, by omega⟩) = u q (ix3 b t l) := by
  match q with
  | 0 =>
    pointwise [joinT]
  | 1 =>
    pointwise [joinT]
  | 2 =>
    pointwise [joinT]
    rw [dif_neg (by omega), dif_neg (by omega), dif_pos (by omega)]
    exact congrArg (u 2) (congrArg (ix3 b t) (Fin.ext (by dsimp only; omega)))
  | 3 =>
    pointwise [joinT]
    rw [dif_neg (by omega), dif_neg (by omega), dif_neg (by omega), dif_pos (by omega)]
    exact congrArg (u 3) (congrArg (ix3 b t) (Fin.ext (by dsimp only; omega)))
  | 4 =>
    pointwise [joinT]
    rw [dif_neg (by omega), dif_neg (by omega), dif_neg (by omega), dif_neg (by omega), dif_pos (by omega)]
    exact congrArg (u 4) (congrArg (ix3 b t) (Fin.ext (by dsimp only; omega)))
  | 5 =>
    pointwise [joinT]
    rw [dif_neg (by omega), dif_neg (by omega), dif_neg (by omega), dif_neg (by omega), dif_neg (by omega), dif_pos (by omega)]
    exact congrArg (u 5) (congrArg (ix3 b t) (Fin.ext (by dsimp only; omega)))
  | 6 =>
    pointwise [joinT]
    rw [dif_neg (by omega), dif_neg (by omega), dif_neg (by omega), dif_neg (by omega), dif_neg (by omega), dif_neg (by omega), dif_pos (by omega)]
    exact congrArg (u 6) (congrArg (ix3 b t) (Fin.ext (by dsimp only; omega)))
  | 7 =>
    pointwise [joinT]
    rw [dif_neg (by omega), dif_neg (by omega), dif_neg (by omega), dif_neg (by omega), dif_neg (by omega), dif_neg (by omega), dif_neg (by omega), dif_pos (by omega)]
    exact congrArg (u 7) (congrArg (ix3 b t) (Fin.ext (by dsimp only; omega)))
  | 8 =>
    pointwise [joinT]
    rw [dif_neg (by omega), dif_neg (by omega), dif_neg (by omega), dif_neg (by omega), dif_neg (by omega), dif_neg (by omega), dif_neg (by omega), dif_neg (by omega), dif_pos (by omega)]
    exact congrArg (u 8) (congrArg (ix3 b t) (Fin.ext (by dsimp only; omega)))
  | 9 =>
    pointwise [joinT]
    rw [dif_neg (by omega), dif_neg (by omega), dif_neg (by omega), dif_neg (by omega), dif_neg (by omega), dif_neg (by omega), dif_neg (by omega), dif_neg (by omega), dif_neg (by omega)]
    exact congrArg (u 9) (congrArg (ix3 b t) (Fin.ext (by dsimp only; omega)))

end Ref

/-- One element of a group of columns, from the token's mixed row and one column of the weights. -/
def elem (y : Fin 896 → EReal) (w0 a0 : Fin 2 → Fin 256 → EReal) (w2 a2 : Fin 2 → Fin 64 → Fin 256 → EReal) (kk ka : Fin 256 → EReal) (rk : Fin 4 → Fin 64 → EReal) (h : Fin 4) (d : Fin 64) : Fin 10 → EReal
  | 0 => y (colR (Natten.lane h d))
  | 1 => y (colV (Natten.lane h d))
  | 2 => -unit (fun e => y (colK (Natten.lane h e)) * kk (Natten.lane h e)) d
  | 3 => decay (fun e => y (colW e)) (fun e => w2 0 e (Natten.lane h d)) (w0 0 (Natten.lane h d))
  | 4 => key (y (colK (Natten.lane h d))) (rate (fun e => y (colA e)) (fun e => a2 0 e (Natten.lane h d)) (a0 0 (Natten.lane h d))) (ka (Natten.lane h d))
  | 5 => unit (fun e => y (colK (Natten.lane h e)) * kk (Natten.lane h e)) d * rate (fun e => y (colA e)) (fun e => a2 0 e (Natten.lane h d)) (a0 0 (Natten.lane h d))
  | 6 => decay (fun e => y (colW e)) (fun e => w2 1 e (Natten.lane h d)) (w0 1 (Natten.lane h d))
  | 7 => key (y (colK (Natten.lane h d))) (rate (fun e => y (colA e)) (fun e => a2 1 e (Natten.lane h d)) (a0 1 (Natten.lane h d))) (ka (Natten.lane h d))
  | 8 => unit (fun e => y (colK (Natten.lane h e)) * kk (Natten.lane h e)) d * rate (fun e => y (colA e)) (fun e => a2 1 e (Natten.lane h d)) (a0 1 (Natten.lane h d))
  | 9 => bonus (fun e => y (colR (Natten.lane h e))) (fun e => key (y (colK (Natten.lane h e))) (rate (fun e => y (colA e)) (fun k => a2 0 k (Natten.lane h e)) (a0 0 (Natten.lane h e))) (ka (Natten.lane h e))) (rk h) (y (colV (Natten.lane h d)))
      + bonus (fun e => y (colR (Natten.lane h e))) (fun e => key (y (colK (Natten.lane h e))) (rate (fun e => y (colA e)) (fun k => a2 1 k (Natten.lane h e)) (a0 1 (Natten.lane h e))) (ka (Natten.lane h e))) (rk h) (y (colV (Natten.lane h d)))

namespace Ref
open Cert.PrepRefIdeal Cert.PrepRefIdeal.Gen

theorem vec0_at (x : FVec Ideal S2x256 .f32) (l : Fin 256) : vec0 x (ix2 0 l) = x (ix2 0 l) := by
  pointwise [vec0]
theorem vec1_at (x : FVec Ideal S2x256 .f32) (l : Fin 256) : vec1 x (ix2 0 l) = x (ix2 1 l) := by
  pointwise [vec1]
theorem mat0_at (x : FVec Ideal S2x64x256 .f32) (e : Fin 64) (l : Fin 256) : mat0 x (ix3 0 e l) = x (ix3 0 e l) := by
  pointwise [mat0]
theorem mat1_at (x : FVec Ideal S2x64x256 .f32) (e : Fin 64) (l : Fin 256) : mat1 x (ix3 0 e l) = x (ix3 1 e l) := by
  pointwise [mat1]

theorem negT_at (x : FVec Ideal S8x4096x4x64 .f32) (i : S8x4096x4x64.Idx) : Host.negf x i = -x i := rfl
theorem mulT_at (x y : FVec Ideal S8x4096x4x64 .f32) (i : S8x4096x4x64.Idx) : mulf x y i = x i * y i := rfl
theorem addT_at (x y : FVec Ideal S8x4096x4x64 .f32) (i : S8x4096x4x64.Idx) : addf x y i = x i + y i := rfl

theorem colsT_at (y : FVec Ideal S8x4096x896 .f32) (w0 : FVec Ideal S2x256 .f32) (w2 : FVec Ideal S2x64x256 .f32) (a0 : FVec Ideal S2x256 .f32) (a2 : FVec Ideal S2x64x256 .f32) (kk ka : FVec Ideal S256 .f32) (rk : FVec Ideal S4x64 .f32)
    (q : Fin 10) (b : Fin 8) (t : Fin 4096) (h : Fin 4) (d : Fin 64) :
    colsT y w0 w2 a0 a2 kk ka rk q (ix3 b t (Natten.lane h d))
      = elem (fun j => y (ix3 b t j)) (fun p l => w0 (ix2 p l)) (fun p l => a0 (ix2 p l)) (fun p e l => w2 (ix3 p e l)) (fun p e l => a2 (ix3 p e l)) (fun l => kk (ix1 l)) (fun l => ka (ix1 l)) (fun h d => rk (ix2 h d)) h d q := by
  match q with
  | 0 => exact rT_at y b t _
  | 1 => exact vT_at y b t _
  | 2 => simp only [colsT, elem, flatT_at, negT_at, unitT_at, wkT_at, kT_at]
  | 3 => simp only [colsT, elem, decayT_at, wT_at, vec0_at, mat0_at]
  | 4 => simp only [colsT, elem, flatT_at, keyT_at, rateT_at, kT_at, aT_at, vec0_at, mat0_at]
  | 5 => simp only [colsT, elem, flatT_at, mulT_at, unitT_at, wkT_at, rateT_at, kT_at, aT_at, vec0_at, mat0_at]
  | 6 => simp only [colsT, elem, decayT_at, wT_at, vec1_at, mat1_at]
  | 7 => simp only [colsT, elem, flatT_at, keyT_at, rateT_at, kT_at, aT_at, vec1_at, mat1_at]
  | 8 => simp only [colsT, elem, flatT_at, mulT_at, unitT_at, wkT_at, rateT_at, kT_at, aT_at, vec1_at, mat1_at]
  | 9 => simp only [colsT, elem, flatT_at, addT_at, bonusT_at, rT_at, vT_at, keyT_at, rateT_at, kT_at, aT_at, vec0_at, mat0_at, vec1_at, mat1_at]

/-- One element of the result, from the token's row, its neighbours and the weights. -/
theorem out_at (z : FVec Ideal S8x4096x896 .f32) (mu : FVec Ideal S896 .f32) (w0 : FVec Ideal S2x256 .f32) (w2 : FVec Ideal S2x64x256 .f32) (a0 : FVec Ideal S2x256 .f32) (a2 : FVec Ideal S2x64x256 .f32) (kk ka : FVec Ideal S256 .f32) (rk : FVec Ideal S4x64 .f32)
    (q : Fin 10) (b : Fin 8) (t : Fin 4096) (h : Fin 4) (d : Fin 64) :
    out z mu w0 w2 a0 a2 kk ka rk (ix3 b t ⟨256 * q.val + (Natten.lane h d).val, by omega⟩)
      = elem (fun j => lerp (z (ix3 b t j)) (before (fun s => z (ix3 b s j)) t) (after (fun s => z (ix3 b s j)) t) (mu (ix1 j)))
          (fun p l => w0 (ix2 p l)) (fun p l => a0 (ix2 p l)) (fun p e l => w2 (ix3 p e l)) (fun p e l => a2 (ix3 p e l)) (fun l => kk (ix1 l)) (fun l => ka (ix1 l)) (fun h d => rk (ix2 h d)) h d q := by
  refine (joinT_at _ q b t (Natten.lane h d)).trans ?_
  rw [colsT_at]
  simp only [zT_at]

end Ref
end Cert.Operands
-- ==== Proof.PrepBody.lean ====
module

public import proofs.«01_k».proof.Proof.Gen.PrepIdeal.Skeleton
public import proofs.«01_k».proof.Proof.PrepRef
public import Idealize.ShloMosaic.Lib.KernelVsHost

/-! The body that makes the recurrence's operands, read at an index. -/

@[expose] public section
set_option maxRecDepth 16384

noncomputable section
namespace Cert.Operands.Krn
open Idealize.ShloMosaic Cert.PrepIdeal Cert.PrepIdeal.Gen Cert.Groups Cert.Rows Cert.Natten

/-! ## The mixed rows -/

/-- The mixed rows of a block. -/
def zPay (i : grid0.Coords) (z : FVec Ideal S1x256x896 .f32) (p n : FVec Ideal S1x1x896 .f32) (mu : FVec Ideal S1x896 .f32) : S256x896.Idx → EReal := k0_pay4 (F := Ideal) i z p n mu

/-- The element before a block's row and the one after it. -/
def prevAt (j : Nat) (z : Fin 256 → EReal) (p : EReal) (r : Fin 256) : EReal := if r.val = 0 then (if 0 < j then p else 0) else z ⟨r.val - 1, by omega⟩
def nextAt (j : Nat) (z : Fin 256 → EReal) (n : EReal) (r : Fin 256) : EReal := if h : r.val + 1 < 256 then z ⟨r.val + 1, h⟩ else (if j < 15 then n else 0)

theorem isFirst (n : Nat) (hn : n < 16) : Scalar.cmpi .sgt (BitVec.ofNat 32 n) 0#32 = BitVec.ofBool (decide (0 < n)) :=
  (by decide +kernel : ∀ j : Fin 16, Scalar.cmpi .sgt (BitVec.ofNat 32 j.val) 0#32 = BitVec.ofBool (decide (0 < j.val))) ⟨n, hn⟩
theorem isLast (n : Nat) (hn : n < 16) : Scalar.cmpi .slt (BitVec.ofNat 32 n) 15#32 = BitVec.ofBool (decide (n < 15)) :=
  (by decide +kernel : ∀ j : Fin 16, Scalar.cmpi .slt (BitVec.ofNat 32 j.val) 15#32 = BitVec.ofBool (decide (j.val < 15))) ⟨n, hn⟩
theorem isTop (r : Fin 256) : IntOp.cmpi .eq (BitVec.ofNat 32 r.val) 0#32 = BitVec.ofBool (decide (r.val = 0)) := by
  revert r; decide +kernel
theorem isBottom (r : Fin 256) : IntOp.cmpi .eq (BitVec.ofNat 32 r.val) 255#32 = BitVec.ofBool (decide (r.val = 255)) := by
  revert r; decide +kernel

theorem sel_dec {α : Type} (p : Prop) [Decidable p] (x y : α) : Scalar.select (BitVec.ofBool (decide p)) x y = if p then x else y := by
  by_cases h : p <;> simp [Scalar.select, h]

theorem zPay_at (i : grid0.Coords) (z : FVec Ideal S1x256x896 .f32) (p n : FVec Ideal S1x1x896 .f32) (mu : FVec Ideal S1x896 .f32) (r : Fin 256) (j : Fin 896) :
    zPay i z p n mu (ix2 r j) = lerp (z (ix3 0 r j)) (prevAt (i 1).val (fun s => z (ix3 0 s j)) (p (ix3 0 0 j)) r) (nextAt (i 1).val (fun s => z (ix3 0 s j)) (n (ix3 0 0 j)) r) (mu (ix2 0 j)) := by
  pointwise [zPay, k0_pay4]
  rw [isTop, isBottom, isFirst _ (i 1).isLt, isLast _ (i 1).isLt]
  simp only [sel_dec]
  unfold lerp prevAt nextAt half
  refine congrArg (fun u => z (ix3 0 r j) + (_ * u - z (ix3 0 r j)) * mu (ix2 0 j)) (congrArg₂ (· + ·) ?_ ?_)
  · by_cases h : r.val = 0
    · rw [if_pos h, if_pos h]
    · rw [if_neg h, if_neg h]
      exact congrArg (fun s => z (ix3 0 s j)) (Fin.ext (by show (r.val + 256 - 1) % 256 = r.val - 1; omega))
  · by_cases h : r.val + 1 < 256
    · rw [if_neg (by omega), dif_pos h]
      exact congrArg (fun s => z (ix3 0 s j)) (Fin.ext (by show (r.val + 256 - 255) % 256 = r.val + 1; omega))
    · rw [if_pos (by omega), dif_neg h]

def rPay (i : grid0.Coords) (z : FVec Ideal S1x256x896 .f32) (p n : FVec Ideal S1x1x896 .f32) (mu : FVec Ideal S1x896 .f32) : S256x256.Idx → EReal := k0_pay5 (F := Ideal) i z p n mu
def kPay (i : grid0.Coords) (z : FVec Ideal S1x256x896 .f32) (p n : FVec Ideal S1x1x896 .f32) (mu : FVec Ideal S1x896 .f32) : S256x256.Idx → EReal := k0_pay6 (F := Ideal) i z p n mu
def vPay (i : grid0.Coords) (z : FVec Ideal S1x256x896 .f32) (p n : FVec Ideal S1x1x896 .f32) (mu : FVec Ideal S1x896 .f32) : S256x256.Idx → EReal := k0_pay7 (F := Ideal) i z p n mu
def lPay (i : grid0.Coords) (z : FVec Ideal S1x256x896 .f32) (p n : FVec Ideal S1x1x896 .f32) (mu : FVec Ideal S1x896 .f32) : S256x128.Idx → EReal := k0_pay8 (F := Ideal) i z p n mu

theorem rPay_at (i : grid0.Coords) (z : FVec Ideal S1x256x896 .f32) (p n : FVec Ideal S1x1x896 .f32) (mu : FVec Ideal S1x896 .f32) (r : Fin 256) (l : Fin 256) :
    rPay i z p n mu (ix2 r l) = zPay i z p n mu (ix2 r (colR l)) := by
  unfold rPay k0_pay5
  show extractStridedSlice S256x256 ![0, 0] (zPay i z p n mu) slices_S256x896_o0_0_S256x256 (ix2 r l) = _
  pointwise [colR]
theorem kPay_at (i : grid0.Coords) (z : FVec Ideal S1x256x896 .f32) (p n : FVec Ideal S1x1x896 .f32) (mu : FVec Ideal S1x896 .f32) (r : Fin 256) (l : Fin 256) :
    kPay i z p n mu (ix2 r l) = zPay i z p n mu (ix2 r (colK l)) := by
  unfold kPay k0_pay6
  show extractStridedSlice S256x256 ![0, 256] (zPay i z p n mu) slices_S256x896_o0_256_S256x256 (ix2 r l) = _
  pointwise [colK]
theorem vPay_at (i : grid0.Coords) (z : FVec Ideal S1x256x896 .f32) (p n : FVec Ideal S1x1x896 .f32) (mu : FVec Ideal S1x896 .f32) (r : Fin 256) (l : Fin 256) :
    vPay i z p n mu (ix2 r l) = zPay i z p n mu (ix2 r (colV l)) := by
  unfold vPay k0_pay7
  show extractStridedSlice S256x256 ![0, 512] (zPay i z p n mu) slices_S256x896_o0_512_S256x256 (ix2 r l) = _
  pointwise [colV]
theorem lPay_at (i : grid0.Coords) (z : FVec Ideal S1x256x896 .f32) (p n : FVec Ideal S1x1x896 .f32) (mu : FVec Ideal S1x896 .f32) (r : Fin 256) (k : Fin 128) :
    lPay i z p n mu (ix2 r k) = zPay i z p n mu (ix2 r ⟨768 + k.val, by omega⟩) := by
  unfold lPay k0_pay8
  show extractStridedSlice S256x128 ![0, 768] (zPay i z p n mu) slices_S256x896_o0_768_S256x128 (ix2 r k) = _
  pointwise

/-! ## The group sums -/

/-- The matrix of group sums. -/
def onesPay : S256x256.Idx → EReal := k0_pay12 (F := Ideal) k0_pay9 k0_pay10 k0_pay11

theorem rowHead_at (k l : Fin 256) : k0_pay9 (ix2 k l) = BitVec.ofNat 32 (k.val / 64) := by
  revert k; pointwise [k0_pay9]; decide +kernel

theorem colHead_at (k l : Fin 256) : Scalar.select (k0_pay11 (ix2 k l)) (IntOp.subi (k0_pay10 (ix2 k l)) 1#32) (k0_pay10 (ix2 k l)) = BitVec.ofNat 32 (l.val / 64) := by
  revert l; pointwise [k0_pay10, k0_pay11]; decide +kernel

theorem onesPay_at (k l : Fin 256) : onesPay (ix2 k l) = if k.val / 64 = l.val / 64 then 1 else 0 := by
  pointwise [onesPay, k0_pay12, rowHead_at]
  rw [colHead_at, sel_eq]

/-- A real row times the matrix of group sums. -/
theorem dot_ones (a : Fin 256 → EReal) (ha : ∀ k, IsReal (a k)) (l : Fin 256) :
    ∑ k, a k * onesPay (ix2 k l) + ∑ k, (a k - a k) * onesPay (ix2 k l) + ∑ k, (a k - a k - (a k - a k)) * onesPay (ix2 k l) = ∑ e, a (lane (hd l) e) := by
  rw [split_three _ _ ha]
  simp only [onesPay_at]
  refine (sum_group a 1 zero_le_one (EReal.coe_ne_top 1) l).trans (mul_one _)

/-! ## The keys of unit norm -/

/-- The keys of unit norm. -/
def unitPay (k : S256x256.Idx → EReal) (kk : FVec Ideal S1x256 .f32) : S256x256.Idx → EReal := k0_pay13 (F := Ideal) k k0_pay9 k0_pay10 k0_pay11 kk

theorem unitPay_at (k : S256x256.Idx → EReal) (kk : FVec Ideal S1x256 .f32) (r : Fin 256) (hk : ∀ l, IsReal (k (ix2 r l))) (hkk : ∀ l, IsReal (kk (ix2 0 l))) (h : Fin 4) (d : Fin 64) :
    unitPay k kk (ix2 r (lane h d)) = unit (fun e => k (ix2 r (lane h e)) * kk (ix2 0 (lane h e))) d := by
  have e := dot_ones (fun l => k (ix2 r l) * kk (ix2 0 l) * (k (ix2 r l) * kk (ix2 0 l))) (fun l => ((hk l).mul (hkk l)).mul ((hk l).mul (hkk l))) (lane h d)
  rw [hd_lane] at e
  rw [unit, ← e]
  pointwise [unitPay, k0_pay13]
  rfl

/-! ## The low-rank products -/

/-- A sum over both low-rank inputs whose second half of weights is zero, and one whose first half is. -/
theorem sum_first (x : Fin 128 → EReal) (w : Fin 64 → EReal) :
    ∑ k : Fin 128, x k * (if h : k.val < 64 then w ⟨k.val, h⟩ else 0) = ∑ e : Fin 64, x ⟨e.val, by omega⟩ * w e := by
  rw [show (∑ k : Fin 128, x k * (if h : k.val < 64 then w ⟨k.val, h⟩ else 0)) = ∑ k : Fin (64 + 64), x k * (if h : k.val < 64 then w ⟨k.val, h⟩ else 0) from rfl, Fin.sum_univ_add]
  have h0 : ∀ e : Fin 64, x (Fin.natAdd 64 e) * (if h : (Fin.natAdd 64 e).val < 64 then w ⟨(Fin.natAdd 64 e).val, h⟩ else 0) = 0 := fun e => by
    rw [dif_neg (by simp), mul_zero]
  rw [Finset.sum_congr rfl fun e _ => h0 e, Finset.sum_const_zero, add_zero]
  refine Finset.sum_congr rfl fun e _ => ?_
  rw [dif_pos (by simp)]
  rfl

theorem sum_second (x : Fin 128 → EReal) (w : Fin 64 → EReal) :
    ∑ k : Fin 128, x k * (if h : 64 ≤ k.val then w ⟨k.val - 64, by omega⟩ else 0) = ∑ e : Fin 64, x ⟨64 + e.val, by omega⟩ * w e := by
  rw [show (∑ k : Fin 128, x k * (if h : 64 ≤ k.val then w ⟨k.val - 64, by omega⟩ else 0)) = ∑ k : Fin (64 + 64), x k * (if h : 64 ≤ k.val then w ⟨k.val - 64, by omega⟩ else 0) from rfl, Fin.sum_univ_add]
  have h0 : ∀ e : Fin 64, x (Fin.castAdd 64 e) * (if h : 64 ≤ (Fin.castAdd 64 e).val then w ⟨(Fin.castAdd 64 e).val - 64, by omega⟩ else 0) = 0 := fun e => by
    rw [dif_neg (by simp), mul_zero]
  rw [Finset.sum_congr rfl fun e _ => h0 e, Finset.sum_const_zero, zero_add]
  refine Finset.sum_congr rfl fun e _ => ?_
  rw [dif_pos (by simp)]
  refine congrArg₂ (· * ·) rfl (congrArg w (Fin.ext ?_))
  show 64 + e.val - 64 = e.val
  omega

theorem tanh_real {x : EReal} (h : IsReal x) : IsReal (Ideal.tanh x) := by
  obtain ⟨a, rfl⟩ := h; exact ⟨_, rfl⟩

/-- The decay's exponent, as the kernel takes it over both low-rank inputs. -/
theorem decay0_at (y : S256x128.Idx → EReal) (w0 : FVec Ideal S1x256 .f32) (w : FVec Ideal S1x128x256 .f32) (r l : Fin 256) (hy : ∀ k, IsReal (y (ix2 r k))) (hw : ∀ k, IsReal (w (ix3 0 k l))) :
    k0_pay23 (F := Ideal) (k0_pay20 y w0 w) (ix3 0 r l) = -Ideal.exp (-soft (-(w0 (ix2 0 l) + ∑ k, Ideal.tanh (y (ix2 r k)) * w (ix3 0 k l))) - half) := by
  have h := split_pair (fun k => Ideal.tanh (y (ix2 r k))) (fun k => w (ix3 0 k l)) (fun k => tanh_real (hy k)) hw
  rw [← h]
  pointwise [k0_pay23, k0_pay20, k0_pay18]
  simp only [zero_sub]
  rfl

theorem decay1_at (y : S256x128.Idx → EReal) (w0 : FVec Ideal S1x256 .f32) (w : FVec Ideal S1x128x256 .f32) (r l : Fin 256) (hy : ∀ k, IsReal (y (ix2 r k))) (hw : ∀ k, IsReal (w (ix3 0 k l))) :
    k0_pay30 (F := Ideal) (k0_pay27 (k0_pay18 y) w0 w) (ix3 0 r l) = -Ideal.exp (-soft (-(w0 (ix2 0 l) + ∑ k, Ideal.tanh (y (ix2 r k)) * w (ix3 0 k l))) - half) := by
  have h := split_pair (fun k => Ideal.tanh (y (ix2 r k))) (fun k => w (ix3 0 k l)) (fun k => tanh_real (hy k)) hw
  rw [← h]
  pointwise [k0_pay30, k0_pay27, k0_pay18]
  simp only [zero_sub]
  rfl

/-- The learning rates of the two directions. -/
def rate0 (y : S256x128.Idx → EReal) (a0 : FVec Ideal S1x256 .f32) (w : FVec Ideal S1x128x256 .f32) : S256x256.Idx → EReal := k0_pay21 (F := Ideal) y a0 w
def rate1 (y : S256x128.Idx → EReal) (a0 : FVec Ideal S1x256 .f32) (w : FVec Ideal S1x128x256 .f32) : S256x256.Idx → EReal := k0_pay28 (F := Ideal) y a0 w

theorem rate0_at (y : S256x128.Idx → EReal) (a0 : FVec Ideal S1x256 .f32) (w : FVec Ideal S1x128x256 .f32) (r l : Fin 256) (hy : ∀ k, IsReal (y (ix2 r k))) (hw : ∀ k, IsReal (w (ix3 0 k l))) :
    rate0 y a0 w (ix2 r l) = logistic (a0 (ix2 0 l) + ∑ k, y (ix2 r k) * w (ix3 0 k l)) := by
  have h := split_pair (fun k => y (ix2 r k)) (fun k => w (ix3 0 k l)) hy hw
  rw [← h]
  pointwise [rate0, k0_pay21]
  simp only [zero_sub]
  rfl

theorem rate1_at (y : S256x128.Idx → EReal) (a0 : FVec Ideal S1x256 .f32) (w : FVec Ideal S1x128x256 .f32) (r l : Fin 256) (hy : ∀ k, IsReal (y (ix2 r k))) (hw : ∀ k, IsReal (w (ix3 0 k l))) :
    rate1 y a0 w (ix2 r l) = logistic (a0 (ix2 0 l) + ∑ k, y (ix2 r k) * w (ix3 0 k l)) := by
  have h := split_pair (fun k => y (ix2 r k)) (fun k => w (ix3 0 k l)) hy hw
  rw [← h]
  pointwise [rate1, k0_pay28]
  simp only [zero_sub]
  rfl

/-- The keys as the two directions' states take them. -/
def key0 (k : S256x256.Idx → EReal) (y : S256x128.Idx → EReal) (a0 : FVec Ideal S1x256 .f32) (w : FVec Ideal S1x128x256 .f32) (ka : FVec Ideal S1x256 .f32) : S256x256.Idx → EReal := k0_pay22 (F := Ideal) k y a0 w ka
def key1 (k : S256x256.Idx → EReal) (y : S256x128.Idx → EReal) (a0 : FVec Ideal S1x256 .f32) (w : FVec Ideal S1x128x256 .f32) (ka : FVec Ideal S1x256 .f32) : S256x256.Idx → EReal := k0_pay29 (F := Ideal) k y a0 w ka

theorem key0_at (k : S256x256.Idx → EReal) (y : S256x128.Idx → EReal) (a0 : FVec Ideal S1x256 .f32) (w : FVec Ideal S1x128x256 .f32) (ka : FVec Ideal S1x256 .f32) (r l : Fin 256) :
    key0 k y a0 w ka (ix2 r l) = key (k (ix2 r l)) (rate0 y a0 w (ix2 r l)) (ka (ix2 0 l)) := by
  generalize hq : rate0 y a0 w = q
  unfold rate0 at hq
  pointwise [key0, k0_pay22, hq]
  rfl

theorem key1_at (k : S256x256.Idx → EReal) (y : S256x128.Idx → EReal) (a0 : FVec Ideal S1x256 .f32) (w : FVec Ideal S1x128x256 .f32) (ka : FVec Ideal S1x256 .f32) (r l : Fin 256) :
    key1 k y a0 w ka (ix2 r l) = key (k (ix2 r l)) (rate1 y a0 w (ix2 r l)) (ka (ix2 0 l)) := by
  generalize hq : rate1 y a0 w = q
  unfold rate1 at hq
  pointwise [key1, k0_pay29, hq]
  rfl

/-! ## The bonus -/

theorem real_add_mul {a b v : EReal} (ha : IsReal a) (hb : IsReal b) (hv : IsReal v) : (a + b) * v = a * v + b * v := by
  obtain ⟨a, rfl⟩ := ha; obtain ⟨b, rfl⟩ := hb; obtain ⟨v, rfl⟩ := hv
  rw [← EReal.coe_add, ← EReal.coe_mul, ← EReal.coe_mul, ← EReal.coe_mul, ← EReal.coe_add, add_mul]

theorem real_mul_add {a b v : EReal} (ha : IsReal a) (hb : IsReal b) (hv : IsReal v) : v * (a + b) = v * a + v * b := by
  rw [mul_comm, real_add_mul ha hb hv, mul_comm a, mul_comm b]

theorem bonus_add (r k0 k1 rk : Fin 64 → EReal) (v : EReal) (hr : ∀ e, IsReal (r e)) (h0 : ∀ e, IsReal (k0 e)) (h1 : ∀ e, IsReal (k1 e)) (hk : ∀ e, IsReal (rk e)) (hv : IsReal v) :
    (∑ e, r e * (k0 e + k1 e) * rk e) * v = bonus r k0 rk v + bonus r k1 rk v := by
  unfold bonus
  rw [← real_add_mul (IsReal.sum _ fun e => ((hr e).mul (h0 e)).mul (hk e)) (IsReal.sum _ fun e => ((hr e).mul (h1 e)).mul (hk e)) hv, ← Finset.sum_add_distrib]
  refine congrArg (· * v) (Finset.sum_congr rfl fun e _ => ?_)
  rw [real_mul_add (h0 e) (h1 e) (hr e), real_add_mul ((hr e).mul (h0 e)) ((hr e).mul (h1 e)) (hk e)]

/-- The bonus of both directions. -/
def bonusPay (r v : S256x256.Idx → EReal) (k0 k1 : S256x256.Idx → EReal) (rk : FVec Ideal S1x256 .f32) : S1x256x256.Idx → EReal :=
  k0_pay3 (F := Ideal) r v onesPay (k0_pay26 (F := Ideal) k0_pay19 k0) k1 rk

theorem bonusPay_at (r v : S256x256.Idx → EReal) (k0 k1 : S256x256.Idx → EReal) (rk : FVec Ideal S1x256 .f32) (t : Fin 256)
    (hr : ∀ l, IsReal (r (ix2 t l))) (hv : ∀ l, IsReal (v (ix2 t l))) (h0 : ∀ l, IsReal (k0 (ix2 t l))) (h1 : ∀ l, IsReal (k1 (ix2 t l))) (hk : ∀ l, IsReal (rk (ix2 0 l))) (h : Fin 4) (d : Fin 64) :
    bonusPay r v k0 k1 rk (ix3 0 t (lane h d))
      = bonus (fun e => r (ix2 t (lane h e))) (fun e => k0 (ix2 t (lane h e))) (fun e => rk (ix2 0 (lane h e))) (v (ix2 t (lane h d)))
        + bonus (fun e => r (ix2 t (lane h e))) (fun e => k1 (ix2 t (lane h e))) (fun e => rk (ix2 0 (lane h e))) (v (ix2 t (lane h d))) := by
  have e := dot_ones (fun l => r (ix2 t l) * (k0 (ix2 t l) + k1 (ix2 t l)) * rk (ix2 0 l)) (fun l => ((hr l).mul ((h0 l).add (h1 l))).mul (hk l)) (lane h d)
  rw [hd_lane] at e
  rw [← bonus_add _ _ _ _ _ (fun e => hr _) (fun e => h0 _) (fun e => h1 _) (fun e => hk _) (hv _), ← e]
  pointwise [bonusPay, k0_pay3, k0_pay26, k0_pay19]
  try rfl

theorem logistic_any (x : EReal) : IsReal (logistic x) := by
  unfold Rows.logistic
  induction x with
  | bot =>
    refine ⟨0, ?_⟩
    show Ideal.div 1 (1 + ⊤) = _
    rw [EReal.add_top_of_ne_bot (by decide), Ideal.div, if_neg EReal.top_ne_zero, EReal.inv_top, mul_zero]
    rfl
  | top =>
    have e : (1 : EReal) + Ideal.exp (-⊤) = ((1 : ℝ) : EReal) := add_zero _
    rw [e, Ideal.div_coe one_ne_zero]
    exact IsReal.mul ⟨1, rfl⟩ ⟨_, rfl⟩
  | coe a =>
    have e : (1 : EReal) + Ideal.exp (-(a : EReal)) = ((1 + Real.exp (-a) : ℝ) : EReal) := rfl
    rw [e, Ideal.div_coe (by positivity)]
    exact IsReal.mul ⟨1, rfl⟩ ⟨_, rfl⟩

theorem key_real {k a ka : EReal} (hk : IsReal k) (ha : IsReal a) (hka : IsReal ka) : IsReal (key k a ka) :=
  hk.mul (IsReal.add ⟨1, rfl⟩ ((real_sub ha ⟨1, rfl⟩).mul hka))

/-! ## The ten groups of columns -/

/-- What is known of one row of a block: its mixed elements and the weights as the body loads them, all real. -/
structure Row (r : Fin 256) (y : Fin 896 → EReal) (w0 a0 : Fin 2 → Fin 256 → EReal) (w2 a2 : Fin 2 → Fin 64 → Fin 256 → EReal) (kk ka : Fin 256 → EReal) (rk : Fin 4 → Fin 64 → EReal)
    (R K V : S256x256.Idx → EReal) (L : S256x128.Idx → EReal) (kkB kaB rkB : S1x256.Idx → EReal) (wB aB : Fin 2 → S1x256.Idx → EReal) (mB nB : Fin 2 → S1x128x256.Idx → EReal) : Prop where
  hR : ∀ l, R (ix2 r l) = y (colR l)
  hK : ∀ l, K (ix2 r l) = y (colK l)
  hV : ∀ l, V (ix2 r l) = y (colV l)
  hL : ∀ k, L (ix2 r k) = y ⟨768 + k.val, by omega⟩
  hkk : ∀ l, kkB (ix2 0 l) = kk l
  hka : ∀ l, kaB (ix2 0 l) = ka l
  hrk : ∀ h d, rkB (ix2 0 (lane h d)) = rk h d
  hw : ∀ p l, wB p (ix2 0 l) = w0 p l
  ha : ∀ p l, aB p (ix2 0 l) = a0 p l
  hm : ∀ p k l, mB p (ix3 0 k l) = if h : k.val < 64 then w2 p ⟨k.val, h⟩ l else 0
  hn : ∀ p k l, nB p (ix3 0 k l) = if h : 64 ≤ k.val then a2 p ⟨k.val - 64, by omega⟩ l else 0
  ry : ∀ j, IsReal (y j)
  rkk : ∀ l, IsReal (kk l)
  rka : ∀ l, IsReal (ka l)
  rrk : ∀ h d, IsReal (rk h d)
  rw2 : ∀ p e l, IsReal (w2 p e l)
  ra2 : ∀ p e l, IsReal (a2 p e l)

section
variable {r : Fin 256} {y : Fin 896 → EReal} {w0 a0 : Fin 2 → Fin 256 → EReal} {w2 a2 : Fin 2 → Fin 64 → Fin 256 → EReal} {kk ka : Fin 256 → EReal} {rk : Fin 4 → Fin 64 → EReal}
  {R K V : S256x256.Idx → EReal} {L : S256x128.Idx → EReal} {kkB kaB rkB : S1x256.Idx → EReal} {wB aB : Fin 2 → S1x256.Idx → EReal} {mB nB : Fin 2 → S1x128x256.Idx → EReal}
  (H : Row r y w0 a0 w2 a2 kk ka rk R K V L kkB kaB rkB wB aB mB nB)
include H

theorem Row.rL (k : Fin 128) : IsReal (L (ix2 r k)) := by rw [H.hL]; exact H.ry _
theorem Row.rm (p : Fin 2) (k : Fin 128) (l : Fin 256) : IsReal (mB p (ix3 0 k l)) := by
  rw [H.hm]; split
  · exact H.rw2 _ _ _
  · exact ⟨0, rfl⟩
theorem Row.rn (p : Fin 2) (k : Fin 128) (l : Fin 256) : IsReal (nB p (ix3 0 k l)) := by
  rw [H.hn]; split
  · exact H.ra2 _ _ _
  · exact ⟨0, rfl⟩

theorem Row.sumW (p : Fin 2) (l : Fin 256) : ∑ k, Ideal.tanh (L (ix2 r k)) * mB p (ix3 0 k l) = ∑ e, Ideal.tanh (y (colW e)) * w2 p e l := by
  simp only [H.hm]
  refine (sum_first (fun k => Ideal.tanh (L (ix2 r k))) fun e => w2 p e l).trans (Finset.sum_congr rfl fun e _ => ?_)
  rw [H.hL]
  rfl

theorem Row.sumA (p : Fin 2) (l : Fin 256) : ∑ k, L (ix2 r k) * nB p (ix3 0 k l) = ∑ e, y (colA e) * a2 p e l := by
  simp only [H.hn]
  refine (sum_second (fun k => L (ix2 r k)) fun e => a2 p e l).trans (Finset.sum_congr rfl fun e _ => ?_)
  rw [H.hL]
  exact congrArg (fun j => y j * a2 p e l) (Fin.ext (by unfold colA; dsimp only; omega))

theorem Row.rate0 (l : Fin 256) : rate0 L (aB 0) (nB 0) (ix2 r l) = rate (fun e => y (colA e)) (fun e => a2 0 e l) (a0 0 l) := by
  rw [rate0_at _ _ _ _ _ H.rL fun k => H.rn 0 k l, H.sumA, H.ha]; rfl
theorem Row.rate1 (l : Fin 256) : rate1 L (aB 1) (nB 1) (ix2 r l) = rate (fun e => y (colA e)) (fun e => a2 1 e l) (a0 1 l) := by
  rw [rate1_at _ _ _ _ _ H.rL fun k => H.rn 1 k l, H.sumA, H.ha]; rfl
theorem Row.key0 (l : Fin 256) : key0 K L (aB 0) (nB 0) kaB (ix2 r l) = key (y (colK l)) (rate (fun e => y (colA e)) (fun e => a2 0 e l) (a0 0 l)) (ka l) := by
  rw [key0_at, H.rate0, H.hK, H.hka]
theorem Row.key1 (l : Fin 256) : key1 K L (aB 1) (nB 1) kaB (ix2 r l) = key (y (colK l)) (rate (fun e => y (colA e)) (fun e => a2 1 e l) (a0 1 l)) (ka l) := by
  rw [key1_at, H.rate1, H.hK, H.hka]
theorem Row.unit (h : Fin 4) (d : Fin 64) : unitPay K kkB (ix2 r (lane h d)) = unit (fun e => y (colK (lane h e)) * kk (lane h e)) d := by
  rw [unitPay_at K kkB r (fun l => by rw [H.hK]; exact H.ry _) (fun l => by rw [H.hkk]; exact H.rkk _)]
  simp only [H.hK, H.hkk]

theorem Row.elem0 (h : Fin 4) (d : Fin 64) : k0_pay14 (F := Ideal) R (ix3 0 r (lane h d)) = elem y w0 a0 w2 a2 kk ka rk h d 0 := by
  refine Eq.trans ?_ (H.hR (lane h d))
  pointwise [k0_pay14]
theorem Row.elem1 (h : Fin 4) (d : Fin 64) : k0_pay15 (F := Ideal) V (ix3 0 r (lane h d)) = elem y w0 a0 w2 a2 kk ka rk h d 1 := by
  refine Eq.trans ?_ (H.hV (lane h d))
  pointwise [k0_pay15]
theorem Row.elem2 (h : Fin 4) (d : Fin 64) : k0_pay17 (F := Ideal) (k0_pay16 K k0_pay9 k0_pay10 k0_pay11 kkB) (ix3 0 r (lane h d)) = elem y w0 a0 w2 a2 kk ka rk h d 2 := by
  show _ = -Operands.unit (fun e => y (colK (lane h e)) * kk (lane h e)) d
  rw [← H.unit]
  generalize hq : unitPay K kkB = q
  unfold unitPay at hq
  pointwise [k0_pay17, k0_pay16, hq]
  rw [zero_sub]
theorem Row.elem3 (h : Fin 4) (d : Fin 64) : k0_pay23 (F := Ideal) (k0_pay20 L (wB 0) (mB 0)) (ix3 0 r (lane h d)) = elem y w0 a0 w2 a2 kk ka rk h d 3 := by
  rw [decay0_at _ _ _ _ _ H.rL fun k => H.rm 0 k _, H.sumW, H.hw]; rfl
theorem Row.elem4 (h : Fin 4) (d : Fin 64) : k0_pay24 (F := Ideal) K L (aB 0) (nB 0) kaB (ix3 0 r (lane h d)) = elem y w0 a0 w2 a2 kk ka rk h d 4 := by
  refine Eq.trans ?_ (H.key0 (lane h d))
  generalize hq : Krn.key0 K L (aB 0) (nB 0) kaB = q
  unfold Krn.key0 at hq
  pointwise [k0_pay24, hq]
theorem Row.elem5 (h : Fin 4) (d : Fin 64) : k0_pay25 (F := Ideal) (unitPay K kkB) (Krn.rate0 L (aB 0) (nB 0)) (ix3 0 r (lane h d)) = elem y w0 a0 w2 a2 kk ka rk h d 5 := by
  refine Eq.trans ?_ (congrArg₂ (· * ·) (H.unit h d) (H.rate0 (lane h d)))
  pointwise [k0_pay25]
theorem Row.elem6 (h : Fin 4) (d : Fin 64) : k0_pay30 (F := Ideal) (k0_pay27 (k0_pay18 L) (wB 1) (mB 1)) (ix3 0 r (lane h d)) = elem y w0 a0 w2 a2 kk ka rk h d 6 := by
  rw [decay1_at _ _ _ _ _ H.rL fun k => H.rm 1 k _, H.sumW, H.hw]; rfl
theorem Row.elem7 (h : Fin 4) (d : Fin 64) : k0_pay1 (F := Ideal) (Krn.key1 K L (aB 1) (nB 1) kaB) (ix3 0 r (lane h d)) = elem y w0 a0 w2 a2 kk ka rk h d 7 := by
  refine Eq.trans ?_ (H.key1 (lane h d))
  pointwise [k0_pay1]
theorem Row.elem8 (h : Fin 4) (d : Fin 64) : k0_pay2 (F := Ideal) (unitPay K kkB) (Krn.rate1 L (aB 1) (nB 1)) (ix3 0 r (lane h d)) = elem y w0 a0 w2 a2 kk ka rk h d 8 := by
  refine Eq.trans ?_ (congrArg₂ (· * ·) (H.unit h d) (H.rate1 (lane h d)))
  pointwise [k0_pay2]
theorem Row.elem9 (h : Fin 4) (d : Fin 64) : bonusPay R V (Krn.key0 K L (aB 0) (nB 0) kaB) (Krn.key1 K L (aB 1) (nB 1) kaB) rkB (ix3 0 r (lane h d)) = elem y w0 a0 w2 a2 kk ka rk h d 9 := by
  have hrkB : ∀ l, IsReal (rkB (ix2 0 l)) := fun l => by rw [← lane_hd l, H.hrk]; exact H.rrk _ _
  rw [bonusPay_at _ _ _ _ _ _ (fun l => by rw [H.hR]; exact H.ry _) (fun l => by rw [H.hV]; exact H.ry _)
    (fun l => by rw [H.key0]; exact key_real (H.ry _) (logistic_any _) (H.rka _))
    (fun l => by rw [H.key1]; exact key_real (H.ry _) (logistic_any _) (H.rka _)) hrkB]
  simp only [H.hR, H.hV, H.key0, H.key1, H.hrk]
  rfl
end

end Cert.Operands.Krn
-- ==== Proof.PrepArray.lean ====
module

public import proofs.«01_k».proof.Proof.Gen.PrepIdeal.Value
public import proofs.«01_k».proof.Proof.PrepBody
public import Idealize.ShloMosaic.Lib.Pipeline.ValueKit
public import Idealize.ShloMosaic.Lib.Pipeline.Covers
public import Idealize.ShloMosaic.Lib.StableHlo.ReadAt

/-! The windows of the call that makes the recurrence's operands, and its output array: the reference's result. -/

@[expose] public section
set_option maxRecDepth 16384

noncomputable section
namespace Cert.Operands.Krn
open Idealize.ShloMosaic Idealize.ShloMosaic.TcCoe Idealize.ShloMosaic.Pipeline Cert.PrepIdeal Cert.PrepIdeal.Gen Cert.PrepIdeal.Value

variable (m : (ℓ : Loc nD τ sig) → Buf (Elt Ideal) ℓ)

/-- The nine arguments. -/
abbrev A0 (c : Dev nD) : S8x4096x896.Idx → EReal := m ((c : Thread nD τ).loc main_arg0)
abbrev A1 (c : Dev nD) : S896.Idx → EReal := m ((c : Thread nD τ).loc main_arg1)
abbrev A2 (c : Dev nD) : S2x256.Idx → EReal := m ((c : Thread nD τ).loc main_arg2)
abbrev A3 (c : Dev nD) : S2x64x256.Idx → EReal := m ((c : Thread nD τ).loc main_arg3)
abbrev A4 (c : Dev nD) : S2x256.Idx → EReal := m ((c : Thread nD τ).loc main_arg4)
abbrev A5 (c : Dev nD) : S2x64x256.Idx → EReal := m ((c : Thread nD τ).loc main_arg5)
abbrev A6 (c : Dev nD) : S256.Idx → EReal := m ((c : Thread nD τ).loc main_arg6)
abbrev A7 (c : Dev nD) : S256.Idx → EReal := m ((c : Thread nD τ).loc main_arg7)
abbrev A8 (c : Dev nD) : S4x64.Idx → EReal := m ((c : Thread nD τ).loc main_arg8)

/-- The batch element of a grid point. -/
def bAt (t : Fin cfg0.N) : Fin 8 := grid0.coords t 0
/-- The tile of 256 tokens of a grid point. -/
def tAt (t : Fin cfg0.N) : Fin 16 := grid0.coords t 1
/-- The token of a tile's row. -/
def tok (n : Fin 16) (r : Fin 256) : Fin 4096 := ⟨n.val * 256 + r.val, by omega⟩

theorem w32 (n : Nat) (h : n < 4096) : (BitVec.ofNat 32 n).toNat = n := by
  rw [BitVec.toNat_ofNat]; omega

theorem ix_bAt (t : Fin cfg0.N) : (BitVec.ofNat 32 (grid0.coords t 0).val).toNat = (bAt t).val := w32 _ (by have := (bAt t).isLt; unfold bAt at this; omega)
theorem ix_tAt (t : Fin cfg0.N) : (BitVec.ofNat 32 (grid0.coords t 1).val).toNat = (tAt t).val := w32 _ (by have := (tAt t).isLt; unfold tAt at this; omega)

/-- The block of eight rows that holds the row before a tile, and the one that holds the row after it. -/
theorem prevIdx (n : Fin 16) : (Scalar.maxsi (Scalar.subi (Scalar.muli (BitVec.ofNat 32 n.val) 32#32) 1#32) 0#32).toNat = n.val * 32 - 1 := by
  revert n; decide +kernel
theorem nextIdx (n : Fin 16) : (Scalar.minsi (Scalar.muli (Scalar.addi (BitVec.ofNat 32 n.val) 1#32) 32#32) 511#32).toNat = min ((n.val + 1) * 32) 511 := by
  revert n; decide +kernel

theorem ix0_0 (t : Fin cfg0.N) : win0_0.index t 0 = (bAt t).val := ix_bAt t
theorem ix0_1 (t : Fin cfg0.N) : win0_0.index t 1 = (tAt t).val := ix_tAt t
theorem ix0_2 (t : Fin cfg0.N) : win0_0.index t 2 = 0 := rfl
theorem ix1_0 (t : Fin cfg0.N) : win0_1.index t 0 = (bAt t).val := ix_bAt t
theorem ix1_1 (t : Fin cfg0.N) : win0_1.index t 1 = (tAt t).val * 32 - 1 := prevIdx (tAt t)
theorem ix1_2 (t : Fin cfg0.N) : win0_1.index t 2 = 0 := rfl
theorem ix2_0 (t : Fin cfg0.N) : win0_2.index t 0 = (bAt t).val := ix_bAt t
theorem ix2_1 (t : Fin cfg0.N) : win0_2.index t 1 = min (((tAt t).val + 1) * 32) 511 := nextIdx (tAt t)
theorem ix2_2 (t : Fin cfg0.N) : win0_2.index t 2 = 0 := rfl
theorem ix3_0 (t : Fin cfg0.N) : win0_3.index t 0 = 0 := rfl
theorem ix3_1 (t : Fin cfg0.N) : win0_3.index t 1 = 0 := rfl
theorem ix4_0 (t : Fin cfg0.N) : win0_4.index t 0 = 0 := rfl
theorem ix4_1 (t : Fin cfg0.N) : win0_4.index t 1 = 0 := rfl
theorem ix5_0 (t : Fin cfg0.N) : win0_5.index t 0 = 0 := rfl
theorem ix5_1 (t : Fin cfg0.N) : win0_5.index t 1 = 0 := rfl
theorem ix6_0 (t : Fin cfg0.N) : win0_6.index t 0 = 0 := rfl
theorem ix6_1 (t : Fin cfg0.N) : win0_6.index t 1 = 0 := rfl
theorem ix7_0 (t : Fin cfg0.N) : win0_7.index t 0 = 0 := rfl
theorem ix7_1 (t : Fin cfg0.N) : win0_7.index t 1 = 0 := rfl
theorem ix8_0 (t : Fin cfg0.N) : win0_8.index t 0 = 0 := rfl
theorem ix8_1 (t : Fin cfg0.N) : win0_8.index t 1 = 0 := rfl
theorem ix9_0 (t : Fin cfg0.N) : win0_9.index t 0 = 0 := rfl
theorem ix9_1 (t : Fin cfg0.N) : win0_9.index t 1 = 0 := rfl
theorem ix9_2 (t : Fin cfg0.N) : win0_9.index t 2 = 0 := rfl
theorem ix10_0 (t : Fin cfg0.N) : win0_10.index t 0 = 0 := rfl
theorem ix10_1 (t : Fin cfg0.N) : win0_10.index t 1 = 0 := rfl
theorem ix10_2 (t : Fin cfg0.N) : win0_10.index t 2 = 0 := rfl
theorem ix11_0 (t : Fin cfg0.N) : win0_11.index t 0 = (bAt t).val := ix_bAt t
theorem ix11_1 (t : Fin cfg0.N) : win0_11.index t 1 = (tAt t).val := ix_tAt t
theorem ix11_2 (t : Fin cfg0.N) : win0_11.index t 2 = 0 := rfl

theorem z_blk (c : Dev nD) (t : Fin cfg0.N) (r : Fin 256) (j : Fin 896) : iblk m c 0 t (ix3 0 r j) = A0 m c (ix3 (bAt t) (tok (tAt t) r) j) := by
  blk_ext [iblk, V_main_arg0, ix0_0, ix0_1, ix0_2, tok]

theorem p_blk (c : Dev nD) (t : Fin cfg0.N) (s : Fin 8) (j : Fin 896) : iblk m c 1 t (ix3 0 s j) = A0 m c (ix3 (bAt t) ⟨((tAt t).val * 32 - 1) * 8 + s.val, by omega⟩ j) := by
  blk_ext [iblk, V_main_arg0, ix1_0, ix1_1, ix1_2]

theorem n_blk (c : Dev nD) (t : Fin cfg0.N) (s : Fin 8) (j : Fin 896) : iblk m c 2 t (ix3 0 s j) = A0 m c (ix3 (bAt t) ⟨min (((tAt t).val + 1) * 32) 511 * 8 + s.val, by omega⟩ j) := by
  blk_ext [iblk, V_main_arg0, ix2_0, ix2_1, ix2_2]

theorem mu_blk (c : Dev nD) (t : Fin cfg0.N) (j : Fin 896) : iblk m c 3 t (ix2 0 j) = A1 m c (ix1 j) := by
  have e : V m c main_v3 (ix2 0 j) = A1 m c (ix1 j) := by
    unfold V
    after_reads_at
  rw [← e]
  blk_ext [iblk, ix3_0, ix3_1]

theorem kk_blk (c : Dev nD) (t : Fin cfg0.N) (l : Fin 256) : iblk m c 4 t (ix2 0 l) = A6 m c (ix1 l) := by
  have e : V m c main_v4 (ix2 0 l) = A6 m c (ix1 l) := by
    unfold V
    after_reads_at
  rw [← e]
  blk_ext [iblk, ix4_0, ix4_1]

theorem ka_blk (c : Dev nD) (t : Fin cfg0.N) (l : Fin 256) : iblk m c 5 t (ix2 0 l) = A7 m c (ix1 l) := by
  have e : V m c main_v5 (ix2 0 l) = A7 m c (ix1 l) := by
    unfold V
    after_reads_at
  rw [← e]
  blk_ext [iblk, ix5_0, ix5_1]

theorem rk_blk (c : Dev nD) (t : Fin cfg0.N) (h : Fin 4) (d : Fin 64) : iblk m c 6 t (ix2 0 (Natten.lane h d)) = A8 m c (ix2 h d) := by
  have e3 : (Natten.lane h d).val / 64 = h.val := by unfold Natten.lane; dsimp only; omega
  have e4 : (Natten.lane h d).val % 64 = d.val := by unfold Natten.lane; dsimp only; omega
  have e : V m c main_v6 (ix2 0 (Natten.lane h d)) = A8 m c (ix2 h d) := by
    unfold V
    after_reads_at
    simp only [e3, e4]
  rw [← e]
  blk_ext [iblk, ix6_0, ix6_1]

theorem w0_blk (c : Dev nD) (t : Fin cfg0.N) (p : Fin 2) (l : Fin 256) : iblk m c 7 t (ix2 p l) = A2 m c (ix2 p l) := by
  blk_ext [iblk, V_main_arg2, ix7_0, ix7_1]
theorem a0_blk (c : Dev nD) (t : Fin cfg0.N) (p : Fin 2) (l : Fin 256) : iblk m c 8 t (ix2 p l) = A4 m c (ix2 p l) := by
  blk_ext [iblk, V_main_arg4, ix8_0, ix8_1]

/-- The low-rank matrices, which the host pads with zeros. -/
theorem w2_blk (c : Dev nD) (t : Fin cfg0.N) (p : Fin 2) (k : Fin 128) (l : Fin 256) :
    iblk m c 9 t (ix3 p k l) = if h : k.val < 64 then A3 m c (ix3 p ⟨k.val, h⟩ l) else 0 := by
  have e : V m c main_v1 (ix3 p k l) = if h : k.val < 64 then A3 m c (ix3 p ⟨k.val, h⟩ l) else 0 := by
    unfold V
    after_reads_at
  rw [← e]
  blk_ext [iblk, ix9_0, ix9_1, ix9_2]

theorem a2_blk (c : Dev nD) (t : Fin cfg0.N) (p : Fin 2) (k : Fin 128) (l : Fin 256) :
    iblk m c 10 t (ix3 p k l) = if h : 64 ≤ k.val then A5 m c (ix3 p ⟨k.val - 64, by omega⟩ l) else 0 := by
  have e : V m c main_v2 (ix3 p k l) = if h : 64 ≤ k.val then A5 m c (ix3 p ⟨k.val - 64, by omega⟩ l) else 0 := by
    unfold V
    after_reads_at
    by_cases h : k.val < 64
    · rw [dif_pos h, dif_neg (by omega)]
    · rw [dif_neg h, dif_pos (by omega)]
  rw [← e]
  blk_ext [iblk, ix10_0, ix10_1, ix10_2]

theorem covers11 : (cfg0.win 11).Covers := by
  refine (cfg0.win 11).covers_of_indexMap_surj rfl (by decide) fun β => ?_
  have hβ0 : (β 0).val < 8 := (β 0).isLt
  have hβ1 : (β 1).val < 16 := (β 1).isLt
  have hβ2 : (β 2).val < 1 := (β 2).isLt
  refine ⟨fun a => match a with | ⟨0, _⟩ => ⟨(β 0).val, hβ0⟩ | ⟨1, _⟩ => ⟨(β 1).val, hβ1⟩, fun a => ?_⟩
  match a with
  | ⟨0, _⟩ => exact w32 (β 0).val (by omega)
  | ⟨1, _⟩ => exact w32 (β 1).val (by omega)
  | ⟨2, _⟩ => exact (Nat.lt_one_iff.1 hβ2).symm

theorem emb_out (t : Fin cfg0.N) (r : Fin 256) (j : Fin 2560) : (win0_11.blk t).view.emb (ix3 0 r j) = ix3 (bAt t) (tok (tAt t) r) j := by
  blk_ext [ix11_0, ix11_1, ix11_2, tok]

theorem idx_piece (y : S1x256x256.Idx) : ∃ (r : Fin 256) (h : Fin 4) (d : Fin 64), y = ix3 0 r (Natten.lane h d) := by
  have h0 : (y 0).val < 1 := (y 0).isLt
  refine ⟨y 1, Groups.hd (y 2), Groups.pl (y 2), funext fun a => ?_⟩
  match a with
  | ⟨0, _⟩ => exact Fin.ext (Nat.lt_one_iff.1 h0)
  | ⟨1, _⟩ => rfl
  | ⟨2, _⟩ => exact (Groups.lane_hd (y 2)).symm

/-! ## The blocks as the body loads them -/

theorem ld_at {S : Shape} (x : S.Idx → EReal) (r : Rect S) (i : r.shape.Idx) (j : S.Idx) (h : ∀ a, (r.idx i a).val = (j a).val) : View.ld (Val := Elt Ideal) (e' := .f32) x r i = x j :=
  congrArg x (funext fun a => Fin.ext (h a))

def zL (c : Dev nD) (t : Fin cfg0.N) : S1x256x896.Idx → EReal := View.ld (Val := Elt Ideal) (e' := .f32) (iblk m c 0 t) r0_0
def pL (c : Dev nD) (t : Fin cfg0.N) : S1x1x896.Idx → EReal := View.ld (Val := Elt Ideal) (e' := .f32) (iblk m c 1 t) r0_1
def nL (c : Dev nD) (t : Fin cfg0.N) : S1x1x896.Idx → EReal := View.ld (Val := Elt Ideal) (e' := .f32) (iblk m c 2 t) r0_2
def muL (c : Dev nD) (t : Fin cfg0.N) : S1x896.Idx → EReal := View.ld (Val := Elt Ideal) (e' := .f32) (iblk m c 3 t) r0_3
def kkL (c : Dev nD) (t : Fin cfg0.N) : S1x256.Idx → EReal := View.ld (Val := Elt Ideal) (e' := .f32) (iblk m c 4 t) r0_4
def kaL (c : Dev nD) (t : Fin cfg0.N) : S1x256.Idx → EReal := View.ld (Val := Elt Ideal) (e' := .f32) (iblk m c 5 t) r0_4
def rkL (c : Dev nD) (t : Fin cfg0.N) : S1x256.Idx → EReal := View.ld (Val := Elt Ideal) (e' := .f32) (iblk m c 6 t) r0_4
def w0L (c : Dev nD) (t : Fin cfg0.N) (p : Fin 2) : S1x256.Idx → EReal := match p with
  | 0 => View.ld (Val := Elt Ideal) (e' := .f32) (iblk m c 7 t) r0_8
  | 1 => View.ld (Val := Elt Ideal) (e' := .f32) (iblk m c 7 t) r0_13
def a0L (c : Dev nD) (t : Fin cfg0.N) (p : Fin 2) : S1x256.Idx → EReal := match p with
  | 0 => View.ld (Val := Elt Ideal) (e' := .f32) (iblk m c 8 t) r0_8
  | 1 => View.ld (Val := Elt Ideal) (e' := .f32) (iblk m c 8 t) r0_13
def w2L (c : Dev nD) (t : Fin cfg0.N) (p : Fin 2) : S1x128x256.Idx → EReal := match p with
  | 0 => View.ld (Val := Elt Ideal) (e' := .f32) (iblk m c 9 t) r0_9
  | 1 => View.ld (Val := Elt Ideal) (e' := .f32) (iblk m c 9 t) r0_14
def a2L (c : Dev nD) (t : Fin cfg0.N) (p : Fin 2) : S1x128x256.Idx → EReal := match p with
  | 0 => View.ld (Val := Elt Ideal) (e' := .f32) (iblk m c 10 t) r0_9
  | 1 => View.ld (Val := Elt Ideal) (e' := .f32) (iblk m c 10 t) r0_14

theorem zL_at (c : Dev nD) (t : Fin cfg0.N) (r : Fin 256) (j : Fin 896) : zL m c t (ix3 0 r j) = A0 m c (ix3 (bAt t) (tok (tAt t) r) j) :=
  (ld_at (iblk m c 0 t) r0_0 (ix3 0 r j) (ix3 0 r j) fun a => by match a with | ⟨0, _⟩ => rfl | ⟨1, _⟩ => show 0 + 1 * r.val = r.val; omega | ⟨2, _⟩ => show 0 + 1 * j.val = j.val; omega).trans (z_blk m c t r j)
theorem pL_at (c : Dev nD) (t : Fin cfg0.N) (j : Fin 896) : pL m c t (ix3 0 0 j) = A0 m c (ix3 (bAt t) ⟨((tAt t).val * 32 - 1) * 8 + 7, by omega⟩ j) :=
  (ld_at (iblk m c 1 t) r0_1 (ix3 0 0 j) (ix3 0 7 j) fun a => by match a with | ⟨0, _⟩ => rfl | ⟨1, _⟩ => rfl | ⟨2, _⟩ => show 0 + 1 * j.val = j.val; omega).trans (p_blk m c t 7 j)
theorem nL_at (c : Dev nD) (t : Fin cfg0.N) (j : Fin 896) : nL m c t (ix3 0 0 j) = A0 m c (ix3 (bAt t) ⟨min (((tAt t).val + 1) * 32) 511 * 8 + 0, by omega⟩ j) :=
  (ld_at (iblk m c 2 t) r0_2 (ix3 0 0 j) (ix3 0 0 j) fun a => by match a with | ⟨0, _⟩ => rfl | ⟨1, _⟩ => rfl | ⟨2, _⟩ => show 0 + 1 * j.val = j.val; omega).trans (n_blk m c t 0 j)
theorem muL_at (c : Dev nD) (t : Fin cfg0.N) (j : Fin 896) : muL m c t (ix2 0 j) = A1 m c (ix1 j) :=
  (ld_at (iblk m c 3 t) r0_3 (ix2 0 j) (ix2 0 j) fun a => by match a with | ⟨0, _⟩ => rfl | ⟨1, _⟩ => show 0 + 1 * j.val = j.val; omega).trans (mu_blk m c t j)
theorem kkL_at (c : Dev nD) (t : Fin cfg0.N) (l : Fin 256) : kkL m c t (ix2 0 l) = A6 m c (ix1 l) :=
  (ld_at (iblk m c 4 t) r0_4 (ix2 0 l) (ix2 0 l) fun a => by match a with | ⟨0, _⟩ => rfl | ⟨1, _⟩ => show 0 + 1 * l.val = l.val; omega).trans (kk_blk m c t l)
theorem kaL_at (c : Dev nD) (t : Fin cfg0.N) (l : Fin 256) : kaL m c t (ix2 0 l) = A7 m c (ix1 l) :=
  (ld_at (iblk m c 5 t) r0_4 (ix2 0 l) (ix2 0 l) fun a => by match a with | ⟨0, _⟩ => rfl | ⟨1, _⟩ => show 0 + 1 * l.val = l.val; omega).trans (ka_blk m c t l)
theorem rkL_at (c : Dev nD) (t : Fin cfg0.N) (h : Fin 4) (d : Fin 64) : rkL m c t (ix2 0 (Natten.lane h d)) = A8 m c (ix2 h d) :=
  (ld_at (iblk m c 6 t) r0_4 (ix2 0 (Natten.lane h d)) (ix2 0 (Natten.lane h d)) fun a => by match a with | ⟨0, _⟩ => rfl | ⟨1, _⟩ => show 0 + 1 * (Natten.lane h d).val = (Natten.lane h d).val; omega).trans (rk_blk m c t h d)
theorem w0L_at (c : Dev nD) (t : Fin cfg0.N) (p : Fin 2) (l : Fin 256) : w0L m c t p (ix2 0 l) = A2 m c (ix2 p l) := by
  rw [← w0_blk m c t]
  match p with
  | 0 => exact ld_at (iblk m c 7 t) r0_8 (ix2 0 l) (ix2 0 l) fun a => by match a with | ⟨0, _⟩ => rfl | ⟨1, _⟩ => show 0 + 1 * l.val = l.val; omega
  | 1 => exact ld_at (iblk m c 7 t) r0_13 (ix2 0 l) (ix2 1 l) fun a => by match a with | ⟨0, _⟩ => rfl | ⟨1, _⟩ => show 0 + 1 * l.val = l.val; omega
theorem a0L_at (c : Dev nD) (t : Fin cfg0.N) (p : Fin 2) (l : Fin 256) : a0L m c t p (ix2 0 l) = A4 m c (ix2 p l) := by
  rw [← a0_blk m c t]
  match p with
  | 0 => exact ld_at (iblk m c 8 t) r0_8 (ix2 0 l) (ix2 0 l) fun a => by match a with | ⟨0, _⟩ => rfl | ⟨1, _⟩ => show 0 + 1 * l.val = l.val; omega
  | 1 => exact ld_at (iblk m c 8 t) r0_13 (ix2 0 l) (ix2 1 l) fun a => by match a with | ⟨0, _⟩ => rfl | ⟨1, _⟩ => show 0 + 1 * l.val = l.val; omega
theorem w2L_at (c : Dev nD) (t : Fin cfg0.N) (p : Fin 2) (k : Fin 128) (l : Fin 256) : w2L m c t p (ix3 0 k l) = if h : k.val < 64 then A3 m c (ix3 p ⟨k.val, h⟩ l) else 0 := by
  rw [← w2_blk m c t]
  match p with
  | 0 => exact ld_at (iblk m c 9 t) r0_9 (ix3 0 k l) (ix3 0 k l) fun a => by match a with | ⟨0, _⟩ => rfl | ⟨1, _⟩ => show 0 + 1 * k.val = k.val; omega | ⟨2, _⟩ => show 0 + 1 * l.val = l.val; omega
  | 1 => exact ld_at (iblk m c 9 t) r0_14 (ix3 0 k l) (ix3 1 k l) fun a => by match a with | ⟨0, _⟩ => rfl | ⟨1, _⟩ => show 0 + 1 * k.val = k.val; omega | ⟨2, _⟩ => show 0 + 1 * l.val = l.val; omega
theorem a2L_at (c : Dev nD) (t : Fin cfg0.N) (p : Fin 2) (k : Fin 128) (l : Fin 256) : a2L m c t p (ix3 0 k l) = if h : 64 ≤ k.val then A5 m c (ix3 p ⟨k.val - 64, by omega⟩ l) else 0 := by
  rw [← a2_blk m c t]
  match p with
  | 0 => exact ld_at (iblk m c 10 t) r0_9 (ix3 0 k l) (ix3 0 k l) fun a => by match a with | ⟨0, _⟩ => rfl | ⟨1, _⟩ => show 0 + 1 * k.val = k.val; omega | ⟨2, _⟩ => show 0 + 1 * l.val = l.val; omega
  | 1 => exact ld_at (iblk m c 10 t) r0_14 (ix3 0 k l) (ix3 1 k l) fun a => by match a with | ⟨0, _⟩ => rfl | ⟨1, _⟩ => show 0 + 1 * k.val = k.val; omega | ⟨2, _⟩ => show 0 + 1 * l.val = l.val; omega

/-! ## The mixed rows of a tile are the sequence's -/

/-- The mixed row of a token. -/
def mixed (c : Dev nD) (b : Fin 8) (n : Fin 4096) (j : Fin 896) : EReal :=
  lerp (A0 m c (ix3 b n j)) (before (fun s => A0 m c (ix3 b s j)) n) (after (fun s => A0 m c (ix3 b s j)) n) (A1 m c (ix1 j))

theorem zRow (c : Dev nD) (t : Fin cfg0.N) (r : Fin 256) (j : Fin 896) :
    zPay (grid0.coords t) (zL m c t) (pL m c t) (nL m c t) (muL m c t) (ix2 r j) = mixed m c (bAt t) (tok (tAt t) r) j := by
  rw [zPay_at]
  show lerp _ (prevAt (tAt t).val _ _ _) (nextAt (tAt t).val _ _ _) _ = _
  rw [zL_at, muL_at, pL_at, nL_at]
  simp only [zL_at]
  unfold mixed
  refine congrArg₂ (fun u v => lerp (A0 m c (ix3 (bAt t) (tok (tAt t) r) j)) u v (A1 m c (ix1 j))) ?_ ?_
  · unfold prevAt before
    have e : (tok (tAt t) r).val = (tAt t).val * 256 + r.val := rfl
    by_cases h : r.val = 0
    · rw [if_pos h]
      by_cases h' : 0 < (tAt t).val
      · rw [if_pos h', if_neg (by omega)]
        exact congrArg (fun s => A0 m c (ix3 (bAt t) s j)) (Fin.ext (by dsimp only; omega))
      · rw [if_neg h', if_pos (by omega)]
    · rw [if_neg h, if_neg (by omega)]
      exact congrArg (fun s => A0 m c (ix3 (bAt t) s j)) (Fin.ext (by unfold tok; dsimp only; omega))
  · unfold nextAt after
    have e : (tok (tAt t) r).val = (tAt t).val * 256 + r.val := rfl
    have ht := (tAt t).isLt
    by_cases h : r.val + 1 < 256
    · rw [dif_pos h, dif_pos (by omega)]
      exact congrArg (fun s => A0 m c (ix3 (bAt t) s j)) (Fin.ext (by unfold tok; dsimp only; omega))
    · rw [dif_neg h]
      by_cases h' : (tAt t).val < 15
      · rw [if_pos h', dif_pos (by omega)]
        exact congrArg (fun s => A0 m c (ix3 (bAt t) s j)) (Fin.ext (by dsimp only; omega))
      · rw [if_neg h', dif_neg (by omega)]

theorem half_real : Natten.IsReal half := by
  refine ⟨1 / 2, ?_⟩
  simp [half, Ideal.ofBits, Ideal.ieee]
  rw [← EReal.coe_mul]; norm_num

theorem mixed_real (c : Dev nD) (h0 : ∀ i, Natten.IsReal (A0 m c i)) (h1 : ∀ i, Natten.IsReal (A1 m c i)) (b : Fin 8) (n : Fin 4096) (j : Fin 896) : Natten.IsReal (mixed m c b n j) := by
  have hp : Natten.IsReal (before (fun s => A0 m c (ix3 b s j)) n) := by
    unfold before; split
    · exact ⟨0, rfl⟩
    · exact h0 _
  have hn : Natten.IsReal (after (fun s => A0 m c (ix3 b s j)) n) := by
    unfold after; split
    · exact h0 _
    · exact ⟨0, rfl⟩
  exact (h0 _).add ((Groups.real_sub (half_real.mul (hp.add hn)) (h0 _)).mul (h1 _))

/-- The arguments that must be real. -/
structure Reals (c : Dev nD) : Prop where
  h0 : ∀ i, Natten.IsReal (A0 m c i)
  h1 : ∀ i, Natten.IsReal (A1 m c i)
  h3 : ∀ i, Natten.IsReal (A3 m c i)
  h5 : ∀ i, Natten.IsReal (A5 m c i)
  h6 : ∀ i, Natten.IsReal (A6 m c i)
  h7 : ∀ i, Natten.IsReal (A7 m c i)
  h8 : ∀ i, Natten.IsReal (A8 m c i)

def rBlk (c : Dev nD) (t : Fin cfg0.N) : S256x256.Idx → EReal := rPay (grid0.coords t) (zL m c t) (pL m c t) (nL m c t) (muL m c t)
def kBlk (c : Dev nD) (t : Fin cfg0.N) : S256x256.Idx → EReal := kPay (grid0.coords t) (zL m c t) (pL m c t) (nL m c t) (muL m c t)
def vBlk (c : Dev nD) (t : Fin cfg0.N) : S256x256.Idx → EReal := vPay (grid0.coords t) (zL m c t) (pL m c t) (nL m c t) (muL m c t)
def lBlk (c : Dev nD) (t : Fin cfg0.N) : S256x128.Idx → EReal := lPay (grid0.coords t) (zL m c t) (pL m c t) (nL m c t) (muL m c t)

theorem row (c : Dev nD) (H : Reals m c) (t : Fin cfg0.N) (r : Fin 256) :
    Row r (mixed m c (bAt t) (tok (tAt t) r)) (fun p l => A2 m c (ix2 p l)) (fun p l => A4 m c (ix2 p l)) (fun p e l => A3 m c (ix3 p e l)) (fun p e l => A5 m c (ix3 p e l))
      (fun l => A6 m c (ix1 l)) (fun l => A7 m c (ix1 l)) (fun h d => A8 m c (ix2 h d))
      (rBlk m c t) (kBlk m c t) (vBlk m c t) (lBlk m c t) (kkL m c t) (kaL m c t) (rkL m c t) (w0L m c t) (a0L m c t) (w2L m c t) (a2L m c t) where
  hR l := (rPay_at _ _ _ _ _ r l).trans (zRow m c t r _)
  hK l := (kPay_at _ _ _ _ _ r l).trans (zRow m c t r _)
  hV l := (vPay_at _ _ _ _ _ r l).trans (zRow m c t r _)
  hL k := (lPay_at _ _ _ _ _ r k).trans (zRow m c t r _)
  hkk l := kkL_at m c t l
  hka l := kaL_at m c t l
  hrk h d := rkL_at m c t h d
  hw p l := w0L_at m c t p l
  ha p l := a0L_at m c t p l
  hm p k l := w2L_at m c t p k l
  hn p k l := a2L_at m c t p k l
  ry j := mixed_real m c H.h0 H.h1 _ _ j
  rkk l := H.h6 _
  rka l := H.h7 _
  rrk h d := H.h8 _
  rw2 p e l := H.h3 _
  ra2 p e l := H.h5 _

/-- The reference's result on the arguments. -/
def res (c : Dev nD) : S8x4096x2560.Idx → EReal := Ref.out (A0 m c) (A1 m c) (A2 m c) (A3 m c) (A4 m c) (A5 m c) (A6 m c) (A7 m c) (A8 m c)

/-- The reference's element at a piece's index. -/
theorem res_at (c : Dev nD) (t : Fin cfg0.N) (q : Fin 10) (R : Rect S1x256x2560) (x : R.shape.Idx) (r : Fin 256) (h : Fin 4) (d : Fin 64)
    (hx : ∀ a, (R.emb x a).val = (ix3 (0 : Fin 1) r (⟨256 * q.val + (Natten.lane h d).val, by omega⟩ : Fin 2560) a).val) :
    res m c ((win0_11.blk t).view.emb (R.emb x))
      = elem (mixed m c (bAt t) (tok (tAt t) r)) (fun p l => A2 m c (ix2 p l)) (fun p l => A4 m c (ix2 p l)) (fun p e l => A3 m c (ix3 p e l)) (fun p e l => A5 m c (ix3 p e l))
          (fun l => A6 m c (ix1 l)) (fun l => A7 m c (ix1 l)) (fun h d => A8 m c (ix2 h d)) h d q := by
  have e : R.emb x = ix3 (0 : Fin 1) r (⟨256 * q.val + (Natten.lane h d).val, by omega⟩ : Fin 2560) := funext fun a => Fin.ext (hx a)
  rw [e, emb_out]
  exact Ref.out_at _ _ _ _ _ _ _ _ _ q _ _ h d

/-- The output array is the reference's result. -/
theorem arr_eq (c : Dev nD) (H : Reals m c) : (dats m 0 c).arrAt 11 cfg0.N = res m c := by
  refine (dats m 0 c).arrAt_eq_of_covers 11 _ covers11 fun t _ y => ?_
  rw [after0_11]
  refine View.canon_apply_of_pieces (Val := Elt Ideal) (fun y => res m c ((win0_11.blk t).view.emb y)) _ (fun q hq => ?_) y (cover0_11 _ _ _ _ _ _ _ _ _ _ y)
  simp only [List.mem_cons, List.not_mem_nil, or_false] at hq
  rcases hq with rfl | rfl | rfl | rfl | rfl | rfl | rfl | rfl | rfl | rfl
  all_goals intro x; obtain ⟨r, h, d, rfl⟩ := idx_piece x
  · exact ((row m c H t r).elem9 h d).trans (res_at m c t 9 r0_18 _ r h d fun a => by match a with | ⟨0, _⟩ => rfl | ⟨1, _⟩ => show 0 + 1 * r.val = r.val; omega | ⟨2, _⟩ => show 2304 + 1 * (Natten.lane h d).val = 256 * 9 + (Natten.lane h d).val; omega).symm
  · exact ((row m c H t r).elem8 h d).trans (res_at m c t 8 r0_17 _ r h d fun a => by match a with | ⟨0, _⟩ => rfl | ⟨1, _⟩ => show 0 + 1 * r.val = r.val; omega | ⟨2, _⟩ => show 2048 + 1 * (Natten.lane h d).val = 256 * 8 + (Natten.lane h d).val; omega).symm
  · exact ((row m c H t r).elem7 h d).trans (res_at m c t 7 r0_16 _ r h d fun a => by match a with | ⟨0, _⟩ => rfl | ⟨1, _⟩ => show 0 + 1 * r.val = r.val; omega | ⟨2, _⟩ => show 1792 + 1 * (Natten.lane h d).val = 256 * 7 + (Natten.lane h d).val; omega).symm
  · exact ((row m c H t r).elem6 h d).trans (res_at m c t 6 r0_15 _ r h d fun a => by match a with | ⟨0, _⟩ => rfl | ⟨1, _⟩ => show 0 + 1 * r.val = r.val; omega | ⟨2, _⟩ => show 1536 + 1 * (Natten.lane h d).val = 256 * 6 + (Natten.lane h d).val; omega).symm
  · exact ((row m c H t r).elem5 h d).trans (res_at m c t 5 r0_12 _ r h d fun a => by match a with | ⟨0, _⟩ => rfl | ⟨1, _⟩ => show 0 + 1 * r.val = r.val; omega | ⟨2, _⟩ => show 1280 + 1 * (Natten.lane h d).val = 256 * 5 + (Natten.lane h d).val; omega).symm
  · exact ((row m c H t r).elem4 h d).trans (res_at m c t 4 r0_11 _ r h d fun a => by match a with | ⟨0, _⟩ => rfl | ⟨1, _⟩ => show 0 + 1 * r.val = r.val; omega | ⟨2, _⟩ => show 1024 + 1 * (Natten.lane h d).val = 256 * 4 + (Natten.lane h d).val; omega).symm
  · exact ((row m c H t r).elem3 h d).trans (res_at m c t 3 r0_10 _ r h d fun a => by match a with | ⟨0, _⟩ => rfl | ⟨1, _⟩ => show 0 + 1 * r.val = r.val; omega | ⟨2, _⟩ => show 768 + 1 * (Natten.lane h d).val = 256 * 3 + (Natten.lane h d).val; omega).symm
  · exact ((row m c H t r).elem2 h d).trans (res_at m c t 2 r0_7 _ r h d fun a => by match a with | ⟨0, _⟩ => rfl | ⟨1, _⟩ => show 0 + 1 * r.val = r.val; omega | ⟨2, _⟩ => show 512 + 1 * (Natten.lane h d).val = 256 * 2 + (Natten.lane h d).val; omega).symm
  · exact ((row m c H t r).elem1 h d).trans (res_at m c t 1 r0_6 _ r h d fun a => by match a with | ⟨0, _⟩ => rfl | ⟨1, _⟩ => show 0 + 1 * r.val = r.val; omega | ⟨2, _⟩ => show 256 + 1 * (Natten.lane h d).val = 256 * 1 + (Natten.lane h d).val; omega).symm
  · exact ((row m c H t r).elem0 h d).trans (res_at m c t 0 r0_5 _ r h d fun a => by match a with | ⟨0, _⟩ => rfl | ⟨1, _⟩ => show 0 + 1 * r.val = r.val; omega | ⟨2, _⟩ => show 0 + 1 * (Natten.lane h d).val = 256 * 0 + (Natten.lane h d).val; omega).symm

end Cert.Operands.Krn
-- ==== Proof.Finite.lean ====
module

public import proofs.«01_k».proof.Proof.Pre
public import proofs.«01_k».proof.Proof.Gen.Pre_finite_scans
public import proofs.«01_k».proof.Proof.Gen.Pre_finite_context
public import proofs.«01_k».proof.Proof.Gen.Pre_finite_values
public import proofs.«01_k».proof.Proof.Gen.Pre_finite_conditioning
public import proofs.«01_k».proof.Proof.Gen.Pre_finite_operands

/-! The other preconditions, read at an index: what they say of the arguments is that they are reals. -/

@[expose] public section
set_option maxRecDepth 16384

noncomputable section
namespace Cert.Finite
open Idealize.ShloMosaic Cert.Natten

instance : Subsingleton (Cert.Pre_finite_scans.S_).Idx := ⟨fun a b => funext fun i => Fin.elim0 i⟩
instance : Subsingleton (Cert.Pre_finite_context.S_).Idx := ⟨fun a b => funext fun i => Fin.elim0 i⟩
instance : Subsingleton (Cert.Pre_finite_values.S_).Idx := ⟨fun a b => funext fun i => Fin.elim0 i⟩
instance : Subsingleton (Cert.Pre_finite_conditioning.S_).Idx := ⟨fun a b => funext fun i => Fin.elim0 i⟩

/-- Both directions' scans are reals. -/
theorem scans (a0 a1 : (⟨3, ![8, 4096, 256]⟩ : Shape).Idx → EReal) (a2 : (⟨3, ![8, 4096, 2560]⟩ : Shape).Idx → EReal)
    (a3 : (⟨3, ![8, 4096, 256]⟩ : Shape).Idx → EReal) (a4 a5 : (⟨1, ![256]⟩ : Shape).Idx → EReal)
    [Cert.Pre_finite_scans.Facts] (h : Cert.Pre_finite_scans.fn (F := Ideal) a0 a1 a2 a3 a4 a5 = fun _ => 1#1) :
    (∀ i, IsReal (a0 i)) ∧ ∀ i, IsReal (a1 i) := by
  have h0 := congrFun h ix0
  dsimp only [Cert.Pre_finite_scans.fn] at h0
  have h1 := IntOp.andi_eq_one.1 h0
  exact ⟨fun i => isReal_of_abs _ (Host.reduce_andi_all _ _ _ _ _ h1.1 i), fun i => isReal_of_abs _ (Host.reduce_andi_all _ _ _ _ _ h1.2 i)⟩

/-- The context's queries and keys are reals. -/
theorem context (a0 : (⟨3, ![8, 256, 1024]⟩ : Shape).Idx → EReal)
    [Cert.Pre_finite_context.Facts] (h : Cert.Pre_finite_context.fn (F := Ideal) a0 = fun _ => 1#1) (b : Fin 8) (n : Fin 256) (j : Fin 512) :
    IsReal (a0 (ix3 b n ⟨j.val, by omega⟩)) := by
  have h0 := congrFun h ix0
  dsimp only [Cert.Pre_finite_context.fn] at h0
  have e := Host.reduce_andi_all _ _ _ _ _ h0 (ix3 b n j)
  refine isReal_of_abs _ ?_
  rw [← e]
  pointwise
  rfl

/-- The values to be mixed are reals. -/
theorem values (a0 : (⟨3, ![8, 4096, 768]⟩ : Shape).Idx → EReal) (a1 a2 : (⟨2, ![4, 64]⟩ : Shape).Idx → EReal)
    (a3 : (⟨3, ![4, 128, 128]⟩ : Shape).Idx → EReal) (a4 : (⟨2, ![4, 128]⟩ : Shape).Idx → EReal)
    [Cert.Pre_finite_values.Facts] (h : Cert.Pre_finite_values.fn (F := Ideal) a0 a1 a2 a3 a4 = fun _ => 1#1) (b : Fin 8) (n : Fin 4096) (j : Fin 256) :
    IsReal (a0 (ix3 b n ⟨256 + j.val, by omega⟩)) := by
  have h0 := congrFun h ix0
  dsimp only [Cert.Pre_finite_values.fn] at h0
  have e := Host.reduce_andi_all _ _ _ _ _ h0 (ix3 b n j)
  refine isReal_of_abs _ ?_
  rw [← e]
  pointwise
  rfl

/-- The conditioning vectors and the modulation's weights are reals. -/
theorem conditioning (a0 : (⟨2, ![8, 1024]⟩ : Shape).Idx → EReal) (a1 : (⟨1, ![1024]⟩ : Shape).Idx → EReal)
    (a2 : (⟨3, ![2, 1024, 3072]⟩ : Shape).Idx → EReal) (a3 : (⟨2, ![2, 3072]⟩ : Shape).Idx → EReal)
    [Cert.Pre_finite_conditioning.Facts] (h : Cert.Pre_finite_conditioning.fn (F := Ideal) a0 a1 a2 a3 = fun _ => 1#1) :
    (∀ i, IsReal (a0 i)) ∧ (∀ i, IsReal (a1 i)) ∧ ∀ i, IsReal (a2 i) := by
  have h0 := congrFun h ix0
  dsimp only [Cert.Pre_finite_conditioning.fn] at h0
  have h1 := IntOp.andi_eq_one.1 h0
  have h2 := IntOp.andi_eq_one.1 h1.1
  exact ⟨fun i => isReal_of_abs _ (Host.reduce_andi_all _ _ _ _ _ h2.1 i), fun i => isReal_of_abs _ (Host.reduce_andi_all _ _ _ _ _ h2.2 i),
    fun i => isReal_of_abs _ (Host.reduce_andi_all _ _ _ _ _ h1.2 i)⟩

/-- The projected rows, the mixing weights, the low-rank matrices and the head's weights are reals. -/
theorem operands (a0 : (⟨3, ![8, 4096, 896]⟩ : Shape).Idx → EReal) (a1 : (⟨1, ![896]⟩ : Shape).Idx → EReal) (a2 : (⟨2, ![2, 256]⟩ : Shape).Idx → EReal) (a3 : (⟨3, ![2, 64, 256]⟩ : Shape).Idx → EReal)
    (a4 : (⟨2, ![2, 256]⟩ : Shape).Idx → EReal) (a5 : (⟨3, ![2, 64, 256]⟩ : Shape).Idx → EReal) (a6 a7 : (⟨1, ![256]⟩ : Shape).Idx → EReal) (a8 : (⟨2, ![4, 64]⟩ : Shape).Idx → EReal)
    [Cert.Pre_finite_operands.Facts] (h : Cert.Pre_finite_operands.fn (F := Ideal) a0 a1 a2 a3 a4 a5 a6 a7 a8 = fun _ => 1#1) :
    (∀ i, IsReal (a0 i)) ∧ (∀ i, IsReal (a1 i)) ∧ (∀ i, IsReal (a3 i)) ∧ (∀ i, IsReal (a5 i)) ∧ (∀ i, IsReal (a6 i)) ∧ (∀ i, IsReal (a7 i)) ∧ ∀ i, IsReal (a8 i) := by
  have h0 := congrFun h ix0
  dsimp only [Cert.Pre_finite_operands.fn, Cert.Pre_finite_operands.fn_part1] at h0
  have h1 := IntOp.andi_eq_one.1 h0
  have h2 := IntOp.andi_eq_one.1 h1.1
  have h3 := IntOp.andi_eq_one.1 h2.1
  have h4 := IntOp.andi_eq_one.1 h3.1
  have h5 := IntOp.andi_eq_one.1 h4.1
  have h6 := IntOp.andi_eq_one.1 h5.1
  exact ⟨fun i => isReal_of_abs _ (Host.reduce_andi_all _ _ _ _ _ h6.1 i), fun i => isReal_of_abs _ (Host.reduce_andi_all _ _ _ _ _ h6.2 i),
    fun i => isReal_of_abs _ (Host.reduce_andi_all _ _ _ _ _ h5.2 i), fun i => isReal_of_abs _ (Host.reduce_andi_all _ _ _ _ _ h4.2 i),
    fun i => isReal_of_abs _ (Host.reduce_andi_all _ _ _ _ _ h3.2 i), fun i => isReal_of_abs _ (Host.reduce_andi_all _ _ _ _ _ h2.2 i),
    fun i => isReal_of_abs _ (Host.reduce_andi_all _ _ _ _ _ h1.2 i)⟩

end Cert.Finite
-- ==== Proof.lean ====
/- The proof of the claims of the statement: the neighbourhood attention, the merge, the input projection, the group norm with its gate,
   the context attention, the spatial mixer, the modulation and the recurrence's operands. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.Project
public import proofs.«01_k».proof.Proof.Gen.Project.Frame
public import proofs.«01_k».proof.Proof.Gen.ProjectIdeal
public import proofs.«01_k».proof.Proof.Gen.ProjectIdeal.Frame
public import proofs.«01_k».proof.Proof.Gen.ProjectIdeal.Value
public import proofs.«01_k».proof.Proof.Gen.ProjectRefIdeal
public import proofs.«01_k».proof.Proof.Gen.ProjectRefIdeal.Run
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.Ctx
public import proofs.«01_k».proof.Proof.Gen.Ctx.Frame
public import proofs.«01_k».proof.Proof.Gen.CtxIdeal
public import proofs.«01_k».proof.Proof.Gen.CtxIdeal.Frame
public import proofs.«01_k».proof.Proof.Gen.CtxIdeal.Value
public import proofs.«01_k».proof.Proof.Gen.CtxRefIdeal
public import proofs.«01_k».proof.Proof.Gen.CtxRefIdeal.Run
public import proofs.«01_k».proof.Proof.Gen.Gmlp
public import proofs.«01_k».proof.Proof.Gen.Gmlp.Frame
public import proofs.«01_k».proof.Proof.Gen.GmlpIdeal
public import proofs.«01_k».proof.Proof.Gen.GmlpIdeal.Frame
public import proofs.«01_k».proof.Proof.Gen.GmlpIdeal.Value
public import proofs.«01_k».proof.Proof.Gen.GmlpRefIdeal
public import proofs.«01_k».proof.Proof.Gen.GmlpRefIdeal.Run
public import proofs.«01_k».proof.Proof.Gen.Mod
public import proofs.«01_k».proof.Proof.Gen.Mod.Frame
public import proofs.«01_k».proof.Proof.Gen.ModIdeal
public import proofs.«01_k».proof.Proof.Gen.ModIdeal.Frame
public import proofs.«01_k».proof.Proof.Gen.ModIdeal.Value
public import proofs.«01_k».proof.Proof.Gen.ModRefIdeal
public import proofs.«01_k».proof.Proof.Gen.ModRefIdeal.Run
public import proofs.«01_k».proof.Proof.Gen.Prep
public import proofs.«01_k».proof.Proof.Gen.Prep.Frame
public import proofs.«01_k».proof.Proof.Gen.PrepIdeal
public import proofs.«01_k».proof.Proof.Gen.PrepIdeal.Frame
public import proofs.«01_k».proof.Proof.Gen.PrepIdeal.Value
public import proofs.«01_k».proof.Proof.Gen.PrepRefIdeal
public import proofs.«01_k».proof.Proof.Gen.PrepRefIdeal.Run
public import proofs.«01_k».proof.Proof.Gen.Pre_finite_operands
public import Idealize.ShloMosaic.Adequacy
public import Idealize.ShloMosaic.Init
public import Idealize.ShloMosaic.Lib.Quiescent

public import proofs.«01_k».proof.Proof.Array
public import proofs.«01_k».proof.Proof.Pre
public import proofs.«01_k».proof.Proof.MergeArray
public import proofs.«01_k».proof.Proof.ProjectArray
public import proofs.«01_k».proof.Proof.GateArray
public import proofs.«01_k».proof.Proof.CtxArray
public import proofs.«01_k».proof.Proof.GmlpArray
public import proofs.«01_k».proof.Proof.ModArray
public import proofs.«01_k».proof.Proof.PrepArray
public import proofs.«01_k».proof.Proof.Finite

@[expose] public section

noncomputable section

namespace Cert.Proof

open Idealize.ShloMosaic Idealize.SL.Sem

/-- The attention kernel computes the reference's function, its scores being finite. -/
theorem attention :
    letI := Cert.Natten.preFacts
    Cert.algebraic_KernelIdeal_ReferenceIdeal_pre_finite_scores (hKernelIdeal := Cert.KernelIdeal.Gen.facts) (hReferenceIdeal := Cert.ReferenceIdeal.Gen.facts)
      (hPre_finite_scores := Cert.Natten.preFacts) := by
  letI := Cert.Natten.preFacts
  intro m g m' g' hpre hag
  refine ⟨fun c => Cert.Natten.Ref.out (Cert.Natten.Krn.A0 m c) (Cert.Natten.Krn.A1 m c) (Cert.Natten.Krn.A2 m c), ?_, ?_⟩
  · refine (θ_run _ _ _).mono (fun r h c => ?_) (Cert.KernelIdeal.Value.run_blocks m g)
    obtain ⟨h0, h1, h2⟩ := Cert.Natten.pre_reals _ _ _ (hpre c)
    refine ⟨(h c).1.trans ?_, (h c).2⟩
    exact Cert.Natten.Krn.arr_eq m c (Cert.Natten.winS_ne_top h0 h2)
      (fun b h r q k => (Cert.Natten.ctxS_real h0 h1 b h r q k).ne_top) (fun b h r q => (Cert.Natten.ctxS_real h0 h1 b h r q 0).ne_bot)
  · refine (θ_run _ _ _).mono (fun r h c => ⟨(h c).1.trans ?_, (h c).2⟩) (Cert.ReferenceIdeal.Value.run m' g')
    rw [Cert.Natten.Ref.res_eq, (hag c).1, (hag c).2.1, (hag c).2.2]

/-- The reference ends with its arguments unchanged; it declares no semaphore. -/
theorem attention_ref_frame : Cert.quiescent_ReferenceIdeal (hReferenceIdeal := Cert.ReferenceIdeal.Gen.facts) := fun m g _ =>
  (θ_run _ _ _).mono (fun r h => And.intro (fun c => (h c).2) (sem_eq_zero_of_no_sems rfl r.2)) (Cert.ReferenceIdeal.Value.run (F := Ideal) m g)

/-- The merge kernel computes the reference's function. -/
theorem merge : Cert.algebraic_MergeIdeal_MergeRefIdeal (hMergeIdeal := Cert.MergeIdeal.Gen.facts) (hMergeRefIdeal := Cert.MergeRefIdeal.Gen.facts) := by
  intro m g m' g' _ hag
  refine ⟨fun c => Cert.Merge.Ref.out (Cert.Merge.Krn.A0 m c) (Cert.Merge.Krn.A1 m c) (Cert.Merge.Krn.A2 m c) (Cert.Merge.Krn.A3 m c) (Cert.Merge.Krn.A4 m c) (Cert.Merge.Krn.A5 m c) (Cert.Merge.Krn.A6 m c) (Cert.Merge.Krn.A7 m c) (Cert.Merge.Krn.A8 m c) (Cert.Merge.Krn.A9 m c) (Cert.Merge.Krn.A10 m c) (Cert.Merge.Krn.A11 m c) (Cert.Merge.Krn.A12 m c), ?_, ?_⟩
  · exact (θ_run _ _ _).mono (fun r h c => ⟨(h c).1.trans (Cert.Merge.Krn.arr_eq m c), (h c).2⟩) (Cert.MergeIdeal.Value.run_blocks m g)
  · refine (θ_run _ _ _).mono (fun r h c => ⟨(h c).1.trans ?_, (h c).2⟩) (Cert.MergeRefIdeal.Value.run m' g')
    refine (Cert.Merge.Ref.res_eq m' c).trans ?_
    rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2.1, (hag c).2.2.2.2.2.2.2.2.2.2.2.1, (hag c).2.2.2.2.2.2.2.2.2.2.2.2]

/-- The merge's reference ends with its arguments unchanged. -/
theorem merge_ref_frame : Cert.quiescent_MergeRefIdeal (hMergeRefIdeal := Cert.MergeRefIdeal.Gen.facts) := fun m g _ =>
  (θ_run _ _ _).mono (fun r h => And.intro (fun c => (h c).2) (sem_eq_zero_of_no_sems rfl r.2)) (Cert.MergeRefIdeal.Value.run (F := Ideal) m g)

/-- The input projection computes the reference's five results. -/
theorem project : Cert.algebraic_ProjectIdeal_ProjectRefIdeal (hProjectIdeal := Cert.ProjectIdeal.Gen.facts) (hProjectRefIdeal := Cert.ProjectRefIdeal.Gen.facts) := by
  intro m g m' g' _ hag
  refine ⟨fun c => Cert.Proj.Ref.gmT (Cert.Proj.Ref.zT (Cert.Proj.Krn.A0 m c) (Cert.Proj.Krn.A1 m c) (Cert.Proj.Krn.A2 m c) (Cert.Proj.Krn.A3 m c) (Cert.Proj.Krn.A4 m c)), fun c => Cert.Proj.Ref.naT (Cert.Proj.Ref.zT (Cert.Proj.Krn.A0 m c) (Cert.Proj.Krn.A1 m c) (Cert.Proj.Krn.A2 m c) (Cert.Proj.Krn.A3 m c) (Cert.Proj.Krn.A4 m c)), fun c => Cert.Proj.Ref.rwT (Cert.Proj.Ref.zT (Cert.Proj.Krn.A0 m c) (Cert.Proj.Krn.A1 m c) (Cert.Proj.Krn.A2 m c) (Cert.Proj.Krn.A3 m c) (Cert.Proj.Krn.A4 m c)), fun c => Cert.Proj.Ref.rgT (Cert.Proj.Ref.zT (Cert.Proj.Krn.A0 m c) (Cert.Proj.Krn.A1 m c) (Cert.Proj.Krn.A2 m c) (Cert.Proj.Krn.A3 m c) (Cert.Proj.Krn.A4 m c)), fun c => Cert.Proj.Ref.plT (Cert.Proj.Ref.zT (Cert.Proj.Krn.A0 m c) (Cert.Proj.Krn.A1 m c) (Cert.Proj.Krn.A2 m c) (Cert.Proj.Krn.A3 m c) (Cert.Proj.Krn.A4 m c)), ?_, ?_⟩
  · exact (θ_run _ _ _).mono (fun r h c => ⟨(h c).1.trans (Cert.Proj.Krn.arr_gm m c), (h c).2.1.trans (Cert.Proj.Krn.arr_na m c), (h c).2.2.1.trans (Cert.Proj.Krn.arr_rw m c), (h c).2.2.2.1.trans (Cert.Proj.Krn.arr_rg m c), (h c).2.2.2.2.1.trans (Cert.Proj.Krn.arr_pl m c), (h c).2.2.2.2.2⟩) (Cert.ProjectIdeal.Value.run_blocks m g)
  · refine (θ_run _ _ _).mono (fun r h c => ?_) (Cert.Proj.Ref.run m' g')
    have hz : Cert.Proj.Ref.zOf m' c = Cert.Proj.Ref.zT (Cert.Proj.Krn.A0 m c) (Cert.Proj.Krn.A1 m c) (Cert.Proj.Krn.A2 m c) (Cert.Proj.Krn.A3 m c) (Cert.Proj.Krn.A4 m c) := by
      rw [Cert.Proj.Ref.zOf, (hag c).1, (hag c).2.1, (hag c).2.2.1, (hag c).2.2.2.1, (hag c).2.2.2.2]
    exact ⟨(h c).1.trans (congrArg Cert.Proj.Ref.gmT hz), (h c).2.1.trans (congrArg Cert.Proj.Ref.naT hz), (h c).2.2.1.trans (congrArg Cert.Proj.Ref.rwT hz), (h c).2.2.2.1.trans (congrArg Cert.Proj.Ref.rgT hz), (h c).2.2.2.2.1.trans (congrArg Cert.Proj.Ref.plT hz), (h c).2.2.2.2.2⟩

/-- The projection's reference ends with its arguments unchanged. -/
theorem project_ref_frame : Cert.quiescent_ProjectRefIdeal (hProjectRefIdeal := Cert.ProjectRefIdeal.Gen.facts) := fun m g _ =>
  (θ_run _ _ _).mono (fun r h => And.intro (fun c => (h c).2.2.2.2.2) (sem_eq_zero_of_no_sems rfl r.2)) (Cert.ProjectRefIdeal.Value.run (F := Ideal) m g)

/-- The group norm with its gate computes the reference's function, both scans being finite. -/
theorem gate :
    Cert.algebraic_GateIdeal_GateRefIdeal_pre_finite_scans (hGateIdeal := Cert.GateIdeal.Gen.facts) (hGateRefIdeal := Cert.GateRefIdeal.Gen.facts)
      (hPre_finite_scans := Cert.Pre_finite_scans.Gen.facts) := by
  intro m g m' g' hpre hag
  refine ⟨fun c => Cert.Gnorm.Ref.out (Cert.Gnorm.Krn.A0 m c) (Cert.Gnorm.Krn.A1 m c) (Cert.Gnorm.Krn.A2 m c) (Cert.Gnorm.Krn.A3 m c) (Cert.Gnorm.Krn.A4 m c) (Cert.Gnorm.Krn.A5 m c), ?_, ?_⟩
  · refine (θ_run _ _ _).mono (fun r h c => ?_) (Cert.GateIdeal.Value.run_blocks m g)
    obtain ⟨h0, h1⟩ := Cert.Finite.scans _ _ _ _ _ _ (hpre c)
    exact ⟨(h c).1.trans (Cert.Gnorm.Krn.arr_eq m c h0 h1), (h c).2⟩
  · refine (θ_run _ _ _).mono (fun r h c => ⟨(h c).1.trans ?_, (h c).2⟩) (Cert.Gnorm.Ref.run m' g')
    rw [(hag c).1, (hag c).2.1, (hag c).2.2.1, (hag c).2.2.2.1, (hag c).2.2.2.2.1, (hag c).2.2.2.2.2]

/-- The group norm's reference ends with its arguments unchanged. -/
theorem gate_ref_frame : Cert.quiescent_GateRefIdeal (hGateRefIdeal := Cert.GateRefIdeal.Gen.facts) := fun m g _ =>
  (θ_run _ _ _).mono (fun r h => And.intro (fun c => (h c).2) (sem_eq_zero_of_no_sems rfl r.2)) (Cert.GateRefIdeal.Value.run (F := Ideal) m g)

/-- The context attention computes the reference's function, its queries and keys being finite. -/
theorem context :
    Cert.algebraic_CtxIdeal_CtxRefIdeal_pre_finite_context (hCtxIdeal := Cert.CtxIdeal.Gen.facts) (hCtxRefIdeal := Cert.CtxRefIdeal.Gen.facts)
      (hPre_finite_context := Cert.Pre_finite_context.Gen.facts) := by
  intro m g m' g' hpre hag
  refine ⟨fun c => Cert.Context.Ref.out (Cert.Context.Krn.A0 m c), ?_, ?_⟩
  · exact (θ_run _ _ _).mono (fun r h c => ⟨(h c).1.trans (Cert.Context.Krn.arr_eq m c (Cert.Finite.context _ (hpre c))), (h c).2⟩) (Cert.CtxIdeal.Value.run_blocks m g)
  · refine (θ_run _ _ _).mono (fun r h c => ⟨(h c).1.trans ?_, (h c).2⟩) (Cert.Context.Ref.run m' g')
    rw [hag c]

/-- The context attention's reference ends with its arguments unchanged. -/
theorem context_ref_frame : Cert.quiescent_CtxRefIdeal (hCtxRefIdeal := Cert.CtxRefIdeal.Gen.facts) := fun m g _ =>
  (θ_run _ _ _).mono (fun r h => And.intro (fun c => (h c).2) (sem_eq_zero_of_no_sems rfl r.2)) (Cert.CtxRefIdeal.Value.run (F := Ideal) m g)

/-- The spatial mixer computes the reference's function, its values being finite. -/
theorem spatial :
    Cert.algebraic_GmlpIdeal_GmlpRefIdeal_pre_finite_values (hGmlpIdeal := Cert.GmlpIdeal.Gen.facts) (hGmlpRefIdeal := Cert.GmlpRefIdeal.Gen.facts)
      (hPre_finite_values := Cert.Pre_finite_values.Gen.facts) := by
  intro m g m' g' hpre hag
  refine ⟨fun c => Cert.Spatial.Ref.out (Cert.Spatial.Krn.A0 m c) (Cert.Spatial.Krn.A1 m c) (Cert.Spatial.Krn.A2 m c) (Cert.Spatial.Krn.A3 m c) (Cert.Spatial.Krn.A4 m c), ?_, ?_⟩
  · exact (θ_run _ _ _).mono (fun r h c => ⟨(h c).1.trans (Cert.Spatial.Krn.arr_eq m c (Cert.Finite.values _ _ _ _ _ (hpre c))), (h c).2⟩) (Cert.GmlpIdeal.Value.run_blocks m g)
  · refine (θ_run _ _ _).mono (fun r h c => ⟨(h c).1.trans ?_, (h c).2⟩) (Cert.Spatial.Ref.run m' g')
    rw [(hag c).1, (hag c).2.1, (hag c).2.2.1, (hag c).2.2.2.1, (hag c).2.2.2.2]

/-- The spatial mixer's reference ends with its arguments unchanged. -/
theorem spatial_ref_frame : Cert.quiescent_GmlpRefIdeal (hGmlpRefIdeal := Cert.GmlpRefIdeal.Gen.facts) := fun m g _ =>
  (θ_run _ _ _).mono (fun r h => And.intro (fun c => (h c).2) (sem_eq_zero_of_no_sems rfl r.2)) (Cert.GmlpRefIdeal.Value.run (F := Ideal) m g)

/-- The modulation computes the reference's function, the conditioning and the weights being finite. -/
theorem modulation :
    Cert.algebraic_ModIdeal_ModRefIdeal_pre_finite_conditioning (hModIdeal := Cert.ModIdeal.Gen.facts) (hModRefIdeal := Cert.ModRefIdeal.Gen.facts)
      (hPre_finite_conditioning := Cert.Pre_finite_conditioning.Gen.facts) := by
  intro m g m' g' hpre hag
  refine ⟨fun c => Cert.Modul.Ref.out (Cert.Modul.Krn.A0 m c) (Cert.Modul.Krn.A1 m c) (Cert.Modul.Krn.A2 m c) (Cert.Modul.Krn.A3 m c), ?_, ?_⟩
  · refine (θ_run _ _ _).mono (fun r h c => ?_) (Cert.ModIdeal.Value.run_blocks m g)
    obtain ⟨h0, h1, h2⟩ := Cert.Finite.conditioning _ _ _ _ (hpre c)
    exact ⟨(h c).1.trans (Cert.Modul.Krn.arr_eq m c h0 h1 h2), (h c).2⟩
  · refine (θ_run _ _ _).mono (fun r h c => ⟨(h c).1.trans ?_, (h c).2⟩) (Cert.Modul.Ref.run m' g')
    rw [(hag c).1, (hag c).2.1, (hag c).2.2.1, (hag c).2.2.2]

/-- The modulation's reference ends with its arguments unchanged. -/
theorem modulation_ref_frame : Cert.quiescent_ModRefIdeal (hModRefIdeal := Cert.ModRefIdeal.Gen.facts) := fun m g _ =>
  (θ_run _ _ _).mono (fun r h => And.intro (fun c => (h c).2) (sem_eq_zero_of_no_sems rfl r.2)) (Cert.ModRefIdeal.Value.run (F := Ideal) m g)

/-- The operands of the recurrence are the reference's, its arguments being finite. -/
theorem operands :
    Cert.algebraic_PrepIdeal_PrepRefIdeal_pre_finite_operands (hPrepIdeal := Cert.PrepIdeal.Gen.facts) (hPrepRefIdeal := Cert.PrepRefIdeal.Gen.facts)
      (hPre_finite_operands := Cert.Pre_finite_operands.Gen.facts) := by
  intro m g m' g' hpre hag
  refine ⟨fun c => Cert.Operands.Krn.res m c, ?_, ?_⟩
  · refine (θ_run _ _ _).mono (fun r h c => ?_) (Cert.PrepIdeal.Value.run_blocks m g)
    obtain ⟨h0, h1, h3, h5, h6, h7, h8⟩ := Cert.Finite.operands _ _ _ _ _ _ _ _ _ (hpre c)
    exact ⟨(h c).1.trans (Cert.Operands.Krn.arr_eq m c ⟨h0, h1, h3, h5, h6, h7, h8⟩), (h c).2⟩
  · refine (θ_run _ _ _).mono (fun r h c => ⟨(h c).1.trans ?_, (h c).2⟩) (Cert.Operands.Ref.run m' g')
    rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2]
    rfl

/-- The operands' reference ends with its arguments unchanged. -/
theorem operands_ref_frame : Cert.quiescent_PrepRefIdeal (hPrepRefIdeal := Cert.PrepRefIdeal.Gen.facts) := fun m g _ =>
  (θ_run _ _ _).mono (fun r h => And.intro (fun c => (h c).2) (sem_eq_zero_of_no_sems rfl r.2)) (Cert.PrepRefIdeal.Value.run (F := Ideal) m g)

/-- Every claim of the statement. -/
theorem claim : Cert.Claim := ⟨Cert.Kernel.Gen.facts, Cert.KernelIdeal.Gen.facts, Cert.ReferenceIdeal.Gen.facts,
  Cert.Merge.Gen.facts, Cert.MergeIdeal.Gen.facts, Cert.MergeRefIdeal.Gen.facts,
  Cert.Project.Gen.facts, Cert.ProjectIdeal.Gen.facts, Cert.ProjectRefIdeal.Gen.facts,
  Cert.Gate.Gen.facts, Cert.GateIdeal.Gen.facts, Cert.GateRefIdeal.Gen.facts,
  Cert.Ctx.Gen.facts, Cert.CtxIdeal.Gen.facts, Cert.CtxRefIdeal.Gen.facts,
  Cert.Gmlp.Gen.facts, Cert.GmlpIdeal.Gen.facts, Cert.GmlpRefIdeal.Gen.facts,
  Cert.Mod.Gen.facts, Cert.ModIdeal.Gen.facts, Cert.ModRefIdeal.Gen.facts,
  Cert.Prep.Gen.facts, Cert.PrepIdeal.Gen.facts, Cert.PrepRefIdeal.Gen.facts,
  Cert.Natten.preFacts, Cert.Pre_finite_scans.Gen.facts, Cert.Pre_finite_context.Gen.facts, Cert.Pre_finite_values.Gen.facts, Cert.Pre_finite_conditioning.Gen.facts, Cert.Pre_finite_operands.Gen.facts,
  fun m g _ => Cert.Kernel.Gen.frame m g,
  fun m g _ => Cert.KernelIdeal.Gen.frame m g,
  fun m g _ => Cert.KernelIdeal.Gen.frame m g,
  fun m g _ => attention_ref_frame m g trivial,
  fun m g _ => attention_ref_frame m g trivial,
  fun m g _ => Cert.Merge.Gen.frame m g,
  fun m g _ => Cert.MergeIdeal.Gen.frame m g,
  merge_ref_frame,
  fun m g _ => Cert.Project.Gen.frame m g,
  fun m g _ => Cert.ProjectIdeal.Gen.frame m g,
  project_ref_frame,
  fun m g _ => Cert.Gate.Gen.frame m g,
  fun m g _ => Cert.GateIdeal.Gen.frame m g,
  fun m g _ => Cert.GateIdeal.Gen.frame m g,
  fun m g _ => gate_ref_frame m g trivial,
  fun m g _ => gate_ref_frame m g trivial,
  fun m g _ => Cert.Ctx.Gen.frame m g,
  fun m g _ => Cert.CtxIdeal.Gen.frame m g,
  fun m g _ => Cert.CtxIdeal.Gen.frame m g,
  fun m g _ => context_ref_frame m g trivial,
  fun m g _ => context_ref_frame m g trivial,
  fun m g _ => Cert.Gmlp.Gen.frame m g,
  fun m g _ => Cert.GmlpIdeal.Gen.frame m g,
  fun m g _ => Cert.GmlpIdeal.Gen.frame m g,
  fun m g _ => spatial_ref_frame m g trivial,
  fun m g _ => spatial_ref_frame m g trivial,
  fun m g _ => Cert.Mod.Gen.frame m g,
  fun m g _ => Cert.ModIdeal.Gen.frame m g,
  fun m g _ => Cert.ModIdeal.Gen.frame m g,
  fun m g _ => modulation_ref_frame m g trivial,
  fun m g _ => modulation_ref_frame m g trivial,
  fun m g _ => Cert.Prep.Gen.frame m g,
  fun m g _ => Cert.PrepIdeal.Gen.frame m g,
  fun m g _ => Cert.PrepIdeal.Gen.frame m g,
  fun m g _ => operands_ref_frame m g trivial,
  fun m g _ => operands_ref_frame m g trivial,
  IdealRules.named_const.statement Cert.KernelIdeal.κ "mask" .f32 0xF149F2CA#32 ⊥ rfl,
  attention,
  trivial,
  merge,
  trivial,
  project,
  trivial,
  gate,
  trivial,
  context,
  trivial,
  spatial,
  trivial,
  modulation,
  trivial,
  operands⟩

end Cert.Proof

end
